-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_KernelInSb (m : (ℓ : Loc Cert.KernelInSb.nD Cert.KernelInSb.τ Cert.KernelInSb.sig) → Buf (Elt Bits) ℓ) : Prop :=
  True

def Pre_KernelInSbIdeal (m : (ℓ : Loc Cert.KernelInSbIdeal.nD Cert.KernelInSbIdeal.τ Cert.KernelInSbIdeal.sig) → Buf (Elt Ideal) ℓ) : Prop :=
  True

def Pre_ReferenceInSbIdeal (m : (ℓ : Loc Cert.ReferenceInSbIdeal.nD Cert.ReferenceInSbIdeal.τ Cert.ReferenceInSbIdeal.sig) → Buf (Elt Ideal) ℓ) : Prop :=
  True

def Pre_KernelInNsa (m : (ℓ : Loc Cert.KernelInNsa.nD Cert.KernelInNsa.τ Cert.KernelInNsa.sig) → Buf (Elt Bits) ℓ) : Prop :=
  True

def Pre_KernelInNsaIdeal (m : (ℓ : Loc Cert.KernelInNsaIdeal.nD Cert.KernelInNsaIdeal.τ Cert.KernelInNsaIdeal.sig) → Buf (Elt Ideal) ℓ) : Prop :=
  True

def Pre_ReferenceInNsaIdeal (m : (ℓ : Loc Cert.ReferenceInNsaIdeal.nD Cert.ReferenceInNsaIdeal.τ Cert.ReferenceInNsaIdeal.sig) → Buf (Elt Ideal) ℓ) : Prop :=
  True

def Pre_KernelInSwa (m : (ℓ : Loc Cert.KernelInSwa.nD Cert.KernelInSwa.τ Cert.KernelInSwa.sig) → Buf (Elt Bits) ℓ) : Prop :=
  True

def Pre_KernelInSwaIdeal (m : (ℓ : Loc Cert.KernelInSwaIdeal.nD Cert.KernelInSwaIdeal.τ Cert.KernelInSwaIdeal.sig) → Buf (Elt Ideal) ℓ) : Prop :=
  True

def Pre_ReferenceInSwaIdeal (m : (ℓ : Loc Cert.ReferenceInSwaIdeal.nD Cert.ReferenceInSwaIdeal.τ Cert.ReferenceInSwaIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelComb (m : (ℓ : Loc Cert.KernelComb.nD Cert.KernelComb.τ Cert.KernelComb.sig) → Buf (Elt Bits) ℓ) : Prop :=
  True

def Pre_KernelCombIdeal (m : (ℓ : Loc Cert.KernelCombIdeal.nD Cert.KernelCombIdeal.τ Cert.KernelCombIdeal.sig) → Buf (Elt Ideal) ℓ) : Prop :=
  True

def Pre_ReferenceCombIdeal (m : (ℓ : Loc Cert.ReferenceCombIdeal.nD Cert.ReferenceCombIdeal.τ Cert.ReferenceCombIdeal.sig) → Buf (Elt Ideal) ℓ) : Prop :=
  True

def Pre_KernelMoe [hPre_routed : Cert.Pre_routed.Facts] (m : (ℓ : Loc Cert.KernelMoe.nD Cert.KernelMoe.τ Cert.KernelMoe.sig) → Buf (Elt Bits) ℓ) : Prop :=
  ∀ c : Dev Cert.KernelMoe.nD,
    (Cert.Pre_routed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5))) = (fun _ => 1#1)

def Pre_KernelMoeIdeal [hPre_routed : Cert.Pre_routed.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_routed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_routed [hPre_routed : Cert.Pre_routed.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_routed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5))) = (fun _ => 1#1)

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_ReferenceRouteIdeal (m : (ℓ : Loc Cert.ReferenceRouteIdeal.nD Cert.ReferenceRouteIdeal.τ Cert.ReferenceRouteIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_ReferencePoolIdeal (m : (ℓ : Loc Cert.ReferencePoolIdeal.nD Cert.ReferencePoolIdeal.τ Cert.ReferencePoolIdeal.sig) → Buf (Elt Ideal) ℓ) : Prop :=
  True

def Pre_KernelInSbSample (m : (ℓ : Loc Cert.KernelInSbSample.nD Cert.KernelInSbSample.τ Cert.KernelInSbSample.sig) → Buf (Elt Bits) ℓ) : Prop :=
  True

def Pre_KernelInSbSampleIdeal (m : (ℓ : Loc Cert.KernelInSbSampleIdeal.nD Cert.KernelInSbSampleIdeal.τ Cert.KernelInSbSampleIdeal.sig) → Buf (Elt Ideal) ℓ) : Prop :=
  True

def Pre_ReferenceInSbSampleIdeal (m : (ℓ : Loc Cert.ReferenceInSbSampleIdeal.nD Cert.ReferenceInSbSampleIdeal.τ Cert.ReferenceInSbSampleIdeal.sig) → Buf (Elt Ideal) ℓ) : Prop :=
  True

def Pre_KernelInNsaSample (m : (ℓ : Loc Cert.KernelInNsaSample.nD Cert.KernelInNsaSample.τ Cert.KernelInNsaSample.sig) → Buf (Elt Bits) ℓ) : Prop :=
  True

def Pre_KernelInNsaSampleIdeal (m : (ℓ : Loc Cert.KernelInNsaSampleIdeal.nD Cert.KernelInNsaSampleIdeal.τ Cert.KernelInNsaSampleIdeal.sig) → Buf (Elt Ideal) ℓ) : Prop :=
  True

def Pre_ReferenceInNsaSampleIdeal (m : (ℓ : Loc Cert.ReferenceInNsaSampleIdeal.nD Cert.ReferenceInNsaSampleIdeal.τ Cert.ReferenceInNsaSampleIdeal.sig) → Buf (Elt Ideal) ℓ) : Prop :=
  True

def Pre_KernelInSwaSample (m : (ℓ : Loc Cert.KernelInSwaSample.nD Cert.KernelInSwaSample.τ Cert.KernelInSwaSample.sig) → Buf (Elt Bits) ℓ) : Prop :=
  True

def Pre_KernelInSwaSampleIdeal (m : (ℓ : Loc Cert.KernelInSwaSampleIdeal.nD Cert.KernelInSwaSampleIdeal.τ Cert.KernelInSwaSampleIdeal.sig) → Buf (Elt Ideal) ℓ) : Prop :=
  True

def Pre_ReferenceInSwaSampleIdeal (m : (ℓ : Loc Cert.ReferenceInSwaSampleIdeal.nD Cert.ReferenceInSwaSampleIdeal.τ Cert.ReferenceInSwaSampleIdeal.sig) → Buf (Elt Ideal) ℓ) : Prop :=
  True

def Pre_KernelCombSample (m : (ℓ : Loc Cert.KernelCombSample.nD Cert.KernelCombSample.τ Cert.KernelCombSample.sig) → Buf (Elt Bits) ℓ) : Prop :=
  True

def Pre_KernelCombSampleIdeal (m : (ℓ : Loc Cert.KernelCombSampleIdeal.nD Cert.KernelCombSampleIdeal.τ Cert.KernelCombSampleIdeal.sig) → Buf (Elt Ideal) ℓ) : Prop :=
  True

def Pre_ReferenceCombSampleIdeal (m : (ℓ : Loc Cert.ReferenceCombSampleIdeal.nD Cert.ReferenceCombSampleIdeal.τ Cert.ReferenceCombSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelInSb [hKernelInSb : Cert.KernelInSb.Facts] : Prop :=
  ∀ (m : (ℓ : Loc Cert.KernelInSb.nD Cert.KernelInSb.τ Cert.KernelInSb.sig) → Buf (Elt Bits) ℓ) (g : Dev Cert.KernelInSb.nD → PrngReg), Pre_KernelInSb m →
    θ_run (Cert.KernelInSb.defs (F := Bits)) (onTc (τ := Cert.KernelInSb.τ) (Cert.KernelInSb.main (F := Bits))) ⟨m, fun _ => 0, g⟩ (fun r => (∀ c : Dev Cert.KernelInSb.nD,
      r.2.mem ((c.tc : Thread Cert.KernelInSb.nD Cert.KernelInSb.τ).loc Cert.KernelInSb.main_arg0) = m ((c.tc : Thread Cert.KernelInSb.nD Cert.KernelInSb.τ).loc Cert.KernelInSb.main_arg0)
      ∧ r.2.mem ((c.tc : Thread Cert.KernelInSb.nD Cert.KernelInSb.τ).loc Cert.KernelInSb.main_arg1) = m ((c.tc : Thread Cert.KernelInSb.nD Cert.KernelInSb.τ).loc Cert.KernelInSb.main_arg1)
      ∧ r.2.mem ((c.tc : Thread Cert.KernelInSb.nD Cert.KernelInSb.τ).loc Cert.KernelInSb.main_arg2) = m ((c.tc : Thread Cert.KernelInSb.nD Cert.KernelInSb.τ).loc Cert.KernelInSb.main_arg2)
      ∧ r.2.mem ((c.tc : Thread Cert.KernelInSb.nD Cert.KernelInSb.τ).loc Cert.KernelInSb.main_arg3) = m ((c.tc : Thread Cert.KernelInSb.nD Cert.KernelInSb.τ).loc Cert.KernelInSb.main_arg3))
      ∧ r.2.sem = fun _ => 0)

def quiescent_KernelInSbIdeal [hKernelInSbIdeal : Cert.KernelInSbIdeal.Facts] : Prop :=
  ∀ (m : (ℓ : Loc Cert.KernelInSbIdeal.nD Cert.KernelInSbIdeal.τ Cert.KernelInSbIdeal.sig) → Buf (Elt Ideal) ℓ) (g : Dev Cert.KernelInSbIdeal.nD → PrngReg), Pre_KernelInSbIdeal m →
    θ_run (Cert.KernelInSbIdeal.defs (F := Ideal)) (onTc (τ := Cert.KernelInSbIdeal.τ) (Cert.KernelInSbIdeal.main (F := Ideal))) ⟨m, fun _ => 0, g⟩ (fun r => (∀ c : Dev Cert.KernelInSbIdeal.nD,
      r.2.mem ((c.tc : Thread Cert.KernelInSbIdeal.nD Cert.KernelInSbIdeal.τ).loc Cert.KernelInSbIdeal.main_arg0) = m ((c.tc : Thread Cert.KernelInSbIdeal.nD Cert.KernelInSbIdeal.τ).loc Cert.KernelInSbIdeal.main_arg0)
      ∧ r.2.mem ((c.tc : Thread Cert.KernelInSbIdeal.nD Cert.KernelInSbIdeal.τ).loc Cert.KernelInSbIdeal.main_arg1) = m ((c.tc : Thread Cert.KernelInSbIdeal.nD Cert.KernelInSbIdeal.τ).loc Cert.KernelInSbIdeal.main_arg1)
      ∧ r.2.mem ((c.tc : Thread Cert.KernelInSbIdeal.nD Cert.KernelInSbIdeal.τ).loc Cert.KernelInSbIdeal.main_arg2) = m ((c.tc : Thread Cert.KernelInSbIdeal.nD Cert.KernelInSbIdeal.τ).loc Cert.KernelInSbIdeal.main_arg2)
      ∧ r.2.mem ((c.tc : Thread Cert.KernelInSbIdeal.nD Cert.KernelInSbIdeal.τ).loc Cert.KernelInSbIdeal.main_arg3) = m ((c.tc : Thread Cert.KernelInSbIdeal.nD Cert.KernelInSbIdeal.τ).loc Cert.KernelInSbIdeal.main_arg3))
      ∧ r.2.sem = fun _ => 0)

def quiescent_ReferenceInSbIdeal [hReferenceInSbIdeal : Cert.ReferenceInSbIdeal.Facts] : Prop :=
  ∀ (m : (ℓ : Loc Cert.ReferenceInSbIdeal.nD Cert.ReferenceInSbIdeal.τ Cert.ReferenceInSbIdeal.sig) → Buf (Elt Ideal) ℓ) (g : Dev Cert.ReferenceInSbIdeal.nD → PrngReg), Pre_ReferenceInSbIdeal m →
    θ_run (Cert.ReferenceInSbIdeal.defs (F := Ideal)) (onTc (τ := Cert.ReferenceInSbIdeal.τ) (Cert.ReferenceInSbIdeal.main (F := Ideal))) ⟨m, fun _ => 0, g⟩ (fun r => (∀ c : Dev Cert.ReferenceInSbIdeal.nD,
      r.2.mem ((c.tc : Thread Cert.ReferenceInSbIdeal.nD Cert.ReferenceInSbIdeal.τ).loc Cert.ReferenceInSbIdeal.main_arg0) = m ((c.tc : Thread Cert.ReferenceInSbIdeal.nD Cert.ReferenceInSbIdeal.τ).loc Cert.ReferenceInSbIdeal.main_arg0)
      ∧ r.2.mem ((c.tc : Thread Cert.ReferenceInSbIdeal.nD Cert.ReferenceInSbIdeal.τ).loc Cert.ReferenceInSbIdeal.main_arg1) = m ((c.tc : Thread Cert.ReferenceInSbIdeal.nD Cert.ReferenceInSbIdeal.τ).loc Cert.ReferenceInSbIdeal.main_arg1)
      ∧ r.2.mem ((c.tc : Thread Cert.ReferenceInSbIdeal.nD Cert.ReferenceInSbIdeal.τ).loc Cert.ReferenceInSbIdeal.main_arg2) = m ((c.tc : Thread Cert.ReferenceInSbIdeal.nD Cert.ReferenceInSbIdeal.τ).loc Cert.ReferenceInSbIdeal.main_arg2)
      ∧ r.2.mem ((c.tc : Thread Cert.ReferenceInSbIdeal.nD Cert.ReferenceInSbIdeal.τ).loc Cert.ReferenceInSbIdeal.main_arg3) = m ((c.tc : Thread Cert.ReferenceInSbIdeal.nD Cert.ReferenceInSbIdeal.τ).loc Cert.ReferenceInSbIdeal.main_arg3))
      ∧ r.2.sem = fun _ => 0)

def quiescent_KernelInNsa [hKernelInNsa : Cert.KernelInNsa.Facts] : Prop :=
  ∀ (m : (ℓ : Loc Cert.KernelInNsa.nD Cert.KernelInNsa.τ Cert.KernelInNsa.sig) → Buf (Elt Bits) ℓ) (g : Dev Cert.KernelInNsa.nD → PrngReg), Pre_KernelInNsa m →
    θ_run (Cert.KernelInNsa.defs (F := Bits)) (onTc (τ := Cert.KernelInNsa.τ) (Cert.KernelInNsa.main (F := Bits))) ⟨m, fun _ => 0, g⟩ (fun r => (∀ c : Dev Cert.KernelInNsa.nD,
      r.2.mem ((c.tc : Thread Cert.KernelInNsa.nD Cert.KernelInNsa.τ).loc Cert.KernelInNsa.main_arg0) = m ((c.tc : Thread Cert.KernelInNsa.nD Cert.KernelInNsa.τ).loc Cert.KernelInNsa.main_arg0)
      ∧ r.2.mem ((c.tc : Thread Cert.KernelInNsa.nD Cert.KernelInNsa.τ).loc Cert.KernelInNsa.main_arg1) = m ((c.tc : Thread Cert.KernelInNsa.nD Cert.KernelInNsa.τ).loc Cert.KernelInNsa.main_arg1)
      ∧ r.2.mem ((c.tc : Thread Cert.KernelInNsa.nD Cert.KernelInNsa.τ).loc Cert.KernelInNsa.main_arg2) = m ((c.tc : Thread Cert.KernelInNsa.nD Cert.KernelInNsa.τ).loc Cert.KernelInNsa.main_arg2)
      ∧ r.2.mem ((c.tc : Thread Cert.KernelInNsa.nD Cert.KernelInNsa.τ).loc Cert.KernelInNsa.main_arg3) = m ((c.tc : Thread Cert.KernelInNsa.nD Cert.KernelInNsa.τ).loc Cert.KernelInNsa.main_arg3))
      ∧ r.2.sem = fun _ => 0)

def quiescent_KernelInNsaIdeal [hKernelInNsaIdeal : Cert.KernelInNsaIdeal.Facts] : Prop :=
  ∀ (m : (ℓ : Loc Cert.KernelInNsaIdeal.nD Cert.KernelInNsaIdeal.τ Cert.KernelInNsaIdeal.sig) → Buf (Elt Ideal) ℓ) (g : Dev Cert.KernelInNsaIdeal.nD → PrngReg), Pre_KernelInNsaIdeal m →
    θ_run (Cert.KernelInNsaIdeal.defs (F := Ideal)) (onTc (τ := Cert.KernelInNsaIdeal.τ) (Cert.KernelInNsaIdeal.main (F := Ideal))) ⟨m, fun _ => 0, g⟩ (fun r => (∀ c : Dev Cert.KernelInNsaIdeal.nD,
      r.2.mem ((c.tc : Thread Cert.KernelInNsaIdeal.nD Cert.KernelInNsaIdeal.τ).loc Cert.KernelInNsaIdeal.main_arg0) = m ((c.tc : Thread Cert.KernelInNsaIdeal.nD Cert.KernelInNsaIdeal.τ).loc Cert.KernelInNsaIdeal.main_arg0)
      ∧ r.2.mem ((c.tc : Thread Cert.KernelInNsaIdeal.nD Cert.KernelInNsaIdeal.τ).loc Cert.KernelInNsaIdeal.main_arg1) = m ((c.tc : Thread Cert.KernelInNsaIdeal.nD Cert.KernelInNsaIdeal.τ).loc Cert.KernelInNsaIdeal.main_arg1)
      ∧ r.2.mem ((c.tc : Thread Cert.KernelInNsaIdeal.nD Cert.KernelInNsaIdeal.τ).loc Cert.KernelInNsaIdeal.main_arg2) = m ((c.tc : Thread Cert.KernelInNsaIdeal.nD Cert.KernelInNsaIdeal.τ).loc Cert.KernelInNsaIdeal.main_arg2)
      ∧ r.2.mem ((c.tc : Thread Cert.KernelInNsaIdeal.nD Cert.KernelInNsaIdeal.τ).loc Cert.KernelInNsaIdeal.main_arg3) = m ((c.tc : Thread Cert.KernelInNsaIdeal.nD Cert.KernelInNsaIdeal.τ).loc Cert.KernelInNsaIdeal.main_arg3))
      ∧ r.2.sem = fun _ => 0)

def quiescent_ReferenceInNsaIdeal [hReferenceInNsaIdeal : Cert.ReferenceInNsaIdeal.Facts] : Prop :=
  ∀ (m : (ℓ : Loc Cert.ReferenceInNsaIdeal.nD Cert.ReferenceInNsaIdeal.τ Cert.ReferenceInNsaIdeal.sig) → Buf (Elt Ideal) ℓ) (g : Dev Cert.ReferenceInNsaIdeal.nD → PrngReg), Pre_ReferenceInNsaIdeal m →
    θ_run (Cert.ReferenceInNsaIdeal.defs (F := Ideal)) (onTc (τ := Cert.ReferenceInNsaIdeal.τ) (Cert.ReferenceInNsaIdeal.main (F := Ideal))) ⟨m, fun _ => 0, g⟩ (fun r => (∀ c : Dev Cert.ReferenceInNsaIdeal.nD,
      r.2.mem ((c.tc : Thread Cert.ReferenceInNsaIdeal.nD Cert.ReferenceInNsaIdeal.τ).loc Cert.ReferenceInNsaIdeal.main_arg0) = m ((c.tc : Thread Cert.ReferenceInNsaIdeal.nD Cert.ReferenceInNsaIdeal.τ).loc Cert.ReferenceInNsaIdeal.main_arg0)
      ∧ r.2.mem ((c.tc : Thread Cert.ReferenceInNsaIdeal.nD Cert.ReferenceInNsaIdeal.τ).loc Cert.ReferenceInNsaIdeal.main_arg1) = m ((c.tc : Thread Cert.ReferenceInNsaIdeal.nD Cert.ReferenceInNsaIdeal.τ).loc Cert.ReferenceInNsaIdeal.main_arg1)
      ∧ r.2.mem ((c.tc : Thread Cert.ReferenceInNsaIdeal.nD Cert.ReferenceInNsaIdeal.τ).loc Cert.ReferenceInNsaIdeal.main_arg2) = m ((c.tc : Thread Cert.ReferenceInNsaIdeal.nD Cert.ReferenceInNsaIdeal.τ).loc Cert.ReferenceInNsaIdeal.main_arg2)
      ∧ r.2.mem ((c.tc : Thread Cert.ReferenceInNsaIdeal.nD Cert.ReferenceInNsaIdeal.τ).loc Cert.ReferenceInNsaIdeal.main_arg3) = m ((c.tc : Thread Cert.ReferenceInNsaIdeal.nD Cert.ReferenceInNsaIdeal.τ).loc Cert.ReferenceInNsaIdeal.main_arg3))
      ∧ r.2.sem = fun _ => 0)

def quiescent_KernelInSwa [hKernelInSwa : Cert.KernelInSwa.Facts] : Prop :=
  ∀ (m : (ℓ : Loc Cert.KernelInSwa.nD Cert.KernelInSwa.τ Cert.KernelInSwa.sig) → Buf (Elt Bits) ℓ) (g : Dev Cert.KernelInSwa.nD → PrngReg), Pre_KernelInSwa m →
    θ_run (Cert.KernelInSwa.defs (F := Bits)) (onTc (τ := Cert.KernelInSwa.τ) (Cert.KernelInSwa.main (F := Bits))) ⟨m, fun _ => 0, g⟩ (fun r => (∀ c : Dev Cert.KernelInSwa.nD,
      r.2.mem ((c.tc : Thread Cert.KernelInSwa.nD Cert.KernelInSwa.τ).loc Cert.KernelInSwa.main_arg0) = m ((c.tc : Thread Cert.KernelInSwa.nD Cert.KernelInSwa.τ).loc Cert.KernelInSwa.main_arg0)
      ∧ r.2.mem ((c.tc : Thread Cert.KernelInSwa.nD Cert.KernelInSwa.τ).loc Cert.KernelInSwa.main_arg1) = m ((c.tc : Thread Cert.KernelInSwa.nD Cert.KernelInSwa.τ).loc Cert.KernelInSwa.main_arg1)
      ∧ r.2.mem ((c.tc : Thread Cert.KernelInSwa.nD Cert.KernelInSwa.τ).loc Cert.KernelInSwa.main_arg2) = m ((c.tc : Thread Cert.KernelInSwa.nD Cert.KernelInSwa.τ).loc Cert.KernelInSwa.main_arg2)
      ∧ r.2.mem ((c.tc : Thread Cert.KernelInSwa.nD Cert.KernelInSwa.τ).loc Cert.KernelInSwa.main_arg3) = m ((c.tc : Thread Cert.KernelInSwa.nD Cert.KernelInSwa.τ).loc Cert.KernelInSwa.main_arg3))
      ∧ r.2.sem = fun _ => 0)

def quiescent_KernelInSwaIdeal [hKernelInSwaIdeal : Cert.KernelInSwaIdeal.Facts] : Prop :=
  ∀ (m : (ℓ : Loc Cert.KernelInSwaIdeal.nD Cert.KernelInSwaIdeal.τ Cert.KernelInSwaIdeal.sig) → Buf (Elt Ideal) ℓ) (g : Dev Cert.KernelInSwaIdeal.nD → PrngReg), Pre_KernelInSwaIdeal m →
    θ_run (Cert.KernelInSwaIdeal.defs (F := Ideal)) (onTc (τ := Cert.KernelInSwaIdeal.τ) (Cert.KernelInSwaIdeal.main (F := Ideal))) ⟨m, fun _ => 0, g⟩ (fun r => (∀ c : Dev Cert.KernelInSwaIdeal.nD,
      r.2.mem ((c.tc : Thread Cert.KernelInSwaIdeal.nD Cert.KernelInSwaIdeal.τ).loc Cert.KernelInSwaIdeal.main_arg0) = m ((c.tc : Thread Cert.KernelInSwaIdeal.nD Cert.KernelInSwaIdeal.τ).loc Cert.KernelInSwaIdeal.main_arg0)
      ∧ r.2.mem ((c.tc : Thread Cert.KernelInSwaIdeal.nD Cert.KernelInSwaIdeal.τ).loc Cert.KernelInSwaIdeal.main_arg1) = m ((c.tc : Thread Cert.KernelInSwaIdeal.nD Cert.KernelInSwaIdeal.τ).loc Cert.KernelInSwaIdeal.main_arg1)
      ∧ r.2.mem ((c.tc : Thread Cert.KernelInSwaIdeal.nD Cert.KernelInSwaIdeal.τ).loc Cert.KernelInSwaIdeal.main_arg2) = m ((c.tc : Thread Cert.KernelInSwaIdeal.nD Cert.KernelInSwaIdeal.τ).loc Cert.KernelInSwaIdeal.main_arg2)
      ∧ r.2.mem ((c.tc : Thread Cert.KernelInSwaIdeal.nD Cert.KernelInSwaIdeal.τ).loc Cert.KernelInSwaIdeal.main_arg3) = m ((c.tc : Thread Cert.KernelInSwaIdeal.nD Cert.KernelInSwaIdeal.τ).loc Cert.KernelInSwaIdeal.main_arg3))
      ∧ r.2.sem = fun _ => 0)

def quiescent_ReferenceInSwaIdeal [hReferenceInSwaIdeal : Cert.ReferenceInSwaIdeal.Facts] : Prop :=
  ∀ (m : (ℓ : Loc Cert.ReferenceInSwaIdeal.nD Cert.ReferenceInSwaIdeal.τ Cert.ReferenceInSwaIdeal.sig) → Buf (Elt Ideal) ℓ) (g : Dev Cert.ReferenceInSwaIdeal.nD → PrngReg), Pre_ReferenceInSwaIdeal m →
    θ_run (Cert.ReferenceInSwaIdeal.defs (F := Ideal)) (onTc (τ := Cert.ReferenceInSwaIdeal.τ) (Cert.ReferenceInSwaIdeal.main (F := Ideal))) ⟨m, fun _ => 0, g⟩ (fun r => (∀ c : Dev Cert.ReferenceInSwaIdeal.nD,
      r.2.mem ((c.tc : Thread Cert.ReferenceInSwaIdeal.nD Cert.ReferenceInSwaIdeal.τ).loc Cert.ReferenceInSwaIdeal.main_arg0) = m ((c.tc : Thread Cert.ReferenceInSwaIdeal.nD Cert.ReferenceInSwaIdeal.τ).loc Cert.ReferenceInSwaIdeal.main_arg0)
      ∧ r.2.mem ((c.tc : Thread Cert.ReferenceInSwaIdeal.nD Cert.ReferenceInSwaIdeal.τ).loc Cert.ReferenceInSwaIdeal.main_arg1) = m ((c.tc : Thread Cert.ReferenceInSwaIdeal.nD Cert.ReferenceInSwaIdeal.τ).loc Cert.ReferenceInSwaIdeal.main_arg1)
      ∧ r.2.mem ((c.tc : Thread Cert.ReferenceInSwaIdeal.nD Cert.ReferenceInSwaIdeal.τ).loc Cert.ReferenceInSwaIdeal.main_arg2) = m ((c.tc : Thread Cert.ReferenceInSwaIdeal.nD Cert.ReferenceInSwaIdeal.τ).loc Cert.ReferenceInSwaIdeal.main_arg2)
      ∧ r.2.mem ((c.tc : Thread Cert.ReferenceInSwaIdeal.nD Cert.ReferenceInSwaIdeal.τ).loc Cert.ReferenceInSwaIdeal.main_arg3) = m ((c.tc : Thread Cert.ReferenceInSwaIdeal.nD Cert.ReferenceInSwaIdeal.τ).loc Cert.ReferenceInSwaIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelComb [hKernelComb : Cert.KernelComb.Facts] : Prop :=
  ∀ (m : (ℓ : Loc Cert.KernelComb.nD Cert.KernelComb.τ Cert.KernelComb.sig) → Buf (Elt Bits) ℓ) (g : Dev Cert.KernelComb.nD → PrngReg), Pre_KernelComb m →
    θ_run (Cert.KernelComb.defs (F := Bits)) (onTc (τ := Cert.KernelComb.τ) (Cert.KernelComb.main (F := Bits))) ⟨m, fun _ => 0, g⟩ (fun r => (∀ c : Dev Cert.KernelComb.nD,
      r.2.mem ((c.tc : Thread Cert.KernelComb.nD Cert.KernelComb.τ).loc Cert.KernelComb.main_arg0) = m ((c.tc : Thread Cert.KernelComb.nD Cert.KernelComb.τ).loc Cert.KernelComb.main_arg0)
      ∧ r.2.mem ((c.tc : Thread Cert.KernelComb.nD Cert.KernelComb.τ).loc Cert.KernelComb.main_arg1) = m ((c.tc : Thread Cert.KernelComb.nD Cert.KernelComb.τ).loc Cert.KernelComb.main_arg1)
      ∧ r.2.mem ((c.tc : Thread Cert.KernelComb.nD Cert.KernelComb.τ).loc Cert.KernelComb.main_arg2) = m ((c.tc : Thread Cert.KernelComb.nD Cert.KernelComb.τ).loc Cert.KernelComb.main_arg2)
      ∧ r.2.mem ((c.tc : Thread Cert.KernelComb.nD Cert.KernelComb.τ).loc Cert.KernelComb.main_arg3) = m ((c.tc : Thread Cert.KernelComb.nD Cert.KernelComb.τ).loc Cert.KernelComb.main_arg3)
      ∧ r.2.mem ((c.tc : Thread Cert.KernelComb.nD Cert.KernelComb.τ).loc Cert.KernelComb.main_arg4) = m ((c.tc : Thread Cert.KernelComb.nD Cert.KernelComb.τ).loc Cert.KernelComb.main_arg4)
      ∧ r.2.mem ((c.tc : Thread Cert.KernelComb.nD Cert.KernelComb.τ).loc Cert.KernelComb.main_arg5) = m ((c.tc : Thread Cert.KernelComb.nD Cert.KernelComb.τ).loc Cert.KernelComb.main_arg5)
      ∧ r.2.mem ((c.tc : Thread Cert.KernelComb.nD Cert.KernelComb.τ).loc Cert.KernelComb.main_arg6) = m ((c.tc : Thread Cert.KernelComb.nD Cert.KernelComb.τ).loc Cert.KernelComb.main_arg6))
      ∧ r.2.sem = fun _ => 0)

def quiescent_KernelCombIdeal [hKernelCombIdeal : Cert.KernelCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg), Pre_KernelCombIdeal m →
    θ_run (Cert.KernelCombIdeal.defs (F := Ideal)) (onTc (τ := Cert.KernelCombIdeal.τ) (Cert.KernelCombIdeal.main (F := Ideal))) ⟨m, fun _ => 0, g⟩ (fun r => (∀ c : Dev Cert.KernelCombIdeal.nD,
      r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
      ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
      ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
      ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
      ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4)
      ∧ r.2.mem ((c.tc : Thread Cert.KernelCombIdeal.nD Cert.KernelCombIdeal.τ).loc Cert.KernelCombIdeal.main_arg5) = m ((c.tc : Thread Cert.KernelCombIdeal.nD Cert.KernelCombIdeal.τ).loc Cert.KernelCombIdeal.main_arg5)
      ∧ r.2.mem ((c.tc : Thread Cert.KernelCombIdeal.nD Cert.KernelCombIdeal.τ).loc Cert.KernelCombIdeal.main_arg6) = m ((c.tc : Thread Cert.KernelCombIdeal.nD Cert.KernelCombIdeal.τ).loc Cert.KernelCombIdeal.main_arg6))
      ∧ r.2.sem = fun _ => 0)

def quiescent_ReferenceCombIdeal [hReferenceCombIdeal : Cert.ReferenceCombIdeal.Facts] : Prop :=
  ∀ (m : (ℓ : Loc Cert.ReferenceCombIdeal.nD Cert.ReferenceCombIdeal.τ Cert.ReferenceCombIdeal.sig) → Buf (Elt Ideal) ℓ) (g : Dev Cert.ReferenceCombIdeal.nD → PrngReg), Pre_ReferenceCombIdeal m →
    θ_run (Cert.ReferenceCombIdeal.defs (F := Ideal)) (onTc (τ := Cert.ReferenceCombIdeal.τ) (Cert.ReferenceCombIdeal.main (F := Ideal))) ⟨m, fun _ => 0, g⟩ (fun r => (∀ c : Dev Cert.ReferenceCombIdeal.nD,
      r.2.mem ((c.tc : Thread Cert.ReferenceCombIdeal.nD Cert.ReferenceCombIdeal.τ).loc Cert.ReferenceCombIdeal.main_arg0) = m ((c.tc : Thread Cert.ReferenceCombIdeal.nD Cert.ReferenceCombIdeal.τ).loc Cert.ReferenceCombIdeal.main_arg0)
      ∧ r.2.mem ((c.tc : Thread Cert.ReferenceCombIdeal.nD Cert.ReferenceCombIdeal.τ).loc Cert.ReferenceCombIdeal.main_arg1) = m ((c.tc : Thread Cert.ReferenceCombIdeal.nD Cert.ReferenceCombIdeal.τ).loc Cert.ReferenceCombIdeal.main_arg1)
      ∧ r.2.mem ((c.tc : Thread Cert.ReferenceCombIdeal.nD Cert.ReferenceCombIdeal.τ).loc Cert.ReferenceCombIdeal.main_arg2) = m ((c.tc : Thread Cert.ReferenceCombIdeal.nD Cert.ReferenceCombIdeal.τ).loc Cert.ReferenceCombIdeal.main_arg2)
      ∧ r.2.mem ((c.tc : Thread Cert.ReferenceCombIdeal.nD Cert.ReferenceCombIdeal.τ).loc Cert.ReferenceCombIdeal.main_arg3) = m ((c.tc : Thread Cert.ReferenceCombIdeal.nD Cert.ReferenceCombIdeal.τ).loc Cert.ReferenceCombIdeal.main_arg3)
      ∧ r.2.mem ((c.tc : Thread Cert.ReferenceCombIdeal.nD Cert.ReferenceCombIdeal.τ).loc Cert.ReferenceCombIdeal.main_arg4) = m ((c.tc : Thread Cert.ReferenceCombIdeal.nD Cert.ReferenceCombIdeal.τ).loc Cert.ReferenceCombIdeal.main_arg4)
      ∧ r.2.mem ((c.tc : Thread Cert.ReferenceCombIdeal.nD Cert.ReferenceCombIdeal.τ).loc Cert.ReferenceCombIdeal.main_arg5) = m ((c.tc : Thread Cert.ReferenceCombIdeal.nD Cert.ReferenceCombIdeal.τ).loc Cert.ReferenceCombIdeal.main_arg5)
      ∧ r.2.mem ((c.tc : Thread Cert.ReferenceCombIdeal.nD Cert.ReferenceCombIdeal.τ).loc Cert.ReferenceCombIdeal.main_arg6) = m ((c.tc : Thread Cert.ReferenceCombIdeal.nD Cert.ReferenceCombIdeal.τ).loc Cert.ReferenceCombIdeal.main_arg6))
      ∧ r.2.sem = fun _ => 0)

def quiescent_KernelMoe [hKernelMoe : Cert.KernelMoe.Facts] [hPre_routed : Cert.Pre_routed.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5))
      ∧ r.2.sem = fun _ => 0)

def quiescent_KernelMoeIdeal [hKernelMoeIdeal : Cert.KernelMoeIdeal.Facts] [hPre_routed : Cert.Pre_routed.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5))
      ∧ r.2.sem = fun _ => 0)

def quiescent_ReferenceMoeIdeal_pre_routed [hReferenceMoeIdeal : Cert.ReferenceMoeIdeal.Facts] [hPre_routed : Cert.Pre_routed.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_routed m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1)
      ∧ r.2.mem ((c.tc : Thread Cert.KernelRoute.nD Cert.KernelRoute.τ).loc Cert.KernelRoute.main_arg2) = m ((c.tc : Thread Cert.KernelRoute.nD Cert.KernelRoute.τ).loc Cert.KernelRoute.main_arg2)
      ∧ r.2.mem ((c.tc : Thread Cert.KernelRoute.nD Cert.KernelRoute.τ).loc Cert.KernelRoute.main_arg3) = m ((c.tc : Thread Cert.KernelRoute.nD Cert.KernelRoute.τ).loc Cert.KernelRoute.main_arg3)
      ∧ r.2.mem ((c.tc : Thread Cert.KernelRoute.nD Cert.KernelRoute.τ).loc Cert.KernelRoute.main_arg4) = m ((c.tc : Thread Cert.KernelRoute.nD Cert.KernelRoute.τ).loc Cert.KernelRoute.main_arg4)
      ∧ r.2.mem ((c.tc : Thread Cert.KernelRoute.nD Cert.KernelRoute.τ).loc Cert.KernelRoute.main_arg5) = m ((c.tc : Thread Cert.KernelRoute.nD Cert.KernelRoute.τ).loc Cert.KernelRoute.main_arg5)
      ∧ r.2.mem ((c.tc : Thread Cert.KernelRoute.nD Cert.KernelRoute.τ).loc Cert.KernelRoute.main_arg6) = m ((c.tc : Thread Cert.KernelRoute.nD Cert.KernelRoute.τ).loc Cert.KernelRoute.main_arg6))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
      ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
      ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
      ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
      ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2)
      ∧ r.2.mem ((c.tc : Thread Cert.ReferenceRouteIdeal.nD Cert.ReferenceRouteIdeal.τ).loc Cert.ReferenceRouteIdeal.main_arg3) = m ((c.tc : Thread Cert.ReferenceRouteIdeal.nD Cert.ReferenceRouteIdeal.τ).loc Cert.ReferenceRouteIdeal.main_arg3)
      ∧ r.2.mem ((c.tc : Thread Cert.ReferenceRouteIdeal.nD Cert.ReferenceRouteIdeal.τ).loc Cert.ReferenceRouteIdeal.main_arg4) = m ((c.tc : Thread Cert.ReferenceRouteIdeal.nD Cert.ReferenceRouteIdeal.τ).loc Cert.ReferenceRouteIdeal.main_arg4)
      ∧ r.2.mem ((c.tc : Thread Cert.ReferenceRouteIdeal.nD Cert.ReferenceRouteIdeal.τ).loc Cert.ReferenceRouteIdeal.main_arg5) = m ((c.tc : Thread Cert.ReferenceRouteIdeal.nD Cert.ReferenceRouteIdeal.τ).loc Cert.ReferenceRouteIdeal.main_arg5)
      ∧ r.2.mem ((c.tc : Thread Cert.ReferenceRouteIdeal.nD Cert.ReferenceRouteIdeal.τ).loc Cert.ReferenceRouteIdeal.main_arg6) = m ((c.tc : Thread Cert.ReferenceRouteIdeal.nD Cert.ReferenceRouteIdeal.τ).loc Cert.ReferenceRouteIdeal.main_arg6))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1))
      ∧ r.2.sem = fun _ => 0)

def quiescent_KernelInSbSample [hKernelInSbSample : Cert.KernelInSbSample.Facts] : Prop :=
  ∀ (m : (ℓ : Loc Cert.KernelInSbSample.nD Cert.KernelInSbSample.τ Cert.KernelInSbSample.sig) → Buf (Elt Bits) ℓ) (g : Dev Cert.KernelInSbSample.nD → PrngReg), Pre_KernelInSbSample m →
    θ_run (Cert.KernelInSbSample.defs (F := Bits)) (onTc (τ := Cert.KernelInSbSample.τ) (Cert.KernelInSbSample.main (F := Bits))) ⟨m, fun _ => 0, g⟩ (fun r => (∀ c : Dev Cert.KernelInSbSample.nD,
      r.2.mem ((c.tc : Thread Cert.KernelInSbSample.nD Cert.KernelInSbSample.τ).loc Cert.KernelInSbSample.main_arg0) = m ((c.tc : Thread Cert.KernelInSbSample.nD Cert.KernelInSbSample.τ).loc Cert.KernelInSbSample.main_arg0)
      ∧ r.2.mem ((c.tc : Thread Cert.KernelInSbSample.nD Cert.KernelInSbSample.τ).loc Cert.KernelInSbSample.main_arg1) = m ((c.tc : Thread Cert.KernelInSbSample.nD Cert.KernelInSbSample.τ).loc Cert.KernelInSbSample.main_arg1)
      ∧ r.2.mem ((c.tc : Thread Cert.KernelInSbSample.nD Cert.KernelInSbSample.τ).loc Cert.KernelInSbSample.main_arg2) = m ((c.tc : Thread Cert.KernelInSbSample.nD Cert.KernelInSbSample.τ).loc Cert.KernelInSbSample.main_arg2)
      ∧ r.2.mem ((c.tc : Thread Cert.KernelInSbSample.nD Cert.KernelInSbSample.τ).loc Cert.KernelInSbSample.main_arg3) = m ((c.tc : Thread Cert.KernelInSbSample.nD Cert.KernelInSbSample.τ).loc Cert.KernelInSbSample.main_arg3))
      ∧ r.2.sem = fun _ => 0)

def quiescent_KernelInSbSampleIdeal [hKernelInSbSampleIdeal : Cert.KernelInSbSampleIdeal.Facts] : Prop :=
  ∀ (m : (ℓ : Loc Cert.KernelInSbSampleIdeal.nD Cert.KernelInSbSampleIdeal.τ Cert.KernelInSbSampleIdeal.sig) → Buf (Elt Ideal) ℓ) (g : Dev Cert.KernelInSbSampleIdeal.nD → PrngReg), Pre_KernelInSbSampleIdeal m →
    θ_run (Cert.KernelInSbSampleIdeal.defs (F := Ideal)) (onTc (τ := Cert.KernelInSbSampleIdeal.τ) (Cert.KernelInSbSampleIdeal.main (F := Ideal))) ⟨m, fun _ => 0, g⟩ (fun r => (∀ c : Dev Cert.KernelInSbSampleIdeal.nD,
      r.2.mem ((c.tc : Thread Cert.KernelInSbSampleIdeal.nD Cert.KernelInSbSampleIdeal.τ).loc Cert.KernelInSbSampleIdeal.main_arg0) = m ((c.tc : Thread Cert.KernelInSbSampleIdeal.nD Cert.KernelInSbSampleIdeal.τ).loc Cert.KernelInSbSampleIdeal.main_arg0)
      ∧ r.2.mem ((c.tc : Thread Cert.KernelInSbSampleIdeal.nD Cert.KernelInSbSampleIdeal.τ).loc Cert.KernelInSbSampleIdeal.main_arg1) = m ((c.tc : Thread Cert.KernelInSbSampleIdeal.nD Cert.KernelInSbSampleIdeal.τ).loc Cert.KernelInSbSampleIdeal.main_arg1)
      ∧ r.2.mem ((c.tc : Thread Cert.KernelInSbSampleIdeal.nD Cert.KernelInSbSampleIdeal.τ).loc Cert.KernelInSbSampleIdeal.main_arg2) = m ((c.tc : Thread Cert.KernelInSbSampleIdeal.nD Cert.KernelInSbSampleIdeal.τ).loc Cert.KernelInSbSampleIdeal.main_arg2)
      ∧ r.2.mem ((c.tc : Thread Cert.KernelInSbSampleIdeal.nD Cert.KernelInSbSampleIdeal.τ).loc Cert.KernelInSbSampleIdeal.main_arg3) = m ((c.tc : Thread Cert.KernelInSbSampleIdeal.nD Cert.KernelInSbSampleIdeal.τ).loc Cert.KernelInSbSampleIdeal.main_arg3))
      ∧ r.2.sem = fun _ => 0)

def quiescent_ReferenceInSbSampleIdeal [hReferenceInSbSampleIdeal : Cert.ReferenceInSbSampleIdeal.Facts] : Prop :=
  ∀ (m : (ℓ : Loc Cert.ReferenceInSbSampleIdeal.nD Cert.ReferenceInSbSampleIdeal.τ Cert.ReferenceInSbSampleIdeal.sig) → Buf (Elt Ideal) ℓ) (g : Dev Cert.ReferenceInSbSampleIdeal.nD → PrngReg), Pre_ReferenceInSbSampleIdeal m →
    θ_run (Cert.ReferenceInSbSampleIdeal.defs (F := Ideal)) (onTc (τ := Cert.ReferenceInSbSampleIdeal.τ) (Cert.ReferenceInSbSampleIdeal.main (F := Ideal))) ⟨m, fun _ => 0, g⟩ (fun r => (∀ c : Dev Cert.ReferenceInSbSampleIdeal.nD,
      r.2.mem ((c.tc : Thread Cert.ReferenceInSbSampleIdeal.nD Cert.ReferenceInSbSampleIdeal.τ).loc Cert.ReferenceInSbSampleIdeal.main_arg0) = m ((c.tc : Thread Cert.ReferenceInSbSampleIdeal.nD Cert.ReferenceInSbSampleIdeal.τ).loc Cert.ReferenceInSbSampleIdeal.main_arg0)
      ∧ r.2.mem ((c.tc : Thread Cert.ReferenceInSbSampleIdeal.nD Cert.ReferenceInSbSampleIdeal.τ).loc Cert.ReferenceInSbSampleIdeal.main_arg1) = m ((c.tc : Thread Cert.ReferenceInSbSampleIdeal.nD Cert.ReferenceInSbSampleIdeal.τ).loc Cert.ReferenceInSbSampleIdeal.main_arg1)
      ∧ r.2.mem ((c.tc : Thread Cert.ReferenceInSbSampleIdeal.nD Cert.ReferenceInSbSampleIdeal.τ).loc Cert.ReferenceInSbSampleIdeal.main_arg2) = m ((c.tc : Thread Cert.ReferenceInSbSampleIdeal.nD Cert.ReferenceInSbSampleIdeal.τ).loc Cert.ReferenceInSbSampleIdeal.main_arg2)
      ∧ r.2.mem ((c.tc : Thread Cert.ReferenceInSbSampleIdeal.nD Cert.ReferenceInSbSampleIdeal.τ).loc Cert.ReferenceInSbSampleIdeal.main_arg3) = m ((c.tc : Thread Cert.ReferenceInSbSampleIdeal.nD Cert.ReferenceInSbSampleIdeal.τ).loc Cert.ReferenceInSbSampleIdeal.main_arg3))
      ∧ r.2.sem = fun _ => 0)

def quiescent_KernelInNsaSample [hKernelInNsaSample : Cert.KernelInNsaSample.Facts] : Prop :=
  ∀ (m : (ℓ : Loc Cert.KernelInNsaSample.nD Cert.KernelInNsaSample.τ Cert.KernelInNsaSample.sig) → Buf (Elt Bits) ℓ) (g : Dev Cert.KernelInNsaSample.nD → PrngReg), Pre_KernelInNsaSample m →
    θ_run (Cert.KernelInNsaSample.defs (F := Bits)) (onTc (τ := Cert.KernelInNsaSample.τ) (Cert.KernelInNsaSample.main (F := Bits))) ⟨m, fun _ => 0, g⟩ (fun r => (∀ c : Dev Cert.KernelInNsaSample.nD,
      r.2.mem ((c.tc : Thread Cert.KernelInNsaSample.nD Cert.KernelInNsaSample.τ).loc Cert.KernelInNsaSample.main_arg0) = m ((c.tc : Thread Cert.KernelInNsaSample.nD Cert.KernelInNsaSample.τ).loc Cert.KernelInNsaSample.main_arg0)
      ∧ r.2.mem ((c.tc : Thread Cert.KernelInNsaSample.nD Cert.KernelInNsaSample.τ).loc Cert.KernelInNsaSample.main_arg1) = m ((c.tc : Thread Cert.KernelInNsaSample.nD Cert.KernelInNsaSample.τ).loc Cert.KernelInNsaSample.main_arg1)
      ∧ r.2.mem ((c.tc : Thread Cert.KernelInNsaSample.nD Cert.KernelInNsaSample.τ).loc Cert.KernelInNsaSample.main_arg2) = m ((c.tc : Thread Cert.KernelInNsaSample.nD Cert.KernelInNsaSample.τ).loc Cert.KernelInNsaSample.main_arg2)
      ∧ r.2.mem ((c.tc : Thread Cert.KernelInNsaSample.nD Cert.KernelInNsaSample.τ).loc Cert.KernelInNsaSample.main_arg3) = m ((c.tc : Thread Cert.KernelInNsaSample.nD Cert.KernelInNsaSample.τ).loc Cert.KernelInNsaSample.main_arg3))
      ∧ r.2.sem = fun _ => 0)

def quiescent_KernelInNsaSampleIdeal [hKernelInNsaSampleIdeal : Cert.KernelInNsaSampleIdeal.Facts] : Prop :=
  ∀ (m : (ℓ : Loc Cert.KernelInNsaSampleIdeal.nD Cert.KernelInNsaSampleIdeal.τ Cert.KernelInNsaSampleIdeal.sig) → Buf (Elt Ideal) ℓ) (g : Dev Cert.KernelInNsaSampleIdeal.nD → PrngReg), Pre_KernelInNsaSampleIdeal m →
    θ_run (Cert.KernelInNsaSampleIdeal.defs (F := Ideal)) (onTc (τ := Cert.KernelInNsaSampleIdeal.τ) (Cert.KernelInNsaSampleIdeal.main (F := Ideal))) ⟨m, fun _ => 0, g⟩ (fun r => (∀ c : Dev Cert.KernelInNsaSampleIdeal.nD,
      r.2.mem ((c.tc : Thread Cert.KernelInNsaSampleIdeal.nD Cert.KernelInNsaSampleIdeal.τ).loc Cert.KernelInNsaSampleIdeal.main_arg0) = m ((c.tc : Thread Cert.KernelInNsaSampleIdeal.nD Cert.KernelInNsaSampleIdeal.τ).loc Cert.KernelInNsaSampleIdeal.main_arg0)
      ∧ r.2.mem ((c.tc : Thread Cert.KernelInNsaSampleIdeal.nD Cert.KernelInNsaSampleIdeal.τ).loc Cert.KernelInNsaSampleIdeal.main_arg1) = m ((c.tc : Thread Cert.KernelInNsaSampleIdeal.nD Cert.KernelInNsaSampleIdeal.τ).loc Cert.KernelInNsaSampleIdeal.main_arg1)
      ∧ r.2.mem ((c.tc : Thread Cert.KernelInNsaSampleIdeal.nD Cert.KernelInNsaSampleIdeal.τ).loc Cert.KernelInNsaSampleIdeal.main_arg2) = m ((c.tc : Thread Cert.KernelInNsaSampleIdeal.nD Cert.KernelInNsaSampleIdeal.τ).loc Cert.KernelInNsaSampleIdeal.main_arg2)
      ∧ r.2.mem ((c.tc : Thread Cert.KernelInNsaSampleIdeal.nD Cert.KernelInNsaSampleIdeal.τ).loc Cert.KernelInNsaSampleIdeal.main_arg3) = m ((c.tc : Thread Cert.KernelInNsaSampleIdeal.nD Cert.KernelInNsaSampleIdeal.τ).loc Cert.KernelInNsaSampleIdeal.main_arg3))
      ∧ r.2.sem = fun _ => 0)

def quiescent_ReferenceInNsaSampleIdeal [hReferenceInNsaSampleIdeal : Cert.ReferenceInNsaSampleIdeal.Facts] : Prop :=
  ∀ (m : (ℓ : Loc Cert.ReferenceInNsaSampleIdeal.nD Cert.ReferenceInNsaSampleIdeal.τ Cert.ReferenceInNsaSampleIdeal.sig) → Buf (Elt Ideal) ℓ) (g : Dev Cert.ReferenceInNsaSampleIdeal.nD → PrngReg), Pre_ReferenceInNsaSampleIdeal m →
    θ_run (Cert.ReferenceInNsaSampleIdeal.defs (F := Ideal)) (onTc (τ := Cert.ReferenceInNsaSampleIdeal.τ) (Cert.ReferenceInNsaSampleIdeal.main (F := Ideal))) ⟨m, fun _ => 0, g⟩ (fun r => (∀ c : Dev Cert.ReferenceInNsaSampleIdeal.nD,
      r.2.mem ((c.tc : Thread Cert.ReferenceInNsaSampleIdeal.nD Cert.ReferenceInNsaSampleIdeal.τ).loc Cert.ReferenceInNsaSampleIdeal.main_arg0) = m ((c.tc : Thread Cert.ReferenceInNsaSampleIdeal.nD Cert.ReferenceInNsaSampleIdeal.τ).loc Cert.ReferenceInNsaSampleIdeal.main_arg0)
      ∧ r.2.mem ((c.tc : Thread Cert.ReferenceInNsaSampleIdeal.nD Cert.ReferenceInNsaSampleIdeal.τ).loc Cert.ReferenceInNsaSampleIdeal.main_arg1) = m ((c.tc : Thread Cert.ReferenceInNsaSampleIdeal.nD Cert.ReferenceInNsaSampleIdeal.τ).loc Cert.ReferenceInNsaSampleIdeal.main_arg1)
      ∧ r.2.mem ((c.tc : Thread Cert.ReferenceInNsaSampleIdeal.nD Cert.ReferenceInNsaSampleIdeal.τ).loc Cert.ReferenceInNsaSampleIdeal.main_arg2) = m ((c.tc : Thread Cert.ReferenceInNsaSampleIdeal.nD Cert.ReferenceInNsaSampleIdeal.τ).loc Cert.ReferenceInNsaSampleIdeal.main_arg2)
      ∧ r.2.mem ((c.tc : Thread Cert.ReferenceInNsaSampleIdeal.nD Cert.ReferenceInNsaSampleIdeal.τ).loc Cert.ReferenceInNsaSampleIdeal.main_arg3) = m ((c.tc : Thread Cert.ReferenceInNsaSampleIdeal.nD Cert.ReferenceInNsaSampleIdeal.τ).loc Cert.ReferenceInNsaSampleIdeal.main_arg3))
      ∧ r.2.sem = fun _ => 0)

def quiescent_KernelInSwaSample [hKernelInSwaSample : Cert.KernelInSwaSample.Facts] : Prop :=
  ∀ (m : (ℓ : Loc Cert.KernelInSwaSample.nD Cert.KernelInSwaSample.τ Cert.KernelInSwaSample.sig) → Buf (Elt Bits) ℓ) (g : Dev Cert.KernelInSwaSample.nD → PrngReg), Pre_KernelInSwaSample m →
    θ_run (Cert.KernelInSwaSample.defs (F := Bits)) (onTc (τ := Cert.KernelInSwaSample.τ) (Cert.KernelInSwaSample.main (F := Bits))) ⟨m, fun _ => 0, g⟩ (fun r => (∀ c : Dev Cert.KernelInSwaSample.nD,
      r.2.mem ((c.tc : Thread Cert.KernelInSwaSample.nD Cert.KernelInSwaSample.τ).loc Cert.KernelInSwaSample.main_arg0) = m ((c.tc : Thread Cert.KernelInSwaSample.nD Cert.KernelInSwaSample.τ).loc Cert.KernelInSwaSample.main_arg0)
      ∧ r.2.mem ((c.tc : Thread Cert.KernelInSwaSample.nD Cert.KernelInSwaSample.τ).loc Cert.KernelInSwaSample.main_arg1) = m ((c.tc : Thread Cert.KernelInSwaSample.nD Cert.KernelInSwaSample.τ).loc Cert.KernelInSwaSample.main_arg1)
      ∧ r.2.mem ((c.tc : Thread Cert.KernelInSwaSample.nD Cert.KernelInSwaSample.τ).loc Cert.KernelInSwaSample.main_arg2) = m ((c.tc : Thread Cert.KernelInSwaSample.nD Cert.KernelInSwaSample.τ).loc Cert.KernelInSwaSample.main_arg2)
      ∧ r.2.mem ((c.tc : Thread Cert.KernelInSwaSample.nD Cert.KernelInSwaSample.τ).loc Cert.KernelInSwaSample.main_arg3) = m ((c.tc : Thread Cert.KernelInSwaSample.nD Cert.KernelInSwaSample.τ).loc Cert.KernelInSwaSample.main_arg3))
      ∧ r.2.sem = fun _ => 0)

def quiescent_KernelInSwaSampleIdeal [hKernelInSwaSampleIdeal : Cert.KernelInSwaSampleIdeal.Facts] : Prop :=
  ∀ (m : (ℓ : Loc Cert.KernelInSwaSampleIdeal.nD Cert.KernelInSwaSampleIdeal.τ Cert.KernelInSwaSampleIdeal.sig) → Buf (Elt Ideal) ℓ) (g : Dev Cert.KernelInSwaSampleIdeal.nD → PrngReg), Pre_KernelInSwaSampleIdeal m →
    θ_run (Cert.KernelInSwaSampleIdeal.defs (F := Ideal)) (onTc (τ := Cert.KernelInSwaSampleIdeal.τ) (Cert.KernelInSwaSampleIdeal.main (F := Ideal))) ⟨m, fun _ => 0, g⟩ (fun r => (∀ c : Dev Cert.KernelInSwaSampleIdeal.nD,
      r.2.mem ((c.tc : Thread Cert.KernelInSwaSampleIdeal.nD Cert.KernelInSwaSampleIdeal.τ).loc Cert.KernelInSwaSampleIdeal.main_arg0) = m ((c.tc : Thread Cert.KernelInSwaSampleIdeal.nD Cert.KernelInSwaSampleIdeal.τ).loc Cert.KernelInSwaSampleIdeal.main_arg0)
      ∧ r.2.mem ((c.tc : Thread Cert.KernelInSwaSampleIdeal.nD Cert.KernelInSwaSampleIdeal.τ).loc Cert.KernelInSwaSampleIdeal.main_arg1) = m ((c.tc : Thread Cert.KernelInSwaSampleIdeal.nD Cert.KernelInSwaSampleIdeal.τ).loc Cert.KernelInSwaSampleIdeal.main_arg1)
      ∧ r.2.mem ((c.tc : Thread Cert.KernelInSwaSampleIdeal.nD Cert.KernelInSwaSampleIdeal.τ).loc Cert.KernelInSwaSampleIdeal.main_arg2) = m ((c.tc : Thread Cert.KernelInSwaSampleIdeal.nD Cert.KernelInSwaSampleIdeal.τ).loc Cert.KernelInSwaSampleIdeal.main_arg2)
      ∧ r.2.mem ((c.tc : Thread Cert.KernelInSwaSampleIdeal.nD Cert.KernelInSwaSampleIdeal.τ).loc Cert.KernelInSwaSampleIdeal.main_arg3) = m ((c.tc : Thread Cert.KernelInSwaSampleIdeal.nD Cert.KernelInSwaSampleIdeal.τ).loc Cert.KernelInSwaSampleIdeal.main_arg3))
      ∧ r.2.sem = fun _ => 0)

def quiescent_ReferenceInSwaSampleIdeal [hReferenceInSwaSampleIdeal : Cert.ReferenceInSwaSampleIdeal.Facts] : Prop :=
  ∀ (m : (ℓ : Loc Cert.ReferenceInSwaSampleIdeal.nD Cert.ReferenceInSwaSampleIdeal.τ Cert.ReferenceInSwaSampleIdeal.sig) → Buf (Elt Ideal) ℓ) (g : Dev Cert.ReferenceInSwaSampleIdeal.nD → PrngReg), Pre_ReferenceInSwaSampleIdeal m →
    θ_run (Cert.ReferenceInSwaSampleIdeal.defs (F := Ideal)) (onTc (τ := Cert.ReferenceInSwaSampleIdeal.τ) (Cert.ReferenceInSwaSampleIdeal.main (F := Ideal))) ⟨m, fun _ => 0, g⟩ (fun r => (∀ c : Dev Cert.ReferenceInSwaSampleIdeal.nD,
      r.2.mem ((c.tc : Thread Cert.ReferenceInSwaSampleIdeal.nD Cert.ReferenceInSwaSampleIdeal.τ).loc Cert.ReferenceInSwaSampleIdeal.main_arg0) = m ((c.tc : Thread Cert.ReferenceInSwaSampleIdeal.nD Cert.ReferenceInSwaSampleIdeal.τ).loc Cert.ReferenceInSwaSampleIdeal.main_arg0)
      ∧ r.2.mem ((c.tc : Thread Cert.ReferenceInSwaSampleIdeal.nD Cert.ReferenceInSwaSampleIdeal.τ).loc Cert.ReferenceInSwaSampleIdeal.main_arg1) = m ((c.tc : Thread Cert.ReferenceInSwaSampleIdeal.nD Cert.ReferenceInSwaSampleIdeal.τ).loc Cert.ReferenceInSwaSampleIdeal.main_arg1)
      ∧ r.2.mem ((c.tc : Thread Cert.ReferenceInSwaSampleIdeal.nD Cert.ReferenceInSwaSampleIdeal.τ).loc Cert.ReferenceInSwaSampleIdeal.main_arg2) = m ((c.tc : Thread Cert.ReferenceInSwaSampleIdeal.nD Cert.ReferenceInSwaSampleIdeal.τ).loc Cert.ReferenceInSwaSampleIdeal.main_arg2)
      ∧ r.2.mem ((c.tc : Thread Cert.ReferenceInSwaSampleIdeal.nD Cert.ReferenceInSwaSampleIdeal.τ).loc Cert.ReferenceInSwaSampleIdeal.main_arg3) = m ((c.tc : Thread Cert.ReferenceInSwaSampleIdeal.nD Cert.ReferenceInSwaSampleIdeal.τ).loc Cert.ReferenceInSwaSampleIdeal.main_arg3))
      ∧ r.2.sem = fun _ => 0)

def quiescent_KernelCombSample [hKernelCombSample : Cert.KernelCombSample.Facts] : Prop :=
  ∀ (m : (ℓ : Loc Cert.KernelCombSample.nD Cert.KernelCombSample.τ Cert.KernelCombSample.sig) → Buf (Elt Bits) ℓ) (g : Dev Cert.KernelCombSample.nD → PrngReg), Pre_KernelCombSample m →
    θ_run (Cert.KernelCombSample.defs (F := Bits)) (onTc (τ := Cert.KernelCombSample.τ) (Cert.KernelCombSample.main (F := Bits))) ⟨m, fun _ => 0, g⟩ (fun r => (∀ c : Dev Cert.KernelCombSample.nD,
      r.2.mem ((c.tc : Thread Cert.KernelCombSample.nD Cert.KernelCombSample.τ).loc Cert.KernelCombSample.main_arg0) = m ((c.tc : Thread Cert.KernelCombSample.nD Cert.KernelCombSample.τ).loc Cert.KernelCombSample.main_arg0)
      ∧ r.2.mem ((c.tc : Thread Cert.KernelCombSample.nD Cert.KernelCombSample.τ).loc Cert.KernelCombSample.main_arg1) = m ((c.tc : Thread Cert.KernelCombSample.nD Cert.KernelCombSample.τ).loc Cert.KernelCombSample.main_arg1)
      ∧ r.2.mem ((c.tc : Thread Cert.KernelCombSample.nD Cert.KernelCombSample.τ).loc Cert.KernelCombSample.main_arg2) = m ((c.tc : Thread Cert.KernelCombSample.nD Cert.KernelCombSample.τ).loc Cert.KernelCombSample.main_arg2)
      ∧ r.2.mem ((c.tc : Thread Cert.KernelCombSample.nD Cert.KernelCombSample.τ).loc Cert.KernelCombSample.main_arg3) = m ((c.tc : Thread Cert.KernelCombSample.nD Cert.KernelCombSample.τ).loc Cert.KernelCombSample.main_arg3)
      ∧ r.2.mem ((c.tc : Thread Cert.KernelCombSample.nD Cert.KernelCombSample.τ).loc Cert.KernelCombSample.main_arg4) = m ((c.tc : Thread Cert.KernelCombSample.nD Cert.KernelCombSample.τ).loc Cert.KernelCombSample.main_arg4)
      ∧ r.2.mem ((c.tc : Thread Cert.KernelCombSample.nD Cert.KernelCombSample.τ).loc Cert.KernelCombSample.main_arg5) = m ((c.tc : Thread Cert.KernelCombSample.nD Cert.KernelCombSample.τ).loc Cert.KernelCombSample.main_arg5)
      ∧ r.2.mem ((c.tc : Thread Cert.KernelCombSample.nD Cert.KernelCombSample.τ).loc Cert.KernelCombSample.main_arg6) = m ((c.tc : Thread Cert.KernelCombSample.nD Cert.KernelCombSample.τ).loc Cert.KernelCombSample.main_arg6))
      ∧ r.2.sem = fun _ => 0)

def quiescent_KernelCombSampleIdeal [hKernelCombSampleIdeal : Cert.KernelCombSampleIdeal.Facts] : Prop :=
  ∀ (m : (ℓ : Loc Cert.KernelCombSampleIdeal.nD Cert.KernelCombSampleIdeal.τ Cert.KernelCombSampleIdeal.sig) → Buf (Elt Ideal) ℓ) (g : Dev Cert.KernelCombSampleIdeal.nD → PrngReg), Pre_KernelCombSampleIdeal m →
    θ_run (Cert.KernelCombSampleIdeal.defs (F := Ideal)) (onTc (τ := Cert.KernelCombSampleIdeal.τ) (Cert.KernelCombSampleIdeal.main (F := Ideal))) ⟨m, fun _ => 0, g⟩ (fun r => (∀ c : Dev Cert.KernelCombSampleIdeal.nD,
      r.2.mem ((c.tc : Thread Cert.KernelCombSampleIdeal.nD Cert.KernelCombSampleIdeal.τ).loc Cert.KernelCombSampleIdeal.main_arg0) = m ((c.tc : Thread Cert.KernelCombSampleIdeal.nD Cert.KernelCombSampleIdeal.τ).loc Cert.KernelCombSampleIdeal.main_arg0)
      ∧ r.2.mem ((c.tc : Thread Cert.KernelCombSampleIdeal.nD Cert.KernelCombSampleIdeal.τ).loc Cert.KernelCombSampleIdeal.main_arg1) = m ((c.tc : Thread Cert.KernelCombSampleIdeal.nD Cert.KernelCombSampleIdeal.τ).loc Cert.KernelCombSampleIdeal.main_arg1)
      ∧ r.2.mem ((c.tc : Thread Cert.KernelCombSampleIdeal.nD Cert.KernelCombSampleIdeal.τ).loc Cert.KernelCombSampleIdeal.main_arg2) = m ((c.tc : Thread Cert.KernelCombSampleIdeal.nD Cert.KernelCombSampleIdeal.τ).loc Cert.KernelCombSampleIdeal.main_arg2)
      ∧ r.2.mem ((c.tc : Thread Cert.KernelCombSampleIdeal.nD Cert.KernelCombSampleIdeal.τ).loc Cert.KernelCombSampleIdeal.main_arg3) = m ((c.tc : Thread Cert.KernelCombSampleIdeal.nD Cert.KernelCombSampleIdeal.τ).loc Cert.KernelCombSampleIdeal.main_arg3)
      ∧ r.2.mem ((c.tc : Thread Cert.KernelCombSampleIdeal.nD Cert.KernelCombSampleIdeal.τ).loc Cert.KernelCombSampleIdeal.main_arg4) = m ((c.tc : Thread Cert.KernelCombSampleIdeal.nD Cert.KernelCombSampleIdeal.τ).loc Cert.KernelCombSampleIdeal.main_arg4)
      ∧ r.2.mem ((c.tc : Thread Cert.KernelCombSampleIdeal.nD Cert.KernelCombSampleIdeal.τ).loc Cert.KernelCombSampleIdeal.main_arg5) = m ((c.tc : Thread Cert.KernelCombSampleIdeal.nD Cert.KernelCombSampleIdeal.τ).loc Cert.KernelCombSampleIdeal.main_arg5)
      ∧ r.2.mem ((c.tc : Thread Cert.KernelCombSampleIdeal.nD Cert.KernelCombSampleIdeal.τ).loc Cert.KernelCombSampleIdeal.main_arg6) = m ((c.tc : Thread Cert.KernelCombSampleIdeal.nD Cert.KernelCombSampleIdeal.τ).loc Cert.KernelCombSampleIdeal.main_arg6))
      ∧ r.2.sem = fun _ => 0)

def quiescent_ReferenceCombSampleIdeal [hReferenceCombSampleIdeal : Cert.ReferenceCombSampleIdeal.Facts] : Prop :=
  ∀ (m : (ℓ : Loc Cert.ReferenceCombSampleIdeal.nD Cert.ReferenceCombSampleIdeal.τ Cert.ReferenceCombSampleIdeal.sig) → Buf (Elt Ideal) ℓ) (g : Dev Cert.ReferenceCombSampleIdeal.nD → PrngReg), Pre_ReferenceCombSampleIdeal m →
    θ_run (Cert.ReferenceCombSampleIdeal.defs (F := Ideal)) (onTc (τ := Cert.ReferenceCombSampleIdeal.τ) (Cert.ReferenceCombSampleIdeal.main (F := Ideal))) ⟨m, fun _ => 0, g⟩ (fun r => (∀ c : Dev Cert.ReferenceCombSampleIdeal.nD,
      r.2.mem ((c.tc : Thread Cert.ReferenceCombSampleIdeal.nD Cert.ReferenceCombSampleIdeal.τ).loc Cert.ReferenceCombSampleIdeal.main_arg0) = m ((c.tc : Thread Cert.ReferenceCombSampleIdeal.nD Cert.ReferenceCombSampleIdeal.τ).loc Cert.ReferenceCombSampleIdeal.main_arg0)
      ∧ r.2.mem ((c.tc : Thread Cert.ReferenceCombSampleIdeal.nD Cert.ReferenceCombSampleIdeal.τ).loc Cert.ReferenceCombSampleIdeal.main_arg1) = m ((c.tc : Thread Cert.ReferenceCombSampleIdeal.nD Cert.ReferenceCombSampleIdeal.τ).loc Cert.ReferenceCombSampleIdeal.main_arg1)
      ∧ r.2.mem ((c.tc : Thread Cert.ReferenceCombSampleIdeal.nD Cert.ReferenceCombSampleIdeal.τ).loc Cert.ReferenceCombSampleIdeal.main_arg2) = m ((c.tc : Thread Cert.ReferenceCombSampleIdeal.nD Cert.ReferenceCombSampleIdeal.τ).loc Cert.ReferenceCombSampleIdeal.main_arg2)
      ∧ r.2.mem ((c.tc : Thread Cert.ReferenceCombSampleIdeal.nD Cert.ReferenceCombSampleIdeal.τ).loc Cert.ReferenceCombSampleIdeal.main_arg3) = m ((c.tc : Thread Cert.ReferenceCombSampleIdeal.nD Cert.ReferenceCombSampleIdeal.τ).loc Cert.ReferenceCombSampleIdeal.main_arg3)
      ∧ r.2.mem ((c.tc : Thread Cert.ReferenceCombSampleIdeal.nD Cert.ReferenceCombSampleIdeal.τ).loc Cert.ReferenceCombSampleIdeal.main_arg4) = m ((c.tc : Thread Cert.ReferenceCombSampleIdeal.nD Cert.ReferenceCombSampleIdeal.τ).loc Cert.ReferenceCombSampleIdeal.main_arg4)
      ∧ r.2.mem ((c.tc : Thread Cert.ReferenceCombSampleIdeal.nD Cert.ReferenceCombSampleIdeal.τ).loc Cert.ReferenceCombSampleIdeal.main_arg5) = m ((c.tc : Thread Cert.ReferenceCombSampleIdeal.nD Cert.ReferenceCombSampleIdeal.τ).loc Cert.ReferenceCombSampleIdeal.main_arg5)
      ∧ r.2.mem ((c.tc : Thread Cert.ReferenceCombSampleIdeal.nD Cert.ReferenceCombSampleIdeal.τ).loc Cert.ReferenceCombSampleIdeal.main_arg6) = m ((c.tc : Thread Cert.ReferenceCombSampleIdeal.nD Cert.ReferenceCombSampleIdeal.τ).loc Cert.ReferenceCombSampleIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelInSb_KernelInSbIdeal : Prop :=
  True

def algebraic_KernelInSbIdeal_ReferenceInSbIdeal [hKernelInSbIdeal : Cert.KernelInSbIdeal.Facts] [hReferenceInSbIdeal : Cert.ReferenceInSbIdeal.Facts] : Prop :=
  ∀ (m : (ℓ : Loc Cert.KernelInSbIdeal.nD Cert.KernelInSbIdeal.τ Cert.KernelInSbIdeal.sig) → Buf (Elt Ideal) ℓ) (g : Dev Cert.KernelInSbIdeal.nD → PrngReg)
    (m' : (ℓ : Loc Cert.ReferenceInSbIdeal.nD Cert.ReferenceInSbIdeal.τ Cert.ReferenceInSbIdeal.sig) → Buf (Elt Ideal) ℓ) (g' : Dev Cert.ReferenceInSbIdeal.nD → PrngReg), Pre_KernelInSbIdeal m →
    (∀ c : Dev Cert.KernelInSbIdeal.nD,
      m' ((c.tc : Thread Cert.ReferenceInSbIdeal.nD Cert.ReferenceInSbIdeal.τ).loc Cert.ReferenceInSbIdeal.main_arg0) = m ((c.tc : Thread Cert.KernelInSbIdeal.nD Cert.KernelInSbIdeal.τ).loc Cert.KernelInSbIdeal.main_arg0)
      ∧ m' ((c.tc : Thread Cert.ReferenceInSbIdeal.nD Cert.ReferenceInSbIdeal.τ).loc Cert.ReferenceInSbIdeal.main_arg1) = m ((c.tc : Thread Cert.KernelInSbIdeal.nD Cert.KernelInSbIdeal.τ).loc Cert.KernelInSbIdeal.main_arg1)
      ∧ m' ((c.tc : Thread Cert.ReferenceInSbIdeal.nD Cert.ReferenceInSbIdeal.τ).loc Cert.ReferenceInSbIdeal.main_arg2) = m ((c.tc : Thread Cert.KernelInSbIdeal.nD Cert.KernelInSbIdeal.τ).loc Cert.KernelInSbIdeal.main_arg2)
      ∧ m' ((c.tc : Thread Cert.ReferenceInSbIdeal.nD Cert.ReferenceInSbIdeal.τ).loc Cert.ReferenceInSbIdeal.main_arg3) = m ((c.tc : Thread Cert.KernelInSbIdeal.nD Cert.KernelInSbIdeal.τ).loc Cert.KernelInSbIdeal.main_arg3)) →
    ∃ (v0 : (c : Dev Cert.KernelInSbIdeal.nD) → Buf (Elt Ideal) ((c.tc : Thread Cert.KernelInSbIdeal.nD Cert.KernelInSbIdeal.τ).loc Cert.KernelInSbIdeal.main_v4_0)) (v1 : (c : Dev Cert.KernelInSbIdeal.nD) → Buf (Elt Ideal) ((c.tc : Thread Cert.KernelInSbIdeal.nD Cert.KernelInSbIdeal.τ).loc Cert.KernelInSbIdeal.main_v4_1)),
      θ_run (Cert.KernelInSbIdeal.defs (F := Ideal)) (onTc (τ := Cert.KernelInSbIdeal.τ) (Cert.KernelInSbIdeal.main (F := Ideal))) ⟨m, fun _ => 0, g⟩ (fun r => ∀ c : Dev Cert.KernelInSbIdeal.nD,
          r.2.mem ((c.tc : Thread Cert.KernelInSbIdeal.nD Cert.KernelInSbIdeal.τ).loc Cert.KernelInSbIdeal.main_v4_0) = v0 c
          ∧ r.2.mem ((c.tc : Thread Cert.KernelInSbIdeal.nD Cert.KernelInSbIdeal.τ).loc Cert.KernelInSbIdeal.main_v4_1) = v1 c
          ∧ r.2.mem ((c.tc : Thread Cert.KernelInSbIdeal.nD Cert.KernelInSbIdeal.τ).loc Cert.KernelInSbIdeal.main_arg0) = m ((c.tc : Thread Cert.KernelInSbIdeal.nD Cert.KernelInSbIdeal.τ).loc Cert.KernelInSbIdeal.main_arg0)
          ∧ r.2.mem ((c.tc : Thread Cert.KernelInSbIdeal.nD Cert.KernelInSbIdeal.τ).loc Cert.KernelInSbIdeal.main_arg1) = m ((c.tc : Thread Cert.KernelInSbIdeal.nD Cert.KernelInSbIdeal.τ).loc Cert.KernelInSbIdeal.main_arg1)
          ∧ r.2.mem ((c.tc : Thread Cert.KernelInSbIdeal.nD Cert.KernelInSbIdeal.τ).loc Cert.KernelInSbIdeal.main_arg2) = m ((c.tc : Thread Cert.KernelInSbIdeal.nD Cert.KernelInSbIdeal.τ).loc Cert.KernelInSbIdeal.main_arg2)
          ∧ r.2.mem ((c.tc : Thread Cert.KernelInSbIdeal.nD Cert.KernelInSbIdeal.τ).loc Cert.KernelInSbIdeal.main_arg3) = m ((c.tc : Thread Cert.KernelInSbIdeal.nD Cert.KernelInSbIdeal.τ).loc Cert.KernelInSbIdeal.main_arg3))
      ∧ θ_run (Cert.ReferenceInSbIdeal.defs (F := Ideal)) (onTc (τ := Cert.ReferenceInSbIdeal.τ) (Cert.ReferenceInSbIdeal.main (F := Ideal))) ⟨m', fun _ => 0, g'⟩ (fun r => ∀ c : Dev Cert.ReferenceInSbIdeal.nD,
          r.2.mem ((c.tc : Thread Cert.ReferenceInSbIdeal.nD Cert.ReferenceInSbIdeal.τ).loc Cert.ReferenceInSbIdeal.main_v7) = v0 c
          ∧ r.2.mem ((c.tc : Thread Cert.ReferenceInSbIdeal.nD Cert.ReferenceInSbIdeal.τ).loc Cert.ReferenceInSbIdeal.main_v8) = v1 c
          ∧ r.2.mem ((c.tc : Thread Cert.ReferenceInSbIdeal.nD Cert.ReferenceInSbIdeal.τ).loc Cert.ReferenceInSbIdeal.main_arg0) = m' ((c.tc : Thread Cert.ReferenceInSbIdeal.nD Cert.ReferenceInSbIdeal.τ).loc Cert.ReferenceInSbIdeal.main_arg0)
          ∧ r.2.mem ((c.tc : Thread Cert.ReferenceInSbIdeal.nD Cert.ReferenceInSbIdeal.τ).loc Cert.ReferenceInSbIdeal.main_arg1) = m' ((c.tc : Thread Cert.ReferenceInSbIdeal.nD Cert.ReferenceInSbIdeal.τ).loc Cert.ReferenceInSbIdeal.main_arg1)
          ∧ r.2.mem ((c.tc : Thread Cert.ReferenceInSbIdeal.nD Cert.ReferenceInSbIdeal.τ).loc Cert.ReferenceInSbIdeal.main_arg2) = m' ((c.tc : Thread Cert.ReferenceInSbIdeal.nD Cert.ReferenceInSbIdeal.τ).loc Cert.ReferenceInSbIdeal.main_arg2)
          ∧ r.2.mem ((c.tc : Thread Cert.ReferenceInSbIdeal.nD Cert.ReferenceInSbIdeal.τ).loc Cert.ReferenceInSbIdeal.main_arg3) = m' ((c.tc : Thread Cert.ReferenceInSbIdeal.nD Cert.ReferenceInSbIdeal.τ).loc Cert.ReferenceInSbIdeal.main_arg3))

def preserves_KernelInNsa_KernelInNsaIdeal : Prop :=
  True

def algebraic_KernelInNsaIdeal_ReferenceInNsaIdeal [hKernelInNsaIdeal : Cert.KernelInNsaIdeal.Facts] [hReferenceInNsaIdeal : Cert.ReferenceInNsaIdeal.Facts] : Prop :=
  ∀ (m : (ℓ : Loc Cert.KernelInNsaIdeal.nD Cert.KernelInNsaIdeal.τ Cert.KernelInNsaIdeal.sig) → Buf (Elt Ideal) ℓ) (g : Dev Cert.KernelInNsaIdeal.nD → PrngReg)
    (m' : (ℓ : Loc Cert.ReferenceInNsaIdeal.nD Cert.ReferenceInNsaIdeal.τ Cert.ReferenceInNsaIdeal.sig) → Buf (Elt Ideal) ℓ) (g' : Dev Cert.ReferenceInNsaIdeal.nD → PrngReg), Pre_KernelInNsaIdeal m →
    (∀ c : Dev Cert.KernelInNsaIdeal.nD,
      m' ((c.tc : Thread Cert.ReferenceInNsaIdeal.nD Cert.ReferenceInNsaIdeal.τ).loc Cert.ReferenceInNsaIdeal.main_arg0) = m ((c.tc : Thread Cert.KernelInNsaIdeal.nD Cert.KernelInNsaIdeal.τ).loc Cert.KernelInNsaIdeal.main_arg0)
      ∧ m' ((c.tc : Thread Cert.ReferenceInNsaIdeal.nD Cert.ReferenceInNsaIdeal.τ).loc Cert.ReferenceInNsaIdeal.main_arg1) = m ((c.tc : Thread Cert.KernelInNsaIdeal.nD Cert.KernelInNsaIdeal.τ).loc Cert.KernelInNsaIdeal.main_arg1)
      ∧ m' ((c.tc : Thread Cert.ReferenceInNsaIdeal.nD Cert.ReferenceInNsaIdeal.τ).loc Cert.ReferenceInNsaIdeal.main_arg2) = m ((c.tc : Thread Cert.KernelInNsaIdeal.nD Cert.KernelInNsaIdeal.τ).loc Cert.KernelInNsaIdeal.main_arg2)
      ∧ m' ((c.tc : Thread Cert.ReferenceInNsaIdeal.nD Cert.ReferenceInNsaIdeal.τ).loc Cert.ReferenceInNsaIdeal.main_arg3) = m ((c.tc : Thread Cert.KernelInNsaIdeal.nD Cert.KernelInNsaIdeal.τ).loc Cert.KernelInNsaIdeal.main_arg3)) →
    ∃ (v0 : (c : Dev Cert.KernelInNsaIdeal.nD) → Buf (Elt Ideal) ((c.tc : Thread Cert.KernelInNsaIdeal.nD Cert.KernelInNsaIdeal.τ).loc Cert.KernelInNsaIdeal.main_v5_0)) (v1 : (c : Dev Cert.KernelInNsaIdeal.nD) → Buf (Elt Ideal) ((c.tc : Thread Cert.KernelInNsaIdeal.nD Cert.KernelInNsaIdeal.τ).loc Cert.KernelInNsaIdeal.main_v5_1)),
      θ_run (Cert.KernelInNsaIdeal.defs (F := Ideal)) (onTc (τ := Cert.KernelInNsaIdeal.τ) (Cert.KernelInNsaIdeal.main (F := Ideal))) ⟨m, fun _ => 0, g⟩ (fun r => ∀ c : Dev Cert.KernelInNsaIdeal.nD,
          r.2.mem ((c.tc : Thread Cert.KernelInNsaIdeal.nD Cert.KernelInNsaIdeal.τ).loc Cert.KernelInNsaIdeal.main_v5_0) = v0 c
          ∧ r.2.mem ((c.tc : Thread Cert.KernelInNsaIdeal.nD Cert.KernelInNsaIdeal.τ).loc Cert.KernelInNsaIdeal.main_v5_1) = v1 c
          ∧ r.2.mem ((c.tc : Thread Cert.KernelInNsaIdeal.nD Cert.KernelInNsaIdeal.τ).loc Cert.KernelInNsaIdeal.main_arg0) = m ((c.tc : Thread Cert.KernelInNsaIdeal.nD Cert.KernelInNsaIdeal.τ).loc Cert.KernelInNsaIdeal.main_arg0)
          ∧ r.2.mem ((c.tc : Thread Cert.KernelInNsaIdeal.nD Cert.KernelInNsaIdeal.τ).loc Cert.KernelInNsaIdeal.main_arg1) = m ((c.tc : Thread Cert.KernelInNsaIdeal.nD Cert.KernelInNsaIdeal.τ).loc Cert.KernelInNsaIdeal.main_arg1)
          ∧ r.2.mem ((c.tc : Thread Cert.KernelInNsaIdeal.nD Cert.KernelInNsaIdeal.τ).loc Cert.KernelInNsaIdeal.main_arg2) = m ((c.tc : Thread Cert.KernelInNsaIdeal.nD Cert.KernelInNsaIdeal.τ).loc Cert.KernelInNsaIdeal.main_arg2)
          ∧ r.2.mem ((c.tc : Thread Cert.KernelInNsaIdeal.nD Cert.KernelInNsaIdeal.τ).loc Cert.KernelInNsaIdeal.main_arg3) = m ((c.tc : Thread Cert.KernelInNsaIdeal.nD Cert.KernelInNsaIdeal.τ).loc Cert.KernelInNsaIdeal.main_arg3))
      ∧ θ_run (Cert.ReferenceInNsaIdeal.defs (F := Ideal)) (onTc (τ := Cert.ReferenceInNsaIdeal.τ) (Cert.ReferenceInNsaIdeal.main (F := Ideal))) ⟨m', fun _ => 0, g'⟩ (fun r => ∀ c : Dev Cert.ReferenceInNsaIdeal.nD,
          r.2.mem ((c.tc : Thread Cert.ReferenceInNsaIdeal.nD Cert.ReferenceInNsaIdeal.τ).loc Cert.ReferenceInNsaIdeal.main_v8) = v0 c
          ∧ r.2.mem ((c.tc : Thread Cert.ReferenceInNsaIdeal.nD Cert.ReferenceInNsaIdeal.τ).loc Cert.ReferenceInNsaIdeal.main_v9) = v1 c
          ∧ r.2.mem ((c.tc : Thread Cert.ReferenceInNsaIdeal.nD Cert.ReferenceInNsaIdeal.τ).loc Cert.ReferenceInNsaIdeal.main_arg0) = m' ((c.tc : Thread Cert.ReferenceInNsaIdeal.nD Cert.ReferenceInNsaIdeal.τ).loc Cert.ReferenceInNsaIdeal.main_arg0)
          ∧ r.2.mem ((c.tc : Thread Cert.ReferenceInNsaIdeal.nD Cert.ReferenceInNsaIdeal.τ).loc Cert.ReferenceInNsaIdeal.main_arg1) = m' ((c.tc : Thread Cert.ReferenceInNsaIdeal.nD Cert.ReferenceInNsaIdeal.τ).loc Cert.ReferenceInNsaIdeal.main_arg1)
          ∧ r.2.mem ((c.tc : Thread Cert.ReferenceInNsaIdeal.nD Cert.ReferenceInNsaIdeal.τ).loc Cert.ReferenceInNsaIdeal.main_arg2) = m' ((c.tc : Thread Cert.ReferenceInNsaIdeal.nD Cert.ReferenceInNsaIdeal.τ).loc Cert.ReferenceInNsaIdeal.main_arg2)
          ∧ r.2.mem ((c.tc : Thread Cert.ReferenceInNsaIdeal.nD Cert.ReferenceInNsaIdeal.τ).loc Cert.ReferenceInNsaIdeal.main_arg3) = m' ((c.tc : Thread Cert.ReferenceInNsaIdeal.nD Cert.ReferenceInNsaIdeal.τ).loc Cert.ReferenceInNsaIdeal.main_arg3))

def preserves_KernelInSwa_KernelInSwaIdeal : Prop :=
  True

def algebraic_KernelInSwaIdeal_ReferenceInSwaIdeal [hKernelInSwaIdeal : Cert.KernelInSwaIdeal.Facts] [hReferenceInSwaIdeal : Cert.ReferenceInSwaIdeal.Facts] : Prop :=
  ∀ (m : (ℓ : Loc Cert.KernelInSwaIdeal.nD Cert.KernelInSwaIdeal.τ Cert.KernelInSwaIdeal.sig) → Buf (Elt Ideal) ℓ) (g : Dev Cert.KernelInSwaIdeal.nD → PrngReg)
    (m' : (ℓ : Loc Cert.ReferenceInSwaIdeal.nD Cert.ReferenceInSwaIdeal.τ Cert.ReferenceInSwaIdeal.sig) → Buf (Elt Ideal) ℓ) (g' : Dev Cert.ReferenceInSwaIdeal.nD → PrngReg), Pre_KernelInSwaIdeal m →
    (∀ c : Dev Cert.KernelInSwaIdeal.nD,
      m' ((c.tc : Thread Cert.ReferenceInSwaIdeal.nD Cert.ReferenceInSwaIdeal.τ).loc Cert.ReferenceInSwaIdeal.main_arg0) = m ((c.tc : Thread Cert.KernelInSwaIdeal.nD Cert.KernelInSwaIdeal.τ).loc Cert.KernelInSwaIdeal.main_arg0)
      ∧ m' ((c.tc : Thread Cert.ReferenceInSwaIdeal.nD Cert.ReferenceInSwaIdeal.τ).loc Cert.ReferenceInSwaIdeal.main_arg1) = m ((c.tc : Thread Cert.KernelInSwaIdeal.nD Cert.KernelInSwaIdeal.τ).loc Cert.KernelInSwaIdeal.main_arg1)
      ∧ m' ((c.tc : Thread Cert.ReferenceInSwaIdeal.nD Cert.ReferenceInSwaIdeal.τ).loc Cert.ReferenceInSwaIdeal.main_arg2) = m ((c.tc : Thread Cert.KernelInSwaIdeal.nD Cert.KernelInSwaIdeal.τ).loc Cert.KernelInSwaIdeal.main_arg2)
      ∧ m' ((c.tc : Thread Cert.ReferenceInSwaIdeal.nD Cert.ReferenceInSwaIdeal.τ).loc Cert.ReferenceInSwaIdeal.main_arg3) = m ((c.tc : Thread Cert.KernelInSwaIdeal.nD Cert.KernelInSwaIdeal.τ).loc Cert.KernelInSwaIdeal.main_arg3)) →
    ∃ (v0 : (c : Dev Cert.KernelInSwaIdeal.nD) → Buf (Elt Ideal) ((c.tc : Thread Cert.KernelInSwaIdeal.nD Cert.KernelInSwaIdeal.τ).loc Cert.KernelInSwaIdeal.main_v4_0)) (v1 : (c : Dev Cert.KernelInSwaIdeal.nD) → Buf (Elt Ideal) ((c.tc : Thread Cert.KernelInSwaIdeal.nD Cert.KernelInSwaIdeal.τ).loc Cert.KernelInSwaIdeal.main_v4_1)),
      θ_run (Cert.KernelInSwaIdeal.defs (F := Ideal)) (onTc (τ := Cert.KernelInSwaIdeal.τ) (Cert.KernelInSwaIdeal.main (F := Ideal))) ⟨m, fun _ => 0, g⟩ (fun r => ∀ c : Dev Cert.KernelInSwaIdeal.nD,
          r.2.mem ((c.tc : Thread Cert.KernelInSwaIdeal.nD Cert.KernelInSwaIdeal.τ).loc Cert.KernelInSwaIdeal.main_v4_0) = v0 c
          ∧ r.2.mem ((c.tc : Thread Cert.KernelInSwaIdeal.nD Cert.KernelInSwaIdeal.τ).loc Cert.KernelInSwaIdeal.main_v4_1) = v1 c
          ∧ r.2.mem ((c.tc : Thread Cert.KernelInSwaIdeal.nD Cert.KernelInSwaIdeal.τ).loc Cert.KernelInSwaIdeal.main_arg0) = m ((c.tc : Thread Cert.KernelInSwaIdeal.nD Cert.KernelInSwaIdeal.τ).loc Cert.KernelInSwaIdeal.main_arg0)
          ∧ r.2.mem ((c.tc : Thread Cert.KernelInSwaIdeal.nD Cert.KernelInSwaIdeal.τ).loc Cert.KernelInSwaIdeal.main_arg1) = m ((c.tc : Thread Cert.KernelInSwaIdeal.nD Cert.KernelInSwaIdeal.τ).loc Cert.KernelInSwaIdeal.main_arg1)
          ∧ r.2.mem ((c.tc : Thread Cert.KernelInSwaIdeal.nD Cert.KernelInSwaIdeal.τ).loc Cert.KernelInSwaIdeal.main_arg2) = m ((c.tc : Thread Cert.KernelInSwaIdeal.nD Cert.KernelInSwaIdeal.τ).loc Cert.KernelInSwaIdeal.main_arg2)
          ∧ r.2.mem ((c.tc : Thread Cert.KernelInSwaIdeal.nD Cert.KernelInSwaIdeal.τ).loc Cert.KernelInSwaIdeal.main_arg3) = m ((c.tc : Thread Cert.KernelInSwaIdeal.nD Cert.KernelInSwaIdeal.τ).loc Cert.KernelInSwaIdeal.main_arg3))
      ∧ θ_run (Cert.ReferenceInSwaIdeal.defs (F := Ideal)) (onTc (τ := Cert.ReferenceInSwaIdeal.τ) (Cert.ReferenceInSwaIdeal.main (F := Ideal))) ⟨m', fun _ => 0, g'⟩ (fun r => ∀ c : Dev Cert.ReferenceInSwaIdeal.nD,
          r.2.mem ((c.tc : Thread Cert.ReferenceInSwaIdeal.nD Cert.ReferenceInSwaIdeal.τ).loc Cert.ReferenceInSwaIdeal.main_v7) = v0 c
          ∧ r.2.mem ((c.tc : Thread Cert.ReferenceInSwaIdeal.nD Cert.ReferenceInSwaIdeal.τ).loc Cert.ReferenceInSwaIdeal.main_v8) = v1 c
          ∧ r.2.mem ((c.tc : Thread Cert.ReferenceInSwaIdeal.nD Cert.ReferenceInSwaIdeal.τ).loc Cert.ReferenceInSwaIdeal.main_arg0) = m' ((c.tc : Thread Cert.ReferenceInSwaIdeal.nD Cert.ReferenceInSwaIdeal.τ).loc Cert.ReferenceInSwaIdeal.main_arg0)
          ∧ r.2.mem ((c.tc : Thread Cert.ReferenceInSwaIdeal.nD Cert.ReferenceInSwaIdeal.τ).loc Cert.ReferenceInSwaIdeal.main_arg1) = m' ((c.tc : Thread Cert.ReferenceInSwaIdeal.nD Cert.ReferenceInSwaIdeal.τ).loc Cert.ReferenceInSwaIdeal.main_arg1)
          ∧ r.2.mem ((c.tc : Thread Cert.ReferenceInSwaIdeal.nD Cert.ReferenceInSwaIdeal.τ).loc Cert.ReferenceInSwaIdeal.main_arg2) = m' ((c.tc : Thread Cert.ReferenceInSwaIdeal.nD Cert.ReferenceInSwaIdeal.τ).loc Cert.ReferenceInSwaIdeal.main_arg2)
          ∧ r.2.mem ((c.tc : Thread Cert.ReferenceInSwaIdeal.nD Cert.ReferenceInSwaIdeal.τ).loc Cert.ReferenceInSwaIdeal.main_arg3) = m' ((c.tc : Thread Cert.ReferenceInSwaIdeal.nD Cert.ReferenceInSwaIdeal.τ).loc Cert.ReferenceInSwaIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v34) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelComb_KernelCombIdeal : Prop :=
  True

def algebraic_KernelCombIdeal_ReferenceCombIdeal [hKernelCombIdeal : Cert.KernelCombIdeal.Facts] [hReferenceCombIdeal : Cert.ReferenceCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg)
    (m' : (ℓ : Loc Cert.ReferenceCombIdeal.nD Cert.ReferenceCombIdeal.τ Cert.ReferenceCombIdeal.sig) → Buf (Elt Ideal) ℓ) (g' : Dev Cert.ReferenceCombIdeal.nD → PrngReg), Pre_KernelCombIdeal m →
    (∀ c : Dev Cert.KernelCombIdeal.nD,
      m' ((c.tc : Thread Cert.ReferenceCombIdeal.nD Cert.ReferenceCombIdeal.τ).loc Cert.ReferenceCombIdeal.main_arg0) = m ((c.tc : Thread Cert.KernelCombIdeal.nD Cert.KernelCombIdeal.τ).loc Cert.KernelCombIdeal.main_arg0)
      ∧ m' ((c.tc : Thread Cert.ReferenceCombIdeal.nD Cert.ReferenceCombIdeal.τ).loc Cert.ReferenceCombIdeal.main_arg1) = m ((c.tc : Thread Cert.KernelCombIdeal.nD Cert.KernelCombIdeal.τ).loc Cert.KernelCombIdeal.main_arg1)
      ∧ m' ((c.tc : Thread Cert.ReferenceCombIdeal.nD Cert.ReferenceCombIdeal.τ).loc Cert.ReferenceCombIdeal.main_arg2) = m ((c.tc : Thread Cert.KernelCombIdeal.nD Cert.KernelCombIdeal.τ).loc Cert.KernelCombIdeal.main_arg2)
      ∧ m' ((c.tc : Thread Cert.ReferenceCombIdeal.nD Cert.ReferenceCombIdeal.τ).loc Cert.ReferenceCombIdeal.main_arg3) = m ((c.tc : Thread Cert.KernelCombIdeal.nD Cert.KernelCombIdeal.τ).loc Cert.KernelCombIdeal.main_arg3)
      ∧ m' ((c.tc : Thread Cert.ReferenceCombIdeal.nD Cert.ReferenceCombIdeal.τ).loc Cert.ReferenceCombIdeal.main_arg4) = m ((c.tc : Thread Cert.KernelCombIdeal.nD Cert.KernelCombIdeal.τ).loc Cert.KernelCombIdeal.main_arg4)
      ∧ m' ((c.tc : Thread Cert.ReferenceCombIdeal.nD Cert.ReferenceCombIdeal.τ).loc Cert.ReferenceCombIdeal.main_arg5) = m ((c.tc : Thread Cert.KernelCombIdeal.nD Cert.KernelCombIdeal.τ).loc Cert.KernelCombIdeal.main_arg5)
      ∧ m' ((c.tc : Thread Cert.ReferenceCombIdeal.nD Cert.ReferenceCombIdeal.τ).loc Cert.ReferenceCombIdeal.main_arg6) = m ((c.tc : Thread Cert.KernelCombIdeal.nD Cert.KernelCombIdeal.τ).loc Cert.KernelCombIdeal.main_arg6)) →
    ∃ (v0 : (c : Dev Cert.KernelCombIdeal.nD) → Buf (Elt Ideal) ((c.tc : Thread Cert.KernelCombIdeal.nD Cert.KernelCombIdeal.τ).loc Cert.KernelCombIdeal.main_v3)),
      θ_run (Cert.KernelCombIdeal.defs (F := Ideal)) (onTc (τ := Cert.KernelCombIdeal.τ) (Cert.KernelCombIdeal.main (F := Ideal))) ⟨m, fun _ => 0, g⟩ (fun r => ∀ c : Dev Cert.KernelCombIdeal.nD,
          r.2.mem ((c.tc : Thread Cert.KernelCombIdeal.nD Cert.KernelCombIdeal.τ).loc Cert.KernelCombIdeal.main_v3) = v0 c
          ∧ r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
          ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
          ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
          ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
          ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4)
          ∧ r.2.mem ((c.tc : Thread Cert.KernelCombIdeal.nD Cert.KernelCombIdeal.τ).loc Cert.KernelCombIdeal.main_arg5) = m ((c.tc : Thread Cert.KernelCombIdeal.nD Cert.KernelCombIdeal.τ).loc Cert.KernelCombIdeal.main_arg5)
          ∧ r.2.mem ((c.tc : Thread Cert.KernelCombIdeal.nD Cert.KernelCombIdeal.τ).loc Cert.KernelCombIdeal.main_arg6) = m ((c.tc : Thread Cert.KernelCombIdeal.nD Cert.KernelCombIdeal.τ).loc Cert.KernelCombIdeal.main_arg6))
      ∧ θ_run (Cert.ReferenceCombIdeal.defs (F := Ideal)) (onTc (τ := Cert.ReferenceCombIdeal.τ) (Cert.ReferenceCombIdeal.main (F := Ideal))) ⟨m', fun _ => 0, g'⟩ (fun r => ∀ c : Dev Cert.ReferenceCombIdeal.nD,
          r.2.mem ((c.tc : Thread Cert.ReferenceCombIdeal.nD Cert.ReferenceCombIdeal.τ).loc Cert.ReferenceCombIdeal.main_v39) = v0 c
          ∧ r.2.mem ((c.tc : Thread Cert.ReferenceCombIdeal.nD Cert.ReferenceCombIdeal.τ).loc Cert.ReferenceCombIdeal.main_arg0) = m' ((c.tc : Thread Cert.ReferenceCombIdeal.nD Cert.ReferenceCombIdeal.τ).loc Cert.ReferenceCombIdeal.main_arg0)
          ∧ r.2.mem ((c.tc : Thread Cert.ReferenceCombIdeal.nD Cert.ReferenceCombIdeal.τ).loc Cert.ReferenceCombIdeal.main_arg1) = m' ((c.tc : Thread Cert.ReferenceCombIdeal.nD Cert.ReferenceCombIdeal.τ).loc Cert.ReferenceCombIdeal.main_arg1)
          ∧ r.2.mem ((c.tc : Thread Cert.ReferenceCombIdeal.nD Cert.ReferenceCombIdeal.τ).loc Cert.ReferenceCombIdeal.main_arg2) = m' ((c.tc : Thread Cert.ReferenceCombIdeal.nD Cert.ReferenceCombIdeal.τ).loc Cert.ReferenceCombIdeal.main_arg2)
          ∧ r.2.mem ((c.tc : Thread Cert.ReferenceCombIdeal.nD Cert.ReferenceCombIdeal.τ).loc Cert.ReferenceCombIdeal.main_arg3) = m' ((c.tc : Thread Cert.ReferenceCombIdeal.nD Cert.ReferenceCombIdeal.τ).loc Cert.ReferenceCombIdeal.main_arg3)
          ∧ r.2.mem ((c.tc : Thread Cert.ReferenceCombIdeal.nD Cert.ReferenceCombIdeal.τ).loc Cert.ReferenceCombIdeal.main_arg4) = m' ((c.tc : Thread Cert.ReferenceCombIdeal.nD Cert.ReferenceCombIdeal.τ).loc Cert.ReferenceCombIdeal.main_arg4)
          ∧ r.2.mem ((c.tc : Thread Cert.ReferenceCombIdeal.nD Cert.ReferenceCombIdeal.τ).loc Cert.ReferenceCombIdeal.main_arg5) = m' ((c.tc : Thread Cert.ReferenceCombIdeal.nD Cert.ReferenceCombIdeal.τ).loc Cert.ReferenceCombIdeal.main_arg5)
          ∧ r.2.mem ((c.tc : Thread Cert.ReferenceCombIdeal.nD Cert.ReferenceCombIdeal.τ).loc Cert.ReferenceCombIdeal.main_arg6) = m' ((c.tc : Thread Cert.ReferenceCombIdeal.nD Cert.ReferenceCombIdeal.τ).loc Cert.ReferenceCombIdeal.main_arg6))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] [hPre_routed : Cert.Pre_routed.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)) →
    ∃ (v0 : (c : Dev Cert.KernelMoeIdeal.nD) → Buf (Elt Ideal) ((c.tc : Thread Cert.KernelMoeIdeal.nD Cert.KernelMoeIdeal.τ).loc Cert.KernelMoeIdeal.main_v5)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v5) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v37) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5))

def preserves_KernelRoute_KernelRouteIdeal : Prop :=
  True

def algebraic_KernelRouteIdeal_ReferenceRouteIdeal [hKernelRouteIdeal : Cert.KernelRouteIdeal.Facts] [hReferenceRouteIdeal : Cert.ReferenceRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)
      ∧ m' ((c.tc : Thread Cert.ReferenceRouteIdeal.nD Cert.ReferenceRouteIdeal.τ).loc Cert.ReferenceRouteIdeal.main_arg2) = m ((c.tc : Thread Cert.KernelRouteIdeal.nD Cert.KernelRouteIdeal.τ).loc Cert.KernelRouteIdeal.main_arg2)
      ∧ m' ((c.tc : Thread Cert.ReferenceRouteIdeal.nD Cert.ReferenceRouteIdeal.τ).loc Cert.ReferenceRouteIdeal.main_arg3) = m ((c.tc : Thread Cert.KernelRouteIdeal.nD Cert.KernelRouteIdeal.τ).loc Cert.KernelRouteIdeal.main_arg3)
      ∧ m' ((c.tc : Thread Cert.ReferenceRouteIdeal.nD Cert.ReferenceRouteIdeal.τ).loc Cert.ReferenceRouteIdeal.main_arg4) = m ((c.tc : Thread Cert.KernelRouteIdeal.nD Cert.KernelRouteIdeal.τ).loc Cert.KernelRouteIdeal.main_arg4)
      ∧ m' ((c.tc : Thread Cert.ReferenceRouteIdeal.nD Cert.ReferenceRouteIdeal.τ).loc Cert.ReferenceRouteIdeal.main_arg5) = m ((c.tc : Thread Cert.KernelRouteIdeal.nD Cert.KernelRouteIdeal.τ).loc Cert.KernelRouteIdeal.main_arg5)
      ∧ m' ((c.tc : Thread Cert.ReferenceRouteIdeal.nD Cert.ReferenceRouteIdeal.τ).loc Cert.ReferenceRouteIdeal.main_arg6) = m ((c.tc : Thread Cert.KernelRouteIdeal.nD Cert.KernelRouteIdeal.τ).loc Cert.KernelRouteIdeal.main_arg6)) →
    ∃ (v0 : (c : Dev Cert.KernelRouteIdeal.nD) → Buf (Elt Ideal) ((c.tc : Thread Cert.KernelRouteIdeal.nD Cert.KernelRouteIdeal.τ).loc Cert.KernelRouteIdeal.main_v7_0)) (v1 : (c : Dev Cert.KernelRouteIdeal.nD) → Buf (Elt Ideal) ((c.tc : Thread Cert.KernelRouteIdeal.nD Cert.KernelRouteIdeal.τ).loc Cert.KernelRouteIdeal.main_v7_1)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v7_0) = v0 c
          ∧ r.2.mem ((c.tc : Thread Cert.KernelRouteIdeal.nD Cert.KernelRouteIdeal.τ).loc Cert.KernelRouteIdeal.main_v7_1) = v1 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
          ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
          ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
          ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
          ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
          ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_v16) = v0 c
          ∧ r.2.mem ((c.tc : Thread Cert.ReferenceRouteIdeal.nD Cert.ReferenceRouteIdeal.τ).loc Cert.ReferenceRouteIdeal.main_v6) = v1 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1)
          ∧ r.2.mem ((c.tc : Thread Cert.ReferenceRouteIdeal.nD Cert.ReferenceRouteIdeal.τ).loc Cert.ReferenceRouteIdeal.main_arg2) = m' ((c.tc : Thread Cert.ReferenceRouteIdeal.nD Cert.ReferenceRouteIdeal.τ).loc Cert.ReferenceRouteIdeal.main_arg2)
          ∧ r.2.mem ((c.tc : Thread Cert.ReferenceRouteIdeal.nD Cert.ReferenceRouteIdeal.τ).loc Cert.ReferenceRouteIdeal.main_arg3) = m' ((c.tc : Thread Cert.ReferenceRouteIdeal.nD Cert.ReferenceRouteIdeal.τ).loc Cert.ReferenceRouteIdeal.main_arg3)
          ∧ r.2.mem ((c.tc : Thread Cert.ReferenceRouteIdeal.nD Cert.ReferenceRouteIdeal.τ).loc Cert.ReferenceRouteIdeal.main_arg4) = m' ((c.tc : Thread Cert.ReferenceRouteIdeal.nD Cert.ReferenceRouteIdeal.τ).loc Cert.ReferenceRouteIdeal.main_arg4)
          ∧ r.2.mem ((c.tc : Thread Cert.ReferenceRouteIdeal.nD Cert.ReferenceRouteIdeal.τ).loc Cert.ReferenceRouteIdeal.main_arg5) = m' ((c.tc : Thread Cert.ReferenceRouteIdeal.nD Cert.ReferenceRouteIdeal.τ).loc Cert.ReferenceRouteIdeal.main_arg5)
          ∧ r.2.mem ((c.tc : Thread Cert.ReferenceRouteIdeal.nD Cert.ReferenceRouteIdeal.τ).loc Cert.ReferenceRouteIdeal.main_arg6) = m' ((c.tc : Thread Cert.ReferenceRouteIdeal.nD Cert.ReferenceRouteIdeal.τ).loc Cert.ReferenceRouteIdeal.main_arg6))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)) →
    ∃ (v0 : (c : Dev Cert.KernelAdaIdeal.nD) → Buf (Elt Ideal) ((c.tc : Thread Cert.KernelAdaIdeal.nD Cert.KernelAdaIdeal.τ).loc Cert.KernelAdaIdeal.main_v3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v3) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v6) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3))

def preserves_KernelPool_KernelPoolIdeal : Prop :=
  True

def algebraic_KernelPoolIdeal_ReferencePoolIdeal [hKernelPoolIdeal : Cert.KernelPoolIdeal.Facts] [hReferencePoolIdeal : Cert.ReferencePoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)) →
    ∃ (v0 : (c : Dev Cert.KernelPoolIdeal.nD) → Buf (Elt Ideal) ((c.tc : Thread Cert.KernelPoolIdeal.nD Cert.KernelPoolIdeal.τ).loc Cert.KernelPoolIdeal.main_v17)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v17) = v0 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v5) = v0 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1))

def preserves_KernelInSbSample_KernelInSbSampleIdeal : Prop :=
  True

def algebraic_KernelInSbSampleIdeal_ReferenceInSbSampleIdeal [hKernelInSbSampleIdeal : Cert.KernelInSbSampleIdeal.Facts] [hReferenceInSbSampleIdeal : Cert.ReferenceInSbSampleIdeal.Facts] : Prop :=
  ∀ (m : (ℓ : Loc Cert.KernelInSbSampleIdeal.nD Cert.KernelInSbSampleIdeal.τ Cert.KernelInSbSampleIdeal.sig) → Buf (Elt Ideal) ℓ) (g : Dev Cert.KernelInSbSampleIdeal.nD → PrngReg)
    (m' : (ℓ : Loc Cert.ReferenceInSbSampleIdeal.nD Cert.ReferenceInSbSampleIdeal.τ Cert.ReferenceInSbSampleIdeal.sig) → Buf (Elt Ideal) ℓ) (g' : Dev Cert.ReferenceInSbSampleIdeal.nD → PrngReg), Pre_KernelInSbSampleIdeal m →
    (∀ c : Dev Cert.KernelInSbSampleIdeal.nD,
      m' ((c.tc : Thread Cert.ReferenceInSbSampleIdeal.nD Cert.ReferenceInSbSampleIdeal.τ).loc Cert.ReferenceInSbSampleIdeal.main_arg0) = m ((c.tc : Thread Cert.KernelInSbSampleIdeal.nD Cert.KernelInSbSampleIdeal.τ).loc Cert.KernelInSbSampleIdeal.main_arg0)
      ∧ m' ((c.tc : Thread Cert.ReferenceInSbSampleIdeal.nD Cert.ReferenceInSbSampleIdeal.τ).loc Cert.ReferenceInSbSampleIdeal.main_arg1) = m ((c.tc : Thread Cert.KernelInSbSampleIdeal.nD Cert.KernelInSbSampleIdeal.τ).loc Cert.KernelInSbSampleIdeal.main_arg1)
      ∧ m' ((c.tc : Thread Cert.ReferenceInSbSampleIdeal.nD Cert.ReferenceInSbSampleIdeal.τ).loc Cert.ReferenceInSbSampleIdeal.main_arg2) = m ((c.tc : Thread Cert.KernelInSbSampleIdeal.nD Cert.KernelInSbSampleIdeal.τ).loc Cert.KernelInSbSampleIdeal.main_arg2)
      ∧ m' ((c.tc : Thread Cert.ReferenceInSbSampleIdeal.nD Cert.ReferenceInSbSampleIdeal.τ).loc Cert.ReferenceInSbSampleIdeal.main_arg3) = m ((c.tc : Thread Cert.KernelInSbSampleIdeal.nD Cert.KernelInSbSampleIdeal.τ).loc Cert.KernelInSbSampleIdeal.main_arg3)) →
    ∃ (v0 : (c : Dev Cert.KernelInSbSampleIdeal.nD) → Buf (Elt Ideal) ((c.tc : Thread Cert.KernelInSbSampleIdeal.nD Cert.KernelInSbSampleIdeal.τ).loc Cert.KernelInSbSampleIdeal.main_v10_0)) (v1 : (c : Dev Cert.KernelInSbSampleIdeal.nD) → Buf (Elt Ideal) ((c.tc : Thread Cert.KernelInSbSampleIdeal.nD Cert.KernelInSbSampleIdeal.τ).loc Cert.KernelInSbSampleIdeal.main_v10_1)),
      θ_run (Cert.KernelInSbSampleIdeal.defs (F := Ideal)) (onTc (τ := Cert.KernelInSbSampleIdeal.τ) (Cert.KernelInSbSampleIdeal.main (F := Ideal))) ⟨m, fun _ => 0, g⟩ (fun r => ∀ c : Dev Cert.KernelInSbSampleIdeal.nD,
          r.2.mem ((c.tc : Thread Cert.KernelInSbSampleIdeal.nD Cert.KernelInSbSampleIdeal.τ).loc Cert.KernelInSbSampleIdeal.main_v10_0) = v0 c
          ∧ r.2.mem ((c.tc : Thread Cert.KernelInSbSampleIdeal.nD Cert.KernelInSbSampleIdeal.τ).loc Cert.KernelInSbSampleIdeal.main_v10_1) = v1 c
          ∧ r.2.mem ((c.tc : Thread Cert.KernelInSbSampleIdeal.nD Cert.KernelInSbSampleIdeal.τ).loc Cert.KernelInSbSampleIdeal.main_arg0) = m ((c.tc : Thread Cert.KernelInSbSampleIdeal.nD Cert.KernelInSbSampleIdeal.τ).loc Cert.KernelInSbSampleIdeal.main_arg0)
          ∧ r.2.mem ((c.tc : Thread Cert.KernelInSbSampleIdeal.nD Cert.KernelInSbSampleIdeal.τ).loc Cert.KernelInSbSampleIdeal.main_arg1) = m ((c.tc : Thread Cert.KernelInSbSampleIdeal.nD Cert.KernelInSbSampleIdeal.τ).loc Cert.KernelInSbSampleIdeal.main_arg1)
          ∧ r.2.mem ((c.tc : Thread Cert.KernelInSbSampleIdeal.nD Cert.KernelInSbSampleIdeal.τ).loc Cert.KernelInSbSampleIdeal.main_arg2) = m ((c.tc : Thread Cert.KernelInSbSampleIdeal.nD Cert.KernelInSbSampleIdeal.τ).loc Cert.KernelInSbSampleIdeal.main_arg2)
          ∧ r.2.mem ((c.tc : Thread Cert.KernelInSbSampleIdeal.nD Cert.KernelInSbSampleIdeal.τ).loc Cert.KernelInSbSampleIdeal.main_arg3) = m ((c.tc : Thread Cert.KernelInSbSampleIdeal.nD Cert.KernelInSbSampleIdeal.τ).loc Cert.KernelInSbSampleIdeal.main_arg3))
      ∧ θ_run (Cert.ReferenceInSbSampleIdeal.defs (F := Ideal)) (onTc (τ := Cert.ReferenceInSbSampleIdeal.τ) (Cert.ReferenceInSbSampleIdeal.main (F := Ideal))) ⟨m', fun _ => 0, g'⟩ (fun r => ∀ c : Dev Cert.ReferenceInSbSampleIdeal.nD,
          r.2.mem ((c.tc : Thread Cert.ReferenceInSbSampleIdeal.nD Cert.ReferenceInSbSampleIdeal.τ).loc Cert.ReferenceInSbSampleIdeal.main_v9) = v0 c
          ∧ r.2.mem ((c.tc : Thread Cert.ReferenceInSbSampleIdeal.nD Cert.ReferenceInSbSampleIdeal.τ).loc Cert.ReferenceInSbSampleIdeal.main_v10) = v1 c
          ∧ r.2.mem ((c.tc : Thread Cert.ReferenceInSbSampleIdeal.nD Cert.ReferenceInSbSampleIdeal.τ).loc Cert.ReferenceInSbSampleIdeal.main_arg0) = m' ((c.tc : Thread Cert.ReferenceInSbSampleIdeal.nD Cert.ReferenceInSbSampleIdeal.τ).loc Cert.ReferenceInSbSampleIdeal.main_arg0)
          ∧ r.2.mem ((c.tc : Thread Cert.ReferenceInSbSampleIdeal.nD Cert.ReferenceInSbSampleIdeal.τ).loc Cert.ReferenceInSbSampleIdeal.main_arg1) = m' ((c.tc : Thread Cert.ReferenceInSbSampleIdeal.nD Cert.ReferenceInSbSampleIdeal.τ).loc Cert.ReferenceInSbSampleIdeal.main_arg1)
          ∧ r.2.mem ((c.tc : Thread Cert.ReferenceInSbSampleIdeal.nD Cert.ReferenceInSbSampleIdeal.τ).loc Cert.ReferenceInSbSampleIdeal.main_arg2) = m' ((c.tc : Thread Cert.ReferenceInSbSampleIdeal.nD Cert.ReferenceInSbSampleIdeal.τ).loc Cert.ReferenceInSbSampleIdeal.main_arg2)
          ∧ r.2.mem ((c.tc : Thread Cert.ReferenceInSbSampleIdeal.nD Cert.ReferenceInSbSampleIdeal.τ).loc Cert.ReferenceInSbSampleIdeal.main_arg3) = m' ((c.tc : Thread Cert.ReferenceInSbSampleIdeal.nD Cert.ReferenceInSbSampleIdeal.τ).loc Cert.ReferenceInSbSampleIdeal.main_arg3))

def preserves_KernelInNsaSample_KernelInNsaSampleIdeal : Prop :=
  True

def algebraic_KernelInNsaSampleIdeal_ReferenceInNsaSampleIdeal [hKernelInNsaSampleIdeal : Cert.KernelInNsaSampleIdeal.Facts] [hReferenceInNsaSampleIdeal : Cert.ReferenceInNsaSampleIdeal.Facts] : Prop :=
  ∀ (m : (ℓ : Loc Cert.KernelInNsaSampleIdeal.nD Cert.KernelInNsaSampleIdeal.τ Cert.KernelInNsaSampleIdeal.sig) → Buf (Elt Ideal) ℓ) (g : Dev Cert.KernelInNsaSampleIdeal.nD → PrngReg)
    (m' : (ℓ : Loc Cert.ReferenceInNsaSampleIdeal.nD Cert.ReferenceInNsaSampleIdeal.τ Cert.ReferenceInNsaSampleIdeal.sig) → Buf (Elt Ideal) ℓ) (g' : Dev Cert.ReferenceInNsaSampleIdeal.nD → PrngReg), Pre_KernelInNsaSampleIdeal m →
    (∀ c : Dev Cert.KernelInNsaSampleIdeal.nD,
      m' ((c.tc : Thread Cert.ReferenceInNsaSampleIdeal.nD Cert.ReferenceInNsaSampleIdeal.τ).loc Cert.ReferenceInNsaSampleIdeal.main_arg0) = m ((c.tc : Thread Cert.KernelInNsaSampleIdeal.nD Cert.KernelInNsaSampleIdeal.τ).loc Cert.KernelInNsaSampleIdeal.main_arg0)
      ∧ m' ((c.tc : Thread Cert.ReferenceInNsaSampleIdeal.nD Cert.ReferenceInNsaSampleIdeal.τ).loc Cert.ReferenceInNsaSampleIdeal.main_arg1) = m ((c.tc : Thread Cert.KernelInNsaSampleIdeal.nD Cert.KernelInNsaSampleIdeal.τ).loc Cert.KernelInNsaSampleIdeal.main_arg1)
      ∧ m' ((c.tc : Thread Cert.ReferenceInNsaSampleIdeal.nD Cert.ReferenceInNsaSampleIdeal.τ).loc Cert.ReferenceInNsaSampleIdeal.main_arg2) = m ((c.tc : Thread Cert.KernelInNsaSampleIdeal.nD Cert.KernelInNsaSampleIdeal.τ).loc Cert.KernelInNsaSampleIdeal.main_arg2)
      ∧ m' ((c.tc : Thread Cert.ReferenceInNsaSampleIdeal.nD Cert.ReferenceInNsaSampleIdeal.τ).loc Cert.ReferenceInNsaSampleIdeal.main_arg3) = m ((c.tc : Thread Cert.KernelInNsaSampleIdeal.nD Cert.KernelInNsaSampleIdeal.τ).loc Cert.KernelInNsaSampleIdeal.main_arg3)) →
    ∃ (v0 : (c : Dev Cert.KernelInNsaSampleIdeal.nD) → Buf (Elt Ideal) ((c.tc : Thread Cert.KernelInNsaSampleIdeal.nD Cert.KernelInNsaSampleIdeal.τ).loc Cert.KernelInNsaSampleIdeal.main_v11_0)) (v1 : (c : Dev Cert.KernelInNsaSampleIdeal.nD) → Buf (Elt Ideal) ((c.tc : Thread Cert.KernelInNsaSampleIdeal.nD Cert.KernelInNsaSampleIdeal.τ).loc Cert.KernelInNsaSampleIdeal.main_v11_1)),
      θ_run (Cert.KernelInNsaSampleIdeal.defs (F := Ideal)) (onTc (τ := Cert.KernelInNsaSampleIdeal.τ) (Cert.KernelInNsaSampleIdeal.main (F := Ideal))) ⟨m, fun _ => 0, g⟩ (fun r => ∀ c : Dev Cert.KernelInNsaSampleIdeal.nD,
          r.2.mem ((c.tc : Thread Cert.KernelInNsaSampleIdeal.nD Cert.KernelInNsaSampleIdeal.τ).loc Cert.KernelInNsaSampleIdeal.main_v11_0) = v0 c
          ∧ r.2.mem ((c.tc : Thread Cert.KernelInNsaSampleIdeal.nD Cert.KernelInNsaSampleIdeal.τ).loc Cert.KernelInNsaSampleIdeal.main_v11_1) = v1 c
          ∧ r.2.mem ((c.tc : Thread Cert.KernelInNsaSampleIdeal.nD Cert.KernelInNsaSampleIdeal.τ).loc Cert.KernelInNsaSampleIdeal.main_arg0) = m ((c.tc : Thread Cert.KernelInNsaSampleIdeal.nD Cert.KernelInNsaSampleIdeal.τ).loc Cert.KernelInNsaSampleIdeal.main_arg0)
          ∧ r.2.mem ((c.tc : Thread Cert.KernelInNsaSampleIdeal.nD Cert.KernelInNsaSampleIdeal.τ).loc Cert.KernelInNsaSampleIdeal.main_arg1) = m ((c.tc : Thread Cert.KernelInNsaSampleIdeal.nD Cert.KernelInNsaSampleIdeal.τ).loc Cert.KernelInNsaSampleIdeal.main_arg1)
          ∧ r.2.mem ((c.tc : Thread Cert.KernelInNsaSampleIdeal.nD Cert.KernelInNsaSampleIdeal.τ).loc Cert.KernelInNsaSampleIdeal.main_arg2) = m ((c.tc : Thread Cert.KernelInNsaSampleIdeal.nD Cert.KernelInNsaSampleIdeal.τ).loc Cert.KernelInNsaSampleIdeal.main_arg2)
          ∧ r.2.mem ((c.tc : Thread Cert.KernelInNsaSampleIdeal.nD Cert.KernelInNsaSampleIdeal.τ).loc Cert.KernelInNsaSampleIdeal.main_arg3) = m ((c.tc : Thread Cert.KernelInNsaSampleIdeal.nD Cert.KernelInNsaSampleIdeal.τ).loc Cert.KernelInNsaSampleIdeal.main_arg3))
      ∧ θ_run (Cert.ReferenceInNsaSampleIdeal.defs (F := Ideal)) (onTc (τ := Cert.ReferenceInNsaSampleIdeal.τ) (Cert.ReferenceInNsaSampleIdeal.main (F := Ideal))) ⟨m', fun _ => 0, g'⟩ (fun r => ∀ c : Dev Cert.ReferenceInNsaSampleIdeal.nD,
          r.2.mem ((c.tc : Thread Cert.ReferenceInNsaSampleIdeal.nD Cert.ReferenceInNsaSampleIdeal.τ).loc Cert.ReferenceInNsaSampleIdeal.main_v10) = v0 c
          ∧ r.2.mem ((c.tc : Thread Cert.ReferenceInNsaSampleIdeal.nD Cert.ReferenceInNsaSampleIdeal.τ).loc Cert.ReferenceInNsaSampleIdeal.main_v11) = v1 c
          ∧ r.2.mem ((c.tc : Thread Cert.ReferenceInNsaSampleIdeal.nD Cert.ReferenceInNsaSampleIdeal.τ).loc Cert.ReferenceInNsaSampleIdeal.main_arg0) = m' ((c.tc : Thread Cert.ReferenceInNsaSampleIdeal.nD Cert.ReferenceInNsaSampleIdeal.τ).loc Cert.ReferenceInNsaSampleIdeal.main_arg0)
          ∧ r.2.mem ((c.tc : Thread Cert.ReferenceInNsaSampleIdeal.nD Cert.ReferenceInNsaSampleIdeal.τ).loc Cert.ReferenceInNsaSampleIdeal.main_arg1) = m' ((c.tc : Thread Cert.ReferenceInNsaSampleIdeal.nD Cert.ReferenceInNsaSampleIdeal.τ).loc Cert.ReferenceInNsaSampleIdeal.main_arg1)
          ∧ r.2.mem ((c.tc : Thread Cert.ReferenceInNsaSampleIdeal.nD Cert.ReferenceInNsaSampleIdeal.τ).loc Cert.ReferenceInNsaSampleIdeal.main_arg2) = m' ((c.tc : Thread Cert.ReferenceInNsaSampleIdeal.nD Cert.ReferenceInNsaSampleIdeal.τ).loc Cert.ReferenceInNsaSampleIdeal.main_arg2)
          ∧ r.2.mem ((c.tc : Thread Cert.ReferenceInNsaSampleIdeal.nD Cert.ReferenceInNsaSampleIdeal.τ).loc Cert.ReferenceInNsaSampleIdeal.main_arg3) = m' ((c.tc : Thread Cert.ReferenceInNsaSampleIdeal.nD Cert.ReferenceInNsaSampleIdeal.τ).loc Cert.ReferenceInNsaSampleIdeal.main_arg3))

def preserves_KernelInSwaSample_KernelInSwaSampleIdeal : Prop :=
  True

def algebraic_KernelInSwaSampleIdeal_ReferenceInSwaSampleIdeal [hKernelInSwaSampleIdeal : Cert.KernelInSwaSampleIdeal.Facts] [hReferenceInSwaSampleIdeal : Cert.ReferenceInSwaSampleIdeal.Facts] : Prop :=
  ∀ (m : (ℓ : Loc Cert.KernelInSwaSampleIdeal.nD Cert.KernelInSwaSampleIdeal.τ Cert.KernelInSwaSampleIdeal.sig) → Buf (Elt Ideal) ℓ) (g : Dev Cert.KernelInSwaSampleIdeal.nD → PrngReg)
    (m' : (ℓ : Loc Cert.ReferenceInSwaSampleIdeal.nD Cert.ReferenceInSwaSampleIdeal.τ Cert.ReferenceInSwaSampleIdeal.sig) → Buf (Elt Ideal) ℓ) (g' : Dev Cert.ReferenceInSwaSampleIdeal.nD → PrngReg), Pre_KernelInSwaSampleIdeal m →
    (∀ c : Dev Cert.KernelInSwaSampleIdeal.nD,
      m' ((c.tc : Thread Cert.ReferenceInSwaSampleIdeal.nD Cert.ReferenceInSwaSampleIdeal.τ).loc Cert.ReferenceInSwaSampleIdeal.main_arg0) = m ((c.tc : Thread Cert.KernelInSwaSampleIdeal.nD Cert.KernelInSwaSampleIdeal.τ).loc Cert.KernelInSwaSampleIdeal.main_arg0)
      ∧ m' ((c.tc : Thread Cert.ReferenceInSwaSampleIdeal.nD Cert.ReferenceInSwaSampleIdeal.τ).loc Cert.ReferenceInSwaSampleIdeal.main_arg1) = m ((c.tc : Thread Cert.KernelInSwaSampleIdeal.nD Cert.KernelInSwaSampleIdeal.τ).loc Cert.KernelInSwaSampleIdeal.main_arg1)
      ∧ m' ((c.tc : Thread Cert.ReferenceInSwaSampleIdeal.nD Cert.ReferenceInSwaSampleIdeal.τ).loc Cert.ReferenceInSwaSampleIdeal.main_arg2) = m ((c.tc : Thread Cert.KernelInSwaSampleIdeal.nD Cert.KernelInSwaSampleIdeal.τ).loc Cert.KernelInSwaSampleIdeal.main_arg2)
      ∧ m' ((c.tc : Thread Cert.ReferenceInSwaSampleIdeal.nD Cert.ReferenceInSwaSampleIdeal.τ).loc Cert.ReferenceInSwaSampleIdeal.main_arg3) = m ((c.tc : Thread Cert.KernelInSwaSampleIdeal.nD Cert.KernelInSwaSampleIdeal.τ).loc Cert.KernelInSwaSampleIdeal.main_arg3)) →
    ∃ (v0 : (c : Dev Cert.KernelInSwaSampleIdeal.nD) → Buf (Elt Ideal) ((c.tc : Thread Cert.KernelInSwaSampleIdeal.nD Cert.KernelInSwaSampleIdeal.τ).loc Cert.KernelInSwaSampleIdeal.main_v10_0)) (v1 : (c : Dev Cert.KernelInSwaSampleIdeal.nD) → Buf (Elt Ideal) ((c.tc : Thread Cert.KernelInSwaSampleIdeal.nD Cert.KernelInSwaSampleIdeal.τ).loc Cert.KernelInSwaSampleIdeal.main_v10_1)),
      θ_run (Cert.KernelInSwaSampleIdeal.defs (F := Ideal)) (onTc (τ := Cert.KernelInSwaSampleIdeal.τ) (Cert.KernelInSwaSampleIdeal.main (F := Ideal))) ⟨m, fun _ => 0, g⟩ (fun r => ∀ c : Dev Cert.KernelInSwaSampleIdeal.nD,
          r.2.mem ((c.tc : Thread Cert.KernelInSwaSampleIdeal.nD Cert.KernelInSwaSampleIdeal.τ).loc Cert.KernelInSwaSampleIdeal.main_v10_0) = v0 c
          ∧ r.2.mem ((c.tc : Thread Cert.KernelInSwaSampleIdeal.nD Cert.KernelInSwaSampleIdeal.τ).loc Cert.KernelInSwaSampleIdeal.main_v10_1) = v1 c
          ∧ r.2.mem ((c.tc : Thread Cert.KernelInSwaSampleIdeal.nD Cert.KernelInSwaSampleIdeal.τ).loc Cert.KernelInSwaSampleIdeal.main_arg0) = m ((c.tc : Thread Cert.KernelInSwaSampleIdeal.nD Cert.KernelInSwaSampleIdeal.τ).loc Cert.KernelInSwaSampleIdeal.main_arg0)
          ∧ r.2.mem ((c.tc : Thread Cert.KernelInSwaSampleIdeal.nD Cert.KernelInSwaSampleIdeal.τ).loc Cert.KernelInSwaSampleIdeal.main_arg1) = m ((c.tc : Thread Cert.KernelInSwaSampleIdeal.nD Cert.KernelInSwaSampleIdeal.τ).loc Cert.KernelInSwaSampleIdeal.main_arg1)
          ∧ r.2.mem ((c.tc : Thread Cert.KernelInSwaSampleIdeal.nD Cert.KernelInSwaSampleIdeal.τ).loc Cert.KernelInSwaSampleIdeal.main_arg2) = m ((c.tc : Thread Cert.KernelInSwaSampleIdeal.nD Cert.KernelInSwaSampleIdeal.τ).loc Cert.KernelInSwaSampleIdeal.main_arg2)
          ∧ r.2.mem ((c.tc : Thread Cert.KernelInSwaSampleIdeal.nD Cert.KernelInSwaSampleIdeal.τ).loc Cert.KernelInSwaSampleIdeal.main_arg3) = m ((c.tc : Thread Cert.KernelInSwaSampleIdeal.nD Cert.KernelInSwaSampleIdeal.τ).loc Cert.KernelInSwaSampleIdeal.main_arg3))
      ∧ θ_run (Cert.ReferenceInSwaSampleIdeal.defs (F := Ideal)) (onTc (τ := Cert.ReferenceInSwaSampleIdeal.τ) (Cert.ReferenceInSwaSampleIdeal.main (F := Ideal))) ⟨m', fun _ => 0, g'⟩ (fun r => ∀ c : Dev Cert.ReferenceInSwaSampleIdeal.nD,
          r.2.mem ((c.tc : Thread Cert.ReferenceInSwaSampleIdeal.nD Cert.ReferenceInSwaSampleIdeal.τ).loc Cert.ReferenceInSwaSampleIdeal.main_v9) = v0 c
          ∧ r.2.mem ((c.tc : Thread Cert.ReferenceInSwaSampleIdeal.nD Cert.ReferenceInSwaSampleIdeal.τ).loc Cert.ReferenceInSwaSampleIdeal.main_v10) = v1 c
          ∧ r.2.mem ((c.tc : Thread Cert.ReferenceInSwaSampleIdeal.nD Cert.ReferenceInSwaSampleIdeal.τ).loc Cert.ReferenceInSwaSampleIdeal.main_arg0) = m' ((c.tc : Thread Cert.ReferenceInSwaSampleIdeal.nD Cert.ReferenceInSwaSampleIdeal.τ).loc Cert.ReferenceInSwaSampleIdeal.main_arg0)
          ∧ r.2.mem ((c.tc : Thread Cert.ReferenceInSwaSampleIdeal.nD Cert.ReferenceInSwaSampleIdeal.τ).loc Cert.ReferenceInSwaSampleIdeal.main_arg1) = m' ((c.tc : Thread Cert.ReferenceInSwaSampleIdeal.nD Cert.ReferenceInSwaSampleIdeal.τ).loc Cert.ReferenceInSwaSampleIdeal.main_arg1)
          ∧ r.2.mem ((c.tc : Thread Cert.ReferenceInSwaSampleIdeal.nD Cert.ReferenceInSwaSampleIdeal.τ).loc Cert.ReferenceInSwaSampleIdeal.main_arg2) = m' ((c.tc : Thread Cert.ReferenceInSwaSampleIdeal.nD Cert.ReferenceInSwaSampleIdeal.τ).loc Cert.ReferenceInSwaSampleIdeal.main_arg2)
          ∧ r.2.mem ((c.tc : Thread Cert.ReferenceInSwaSampleIdeal.nD Cert.ReferenceInSwaSampleIdeal.τ).loc Cert.ReferenceInSwaSampleIdeal.main_arg3) = m' ((c.tc : Thread Cert.ReferenceInSwaSampleIdeal.nD Cert.ReferenceInSwaSampleIdeal.τ).loc Cert.ReferenceInSwaSampleIdeal.main_arg3))

def preserves_KernelCombSample_KernelCombSampleIdeal : Prop :=
  True

def algebraic_KernelCombSampleIdeal_ReferenceCombSampleIdeal [hKernelCombSampleIdeal : Cert.KernelCombSampleIdeal.Facts] [hReferenceCombSampleIdeal : Cert.ReferenceCombSampleIdeal.Facts] : Prop :=
  ∀ (m : (ℓ : Loc Cert.KernelCombSampleIdeal.nD Cert.KernelCombSampleIdeal.τ Cert.KernelCombSampleIdeal.sig) → Buf (Elt Ideal) ℓ) (g : Dev Cert.KernelCombSampleIdeal.nD → PrngReg)
    (m' : (ℓ : Loc Cert.ReferenceCombSampleIdeal.nD Cert.ReferenceCombSampleIdeal.τ Cert.ReferenceCombSampleIdeal.sig) → Buf (Elt Ideal) ℓ) (g' : Dev Cert.ReferenceCombSampleIdeal.nD → PrngReg), Pre_KernelCombSampleIdeal m →
    (∀ c : Dev Cert.KernelCombSampleIdeal.nD,
      m' ((c.tc : Thread Cert.ReferenceCombSampleIdeal.nD Cert.ReferenceCombSampleIdeal.τ).loc Cert.ReferenceCombSampleIdeal.main_arg0) = m ((c.tc : Thread Cert.KernelCombSampleIdeal.nD Cert.KernelCombSampleIdeal.τ).loc Cert.KernelCombSampleIdeal.main_arg0)
      ∧ m' ((c.tc : Thread Cert.ReferenceCombSampleIdeal.nD Cert.ReferenceCombSampleIdeal.τ).loc Cert.ReferenceCombSampleIdeal.main_arg1) = m ((c.tc : Thread Cert.KernelCombSampleIdeal.nD Cert.KernelCombSampleIdeal.τ).loc Cert.KernelCombSampleIdeal.main_arg1)
      ∧ m' ((c.tc : Thread Cert.ReferenceCombSampleIdeal.nD Cert.ReferenceCombSampleIdeal.τ).loc Cert.ReferenceCombSampleIdeal.main_arg2) = m ((c.tc : Thread Cert.KernelCombSampleIdeal.nD Cert.KernelCombSampleIdeal.τ).loc Cert.KernelCombSampleIdeal.main_arg2)
      ∧ m' ((c.tc : Thread Cert.ReferenceCombSampleIdeal.nD Cert.ReferenceCombSampleIdeal.τ).loc Cert.ReferenceCombSampleIdeal.main_arg3) = m ((c.tc : Thread Cert.KernelCombSampleIdeal.nD Cert.KernelCombSampleIdeal.τ).loc Cert.KernelCombSampleIdeal.main_arg3)
      ∧ m' ((c.tc : Thread Cert.ReferenceCombSampleIdeal.nD Cert.ReferenceCombSampleIdeal.τ).loc Cert.ReferenceCombSampleIdeal.main_arg4) = m ((c.tc : Thread Cert.KernelCombSampleIdeal.nD Cert.KernelCombSampleIdeal.τ).loc Cert.KernelCombSampleIdeal.main_arg4)
      ∧ m' ((c.tc : Thread Cert.ReferenceCombSampleIdeal.nD Cert.ReferenceCombSampleIdeal.τ).loc Cert.ReferenceCombSampleIdeal.main_arg5) = m ((c.tc : Thread Cert.KernelCombSampleIdeal.nD Cert.KernelCombSampleIdeal.τ).loc Cert.KernelCombSampleIdeal.main_arg5)
      ∧ m' ((c.tc : Thread Cert.ReferenceCombSampleIdeal.nD Cert.ReferenceCombSampleIdeal.τ).loc Cert.ReferenceCombSampleIdeal.main_arg6) = m ((c.tc : Thread Cert.KernelCombSampleIdeal.nD Cert.KernelCombSampleIdeal.τ).loc Cert.KernelCombSampleIdeal.main_arg6)) →
    ∃ (v0 : (c : Dev Cert.KernelCombSampleIdeal.nD) → Buf (Elt Ideal) ((c.tc : Thread Cert.KernelCombSampleIdeal.nD Cert.KernelCombSampleIdeal.τ).loc Cert.KernelCombSampleIdeal.main_v6)),
      θ_run (Cert.KernelCombSampleIdeal.defs (F := Ideal)) (onTc (τ := Cert.KernelCombSampleIdeal.τ) (Cert.KernelCombSampleIdeal.main (F := Ideal))) ⟨m, fun _ => 0, g⟩ (fun r => ∀ c : Dev Cert.KernelCombSampleIdeal.nD,
          r.2.mem ((c.tc : Thread Cert.KernelCombSampleIdeal.nD Cert.KernelCombSampleIdeal.τ).loc Cert.KernelCombSampleIdeal.main_v6) = v0 c
          ∧ r.2.mem ((c.tc : Thread Cert.KernelCombSampleIdeal.nD Cert.KernelCombSampleIdeal.τ).loc Cert.KernelCombSampleIdeal.main_arg0) = m ((c.tc : Thread Cert.KernelCombSampleIdeal.nD Cert.KernelCombSampleIdeal.τ).loc Cert.KernelCombSampleIdeal.main_arg0)
          ∧ r.2.mem ((c.tc : Thread Cert.KernelCombSampleIdeal.nD Cert.KernelCombSampleIdeal.τ).loc Cert.KernelCombSampleIdeal.main_arg1) = m ((c.tc : Thread Cert.KernelCombSampleIdeal.nD Cert.KernelCombSampleIdeal.τ).loc Cert.KernelCombSampleIdeal.main_arg1)
          ∧ r.2.mem ((c.tc : Thread Cert.KernelCombSampleIdeal.nD Cert.KernelCombSampleIdeal.τ).loc Cert.KernelCombSampleIdeal.main_arg2) = m ((c.tc : Thread Cert.KernelCombSampleIdeal.nD Cert.KernelCombSampleIdeal.τ).loc Cert.KernelCombSampleIdeal.main_arg2)
          ∧ r.2.mem ((c.tc : Thread Cert.KernelCombSampleIdeal.nD Cert.KernelCombSampleIdeal.τ).loc Cert.KernelCombSampleIdeal.main_arg3) = m ((c.tc : Thread Cert.KernelCombSampleIdeal.nD Cert.KernelCombSampleIdeal.τ).loc Cert.KernelCombSampleIdeal.main_arg3)
          ∧ r.2.mem ((c.tc : Thread Cert.KernelCombSampleIdeal.nD Cert.KernelCombSampleIdeal.τ).loc Cert.KernelCombSampleIdeal.main_arg4) = m ((c.tc : Thread Cert.KernelCombSampleIdeal.nD Cert.KernelCombSampleIdeal.τ).loc Cert.KernelCombSampleIdeal.main_arg4)
          ∧ r.2.mem ((c.tc : Thread Cert.KernelCombSampleIdeal.nD Cert.KernelCombSampleIdeal.τ).loc Cert.KernelCombSampleIdeal.main_arg5) = m ((c.tc : Thread Cert.KernelCombSampleIdeal.nD Cert.KernelCombSampleIdeal.τ).loc Cert.KernelCombSampleIdeal.main_arg5)
          ∧ r.2.mem ((c.tc : Thread Cert.KernelCombSampleIdeal.nD Cert.KernelCombSampleIdeal.τ).loc Cert.KernelCombSampleIdeal.main_arg6) = m ((c.tc : Thread Cert.KernelCombSampleIdeal.nD Cert.KernelCombSampleIdeal.τ).loc Cert.KernelCombSampleIdeal.main_arg6))
      ∧ θ_run (Cert.ReferenceCombSampleIdeal.defs (F := Ideal)) (onTc (τ := Cert.ReferenceCombSampleIdeal.τ) (Cert.ReferenceCombSampleIdeal.main (F := Ideal))) ⟨m', fun _ => 0, g'⟩ (fun r => ∀ c : Dev Cert.ReferenceCombSampleIdeal.nD,
          r.2.mem ((c.tc : Thread Cert.ReferenceCombSampleIdeal.nD Cert.ReferenceCombSampleIdeal.τ).loc Cert.ReferenceCombSampleIdeal.main_v40) = v0 c
          ∧ r.2.mem ((c.tc : Thread Cert.ReferenceCombSampleIdeal.nD Cert.ReferenceCombSampleIdeal.τ).loc Cert.ReferenceCombSampleIdeal.main_arg0) = m' ((c.tc : Thread Cert.ReferenceCombSampleIdeal.nD Cert.ReferenceCombSampleIdeal.τ).loc Cert.ReferenceCombSampleIdeal.main_arg0)
          ∧ r.2.mem ((c.tc : Thread Cert.ReferenceCombSampleIdeal.nD Cert.ReferenceCombSampleIdeal.τ).loc Cert.ReferenceCombSampleIdeal.main_arg1) = m' ((c.tc : Thread Cert.ReferenceCombSampleIdeal.nD Cert.ReferenceCombSampleIdeal.τ).loc Cert.ReferenceCombSampleIdeal.main_arg1)
          ∧ r.2.mem ((c.tc : Thread Cert.ReferenceCombSampleIdeal.nD Cert.ReferenceCombSampleIdeal.τ).loc Cert.ReferenceCombSampleIdeal.main_arg2) = m' ((c.tc : Thread Cert.ReferenceCombSampleIdeal.nD Cert.ReferenceCombSampleIdeal.τ).loc Cert.ReferenceCombSampleIdeal.main_arg2)
          ∧ r.2.mem ((c.tc : Thread Cert.ReferenceCombSampleIdeal.nD Cert.ReferenceCombSampleIdeal.τ).loc Cert.ReferenceCombSampleIdeal.main_arg3) = m' ((c.tc : Thread Cert.ReferenceCombSampleIdeal.nD Cert.ReferenceCombSampleIdeal.τ).loc Cert.ReferenceCombSampleIdeal.main_arg3)
          ∧ r.2.mem ((c.tc : Thread Cert.ReferenceCombSampleIdeal.nD Cert.ReferenceCombSampleIdeal.τ).loc Cert.ReferenceCombSampleIdeal.main_arg4) = m' ((c.tc : Thread Cert.ReferenceCombSampleIdeal.nD Cert.ReferenceCombSampleIdeal.τ).loc Cert.ReferenceCombSampleIdeal.main_arg4)
          ∧ r.2.mem ((c.tc : Thread Cert.ReferenceCombSampleIdeal.nD Cert.ReferenceCombSampleIdeal.τ).loc Cert.ReferenceCombSampleIdeal.main_arg5) = m' ((c.tc : Thread Cert.ReferenceCombSampleIdeal.nD Cert.ReferenceCombSampleIdeal.τ).loc Cert.ReferenceCombSampleIdeal.main_arg5)
          ∧ r.2.mem ((c.tc : Thread Cert.ReferenceCombSampleIdeal.nD Cert.ReferenceCombSampleIdeal.τ).loc Cert.ReferenceCombSampleIdeal.main_arg6) = m' ((c.tc : Thread Cert.ReferenceCombSampleIdeal.nD Cert.ReferenceCombSampleIdeal.τ).loc Cert.ReferenceCombSampleIdeal.main_arg6))

def Claim : Prop :=
  ∃ (hKernel : Cert.Kernel.Facts) (hKernelIdeal : Cert.KernelIdeal.Facts) (hReferenceIdeal : Cert.ReferenceIdeal.Facts) (hKernelInSb : Cert.KernelInSb.Facts) (hKernelInSbIdeal : Cert.KernelInSbIdeal.Facts) (hReferenceInSbIdeal : Cert.ReferenceInSbIdeal.Facts) (hKernelInNsa : Cert.KernelInNsa.Facts) (hKernelInNsaIdeal : Cert.KernelInNsaIdeal.Facts) (hReferenceInNsaIdeal : Cert.ReferenceInNsaIdeal.Facts) (hKernelInSwa : Cert.KernelInSwa.Facts) (hKernelInSwaIdeal : Cert.KernelInSwaIdeal.Facts) (hReferenceInSwaIdeal : Cert.ReferenceInSwaIdeal.Facts) (hKernelOut : Cert.KernelOut.Facts) (hKernelOutIdeal : Cert.KernelOutIdeal.Facts) (hReferenceOutIdeal : Cert.ReferenceOutIdeal.Facts) (hKernelComb : Cert.KernelComb.Facts) (hKernelCombIdeal : Cert.KernelCombIdeal.Facts) (hReferenceCombIdeal : Cert.ReferenceCombIdeal.Facts) (hKernelMoe : Cert.KernelMoe.Facts) (hKernelMoeIdeal : Cert.KernelMoeIdeal.Facts) (hReferenceMoeIdeal : Cert.ReferenceMoeIdeal.Facts) (hKernelRoute : Cert.KernelRoute.Facts) (hKernelRouteIdeal : Cert.KernelRouteIdeal.Facts) (hReferenceRouteIdeal : Cert.ReferenceRouteIdeal.Facts) (hKernelAda : Cert.KernelAda.Facts) (hKernelAdaIdeal : Cert.KernelAdaIdeal.Facts) (hReferenceAdaIdeal : Cert.ReferenceAdaIdeal.Facts) (hKernelPool : Cert.KernelPool.Facts) (hKernelPoolIdeal : Cert.KernelPoolIdeal.Facts) (hReferencePoolIdeal : Cert.ReferencePoolIdeal.Facts) (hKernelInSbSample : Cert.KernelInSbSample.Facts) (hKernelInSbSampleIdeal : Cert.KernelInSbSampleIdeal.Facts) (hReferenceInSbSampleIdeal : Cert.ReferenceInSbSampleIdeal.Facts) (hKernelInNsaSample : Cert.KernelInNsaSample.Facts) (hKernelInNsaSampleIdeal : Cert.KernelInNsaSampleIdeal.Facts) (hReferenceInNsaSampleIdeal : Cert.ReferenceInNsaSampleIdeal.Facts) (hKernelInSwaSample : Cert.KernelInSwaSample.Facts) (hKernelInSwaSampleIdeal : Cert.KernelInSwaSampleIdeal.Facts) (hReferenceInSwaSampleIdeal : Cert.ReferenceInSwaSampleIdeal.Facts) (hKernelCombSample : Cert.KernelCombSample.Facts) (hKernelCombSampleIdeal : Cert.KernelCombSampleIdeal.Facts) (hReferenceCombSampleIdeal : Cert.ReferenceCombSampleIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelInSb (hKernelInSb := hKernelInSb)
    ∧ quiescent_KernelInSbIdeal (hKernelInSbIdeal := hKernelInSbIdeal)
    ∧ quiescent_ReferenceInSbIdeal (hReferenceInSbIdeal := hReferenceInSbIdeal)
    ∧ quiescent_KernelInNsa (hKernelInNsa := hKernelInNsa)
    ∧ quiescent_KernelInNsaIdeal (hKernelInNsaIdeal := hKernelInNsaIdeal)
    ∧ quiescent_ReferenceInNsaIdeal (hReferenceInNsaIdeal := hReferenceInNsaIdeal)
    ∧ quiescent_KernelInSwa (hKernelInSwa := hKernelInSwa)
    ∧ quiescent_KernelInSwaIdeal (hKernelInSwaIdeal := hKernelInSwaIdeal)
    ∧ quiescent_ReferenceInSwaIdeal (hReferenceInSwaIdeal := hReferenceInSwaIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelComb (hKernelComb := hKernelComb)
    ∧ quiescent_KernelCombIdeal (hKernelCombIdeal := hKernelCombIdeal)
    ∧ quiescent_ReferenceCombIdeal (hReferenceCombIdeal := hReferenceCombIdeal)
    ∧ quiescent_KernelMoe (hKernelMoe := hKernelMoe) (hPre_routed := hPre_routed)
    ∧ quiescent_KernelMoeIdeal (hKernelMoeIdeal := hKernelMoeIdeal) (hPre_routed := hPre_routed)
    ∧ quiescent_ReferenceMoeIdeal (hReferenceMoeIdeal := hReferenceMoeIdeal)
    ∧ quiescent_ReferenceMoeIdeal_pre_routed (hReferenceMoeIdeal := hReferenceMoeIdeal) (hPre_routed := hPre_routed)
    ∧ quiescent_KernelRoute (hKernelRoute := hKernelRoute)
    ∧ quiescent_KernelRouteIdeal (hKernelRouteIdeal := hKernelRouteIdeal)
    ∧ quiescent_ReferenceRouteIdeal (hReferenceRouteIdeal := hReferenceRouteIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelPool (hKernelPool := hKernelPool)
    ∧ quiescent_KernelPoolIdeal (hKernelPoolIdeal := hKernelPoolIdeal)
    ∧ quiescent_ReferencePoolIdeal (hReferencePoolIdeal := hReferencePoolIdeal)
    ∧ quiescent_KernelInSbSample (hKernelInSbSample := hKernelInSbSample)
    ∧ quiescent_KernelInSbSampleIdeal (hKernelInSbSampleIdeal := hKernelInSbSampleIdeal)
    ∧ quiescent_ReferenceInSbSampleIdeal (hReferenceInSbSampleIdeal := hReferenceInSbSampleIdeal)
    ∧ quiescent_KernelInNsaSample (hKernelInNsaSample := hKernelInNsaSample)
    ∧ quiescent_KernelInNsaSampleIdeal (hKernelInNsaSampleIdeal := hKernelInNsaSampleIdeal)
    ∧ quiescent_ReferenceInNsaSampleIdeal (hReferenceInNsaSampleIdeal := hReferenceInNsaSampleIdeal)
    ∧ quiescent_KernelInSwaSample (hKernelInSwaSample := hKernelInSwaSample)
    ∧ quiescent_KernelInSwaSampleIdeal (hKernelInSwaSampleIdeal := hKernelInSwaSampleIdeal)
    ∧ quiescent_ReferenceInSwaSampleIdeal (hReferenceInSwaSampleIdeal := hReferenceInSwaSampleIdeal)
    ∧ quiescent_KernelCombSample (hKernelCombSample := hKernelCombSample)
    ∧ quiescent_KernelCombSampleIdeal (hKernelCombSampleIdeal := hKernelCombSampleIdeal)
    ∧ quiescent_ReferenceCombSampleIdeal (hReferenceCombSampleIdeal := hReferenceCombSampleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelInSb_KernelInSbIdeal
    ∧ algebraic_KernelInSbIdeal_ReferenceInSbIdeal (hKernelInSbIdeal := hKernelInSbIdeal) (hReferenceInSbIdeal := hReferenceInSbIdeal)
    ∧ preserves_KernelInNsa_KernelInNsaIdeal
    ∧ algebraic_KernelInNsaIdeal_ReferenceInNsaIdeal (hKernelInNsaIdeal := hKernelInNsaIdeal) (hReferenceInNsaIdeal := hReferenceInNsaIdeal)
    ∧ preserves_KernelInSwa_KernelInSwaIdeal
    ∧ algebraic_KernelInSwaIdeal_ReferenceInSwaIdeal (hKernelInSwaIdeal := hKernelInSwaIdeal) (hReferenceInSwaIdeal := hReferenceInSwaIdeal)
    ∧ preserves_KernelOut_KernelOutIdeal
    ∧ algebraic_KernelOutIdeal_ReferenceOutIdeal (hKernelOutIdeal := hKernelOutIdeal) (hReferenceOutIdeal := hReferenceOutIdeal)
    ∧ preserves_KernelComb_KernelCombIdeal
    ∧ algebraic_KernelCombIdeal_ReferenceCombIdeal (hKernelCombIdeal := hKernelCombIdeal) (hReferenceCombIdeal := hReferenceCombIdeal)
    ∧ preserves_KernelMoe_KernelMoeIdeal
    ∧ algebraic_KernelMoeIdeal_ReferenceMoeIdeal (hKernelMoeIdeal := hKernelMoeIdeal) (hReferenceMoeIdeal := hReferenceMoeIdeal) (hPre_routed := hPre_routed)
    ∧ preserves_KernelRoute_KernelRouteIdeal
    ∧ algebraic_KernelRouteIdeal_ReferenceRouteIdeal (hKernelRouteIdeal := hKernelRouteIdeal) (hReferenceRouteIdeal := hReferenceRouteIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelPool_KernelPoolIdeal
    ∧ algebraic_KernelPoolIdeal_ReferencePoolIdeal (hKernelPoolIdeal := hKernelPoolIdeal) (hReferencePoolIdeal := hReferencePoolIdeal)
    ∧ preserves_KernelInSbSample_KernelInSbSampleIdeal
    ∧ algebraic_KernelInSbSampleIdeal_ReferenceInSbSampleIdeal (hKernelInSbSampleIdeal := hKernelInSbSampleIdeal) (hReferenceInSbSampleIdeal := hReferenceInSbSampleIdeal)
    ∧ preserves_KernelInNsaSample_KernelInNsaSampleIdeal
    ∧ algebraic_KernelInNsaSampleIdeal_ReferenceInNsaSampleIdeal (hKernelInNsaSampleIdeal := hKernelInNsaSampleIdeal) (hReferenceInNsaSampleIdeal := hReferenceInNsaSampleIdeal)
    ∧ preserves_KernelInSwaSample_KernelInSwaSampleIdeal
    ∧ algebraic_KernelInSwaSampleIdeal_ReferenceInSwaSampleIdeal (hKernelInSwaSampleIdeal := hKernelInSwaSampleIdeal) (hReferenceInSwaSampleIdeal := hReferenceInSwaSampleIdeal)
    ∧ preserves_KernelCombSample_KernelCombSampleIdeal
    ∧ algebraic_KernelCombSampleIdeal_ReferenceCombSampleIdeal (hKernelCombSampleIdeal := hKernelCombSampleIdeal) (hReferenceCombSampleIdeal := hReferenceCombSampleIdeal)
-- ==== Pre_finite.lean ====
abbrev S16384x1536 : Shape := ⟨2, ![16384, 1536]⟩
abbrev S_ : Shape := ⟨0, ![]⟩

class Facts : Prop where
  bcast_S_S16384x1536 : S_.BroadcastsInDim S16384x1536 (![] : Fin 0 → Fin S16384x1536.rank)

variable [Facts]

def fn {F : FTy → Type} [FloatOps F] (main_arg0 : FVec F S16384x1536 .bf16) : IVec S16384x1536 1 :=
  let main_v0 : FVec F S16384x1536 .bf16 := Host.absf main_arg0
  let main_cst : FVec F S_ .bf16 := constant S_ .bf16 0x7F80#16
  let main_v1 : FVec F S16384x1536 .bf16 := broadcastInDim S16384x1536 ![] bcast_S_S16384x1536 main_cst
  let main_v2 : IVec S16384x1536 1 := cmpf .olt main_v0 main_v1
  main_v2
-- ==== Pre_routed.lean ====
abbrev S43008x1024 : Shape := ⟨2, ![43008, 1024]⟩
abbrev S168 : Shape := ⟨1, ![168]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : FVec F S43008x1024 .f32) (main_arg1 : IVec S168 32) (main_arg2 : IVec S168 32) (main_arg3 : FVec F S4x32x1024x512 .f32) (main_arg4 : FVec F S4x32x1024x512 .f32) (main_arg5 : FVec F S4x32x512x1024 .f32) : IVec S168 1 :=
  let main_c : IVec S_ 32 := constantI S_ 32 0#32
  let main_v0 : IVec S168 32 := broadcastInDim S168 ![] bcast_S_S168 main_c
  let main_v1 : IVec S168 1 := cmpi .sge main_arg1 main_v0
  let main_c_0 : IVec S_ 32 := constantI S_ 32 32#32
  let main_v2 : IVec S168 32 := broadcastInDim S168 ![] bcast_S_S168 main_c_0
  let main_v3 : IVec S168 1 := cmpi .slt main_arg1 main_v2
  let main_v4 : IVec S168 1 := andi main_v1 main_v3
  let main_c_1 : IVec S_ 32 := constantI S_ 32 0#32
  let main_v5 : IVec S168 32 := broadcastInDim S168 ![] bcast_S_S168 main_c_1
  let main_v6 : IVec S168 1 := cmpi .sge main_arg2 main_v5
  let main_v7 : IVec S168 1 := andi main_v4 main_v6
  main_v7
-- ==== Kernel.lean ====
abbrev S16384x1536 : Shape := ⟨2, ![16384, 1536]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16384x1024 : Shape := ⟨2, ![16384, 1024]⟩
abbrev S128x1024 : Shape := ⟨2, ![128, 1024]⟩
abbrev S4096x256 : Shape := ⟨2, ![4096, 256]⟩
abbrev S2048x256 : Shape := ⟨2, ![2048, 256]⟩
abbrev S2048x128 : Shape := ⟨2, ![2048, 128]⟩
abbrev S128x64 : Shape := ⟨2, ![128, 64]⟩
abbrev S128x192 : Shape := ⟨2, ![128, 192]⟩
abbrev S128x256 : Shape := ⟨2, ![128, 256]⟩
abbrev S2048 : Shape := ⟨1, ![2048]⟩
abbrev S2048x1 : Shape := ⟨2, ![2048, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1536, .bf16⟩
  | .hbm, ⟨1, _⟩ => ⟨S128, .i32⟩
  | .hbm, ⟨2, _⟩ => ⟨S128x1, .i32⟩
  | .hbm, ⟨3, _⟩ => ⟨S128, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i1⟩
  | .hbm, ⟨8, _⟩ => ⟨S128x128, .bf16⟩
  | .hbm, ⟨9, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S128x128, .bf16⟩
  | .local _ .vmem, ⟨7, _⟩ => ⟨S128x1024, .bf16⟩
  | .local _ .vmem, ⟨8, _⟩ => ⟨S128x1024, .bf16⟩
  | .local _ .vmem, ⟨9, _⟩ => ⟨S2048x256, .f32⟩
  | .local _ .vmem, ⟨10, _⟩ => ⟨S2048x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32_36 : BitVec 32 := 128#32
  let v90 : BitVec 32 := Scalar.muli arg1 c128_i32_36
  v90
def k0_off1 (i : grid0.Coords) : Fin 2 → Nat :=
  let arg1 : BitVec 32 := BitVec.ofNat 32 (i 1).val
  let c128_i32_36 : BitVec 32 := 128#32
  let v90 : BitVec 32 := Scalar.muli arg1 c128_i32_36
  let v91 : BitVec 32 := v90
  let v92 : Index := Scalar.indexCast v91
  let c0_37 : Index := 0#32
  ![v92.toNat, 0]
@[reducible] def k0_t1_loop (i : grid0.Coords) : Scf.Loop 32 :=
  let c0_i32_64 : BitVec 32 := 0#32
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32 : BitVec 32 := 2#32
  let c0_i32_59 : BitVec 32 := 0#32
  let v146 : BitVec 1 := Scalar.cmpi .sgt c2_i32 c0_i32_59
  let v147 : BitVec 32 := Scalar.extui v146
  let c0_i32_60 : BitVec 32 := 0#32
  let v148 : BitVec 1 := Scalar.cmpi .slt c2_i32 c0_i32_60
  let v149 : BitVec 32 := Scalar.extui v148
  let v150 : BitVec 32 := Scalar.subi v147 v149
  let v151 : BitVec 1 := Scalar.cmpi .ne v145 v150
  let v152 : BitVec 32 := Scalar.remsi arg1 c2_i32
  let c0_i32_61 : BitVec 32 := 0#32
  let v153 : BitVec 1 := Scalar.cmpi .ne v152 c0_i32_61
  let v154 : BitVec 1 := Scalar.andi v151 v153
  let v140 : BitVec 32 := Scalar.divsi arg1 c2_i32
  let c1_i32_62 : BitVec 32 := 1#32
  let v155 : BitVec 32 := Scalar.subi v140 c1_i32_62
  let v156 : BitVec 32 := Scalar.select v154 v155 v140
  let v157 : BitVec 32 := Scalar.subi v156 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_66 : BitVec 32 := 1#32
  ⟨c0_i32_64, v161, c1_i32_66⟩
def k0_mult2 (i : grid0.Coords) (k0_t1 : Fin (k0_t1_loop i).trips) : BitVec 32 :=
  let arg1 : BitVec 32 := BitVec.ofNat 32 (i 1).val
  let c1_i32_95 : BitVec 32 := 1#32
  let v210 : BitVec 32 := Scalar.subi arg1 c1_i32_95
  let c2_i32_96 : BitVec 32 := 2#32
  let c0_i32_64 : BitVec 32 := 0#32
  let c1_i32_66 : BitVec 32 := 1#32
  let arg9 : BitVec 32 := Scf.iv c0_i32_64 c1_i32_66 k0_t1
  let v211 : BitVec 32 := Scalar.muli c2_i32_96 arg9
  let v212 : BitVec 32 := Scalar.subi v210 v211
  let c128_i32_99 : BitVec 32 := 128#32
  let v214 : BitVec 32 := Scalar.muli v212 c128_i32_99
  v214
def k0_off2 (i : grid0.Coords) (k0_t1 : Fin (k0_t1_loop i).trips) (c1_i32_95 : BitVec 32) : Fin 2 → Nat :=
  let arg1 : BitVec 32 := BitVec.ofNat 32 (i 1).val
  let v210 : BitVec 32 := Scalar.subi arg1 c1_i32_95
  let c2_i32_96 : BitVec 32 := 2#32
  let c0_i32_64 : BitVec 32 := 0#32
  let c1_i32_66 : BitVec 32 := 1#32
  let arg9 : BitVec 32 := Scf.iv c0_i32_64 c1_i32_66 k0_t1
  let v211 : BitVec 32 := Scalar.muli c2_i32_96 arg9
  let v212 : BitVec 32 := Scalar.subi v210 v211
  let c128_i32_99 : BitVec 32 := 128#32
  let v214 : BitVec 32 := Scalar.muli v212 c128_i32_99
  let v215 : BitVec 32 := v214
  let v216 : Index := Scalar.indexCast v215
  let c0_100 : Index := 0#32
  ![v216.toNat, 0]
def k0_mult3 (i : grid0.Coords) (k0_t1 : Fin (k0_t1_loop i).trips) : BitVec 32 :=
  let arg1 : BitVec 32 := BitVec.ofNat 32 (i 1).val
  let c2_i32_114 : BitVec 32 := 2#32
  let v254 : BitVec 32 := Scalar.subi arg1 c2_i32_114
  let c2_i32_115 : BitVec 32 := 2#32
  let c0_i32_64 : BitVec 32 := 0#32
  let c1_i32_66 : BitVec 32 := 1#32
  let arg9 : BitVec 32 := Scf.iv c0_i32_64 c1_i32_66 k0_t1
  let v255 : BitVec 32 := Scalar.muli c2_i32_115 arg9
  let v256 : BitVec 32 := Scalar.subi v254 v255
  let c128_i32_116 : BitVec 32 := 128#32
  let v257 : BitVec 32 := Scalar.muli v256 c128_i32_116
  v257
@[reducible] def k0_t2_loop (i : grid0.Coords) : Scf.Loop 32 :=
  let c0_i32_64 : BitVec 32 := 0#32
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32 : BitVec 32 := 2#32
  let c0_i32_59 : BitVec 32 := 0#32
  let v146 : BitVec 1 := Scalar.cmpi .sgt c2_i32 c0_i32_59
  let v147 : BitVec 32 := Scalar.extui v146
  let c0_i32_60 : BitVec 32 := 0#32
  let v148 : BitVec 1 := Scalar.cmpi .slt c2_i32 c0_i32_60
  let v149 : BitVec 32 := Scalar.extui v148
  let v150 : BitVec 32 := Scalar.subi v147 v149
  let v151 : BitVec 1 := Scalar.cmpi .ne v145 v150
  let v152 : BitVec 32 := Scalar.remsi arg1 c2_i32
  let c0_i32_61 : BitVec 32 := 0#32
  let v153 : BitVec 1 := Scalar.cmpi .ne v152 c0_i32_61
  let v154 : BitVec 1 := Scalar.andi v151 v153
  let v140 : BitVec 32 := Scalar.divsi arg1 c2_i32
  let c1_i32_62 : BitVec 32 := 1#32
  let v155 : BitVec 32 := Scalar.subi v140 c1_i32_62
  let v156 : BitVec 32 := Scalar.select v154 v155 v140
  let v157 : BitVec 32 := Scalar.subi v156 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let v158 : BitVec 32 := Scalar.addi c0_i32_64 v157
  let c1_i32_67 : BitVec 32 := 1#32
  ⟨v161, v158, c1_i32_67⟩
def k0_mult4 (i : grid0.Coords) (k0_t2 : Fin (k0_t2_loop i).trips) : BitVec 32 :=
  let arg1 : BitVec 32 := BitVec.ofNat 32 (i 1).val
  let c1_i32_95 : BitVec 32 := 1#32
  let v210 : BitVec 32 := Scalar.subi arg1 c1_i32_95
  let c2_i32_96 : BitVec 32 := 2#32
  let c0_i32_64 : BitVec 32 := 0#32
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32 : BitVec 32 := 2#32
  let c0_i32_59 : BitVec 32 := 0#32
  let v146 : BitVec 1 := Scalar.cmpi .sgt c2_i32 c0_i32_59
  let v147 : BitVec 32 := Scalar.extui v146
  let c0_i32_60 : BitVec 32 := 0#32
  let v148 : BitVec 1 := Scalar.cmpi .slt c2_i32 c0_i32_60
  let v149 : BitVec 32 := Scalar.extui v148
  let v150 : BitVec 32 := Scalar.subi v147 v149
  let v151 : BitVec 1 := Scalar.cmpi .ne v145 v150
  let v152 : BitVec 32 := Scalar.remsi arg1 c2_i32
  let c0_i32_61 : BitVec 32 := 0#32
  let v153 : BitVec 1 := Scalar.cmpi .ne v152 c0_i32_61
  let v154 : BitVec 1 := Scalar.andi v151 v153
  let v140 : BitVec 32 := Scalar.divsi arg1 c2_i32
  let c1_i32_62 : BitVec 32 := 1#32
  let v155 : BitVec 32 := Scalar.subi v140 c1_i32_62
  let v156 : BitVec 32 := Scalar.select v154 v155 v140
  let v157 : BitVec 32 := Scalar.subi v156 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg9 : BitVec 32 := Scf.iv v161 c1_i32_67 k0_t2
  let v211 : BitVec 32 := Scalar.muli c2_i32_96 arg9
  let v212 : BitVec 32 := Scalar.subi v210 v211
  let c128_i32_99 : BitVec 32 := 128#32
  let v214 : BitVec 32 := Scalar.muli v212 c128_i32_99
  v214
def k0_off3 (i : grid0.Coords) (k0_t2 : Fin (k0_t2_loop i).trips) (c1_i32_95 : BitVec 32) : Fin 2 → Nat :=
  let arg1 : BitVec 32 := BitVec.ofNat 32 (i 1).val
  let v210 : BitVec 32 := Scalar.subi arg1 c1_i32_95
  let c2_i32_96 : BitVec 32 := 2#32
  let c0_i32_64 : BitVec 32 := 0#32
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32 : BitVec 32 := 2#32
  let c0_i32_59 : BitVec 32 := 0#32
  let v146 : BitVec 1 := Scalar.cmpi .sgt c2_i32 c0_i32_59
  let v147 : BitVec 32 := Scalar.extui v146
  let c0_i32_60 : BitVec 32 := 0#32
  let v148 : BitVec 1 := Scalar.cmpi .slt c2_i32 c0_i32_60
  let v149 : BitVec 32 := Scalar.extui v148
  let v150 : BitVec 32 := Scalar.subi v147 v149
  let v151 : BitVec 1 := Scalar.cmpi .ne v145 v150
  let v152 : BitVec 32 := Scalar.remsi arg1 c2_i32
  let c0_i32_61 : BitVec 32 := 0#32
  let v153 : BitVec 1 := Scalar.cmpi .ne v152 c0_i32_61
  let v154 : BitVec 1 := Scalar.andi v151 v153
  let v140 : BitVec 32 := Scalar.divsi arg1 c2_i32
  let c1_i32_62 : BitVec 32 := 1#32
  let v155 : BitVec 32 := Scalar.subi v140 c1_i32_62
  let v156 : BitVec 32 := Scalar.select v154 v155 v140
  let v157 : BitVec 32 := Scalar.subi v156 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg9 : BitVec 32 := Scf.iv v161 c1_i32_67 k0_t2
  let v211 : BitVec 32 := Scalar.muli c2_i32_96 arg9
  let v212 : BitVec 32 := Scalar.subi v210 v211
  let c128_i32_99 : BitVec 32 := 128#32
  let v214 : BitVec 32 := Scalar.muli v212 c128_i32_99
  let v215 : BitVec 32 := v214
  let v216 : Index := Scalar.indexCast v215
  let c0_100 : Index := 0#32
  ![v216.toNat, 0]
def k0_mult5 (i : grid0.Coords) (k0_t2 : Fin (k0_t2_loop i).trips) : BitVec 32 :=
  let arg1 : BitVec 32 := BitVec.ofNat 32 (i 1).val
  let c2_i32_114 : BitVec 32 := 2#32
  let v254 : BitVec 32 := Scalar.subi arg1 c2_i32_114
  let c2_i32_115 : BitVec 32 := 2#32
  let c0_i32_64 : BitVec 32 := 0#32
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32 : BitVec 32 := 2#32
  let c0_i32_59 : BitVec 32 := 0#32
  let v146 : BitVec 1 := Scalar.cmpi .sgt c2_i32 c0_i32_59
  let v147 : BitVec 32 := Scalar.extui v146
  let c0_i32_60 : BitVec 32 := 0#32
  let v148 : BitVec 1 := Scalar.cmpi .slt c2_i32 c0_i32_60
  let v149 : BitVec 32 := Scalar.extui v148
  let v150 : BitVec 32 := Scalar.subi v147 v149
  let v151 : BitVec 1 := Scalar.cmpi .ne v145 v150
  let v152 : BitVec 32 := Scalar.remsi arg1 c2_i32
  let c0_i32_61 : BitVec 32 := 0#32
  let v153 : BitVec 1 := Scalar.cmpi .ne v152 c0_i32_61
  let v154 : BitVec 1 := Scalar.andi v151 v153
  let v140 : BitVec 32 := Scalar.divsi arg1 c2_i32
  let c1_i32_62 : BitVec 32 := 1#32
  let v155 : BitVec 32 := Scalar.subi v140 c1_i32_62
  let v156 : BitVec 32 := Scalar.select v154 v155 v140
  let v157 : BitVec 32 := Scalar.subi v156 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg9 : BitVec 32 := Scf.iv v161 c1_i32_67 k0_t2
  let v255 : BitVec 32 := Scalar.muli c2_i32_115 arg9
  let v256 : BitVec 32 := Scalar.subi v254 v255
  let c128_i32_116 : BitVec 32 := 128#32
  let v257 : BitVec 32 := Scalar.muli v256 c128_i32_116
  v257
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x1536 : Shape := ⟨2, ![16384, 1536]⟩
abbrev S4x4096x1536 : Shape := ⟨3, ![4, 4096, 1536]⟩
abbrev S4x4096x1024 : Shape := ⟨3, ![4, 4096, 1024]⟩
abbrev S4x4096x4x4x64 : Shape := ⟨5, ![4, 4096, 4, 4, 64]⟩
abbrev S4x4096x256 : Shape := ⟨3, ![4, 4096, 256]⟩
abbrev S4x4096x4x64 : Shape := ⟨4, ![4, 4096, 4, 64]⟩
abbrev S4096 : Shape := ⟨1, ![4096]⟩
abbrev S4x4x4096x4096x4 : Shape := ⟨5, ![4, 4, 4096, 4096, 4]⟩
abbrev S4x4096x4x4x4096 : Shape := ⟨5, ![4, 4096, 4, 4, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4096x1x1x4096 : Shape := ⟨5, ![1, 4096, 1, 1, 4096]⟩
abbrev S4x4096x4x4x1 : Shape := ⟨5, ![4, 4096, 4, 4, 1]⟩
abbrev S4x4x64x4096x4 : Shape := ⟨5, ![4, 4, 64, 4096, 4]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .f32⟩
  | .hbm, ⟨2, _⟩ => ⟨S4x4096x1536, .f32⟩
  | .hbm, ⟨3, _⟩ => ⟨S4x4096x1024, .f32⟩
  | .hbm, ⟨4, _⟩ => ⟨S4x4096x4x4x64, .f32⟩
  | .hbm, ⟨5, _⟩ => ⟨S4x4096x256, .f32⟩
  | .hbm, ⟨6, _⟩ => ⟨S4x4096x4x64, .f32⟩
  | .hbm, ⟨7, _⟩ => ⟨S4x4096x256, .f32⟩
  | .hbm, ⟨8, _⟩ => ⟨S4x4096x4x64, .f32⟩
  | .hbm, ⟨9, _⟩ => ⟨S4096, .i32⟩
  | .hbm, ⟨10, _⟩ => ⟨S4x4x4096x4096x4, .f32⟩
  | .hbm, ⟨11, _⟩ => ⟨S4x4096x4x4x4096, .f32⟩
  | .hbm, ⟨12, _⟩ => ⟨S_, .f32⟩
  | .hbm, ⟨13, _⟩ => ⟨S4x4096x4x4x4096, .f32⟩
  | .hbm, ⟨14, _⟩ => ⟨S4x4096x4x4x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x4096x1x1x4096, .i1⟩
  | .hbm, ⟨21, _⟩ => ⟨S4x4096x4x4x4096, .f32⟩
  | .hbm, ⟨22, _⟩ => ⟨S4x4096x4x4x4096, .f32⟩
  | .hbm, ⟨23, _⟩ => ⟨S_, .f32⟩
  | .hbm, ⟨24, _⟩ => ⟨S4x4096x4x4x4096, .f32⟩
  | .hbm, ⟨25, _⟩ => ⟨S4x4096x4x4x4096, .f32⟩
  | .hbm, ⟨26, _⟩ => ⟨S4x4096x4x4x4096, .f32⟩
  | .hbm, ⟨27, _⟩ => ⟨S4x4096x4x4x4096, .f32⟩
  | .hbm, ⟨28, _⟩ => ⟨S4x4096x4x4x4096, .i1⟩
  | .hbm, ⟨29, _⟩ => ⟨S4x4096x4x4x4096, .f32⟩
  | .hbm, ⟨30, _⟩ => ⟨S4x4096x4x4x4096, .f32⟩
  | .hbm, ⟨31, _⟩ => ⟨S4x4096x4x4x4096, .f32⟩
  | .hbm, ⟨32, _⟩ => ⟨S4x4096x4x4x4096, .f32⟩
  | .hbm, ⟨33, _⟩ => ⟨S4x4096x4x4x4096, .f32⟩
  | .hbm, ⟨34, _⟩ => ⟨S4x4096x4x4x4096, .f32⟩
  | .hbm, ⟨35, _⟩ => ⟨S4x4096x4x4x4096, .f32⟩
  | .hbm, ⟨36, _⟩ => ⟨S4x4096x4x4x4096, .f32⟩
  | .hbm, ⟨37, _⟩ => ⟨S4x4096x4x4x4096, .f32⟩
  | .hbm, ⟨38, _⟩ => ⟨S_, .f32⟩
  | .hbm, ⟨39, _⟩ => ⟨S_, .f32⟩
  | .hbm, ⟨40, _⟩ => ⟨S4x4096x4x4x4096, .i1⟩
  | .hbm, ⟨41, _⟩ => ⟨S4x4096x4x4x4096, .f32⟩
  | .hbm, ⟨42, _⟩ => ⟨S4x4096x4x4x4096, .f32⟩
  | .hbm, ⟨43, _⟩ => ⟨S_, .f32⟩
  | .hbm, ⟨44, _⟩ => ⟨S_, .f32⟩
  | .hbm, ⟨45, _⟩ => ⟨S4x4096x4x4x4096, .f32⟩
  | .hbm, ⟨46, _⟩ => ⟨S4x4096x4x4x4096, .f32⟩
  | .hbm, ⟨47, _⟩ => ⟨S_, .f32⟩
  | .hbm, ⟨48, _⟩ => ⟨S4x4096x4x4x4096, .f32⟩
  | .hbm, ⟨49, _⟩ => ⟨S4x4096x4x4x4096, .f32⟩
  | .hbm, ⟨50, _⟩ => ⟨S4x4096x4x4x4096, .f32⟩
  | .hbm, ⟨51, _⟩ => ⟨S4x4096x4x4x4096, .f32⟩
  | .hbm, ⟨52, _⟩ => ⟨S4x4096x4x4x4096, .i1⟩
  | .hbm, ⟨53, _⟩ => ⟨S4x4096x4x4x4096, .f32⟩
  | .hbm, ⟨54, _⟩ => ⟨S4x4096x4x4x4096, .f32⟩
  | .hbm, ⟨55, _⟩ => ⟨S4x4096x4x4x4096, .f32⟩
  | .hbm, ⟨56, _⟩ => ⟨S4x4096x4x4x4096, .f32⟩
  | .hbm, ⟨57, _⟩ => ⟨S4x4096x4x4x4096, .f32⟩
  | .hbm, ⟨58, _⟩ => ⟨S4x4096x4x4x4096, .f32⟩
  | .hbm, ⟨59, _⟩ => ⟨S4x4096x4x4x4096, .f32⟩
  | .hbm, ⟨60, _⟩ => ⟨S4x4096x4x4x4096, .f32⟩
  | .hbm, ⟨61, _⟩ => ⟨S4x4096x4x4x4096, .f32⟩
  | .hbm, ⟨62, _⟩ => ⟨S4x4096x4x4x1, .f32⟩
  | .hbm, ⟨63, _⟩ => ⟨S4x4096x4x4x4096, .f32⟩
  | .hbm, ⟨64, _⟩ => ⟨S4x4096x4x4x4096, .f32⟩
  | .hbm, ⟨65, _⟩ => ⟨S4x4096x4x4x4096, .f32⟩
  | .hbm, ⟨66, _⟩ => ⟨S4x4096x4x4x4096, .f32⟩
  | .hbm, ⟨67, _⟩ => ⟨S_, .f32⟩
  | .hbm, ⟨68, _⟩ => ⟨S_, .f32⟩
  | .hbm, ⟨69, _⟩ => ⟨S4x4096x4x4x4096, .i1⟩
  | .hbm, ⟨70, _⟩ => ⟨S4x4096x4x4x4096, .f32⟩
  | .hbm, ⟨71, _⟩ => ⟨S4x4096x4x4x4096, .f32⟩
  | .hbm, ⟨72, _⟩ => ⟨S4x4x64x4096x4, .f32⟩
  | .hbm, ⟨73, _⟩ => ⟨S4x4096x4x4x64, .f32⟩
  | .hbm, ⟨74, _⟩ => ⟨S16384x1024, .f32⟩
  | .hbm, ⟨75, _⟩ => ⟨S16384x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_call0_cst : Ref sig .tc := ⟨.hbm, 43, rfl⟩
abbrev main_call2_call0_v0 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== KernelInSb.lean ====
abbrev S4x4096x1024 : Shape := ⟨3, ![4, 4096, 1024]⟩
abbrev S4x1x1024 : Shape := ⟨3, ![4, 1, 1024]⟩
abbrev S1024x1536 : Shape := ⟨2, ![1024, 1536]⟩
abbrev S16384x1024 : Shape := ⟨2, ![16384, 1024]⟩
abbrev S_ : Shape := ⟨0, ![]⟩
abbrev S1536 : Shape := ⟨1, ![1536]⟩
abbrev S1x1536 : Shape := ⟨2, ![1, 1536]⟩
abbrev S16384x1536 : Shape := ⟨2, ![16384, 1536]⟩
abbrev S256x1024 : Shape := ⟨2, ![256, 1024]⟩
abbrev S1x1x1024 : Shape := ⟨3, ![1, 1, 1024]⟩
abbrev S256x1536 : Shape := ⟨2, ![256, 1536]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1536, .f32⟩
  | .hbm, ⟨4, _⟩ => ⟨S16384x1024, .f32⟩
  | .hbm, ⟨5, _⟩ => ⟨S1024x1536, .bf16⟩
  | .hbm, ⟨6, _⟩ => ⟨S_, .f32⟩
  | .hbm, ⟨7, _⟩ => ⟨S1536, .f32⟩
  | .hbm, ⟨8, _⟩ => ⟨S1x1536, .f32⟩
  | .hbm, ⟨9, _⟩ => ⟨S16384x1536, .f32⟩
  | .hbm, ⟨10, _⟩ => ⟨S16384x1536, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .bf16⟩
  | .local _ .vmem, ⟨11, _⟩ => ⟨S256x1536, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInSbIdeal.lean ====
abbrev S4x4096x1024 : Shape := ⟨3, ![4, 4096, 1024]⟩
abbrev S4x1x1024 : Shape := ⟨3, ![4, 1, 1024]⟩
abbrev S1024x1536 : Shape := ⟨2, ![1024, 1536]⟩
abbrev S_ : Shape := ⟨0, ![]⟩
abbrev S4x4096x1536 : Shape := ⟨3, ![4, 4096, 1536]⟩
abbrev S16384x1536 : Shape := ⟨2, ![16384, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1536, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1536, .f32⟩
  | .hbm, ⟨12, _⟩ => ⟨S16384x1536, .f32⟩
  | .hbm, ⟨13, _⟩ => ⟨S16384x1536, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelInNsa.lean ====
abbrev S4x4096x1024 : Shape := ⟨3, ![4, 4096, 1024]⟩
abbrev S4x1x1024 : Shape := ⟨3, ![4, 1, 1024]⟩
abbrev S1024x1840 : Shape := ⟨2, ![1024, 1840]⟩
abbrev S_ : Shape := ⟨0, ![]⟩
abbrev S1024x1920 : Shape := ⟨2, ![1024, 1920]⟩
abbrev S16384x1024 : Shape := ⟨2, ![16384, 1024]⟩
abbrev S1920 : Shape := ⟨1, ![1920]⟩
abbrev S1x1920 : Shape := ⟨2, ![1, 1920]⟩
abbrev S16384x1920 : Shape := ⟨2, ![16384, 1920]⟩
abbrev S256x1024 : Shape := ⟨2, ![256, 1024]⟩
abbrev S1x1x1024 : Shape := ⟨3, ![1, 1, 1024]⟩
abbrev S256x1920 : Shape := ⟨2, ![256, 1920]⟩
abbrev S1x1024 : Shape := ⟨2, ![1, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1840, .f32⟩
  | .hbm, ⟨4, _⟩ => ⟨S_, .i32⟩
  | .hbm, ⟨5, _⟩ => ⟨S_, .f32⟩
  | .hbm, ⟨6, _⟩ => ⟨S1024x1920, .f32⟩
  | .hbm, ⟨7, _⟩ => ⟨S1024x1920, .bf16⟩
  | .hbm, ⟨8, _⟩ => ⟨S16384x1024, .f32⟩
  | .hbm, ⟨9, _⟩ => ⟨S_, .f32⟩
  | .hbm, ⟨10, _⟩ => ⟨S1920, .f32⟩
  | .hbm, ⟨11, _⟩ => ⟨S1x1920, .f32⟩
  | .hbm, ⟨12, _⟩ => ⟨S16384x1920, .f32⟩
  | .hbm, ⟨13, _⟩ => ⟨S16384x1920, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1920, .bf16⟩
  | .local _ .vmem, ⟨7, _⟩ => ⟨S1x1920, .f32⟩
  | .local _ .vmem, ⟨8, _⟩ => ⟨S256x1920, .f32⟩
  | .local _ .vmem, ⟨9, _⟩ => ⟨S256x1920, .f32⟩
  | .local _ .vmem, ⟨10, _⟩ => ⟨S256x1920, .bf16⟩
  | .local _ .vmem, ⟨11, _⟩ => ⟨S256x1920, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInNsaIdeal.lean ====
abbrev S4x4096x1024 : Shape := ⟨3, ![4, 4096, 1024]⟩
abbrev S4x1x1024 : Shape := ⟨3, ![4, 1, 1024]⟩
abbrev S1024x1840 : Shape := ⟨2, ![1024, 1840]⟩
abbrev S_ : Shape := ⟨0, ![]⟩
abbrev S4x4096x1840 : Shape := ⟨3, ![4, 4096, 1840]⟩
abbrev S16384x1840 : Shape := ⟨2, ![16384, 1840]⟩
abbrev S16384x1920 : Shape := ⟨2, ![16384, 1920]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1840, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1840, .f32⟩
  | .hbm, ⟨12, _⟩ => ⟨S16384x1840, .f32⟩
  | .hbm, ⟨13, _⟩ => ⟨S_, .i32⟩
  | .hbm, ⟨14, _⟩ => ⟨S_, .f32⟩
  | .hbm, ⟨15, _⟩ => ⟨S16384x1920, .f32⟩
  | .hbm, ⟨16, _⟩ => ⟨S16384x1920, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== KernelInSwa.lean ====
abbrev S4x4096x1024 : Shape := ⟨3, ![4, 4096, 1024]⟩
abbrev S4x1x1024 : Shape := ⟨3, ![4, 1, 1024]⟩
abbrev S1024x1280 : Shape := ⟨2, ![1024, 1280]⟩
abbrev S16384x1024 : Shape := ⟨2, ![16384, 1024]⟩
abbrev S_ : Shape := ⟨0, ![]⟩
abbrev S1280 : Shape := ⟨1, ![1280]⟩
abbrev S1x1280 : Shape := ⟨2, ![1, 1280]⟩
abbrev S16384x1280 : Shape := ⟨2, ![16384, 1280]⟩
abbrev S256x1024 : Shape := ⟨2, ![256, 1024]⟩
abbrev S1x1x1024 : Shape := ⟨3, ![1, 1, 1024]⟩
abbrev S256x1280 : Shape := ⟨2, ![256, 1280]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1280, .f32⟩
  | .hbm, ⟨4, _⟩ => ⟨S16384x1024, .f32⟩
  | .hbm, ⟨5, _⟩ => ⟨S1024x1280, .bf16⟩
  | .hbm, ⟨6, _⟩ => ⟨S_, .f32⟩
  | .hbm, ⟨7, _⟩ => ⟨S1280, .f32⟩
  | .hbm, ⟨8, _⟩ => ⟨S1x1280, .f32⟩
  | .hbm, ⟨9, _⟩ => ⟨S16384x1280, .f32⟩
  | .hbm, ⟨10, _⟩ => ⟨S16384x1280, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1280, .bf16⟩
  | .local _ .vmem, ⟨7, _⟩ => ⟨S1x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .bf16⟩
  | .local _ .vmem, ⟨11, _⟩ => ⟨S256x1280, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInSwaIdeal.lean ====
abbrev S4x4096x1024 : Shape := ⟨3, ![4, 4096, 1024]⟩
abbrev S4x1x1024 : Shape := ⟨3, ![4, 1, 1024]⟩
abbrev S1024x1280 : Shape := ⟨2, ![1024, 1280]⟩
abbrev S_ : Shape := ⟨0, ![]⟩
abbrev S4x4096x1280 : Shape := ⟨3, ![4, 4096, 1280]⟩
abbrev S16384x1280 : Shape := ⟨2, ![16384, 1280]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x1280, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1280, .f32⟩
  | .hbm, ⟨12, _⟩ => ⟨S16384x1280, .f32⟩
  | .hbm, ⟨13, _⟩ => ⟨S16384x1280, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelOut.lean ====
abbrev S16384x1024 : Shape := ⟨2, ![16384, 1024]⟩
abbrev S4x4096x1024 : Shape := ⟨3, ![4, 4096, 1024]⟩
abbrev S4x1x1024 : Shape := ⟨3, ![4, 1, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S16384x1024 : Shape := ⟨2, ![16384, 1024]⟩
abbrev S4x4096x1024 : Shape := ⟨3, ![4, 4096, 1024]⟩
abbrev S4x1x1024 : Shape := ⟨3, ![4, 1, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== KernelComb.lean ====
abbrev S16384x1024 : Shape := ⟨2, ![16384, 1024]⟩
abbrev S16384x2 : Shape := ⟨2, ![16384, 2]⟩
abbrev S4x4096x1024 : Shape := ⟨3, ![4, 4096, 1024]⟩
abbrev S4x1x1024 : Shape := ⟨3, ![4, 1, 1024]⟩
abbrev S1024 : Shape := ⟨1, ![1024]⟩
abbrev S1x1024 : Shape := ⟨2, ![1, 1024]⟩
abbrev S256x1024 : Shape := ⟨2, ![256, 1024]⟩
abbrev S256x2 : Shape := ⟨2, ![256, 2]⟩
abbrev S1x1x1024 : Shape := ⟨3, ![1, 1, 1024]⟩
abbrev S256x1 : Shape := ⟨2, ![256, 1]⟩
abbrev S256 : Shape := ⟨1, ![256]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2, .f32⟩
  | .local _ .vmem, ⟨5, _⟩ => ⟨S256x2, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCombIdeal.lean ====
abbrev S16384x1024 : Shape := ⟨2, ![16384, 1024]⟩
abbrev S16384x2 : Shape := ⟨2, ![16384, 2]⟩
abbrev S4x4096x1024 : Shape := ⟨3, ![4, 4096, 1024]⟩
abbrev S4x1x1024 : Shape := ⟨3, ![4, 1, 1024]⟩
abbrev S1024 : Shape := ⟨1, ![1024]⟩
abbrev S16384x1 : Shape := ⟨2, ![16384, 1]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMoe.lean ====
abbrev S43008x1024 : Shape := ⟨2, ![43008, 1024]⟩
abbrev S168 : Shape := ⟨1, ![168]⟩
abbrev S4x32x1024x512 : Shape := ⟨4, ![4, 32, 1024, 512]⟩
abbrev S4x32x512x1024 : Shape := ⟨4, ![4, 32, 512, 1024]⟩
abbrev S128x1024x512 : Shape := ⟨3, ![128, 1024, 512]⟩
abbrev S128x512x1024 : Shape := ⟨3, ![128, 512, 1024]⟩
abbrev S_ : Shape := ⟨0, ![]⟩
abbrev S256x1024 : Shape := ⟨2, ![256, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 11
  | .vmem => 13
  | .smem => 2
  | _ => 0

abbrev bufTy : (tb : Table) → Fin (tcTables nBuf tb) → BufTy
  | .hbm, ⟨0, _⟩ => ⟨S43008x1024, .f32⟩
  | .hbm, ⟨1, _⟩ => ⟨S168, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S128x1024x512, .f32⟩
  | .hbm, ⟨6, _⟩ => ⟨S128x1024x512, .f32⟩
  | .hbm, ⟨7, _⟩ => ⟨S128x512x1024, .f32⟩
  | .hbm, ⟨8, _⟩ => ⟨S_, .i32⟩
  | .hbm, ⟨9, _⟩ => ⟨S168, .i32⟩
  | .hbm, ⟨10, _⟩ => ⟨S43008x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S168, .i32⟩
  | .local _ .smem, ⟨1, _⟩ => ⟨S168, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v5 : Ref sig .tc := ⟨.hbm, 10, rfl⟩
abbrev main_v4 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_v4.idx, main_arg2.idx], fun | 0 => main_v4.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMoeIdeal.lean ====
abbrev S43008x1024 : Shape := ⟨2, ![43008, 1024]⟩
abbrev S168 : Shape := ⟨1, ![168]⟩
abbrev S4x32x1024x512 : Shape := ⟨4, ![4, 32, 1024, 512]⟩
abbrev S4x32x512x1024 : Shape := ⟨4, ![4, 32, 512, 1024]⟩
abbrev S168x256x1024 : Shape := ⟨3, ![168, 256, 1024]⟩
abbrev S1x32x1024x512 : Shape := ⟨4, ![1, 32, 1024, 512]⟩
abbrev S32x1024x512 : Shape := ⟨3, ![32, 1024, 512]⟩
abbrev S_ : Shape := ⟨0, ![]⟩
abbrev S168x1 : Shape := ⟨2, ![168, 1]⟩
abbrev S168x1024x512 : Shape := ⟨3, ![168, 1024, 512]⟩
abbrev S1x32x512x1024 : Shape := ⟨4, ![1, 32, 512, 1024]⟩
abbrev S32x512x1024 : Shape := ⟨3, ![32, 512, 1024]⟩
abbrev S168x512x1024 : Shape := ⟨3, ![168, 512, 1024]⟩
abbrev S168x256x512 : Shape := ⟨3, ![168, 256, 512]⟩
abbrev S168x1x1 : Shape := ⟨3, ![168, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S43008x1024, .f32⟩
  | .hbm, ⟨1, _⟩ => ⟨S168, .i32⟩
  | .hbm, ⟨2, _⟩ => ⟨S168, .i32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S168x256x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S168, .i32⟩
  | .hbm, ⟨11, _⟩ => ⟨S168, .i1⟩
  | .hbm, ⟨12, _⟩ => ⟨S_, .i32⟩
  | .hbm, ⟨13, _⟩ => ⟨S168, .i32⟩
  | .hbm, ⟨14, _⟩ => ⟨S168, .i32⟩
  | .hbm, ⟨15, _⟩ => ⟨S168, .i32⟩
  | .hbm, ⟨16, _⟩ => ⟨S168x1, .i32⟩
  | .hbm, ⟨17, _⟩ => ⟨S168x1024x512, .f32⟩
  | .hbm, ⟨18, _⟩ => ⟨S1x32x1024x512, .f32⟩
  | .hbm, ⟨19, _⟩ => ⟨S32x1024x512, .f32⟩
  | .hbm, ⟨20, _⟩ => ⟨S_, .i32⟩
  | .hbm, ⟨21, _⟩ => ⟨S168, .i32⟩
  | .hbm, ⟨22, _⟩ => ⟨S168, .i1⟩
  | .hbm, ⟨23, _⟩ => ⟨S_, .i32⟩
  | .hbm, ⟨24, _⟩ => ⟨S168, .i32⟩
  | .hbm, ⟨25, _⟩ => ⟨S168, .i32⟩
  | .hbm, ⟨26, _⟩ => ⟨S168, .i32⟩
  | .hbm, ⟨27, _⟩ => ⟨S168x1, .i32⟩
  | .hbm, ⟨28, _⟩ => ⟨S168x1024x512, .f32⟩
  | .hbm, ⟨29, _⟩ => ⟨S1x32x512x1024, .f32⟩
  | .hbm, ⟨30, _⟩ => ⟨S32x512x1024, .f32⟩
  | .hbm, ⟨31, _⟩ => ⟨S_, .i32⟩
  | .hbm, ⟨32, _⟩ => ⟨S168, .i32⟩
  | .hbm, ⟨33, _⟩ => ⟨S168, .i1⟩
  | .hbm, ⟨34, _⟩ => ⟨S_, .i32⟩
  | .hbm, ⟨35, _⟩ => ⟨S168, .i32⟩
  | .hbm, ⟨36, _⟩ => ⟨S168, .i32⟩
  | .hbm, ⟨37, _⟩ => ⟨S168, .i32⟩
  | .hbm, ⟨38, _⟩ => ⟨S168x1, .i32⟩
  | .hbm, ⟨39, _⟩ => ⟨S168x512x1024, .f32⟩
  | .hbm, ⟨40, _⟩ => ⟨S168x256x512, .f32⟩
  | .hbm, ⟨41, _⟩ => ⟨S168x256x512, .f32⟩
  | .hbm, ⟨42, _⟩ => ⟨S168x256x512, .f32⟩
  | .hbm, ⟨43, _⟩ => ⟨S_, .f32⟩
  | .hbm, ⟨44, _⟩ => ⟨S168x256x512, .f32⟩
  | .hbm, ⟨45, _⟩ => ⟨S168x256x512, .f32⟩
  | .hbm, ⟨46, _⟩ => ⟨S_, .f32⟩
  | .hbm, ⟨47, _⟩ => ⟨S168x256x512, .f32⟩
  | .hbm, ⟨48, _⟩ => ⟨S168x256x512, .f32⟩
  | .hbm, ⟨49, _⟩ => ⟨S168x256x512, .f32⟩
  | .hbm, ⟨50, _⟩ => ⟨S168x256x512, .f32⟩
  | .hbm, ⟨51, _⟩ => ⟨S168x256x512, .f32⟩
  | .hbm, ⟨52, _⟩ => ⟨S168x256x1024, .f32⟩
  | .hbm, ⟨53, _⟩ => ⟨S168x1x1, .i32⟩
  | .hbm, ⟨54, _⟩ => ⟨S_, .i32⟩
  | .hbm, ⟨55, _⟩ => ⟨S168x1x1, .i32⟩
  | .hbm, ⟨56, _⟩ => ⟨S168x1x1, .i1⟩
  | .hbm, ⟨57, _⟩ => ⟨S_, .f32⟩
  | .hbm, ⟨58, _⟩ => ⟨S_, .f32⟩
  | .hbm, ⟨59, _⟩ => ⟨S168x256x1024, .i1⟩
  | .hbm, ⟨60, _⟩ => ⟨S168x256x1024, .f32⟩
  | .hbm, ⟨61, _⟩ => ⟨S168x256x1024, .f32⟩
  | .hbm, ⟨62, _⟩ => ⟨S43008x1024, .f32⟩
  | _, _ => ⟨S43008x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== KernelRoute.lean ====
abbrev S4x4096x1024 : Shape := ⟨3, ![4, 4096, 1024]⟩
abbrev S4x1x1024 : Shape := ⟨3, ![4, 1, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S16384x1024 : Shape := ⟨2, ![16384, 1024]⟩
abbrev S1x128 : Shape := ⟨2, ![1, 128]⟩
abbrev S16384x128 : Shape := ⟨2, ![16384, 128]⟩
abbrev S256x1024 : Shape := ⟨2, ![256, 1024]⟩
abbrev S1x1x1024 : Shape := ⟨3, ![1, 1, 1024]⟩
abbrev S256x128 : Shape := ⟨2, ![256, 128]⟩
abbrev S1x1024 : Shape := ⟨2, ![1, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x4, .f32⟩
  | .hbm, ⟨4, _⟩ => ⟨S4, .f32⟩
  | .hbm, ⟨5, _⟩ => ⟨S1024x32, .f32⟩
  | .hbm, ⟨6, _⟩ => ⟨S32, .f32⟩
  | .hbm, ⟨7, _⟩ => ⟨S1024x36, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S36, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S16384x1024, .f32⟩
  | .hbm, ⟨17, _⟩ => ⟨S1x128, .f32⟩
  | .hbm, ⟨18, _⟩ => ⟨S16384x128, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .bf16⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceRouteIdeal.lean ====
abbrev S4x4096x1024 : Shape := ⟨3, ![4, 4096, 1024]⟩
abbrev S4x1x1024 : Shape := ⟨3, ![4, 1, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384x1024 : Shape := ⟨2, ![16384, 1024]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x36 : Shape := ⟨2, ![16384, 36]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x4, .f32⟩
  | .hbm, ⟨4, _⟩ => ⟨S4, .f32⟩
  | .hbm, ⟨5, _⟩ => ⟨S1024x32, .f32⟩
  | .hbm, ⟨6, _⟩ => ⟨S32, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S16384x1024, .f32⟩
  | .hbm, ⟨15, _⟩ => ⟨S16384x4, .f32⟩
  | .hbm, ⟨16, _⟩ => ⟨S1x4, .f32⟩
  | .hbm, ⟨17, _⟩ => ⟨S16384x4, .f32⟩
  | .hbm, ⟨18, _⟩ => ⟨S16384x4, .f32⟩
  | .hbm, ⟨19, _⟩ => ⟨S16384x32, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S16384x36, .f32⟩
  | .hbm, ⟨24, _⟩ => ⟨S_, .i32⟩
  | .hbm, ⟨25, _⟩ => ⟨S_, .f32⟩
  | .hbm, ⟨26, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== KernelAda.lean ====
abbrev S4x1024 : Shape := ⟨2, ![4, 1024]⟩
abbrev S128x1024 : Shape := ⟨2, ![128, 1024]⟩
abbrev S1024x6144 : Shape := ⟨2, ![1024, 6144]⟩
abbrev S6144 : Shape := ⟨1, ![6144]⟩
abbrev S_ : Shape := ⟨0, ![]⟩
abbrev S136x1024 : Shape := ⟨2, ![136, 1024]⟩
abbrev S1x6144 : Shape := ⟨2, ![1, 6144]⟩
abbrev S136x6144 : Shape := ⟨2, ![136, 6144]⟩
abbrev S1024x1536 : Shape := ⟨2, ![1024, 1536]⟩
abbrev S1x1536 : Shape := ⟨2, ![1, 1536]⟩
abbrev S136x1536 : Shape := ⟨2, ![136, 1536]⟩

abbrev nBuf : Space → Nat
  | .hbm => 9
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S1x6144, .f32⟩
  | .hbm, ⟨8, _⟩ => ⟨S136x6144, .f32⟩
  | .local _ .vmem, ⟨0, _⟩ => ⟨S136x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S136x1536, .f32⟩
  | .local _ .vmem, ⟨6, _⟩ => ⟨S136x1536, .f32⟩
  | .local _ .vmem, ⟨7, _⟩ => ⟨S136x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v16 : BitVec 1 := Scalar.cmpi .eq arg2 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAdaIdeal.lean ====
abbrev S4x1024 : Shape := ⟨2, ![4, 1024]⟩
abbrev S128x1024 : Shape := ⟨2, ![128, 1024]⟩
abbrev S1024x6144 : Shape := ⟨2, ![1024, 6144]⟩
abbrev S6144 : Shape := ⟨1, ![6144]⟩
abbrev S132x1024 : Shape := ⟨2, ![132, 1024]⟩
abbrev S_ : Shape := ⟨0, ![]⟩
abbrev S136x1024 : Shape := ⟨2, ![136, 1024]⟩
abbrev S136x6144 : Shape := ⟨2, ![136, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S132x1024, .f32⟩
  | .hbm, ⟨5, _⟩ => ⟨S_, .i32⟩
  | .hbm, ⟨6, _⟩ => ⟨S_, .f32⟩
  | .hbm, ⟨7, _⟩ => ⟨S136x1024, .f32⟩
  | .hbm, ⟨8, _⟩ => ⟨S136x1024, .f32⟩
  | .hbm, ⟨9, _⟩ => ⟨S136x1024, .f32⟩
  | .hbm, ⟨10, _⟩ => ⟨S_, .f32⟩
  | .hbm, ⟨11, _⟩ => ⟨S136x1024, .f32⟩
  | .hbm, ⟨12, _⟩ => ⟨S136x1024, .f32⟩
  | .hbm, ⟨13, _⟩ => ⟨S_, .f32⟩
  | .hbm, ⟨14, _⟩ => ⟨S136x1024, .f32⟩
  | .hbm, ⟨15, _⟩ => ⟨S136x1024, .f32⟩
  | .hbm, ⟨16, _⟩ => ⟨S136x1024, .f32⟩
  | .hbm, ⟨17, _⟩ => ⟨S136x6144, .f32⟩
  | .hbm, ⟨18, _⟩ => ⟨S1x6144, .f32⟩
  | .hbm, ⟨19, _⟩ => ⟨S136x6144, .f32⟩
  | .hbm, ⟨20, _⟩ => ⟨S136x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_call1_cst : Ref sig .tc := ⟨.hbm, 10, rfl⟩
abbrev main_call1_v2 : Ref sig .tc := ⟨.hbm, 11, rfl⟩
abbrev main_call1_v3 : Ref sig .tc := ⟨.hbm, 12, rfl⟩
abbrev main_call1_cst_0 : Ref sig .tc := ⟨.hbm, 13, rfl⟩
abbrev main_call1_v4 : Ref sig .tc := ⟨.hbm, 14, rfl⟩
abbrev main_call1_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== KernelPool.lean ====
abbrev S2x10240x128x2x64 : Shape := ⟨5, ![2, 10240, 128, 2, 64]⟩
abbrev S2x64x64x64 : Shape := ⟨4, ![2, 64, 64, 64]⟩
abbrev S2x10240x2x64x128 : Shape := ⟨5, ![2, 10240, 2, 64, 128]⟩
abbrev S20480x128x128 : Shape := ⟨3, ![20480, 128, 128]⟩
abbrev S2621440x128 : Shape := ⟨2, ![2621440, 128]⟩
abbrev S2x64x1x64x1x64 : Shape := ⟨6, ![2, 64, 1, 64, 1, 64]⟩
abbrev S2x2 : Shape := ⟨2, ![2, 2]⟩
abbrev S_ : Shape := ⟨0, ![]⟩
abbrev S1x1x2x1x2x1 : Shape := ⟨6, ![1, 1, 2, 1, 2, 1]⟩
abbrev S2x64x2x64x2x64 : Shape := ⟨6, ![2, 64, 2, 64, 2, 64]⟩
abbrev S128x128x128 : Shape := ⟨3, ![128, 128, 128]⟩
abbrev S10240x256 : Shape := ⟨2, ![10240, 256]⟩
abbrev S16384x128 : Shape := ⟨2, ![16384, 128]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 21
  | .vmem => 5
  | .smem => 0
  | _ => 0

abbrev bufTy : (tb : Table) → Fin (tcTables nBuf tb) → BufTy
  | .hbm, ⟨0, _⟩ => ⟨S2x10240x128x2x64, .f32⟩
  | .hbm, ⟨1, _⟩ => ⟨S2x64x64x64, .f32⟩
  | .hbm, ⟨2, _⟩ => ⟨S2x10240x2x64x128, .f32⟩
  | .hbm, ⟨3, _⟩ => ⟨S20480x128x128, .f32⟩
  | .hbm, ⟨4, _⟩ => ⟨S2621440x128, .f32⟩
  | .hbm, ⟨5, _⟩ => ⟨S2x64x64x64, .f32⟩
  | .hbm, ⟨6, _⟩ => ⟨S2x64x1x64x1x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S1x1x2x1x2x1, .f32⟩
  | .hbm, ⟨15, _⟩ => ⟨S2x64x2x64x2x64, .f32⟩
  | .hbm, ⟨16, _⟩ => ⟨S2x64x2x64x2x64, .f32⟩
  | .hbm, ⟨17, _⟩ => ⟨S2x64x2x64x2x64, .f32⟩
  | .hbm, ⟨18, _⟩ => ⟨S128x128x128, .f32⟩
  | .hbm, ⟨19, _⟩ => ⟨S128x128x128, .bf16⟩
  | .hbm, ⟨20, _⟩ => ⟨S10240x256, .f32⟩
  | .local _ .vmem, ⟨0, _⟩ => ⟨S16384x128, .f32⟩
  | .local _ .vmem, ⟨1, _⟩ => ⟨S16384x128, .f32⟩
  | .local _ .vmem, ⟨2, _⟩ => ⟨S128x128x128, .bf16⟩
  | .local _ .vmem, ⟨3, _⟩ => ⟨S128x256, .f32⟩
  | .local _ .vmem, ⟨4, _⟩ => ⟨S128x256, .f32⟩
  | _, _ => ⟨S2x10240x128x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c80_i32 : BitVec 32 := 80#32
  let v0 : BitVec 32 := Scalar.addi arg0 c80_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePoolIdeal.lean ====
abbrev S2x10240x128x2x64 : Shape := ⟨5, ![2, 10240, 128, 2, 64]⟩
abbrev S2x64x64x64 : Shape := ⟨4, ![2, 64, 64, 64]⟩
abbrev S1x10240x128x2x64 : Shape := ⟨5, ![1, 10240, 128, 2, 64]⟩
abbrev S10240x128x2x64 : Shape := ⟨4, ![10240, 128, 2, 64]⟩
abbrev S10240x2x64x2x64 : Shape := ⟨5, ![10240, 2, 64, 2, 64]⟩
abbrev S2x64x10240x2 : Shape := ⟨4, ![2, 64, 10240, 2]⟩
abbrev S10240x2x2x64 : Shape := ⟨4, ![10240, 2, 2, 64]⟩
abbrev S10240x256 : Shape := ⟨2, ![10240, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x10240x128x2x64, .f32⟩
  | .hbm, ⟨1, _⟩ => ⟨S2x64x64x64, .f32⟩
  | .hbm, ⟨2, _⟩ => ⟨S1x10240x128x2x64, .f32⟩
  | .hbm, ⟨3, _⟩ => ⟨S10240x128x2x64, .f32⟩
  | .hbm, ⟨4, _⟩ => ⟨S10240x2x64x2x64, .f32⟩
  | .hbm, ⟨5, _⟩ => ⟨S2x64x10240x2, .f32⟩
  | .hbm, ⟨6, _⟩ => ⟨S10240x2x2x64, .f32⟩
  | .hbm, ⟨7, _⟩ => ⟨S10240x256, .f32⟩
  | _, _ => ⟨S2x10240x128x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelInSbSample.lean ====
abbrev S128x8x1024 : Shape := ⟨3, ![128, 8, 1024]⟩
abbrev S128x1024 : Shape := ⟨2, ![128, 1024]⟩
abbrev S1024x1536 : Shape := ⟨2, ![1024, 1536]⟩
abbrev S1024x1024 : Shape := ⟨2, ![1024, 1024]⟩
abbrev S4x256x1024 : Shape := ⟨3, ![4, 256, 1024]⟩
abbrev S_ : Shape := ⟨0, ![]⟩
abbrev S1536 : Shape := ⟨1, ![1536]⟩
abbrev S1x1536 : Shape := ⟨2, ![1, 1536]⟩
abbrev S256x1024 : Shape := ⟨2, ![256, 1024]⟩
abbrev S1x256x1024 : Shape := ⟨3, ![1, 256, 1024]⟩
abbrev S256x1536 : Shape := ⟨2, ![256, 1536]⟩

abbrev nBuf : Space → Nat
  | .hbm => 17
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1536, .f32⟩
  | .hbm, ⟨4, _⟩ => ⟨S1024x1024, .f32⟩
  | .hbm, ⟨5, _⟩ => ⟨S128x8x1024, .f32⟩
  | .hbm, ⟨6, _⟩ => ⟨S1024x1024, .f32⟩
  | .hbm, ⟨7, _⟩ => ⟨S4x256x1024, .f32⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S1024x1536, .bf16⟩
  | .hbm, ⟨12, _⟩ => ⟨S_, .f32⟩
  | .hbm, ⟨13, _⟩ => ⟨S1536, .f32⟩
  | .hbm, ⟨14, _⟩ => ⟨S1x1536, .f32⟩
  | .hbm, ⟨15, _⟩ => ⟨S1024x1536, .f32⟩
  | .hbm, ⟨16, _⟩ => ⟨S1024x1536, .bf16⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1536, .bf16⟩
  | .local _ .vmem, ⟨7, _⟩ => ⟨S1x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .bf16⟩
  | .local _ .vmem, ⟨11, _⟩ => ⟨S256x1536, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInSbSampleIdeal.lean ====
abbrev S128x8x1024 : Shape := ⟨3, ![128, 8, 1024]⟩
abbrev S128x1024 : Shape := ⟨2, ![128, 1024]⟩
abbrev S1024x1536 : Shape := ⟨2, ![1024, 1536]⟩
abbrev S128x1x1024 : Shape := ⟨3, ![128, 1, 1024]⟩
abbrev S_ : Shape := ⟨0, ![]⟩
abbrev S128x8x1536 : Shape := ⟨3, ![128, 8, 1536]⟩

abbrev nBuf : Space → Nat
  | .hbm => 16
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1536, .f32⟩
  | .hbm, ⟨4, _⟩ => ⟨S128x1x1024, .f32⟩
  | .hbm, ⟨5, _⟩ => ⟨S128x1x1024, .f32⟩
  | .hbm, ⟨6, _⟩ => ⟨S_, .f32⟩
  | .hbm, ⟨7, _⟩ => ⟨S128x1x1024, .f32⟩
  | .hbm, ⟨8, _⟩ => ⟨S128x1x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1536, .f32⟩
  | .hbm, ⟨14, _⟩ => ⟨S1024x1536, .f32⟩
  | .hbm, ⟨15, _⟩ => ⟨S1024x1536, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelInNsaSample.lean ====
abbrev S128x8x1024 : Shape := ⟨3, ![128, 8, 1024]⟩
abbrev S128x1024 : Shape := ⟨2, ![128, 1024]⟩
abbrev S1024x1840 : Shape := ⟨2, ![1024, 1840]⟩
abbrev S_ : Shape := ⟨0, ![]⟩
abbrev S1024x1920 : Shape := ⟨2, ![1024, 1920]⟩
abbrev S1024x1024 : Shape := ⟨2, ![1024, 1024]⟩
abbrev S4x256x1024 : Shape := ⟨3, ![4, 256, 1024]⟩
abbrev S1920 : Shape := ⟨1, ![1920]⟩
abbrev S1x1920 : Shape := ⟨2, ![1, 1920]⟩
abbrev S256x1024 : Shape := ⟨2, ![256, 1024]⟩
abbrev S1x256x1024 : Shape := ⟨3, ![1, 256, 1024]⟩
abbrev S256x1920 : Shape := ⟨2, ![256, 1920]⟩

abbrev nBuf : Space → Nat
  | .hbm => 20
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1840, .f32⟩
  | .hbm, ⟨4, _⟩ => ⟨S_, .i32⟩
  | .hbm, ⟨5, _⟩ => ⟨S_, .f32⟩
  | .hbm, ⟨6, _⟩ => ⟨S1024x1920, .f32⟩
  | .hbm, ⟨7, _⟩ => ⟨S1024x1920, .bf16⟩
  | .hbm, ⟨8, _⟩ => ⟨S1024x1024, .f32⟩
  | .hbm, ⟨9, _⟩ => ⟨S128x8x1024, .f32⟩
  | .hbm, ⟨10, _⟩ => ⟨S1024x1024, .f32⟩
  | .hbm, ⟨11, _⟩ => ⟨S4x256x1024, .f32⟩
  | .hbm, ⟨12, _⟩ => ⟨S128x8x1024, .f32⟩
  | .hbm, ⟨13, _⟩ => ⟨S1024x1024, .f32⟩
  | .hbm, ⟨14, _⟩ => ⟨S4x256x1024, .f32⟩
  | .hbm, ⟨15, _⟩ => ⟨S_, .f32⟩
  | .hbm, ⟨16, _⟩ => ⟨S1920, .f32⟩
  | .hbm, ⟨17, _⟩ => ⟨S1x1920, .f32⟩
  | .hbm, ⟨18, _⟩ => ⟨S1024x1920, .f32⟩
  | .hbm, ⟨19, _⟩ => ⟨S1024x1920, .bf16⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1920, .bf16⟩
  | .local _ .vmem, ⟨7, _⟩ => ⟨S1x1920, .f32⟩
  | .local _ .vmem, ⟨8, _⟩ => ⟨S256x1920, .f32⟩
  | .local _ .vmem, ⟨9, _⟩ => ⟨S256x1920, .f32⟩
  | .local _ .vmem, ⟨10, _⟩ => ⟨S256x1920, .bf16⟩
  | .local _ .vmem, ⟨11, _⟩ => ⟨S256x1920, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInNsaSampleIdeal.lean ====
abbrev S128x8x1024 : Shape := ⟨3, ![128, 8, 1024]⟩
abbrev S128x1024 : Shape := ⟨2, ![128, 1024]⟩
abbrev S1024x1840 : Shape := ⟨2, ![1024, 1840]⟩
abbrev S128x1x1024 : Shape := ⟨3, ![128, 1, 1024]⟩
abbrev S_ : Shape := ⟨0, ![]⟩
abbrev S128x8x1840 : Shape := ⟨3, ![128, 8, 1840]⟩
abbrev S1024x1920 : Shape := ⟨2, ![1024, 1920]⟩

abbrev nBuf : Space → Nat
  | .hbm => 19
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1840, .f32⟩
  | .hbm, ⟨4, _⟩ => ⟨S128x1x1024, .f32⟩
  | .hbm, ⟨5, _⟩ => ⟨S128x1x1024, .f32⟩
  | .hbm, ⟨6, _⟩ => ⟨S_, .f32⟩
  | .hbm, ⟨7, _⟩ => ⟨S128x1x1024, .f32⟩
  | .hbm, ⟨8, _⟩ => ⟨S128x1x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1840, .f32⟩
  | .hbm, ⟨14, _⟩ => ⟨S1024x1840, .f32⟩
  | .hbm, ⟨15, _⟩ => ⟨S_, .i32⟩
  | .hbm, ⟨16, _⟩ => ⟨S_, .f32⟩
  | .hbm, ⟨17, _⟩ => ⟨S1024x1920, .f32⟩
  | .hbm, ⟨18, _⟩ => ⟨S1024x1920, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== KernelInSwaSample.lean ====
abbrev S128x8x1024 : Shape := ⟨3, ![128, 8, 1024]⟩
abbrev S128x1024 : Shape := ⟨2, ![128, 1024]⟩
abbrev S1024x1280 : Shape := ⟨2, ![1024, 1280]⟩
abbrev S1024x1024 : Shape := ⟨2, ![1024, 1024]⟩
abbrev S4x256x1024 : Shape := ⟨3, ![4, 256, 1024]⟩
abbrev S_ : Shape := ⟨0, ![]⟩
abbrev S1280 : Shape := ⟨1, ![1280]⟩
abbrev S1x1280 : Shape := ⟨2, ![1, 1280]⟩
abbrev S256x1024 : Shape := ⟨2, ![256, 1024]⟩
abbrev S1x256x1024 : Shape := ⟨3, ![1, 256, 1024]⟩
abbrev S256x1280 : Shape := ⟨2, ![256, 1280]⟩

abbrev nBuf : Space → Nat
  | .hbm => 17
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1280, .f32⟩
  | .hbm, ⟨4, _⟩ => ⟨S1024x1024, .f32⟩
  | .hbm, ⟨5, _⟩ => ⟨S128x8x1024, .f32⟩
  | .hbm, ⟨6, _⟩ => ⟨S1024x1024, .f32⟩
  | .hbm, ⟨7, _⟩ => ⟨S4x256x1024, .f32⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S1024x1280, .bf16⟩
  | .hbm, ⟨12, _⟩ => ⟨S_, .f32⟩
  | .hbm, ⟨13, _⟩ => ⟨S1280, .f32⟩
  | .hbm, ⟨14, _⟩ => ⟨S1x1280, .f32⟩
  | .hbm, ⟨15, _⟩ => ⟨S1024x1280, .f32⟩
  | .hbm, ⟨16, _⟩ => ⟨S1024x1280, .bf16⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1280, .bf16⟩
  | .local _ .vmem, ⟨7, _⟩ => ⟨S1x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .bf16⟩
  | .local _ .vmem, ⟨11, _⟩ => ⟨S256x1280, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInSwaSampleIdeal.lean ====
abbrev S128x8x1024 : Shape := ⟨3, ![128, 8, 1024]⟩
abbrev S128x1024 : Shape := ⟨2, ![128, 1024]⟩
abbrev S1024x1280 : Shape := ⟨2, ![1024, 1280]⟩
abbrev S128x1x1024 : Shape := ⟨3, ![128, 1, 1024]⟩
abbrev S_ : Shape := ⟨0, ![]⟩
abbrev S128x8x1280 : Shape := ⟨3, ![128, 8, 1280]⟩

abbrev nBuf : Space → Nat
  | .hbm => 16
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024x1280, .f32⟩
  | .hbm, ⟨4, _⟩ => ⟨S128x1x1024, .f32⟩
  | .hbm, ⟨5, _⟩ => ⟨S128x1x1024, .f32⟩
  | .hbm, ⟨6, _⟩ => ⟨S_, .f32⟩
  | .hbm, ⟨7, _⟩ => ⟨S128x1x1024, .f32⟩
  | .hbm, ⟨8, _⟩ => ⟨S128x1x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1280, .f32⟩
  | .hbm, ⟨14, _⟩ => ⟨S1024x1280, .f32⟩
  | .hbm, ⟨15, _⟩ => ⟨S1024x1280, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelCombSample.lean ====
abbrev S1024x1024 : Shape := ⟨2, ![1024, 1024]⟩
abbrev S1024x2 : Shape := ⟨2, ![1024, 2]⟩
abbrev S128x8x1024 : Shape := ⟨3, ![128, 8, 1024]⟩
abbrev S128x1024 : Shape := ⟨2, ![128, 1024]⟩
abbrev S1024 : Shape := ⟨1, ![1024]⟩
abbrev S4x256x1024 : Shape := ⟨3, ![4, 256, 1024]⟩
abbrev S1x1024 : Shape := ⟨2, ![1, 1024]⟩
abbrev S256x1024 : Shape := ⟨2, ![256, 1024]⟩
abbrev S256x2 : Shape := ⟨2, ![256, 2]⟩
abbrev S1x256x1024 : Shape := ⟨3, ![1, 256, 1024]⟩
abbrev S256x1 : Shape := ⟨2, ![256, 1]⟩
abbrev S256 : Shape := ⟨1, ![256]⟩

abbrev nBuf : Space → Nat
  | .hbm => 14
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x2, .f32⟩
  | .hbm, ⟨3, _⟩ => ⟨S128x8x1024, .f32⟩
  | .hbm, ⟨4, _⟩ => ⟨S128x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S1x1024, .f32⟩
  | .hbm, ⟨12, _⟩ => ⟨S1x1024, .f32⟩
  | .hbm, ⟨13, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2, .f32⟩
  | .local _ .vmem, ⟨5, _⟩ => ⟨S256x2, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCombSampleIdeal.lean ====
abbrev S1024x1024 : Shape := ⟨2, ![1024, 1024]⟩
abbrev S1024x2 : Shape := ⟨2, ![1024, 2]⟩
abbrev S128x8x1024 : Shape := ⟨3, ![128, 8, 1024]⟩
abbrev S128x1024 : Shape := ⟨2, ![128, 1024]⟩
abbrev S1024 : Shape := ⟨1, ![1024]⟩
abbrev S1024x1 : Shape := ⟨2, ![1024, 1]⟩
abbrev S_ : Shape := ⟨0, ![]⟩
abbrev S128x1x1024 : Shape := ⟨3, ![128, 1, 1024]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x2, .f32⟩
  | .hbm, ⟨3, _⟩ => ⟨S128x8x1024, .f32⟩
  | .hbm, ⟨4, _⟩ => ⟨S128x1024, .f32⟩
  | .hbm, ⟨5, _⟩ => ⟨S1024, .f32⟩
  | .hbm, ⟨6, _⟩ => ⟨S1024, .f32⟩
  | .hbm, ⟨7, _⟩ => ⟨S1024x1, .f32⟩
  | .hbm, ⟨8, _⟩ => ⟨S1024x1024, .f32⟩
  | .hbm, ⟨9, _⟩ => ⟨S1024x1024, .f32⟩
  | .hbm, ⟨10, _⟩ => ⟨S1024x1, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S128x8x1024, .f32⟩
  | .hbm, ⟨15, _⟩ => ⟨S_, .f32⟩
  | .hbm, ⟨16, _⟩ => ⟨S128x8x1024, .f32⟩
  | .hbm, ⟨17, _⟩ => ⟨S128x8x1024, .f32⟩
  | .hbm, ⟨18, _⟩ => ⟨S128x1x1024, .f32⟩
  | .hbm, ⟨19, _⟩ => ⟨S_, .f32⟩
  | .hbm, ⟨20, _⟩ => ⟨S128x1x1024, .f32⟩
  | .hbm, ⟨21, _⟩ => ⟨S128x1x1024, .f32⟩
  | .hbm, ⟨22, _⟩ => ⟨S128x8x1024, .f32⟩
  | .hbm, ⟨23, _⟩ => ⟨S128x8x1024, .f32⟩
  | .hbm, ⟨24, _⟩ => ⟨S128x8x1024, .f32⟩
  | .hbm, ⟨25, _⟩ => ⟨S_, .f32⟩
  | .hbm, ⟨26, _⟩ => ⟨S128x8, .f32⟩
  | .hbm, ⟨27, _⟩ => ⟨S128x8x1, .f32⟩
  | .hbm, ⟨28, _⟩ => ⟨S_, .f32⟩
  | .hbm, ⟨29, _⟩ => ⟨S128x8x1, .f32⟩
  | .hbm, ⟨30, _⟩ => ⟨S128x8x1, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S_, .f32⟩
  | .hbm, ⟨35, _⟩ => ⟨S128x8, .f32⟩
  | .hbm, ⟨36, _⟩ => ⟨S128x8x1, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x1024, .f32⟩
  | .hbm, ⟨41, _⟩ => ⟨S128x8x1024, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S128x8x1, .f32⟩
  | .hbm, ⟨46, _⟩ => ⟨S128x8x1024, .f32⟩
  | .hbm, ⟨47, _⟩ => ⟨S128x8x1024, .f32⟩
  | .hbm, ⟨48, _⟩ => ⟨S1x1x1024, .f32⟩
  | .hbm, ⟨49, _⟩ => ⟨S128x8x1024, .f32⟩
  | .hbm, ⟨50, _⟩ => ⟨S128x8x1024, .f32⟩
  | .hbm, ⟨51, _⟩ => ⟨S1x1x1024, .f32⟩
  | .hbm, ⟨52, _⟩ => ⟨S128x8x1024, .f32⟩
  | .hbm, ⟨53, _⟩ => ⟨S128x8x1024, .f32⟩
  | .hbm, ⟨54, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Stick.lean ====
/-
  STICK-BREAKING ATTENTION OVER THE REAL NUMBERS: the weights of one query, their sum cut into tiles of 128 keys walked
  from the last key to the first, and the same sum written with prefix sums over all keys. No program is mentioned here.
-/
module

public import Mathlib.Analysis.SpecialFunctions.Log.Basic
public import Mathlib.Algebra.BigOperators.Intervals
public import Mathlib.Algebra.BigOperators.Fin

@[expose] public section

noncomputable section

namespace Cert.Stick

open Finset

/-- `log (1 + e^{-|z|})`, the part that the two logarithms of a score share. -/
def sp (z : ℝ) : ℝ := Real.log (1 + Real.exp (-|z|))

/-- The logarithm of the share that a key of score `z` takes of what is left of the stick. -/
def ls (z : ℝ) : ℝ := min z 0 - sp z

/-- The logarithm of the share that a key of score `z` leaves. -/
def lb (z : ℝ) : ℝ := -max z 0 - sp z

/-- What the keys `lo ≤ s < t` leave of the stick, as a logarithm. -/
def left (z : ℕ → ℝ) (lo t : ℕ) : ℝ := ∑ s ∈ Ico lo t, lb (z s)

/-- The weight of key `s` for the query at position `t`: its share of what the keys between it and the query leave. -/
def weight (z : ℕ → ℝ) (t s : ℕ) : ℝ := Real.exp (ls (z s) + left z (s + 1) t)

/-- The weighted sum of the values of the keys `lo ≤ s < t`. -/
def mix (z v : ℕ → ℝ) (lo t : ℕ) : ℝ := ∑ s ∈ Ico lo t, weight z t s * v s

/-- A sum over the `128` places of a tile that starts at key `lo` is a sum over an interval of keys. -/
theorem sum_tile (f : ℕ → ℝ) (lo : ℕ) : ∑ s : Fin 128, f (lo + s.val) = ∑ s ∈ Ico lo (lo + 128), f s := by
  rw [Fin.sum_univ_eq_sum_range (fun s => f (lo + s)) 128, Finset.sum_Ico_eq_sum_range, Nat.add_sub_cancel_left]

/-- The places of a tile that satisfy an interval's bounds, as an interval of keys. -/
theorem sum_tile_if (f : ℕ → ℝ) (lo a b : ℕ) (hb : b ≤ 128) :
    (∑ s : Fin 128, if a ≤ s.val ∧ s.val < b then f (lo + s.val) else 0) = ∑ s ∈ Ico (lo + a) (lo + b), f s := by
  have e : (∑ s : Fin 128, if a ≤ s.val ∧ s.val < b then f (lo + s.val) else 0)
      = ∑ s ∈ Ico lo (lo + 128), if lo + a ≤ s ∧ s < lo + b then f s else 0 := by
    rw [← sum_tile]
    exact Finset.sum_congr rfl fun s _ => if_congr (by omega) rfl rfl
  rw [e, ← Finset.sum_filter]
  refine Finset.sum_congr (Finset.ext fun s => ?_) fun _ _ => rfl
  simp only [Finset.mem_filter, Finset.mem_Ico]
  omega

/-- One tile further: what is left. -/
theorem left_tile (z : ℕ → ℝ) (lo t : ℕ) (h : lo + 128 ≤ t) :
    left z (lo + 128) t + ∑ s : Fin 128, lb (z (lo + s.val)) = left z lo t := by
  unfold left
  rw [sum_tile (fun s => lb (z s)), add_comm]
  exact Finset.sum_Ico_consecutive _ (Nat.le_add_right _ _) h

/-- Inside a tile, the keys after place `s` and then the later tiles. -/
theorem left_inside (z : ℕ → ℝ) (lo t : ℕ) (h : lo + 128 ≤ t) (s : Fin 128) :
    (∑ k : Fin 128, lb (z (lo + k.val)) * (if s.val < k.val then 1 else 0)) + left z (lo + 128) t = left z (lo + s.val + 1) t := by
  have e : (∑ k : Fin 128, lb (z (lo + k.val)) * (if s.val < k.val then (1 : ℝ) else 0))
      = ∑ k : Fin 128, if s.val + 1 ≤ k.val ∧ k.val < 128 then lb (z (lo + k.val)) else 0 :=
    Finset.sum_congr rfl fun k _ => by
      rw [mul_ite, mul_one, mul_zero]
      exact if_congr ⟨fun h => ⟨h, k.isLt⟩, fun h => h.1⟩ rfl rfl
  rw [e, sum_tile_if (fun k => lb (z k)) lo (s.val + 1) 128 le_rfl]
  unfold left
  exact Finset.sum_Ico_consecutive _ (by have := s.isLt; omega) h

/-- One tile further: the weighted sum. -/
theorem mix_tile (z v : ℕ → ℝ) (lo t : ℕ) (h : lo + 128 ≤ t) :
    mix z v (lo + 128) t
      + ∑ s : Fin 128, Real.exp (ls (z (lo + s.val)) + (∑ k : Fin 128, lb (z (lo + k.val)) * (if s.val < k.val then 1 else 0))
          + left z (lo + 128) t) * v (lo + s.val)
      = mix z v lo t := by
  have e : (∑ s : Fin 128, Real.exp (ls (z (lo + s.val)) + (∑ k : Fin 128, lb (z (lo + k.val)) * (if s.val < k.val then 1 else 0))
          + left z (lo + 128) t) * v (lo + s.val))
      = ∑ s : Fin 128, weight z t (lo + s.val) * v (lo + s.val) :=
    Finset.sum_congr rfl fun s _ => by rw [add_assoc, left_inside z lo t h s]; rfl
  rw [e, sum_tile (fun s => weight z t s * v s)]
  unfold mix
  rw [add_comm]
  exact Finset.sum_Ico_consecutive _ (Nat.le_add_right _ _) h

/-- The diagonal tile, whose keys from place `r` on are masked: what is left. -/
theorem left_diag (z : ℕ → ℝ) (lo r : ℕ) (hr : r < 128) :
    (∑ s : Fin 128, if s.val < r then lb (z (lo + s.val)) else 0) = left z lo (lo + r) := by
  have := sum_tile_if (fun k => lb (z k)) lo 0 r hr.le
  simpa [left] using this

/-- The diagonal tile: the weighted sum. -/
theorem mix_diag (z v : ℕ → ℝ) (lo r : ℕ) (hr : r < 128) :
    (∑ s : Fin 128, (if s.val < r then
        Real.exp (ls (z (lo + s.val)) + (∑ k : Fin 128, (if k.val < r then lb (z (lo + k.val)) else 0) * (if s.val < k.val then 1 else 0)))
        else 0) * v (lo + s.val))
      = mix z v lo (lo + r) := by
  have e := sum_tile_if (fun s => weight z (lo + r) s * v s) lo 0 r hr.le
  rw [show lo + 0 = lo from rfl] at e
  unfold mix
  rw [← e]
  refine Finset.sum_congr rfl fun s _ => ?_
  by_cases hs : s.val < r
  · rw [if_pos hs, if_pos ⟨Nat.zero_le _, hs⟩]
    have e2 : (∑ k : Fin 128, (if k.val < r then lb (z (lo + k.val)) else 0) * (if s.val < k.val then (1 : ℝ) else 0))
        = ∑ k : Fin 128, if s.val + 1 ≤ k.val ∧ k.val < r then lb (z (lo + k.val)) else 0 :=
      Finset.sum_congr rfl fun k _ => by
        by_cases h1 : k.val < r <;> by_cases h2 : s.val < k.val <;> simp [h1, h2] <;> omega
    rw [e2, sum_tile_if (fun k => lb (z k)) lo (s.val + 1) r hr.le]
    rfl
  · rw [if_neg hs, if_neg (fun h => hs h.2), zero_mul]

/-! ## With prefix sums over all the keys -/

/-- The sum over the first `k + 1` of `n` keys of what the unmasked ones leave. -/
def prefixSum (n : ℕ) (z : ℕ → ℝ) (t k : ℕ) : ℝ := ∑ i : Fin n, if i.val ≤ k then (if i.val < t then lb (z i.val) else 0) else 0

theorem prefixSum_eq (n : ℕ) (z : ℕ → ℝ) (t k : ℕ) (ht : t ≤ n) :
    prefixSum n z t k = ∑ s ∈ Ico 0 (min (k + 1) t), lb (z s) := by
  unfold prefixSum
  rw [Fin.sum_univ_eq_sum_range (fun i => if i ≤ k then (if i < t then lb (z i) else 0) else 0) n]
  have e : ∀ i ∈ range n, (if i ≤ k then (if i < t then lb (z i) else 0) else 0) = if i < min (k + 1) t then lb (z i) else 0 := fun i _ => by
    by_cases h1 : i ≤ k <;> by_cases h2 : i < t <;> simp [h1, h2] <;> omega
  rw [Finset.sum_congr rfl e, ← Finset.sum_filter]
  refine Finset.sum_congr (Finset.ext fun s => ?_) fun _ _ => rfl
  simp only [Finset.mem_filter, Finset.mem_Ico, Finset.mem_range]
  omega

/-- The last prefix sum less the one at a key before the query is what the keys between them leave. -/
theorem prefixSum_sub (n : ℕ) (z : ℕ → ℝ) (t k : ℕ) (ht : t ≤ n) (hk : k < t) :
    prefixSum n z t (n - 1) - prefixSum n z t k = left z (k + 1) t := by
  rw [prefixSum_eq n z t _ ht, prefixSum_eq n z t _ ht, show min (n - 1 + 1) t = t by omega, show min (k + 1) t = k + 1 by omega]
  unfold left
  rw [← Finset.sum_Ico_consecutive _ (Nat.zero_le (k + 1)) (show k + 1 ≤ t by omega)]
  ring

/-- The masked sum over all the keys, each weighted with its difference of prefix sums, is the weighted sum of the keys
    before the query. -/
theorem mix_prefix (n : ℕ) (z v : ℕ → ℝ) (t : ℕ) (ht : t ≤ n) :
    (∑ k : Fin n, v k.val * (if k.val < t then Real.exp (ls (z k.val) + (prefixSum n z t (n - 1) - prefixSum n z t k.val)) else 0))
      = mix z v 0 t := by
  rw [Fin.sum_univ_eq_sum_range (fun k => v k * (if k < t then Real.exp (ls (z k) + (prefixSum n z t (n - 1) - prefixSum n z t k)) else 0)) n]
  unfold mix
  have e : ∀ k ∈ range n, v k * (if k < t then Real.exp (ls (z k) + (prefixSum n z t (n - 1) - prefixSum n z t k)) else 0)
      = if k < t then weight z t k * v k else 0 := fun k _ => by
    by_cases h : k < t
    · rw [if_pos h, if_pos h, prefixSum_sub n z t k ht h, mul_comm]; rfl
    · rw [if_neg h, if_neg h, mul_zero]
  rw [Finset.sum_congr rfl e, ← Finset.sum_filter]
  refine Finset.sum_congr (Finset.ext fun s => ?_) fun _ _ => rfl
  simp only [Finset.mem_filter, Finset.mem_Ico, Finset.mem_range]
  omega

end Cert.Stick

end
-- ==== Proof.Tile.lean ====
/-
  ONE TILE OF THE KERNEL, READ AT AN INDEX: what each stored vector holds where the vectors it is computed from hold
  finite numbers. `Holds V f` says that the entry of `V` at row `r` and column `s` is the real number `f r s`.
-/
module

public import proofs.«01_k».proof.Proof.Stick
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Tile

/-! ## Real numbers among the extended reals -/

/-- The entry of `V` at row `r`, column `s` is the real number `f r s`. -/
def Holds {A B : ℕ} (V : (⟨2, ![A, B]⟩ : Shape).Idx → EReal) (f : ℕ → ℕ → ℝ) : Prop :=
  ∀ (r : Fin A) (s : Fin B), V (ix2 r s) = ((f r.val s.val : ℝ) : EReal)

/-- A sum of real numbers is the same among the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem coe_max0 (z : ℝ) : max (z : EReal) 0 = ((max z 0 : ℝ) : EReal) :=
  (EReal.coe_strictMono.monotone.map_max (a := z) (b := 0)).symm

theorem coe_min0 (z : ℝ) : min (z : EReal) 0 = ((min z 0 : ℝ) : EReal) :=
  (EReal.coe_strictMono.monotone.map_min (a := z) (b := 0)).symm

theorem coe_abs' (z : ℝ) : max (z : EReal) (-(z : EReal)) = ((|z| : ℝ) : EReal) := by
  rw [← EReal.coe_neg]
  exact (EReal.coe_strictMono.monotone.map_max (a := z) (b := -z)).symm

/-- `log (1 + e^{0 - |z|})` of a real number. -/
theorem log_exp_abs (z : ℝ) :
    Ideal.log (1 + Ideal.exp (0 - max (z : EReal) (-(z : EReal)))) = ((Stick.sp z : ℝ) : EReal) := by
  rw [coe_abs', zero_sub, ← EReal.coe_neg, Ideal.exp_coe, ← EReal.coe_one, ← EReal.coe_add, Ideal.log_coe, if_neg]
  · rfl
  · have := Real.exp_pos (-|z|); intro h; linarith

/-! ## The scores and their logarithms -/

section
variable {q : FVec Ideal S2048x256 .bf16} {k v : Vec Ideal S128x256 .bf16} {t : Vec Ideal S128x128 .bf16} {c : Vec Ideal S2048x128 .f32}
variable {Q K W C : ℕ → ℕ → ℝ}

/-- The score of row `r` with key `s`: the product over the 256 columns. -/
def score (Q K : ℕ → ℕ → ℝ) (r s : ℕ) : ℝ := ∑ x : Fin 256, Q r x.val * K s x.val

theorem score_at (hq : Holds q Q) (hk : Holds k K) (r : Fin 2048) (s : Fin 128) :
    k0_pay2 q k (ix2 r s) = ((score Q K r.val s.val : ℝ) : EReal) := by
  pointwise [k0_pay2]
  rw [score, coe_sum]
  exact Finset.sum_congr rfl fun x _ => by rw [hq, hk, ← EReal.coe_mul]

theorem sp_at (hq : Holds q Q) (hk : Holds k K) (r : Fin 2048) (s : Fin 128) :
    k0_pay3 q k (ix2 r s) = ((Stick.sp (score Q K r.val s.val) : ℝ) : EReal) := by
  pointwise [k0_pay3]
  rw [Ideal.absf_def, score_at hq hk]
  exact log_exp_abs _

theorem lb_at (hq : Holds q Q) (hk : Holds k K) (r : Fin 2048) (s : Fin 128) :
    k0_pay4 q k (ix2 r s) = ((Stick.lb (score Q K r.val s.val) : ℝ) : EReal) := by
  pointwise [k0_pay4]
  rw [score_at hq hk, sp_at hq hk, coe_max0, zero_sub, ← EReal.coe_neg, ← EReal.coe_sub]
  rfl

theorem ls_at (hq : Holds q Q) (hk : Holds k K) (r : Fin 2048) (s : Fin 128) :
    min (k0_pay2 q k (ix2 r s)) 0 - k0_pay3 q k (ix2 r s) = ((Stick.ls (score Q K r.val s.val) : ℝ) : EReal) := by
  rw [score_at hq hk, sp_at hq hk, coe_min0, ← EReal.coe_sub]
  rfl

/-- The triangle of ones strictly below the diagonal. -/
def tri (a b : ℕ) : ℝ := if b < a then 1 else 0

/-! ## A tile whose keys all precede the queries -/

/-- The weighted values of one tile, with `C` what the later keys leave. -/
theorem values_at (hq : Holds q Q) (hk : Holds k K) (hv : Holds v W) (ht : Holds t tri) (hc : Holds c C) (r : Fin 2048) (x : Fin 256) :
    k0_pay5 q c k v t (ix2 r x)
      = ((∑ s : Fin 128, Real.exp (Stick.ls (score Q K r.val s.val)
            + (∑ a : Fin 128, Stick.lb (score Q K r.val a.val) * (if s.val < a.val then 1 else 0)) + C r.val s.val) * W s.val x.val : ℝ) : EReal) := by
  pointwise [k0_pay5]
  rw [coe_sum]
  refine Finset.sum_congr rfl fun s _ => ?_
  have e1 : ∑ a : Fin 128, k0_pay4 q k (ix2 r a) * t (ix2 a s)
      = ((∑ a : Fin 128, Stick.lb (score Q K r.val a.val) * (if s.val < a.val then 1 else 0) : ℝ) : EReal) := by
    rw [coe_sum]
    exact Finset.sum_congr rfl fun a _ => by rw [lb_at hq hk, ht, ← EReal.coe_mul]; rfl
  have e2 : ∑ a : Fin 128, (k0_pay4 q k (ix2 r a) - k0_pay4 q k (ix2 r a)) * t (ix2 a s) = 0 :=
    Finset.sum_eq_zero fun a _ => by rw [lb_at hq hk, ← EReal.coe_sub, sub_self, EReal.coe_zero, zero_mul]
  rw [ls_at hq hk, e1, e2, add_zero, hc, hv, ← EReal.coe_add, ← EReal.coe_add, Ideal.exp_coe, ← EReal.coe_mul]

/-- What is left after one more tile. -/
theorem leave_at (hq : Holds q Q) (hk : Holds k K) (hc : Holds c C) (r : Fin 2048) (s : Fin 128) :
    k0_pay6 c (k0_pay4 q k) (ix2 r s) = ((C r.val s.val + ∑ a : Fin 128, Stick.lb (score Q K r.val a.val) : ℝ) : EReal) := by
  pointwise [k0_pay6]
  rw [hc, EReal.coe_add, coe_sum]
  exact congrArg _ (Finset.sum_congr rfl fun a _ => lb_at hq hk r a)

/-- The second tile of a trip is computed like the first. -/
theorem values_second (u : FVec Ideal S2048x128 .f32) : k0_pay10 q c u k v t = k0_pay5 q (k0_pay6 c u) k v t := rfl

theorem leave_second (u : FVec Ideal S2048x128 .f32) (r : Fin 2048) (s : Fin 128) :
    k0_pay51 (k0_pay6 c u) (k0_pay9 q k) (ix2 r s) = k0_pay6 (k0_pay6 c u) (k0_pay4 q k) (ix2 r s) := by
  rw [show k0_pay9 q k = k0_pay4 q k from rfl]
  generalize k0_pay4 q k = w
  generalize k0_pay6 c u = c'
  pointwise [k0_pay51, k0_pay6]

/-- The accumulator takes both tiles of a trip. -/
theorem acc_both (a b : FVec Ideal S2048x256 .f32) (o : Vec Ideal S2048x256 .f32) (r : Fin 2048) (x : Fin 256) :
    k0_pay50 a b o (ix2 r x) = o (ix2 r x) + (a (ix2 r x) + b (ix2 r x)) := by
  pointwise [k0_pay50]

/-- The accumulator takes the first tile alone, where the number of tiles before the diagonal is odd. -/
theorem acc_last (o : Vec Ideal S2048x256 .f32) (r : Fin 2048) (x : Fin 256) :
    k0_pay20 q c k v t o (ix2 r x) = o (ix2 r x) + k0_pay5 q c k v t (ix2 r x) := by
  pointwise [k0_pay20, k0_pay5, k0_pay2, k0_pay3, k0_pay4]

/-! ## The diagonal tile -/

theorem row_word : ∀ r : Fin 2048, (Scalar.select
        (IntOp.andi
          (IntOp.xori
            (IntOp.cmpi CmpIPredicate.slt
              (IntOp.remsi ArithUnit.vector (BitVec.ofNat 32 r.val)
                (Scalar.select (Scalar.cmpi CmpIPredicate.eq 128#32 0#32) 1#32 128#32))
              0#32)
            (Scalar.cmpi CmpIPredicate.slt 128#32 0#32))
          (IntOp.cmpi CmpIPredicate.ne
            (IntOp.remsi ArithUnit.vector (BitVec.ofNat 32 r.val)
              (Scalar.select (Scalar.cmpi CmpIPredicate.eq 128#32 0#32) 1#32 128#32))
            0#32))
        (IntOp.addi
          (IntOp.remsi ArithUnit.vector (BitVec.ofNat 32 r.val)
            (Scalar.select (Scalar.cmpi CmpIPredicate.eq 128#32 0#32) 1#32 128#32))
          128#32)
        (IntOp.remsi ArithUnit.vector (BitVec.ofNat 32 r.val)
          (Scalar.select (Scalar.cmpi CmpIPredicate.eq 128#32 0#32) 1#32 128#32))) = BitVec.ofNat 32 (r.val % 128) := by
  decide +kernel

theorem lt_word : ∀ s x : Fin 128, IntOp.cmpi CmpIPredicate.slt (BitVec.ofNat 32 s.val) (BitVec.ofNat 32 x.val) = BitVec.ofBool (decide (s.val < x.val)) := by
  decide +kernel

/-- The mask of the diagonal tile: the key's place is before the query's. -/
theorem mask_at (r : Fin 2048) (s : Fin 128) :
    k0_pay39 (128#32) k0_pay36 k0_pay37 k0_pay38 (ix2 r s) = BitVec.ofBool (decide (s.val < r.val % 128)) := by
  pointwise [k0_pay39, k0_pay36, k0_pay37, k0_pay38]
  rw [row_word]
  exact lt_word s ⟨r.val % 128, Nat.mod_lt _ (by decide)⟩

theorem select_bool {α : Type} (p : Prop) [Decidable p] (a b : α) : Scalar.select (BitVec.ofBool (decide p)) a b = if p then a else b := by
  by_cases h : p <;> simp [h, Scalar.select]

/-- What the unmasked keys of the diagonal tile leave. -/
theorem lb_diag_at (hq : Holds q Q) (hk : Holds k K) (r : Fin 2048) (s : Fin 128) :
    k0_pay44 q (128#32) k0_pay36 k0_pay37 k0_pay38 k (ix2 r s)
      = (((if s.val < r.val % 128 then Stick.lb (score Q K r.val s.val) else 0) : ℝ) : EReal) := by
  pointwise [k0_pay44]
  rw [mask_at, select_bool, show 0 - max (k0_pay40 q k (ix2 r s)) 0 - k0_pay42 q k (ix2 r s) = ((Stick.lb (score Q K r.val s.val) : ℝ) : EReal) by
    rw [show k0_pay40 q k = k0_pay2 q k from rfl, show k0_pay42 q k = k0_pay3 q k from rfl, score_at hq hk, sp_at hq hk, coe_max0, zero_sub,
      ← EReal.coe_neg, ← EReal.coe_sub]
    rfl]
  split <;> rfl

/-- The weighted values of the diagonal tile. -/
theorem values_diag_at (hq : Holds q Q) (hk : Holds k K) (hv : Holds v W) (ht : Holds t tri) (hc : Holds c fun _ _ => 0) (r : Fin 2048) (x : Fin 256) :
    k0_pay48 c (k0_pay39 (128#32) k0_pay36 k0_pay37 k0_pay38) v (k0_pay41 t) (k0_pay43 q k)
        (k0_pay46 q (128#32) k0_pay36 k0_pay37 k0_pay38 k) (k0_pay47 q (128#32) k0_pay36 k0_pay37 k0_pay38 k t)
        (constant S2048x128 .f32 0#32) (ix2 r x)
      = ((∑ s : Fin 128, (if s.val < r.val % 128 then Real.exp (Stick.ls (score Q K r.val s.val)
            + (∑ a : Fin 128, (if a.val < r.val % 128 then Stick.lb (score Q K r.val a.val) else 0) * (if s.val < a.val then 1 else 0))) else 0)
            * W s.val x.val : ℝ) : EReal) := by
  pointwise [k0_pay48]
  rw [coe_sum]
  refine Finset.sum_congr rfl fun s _ => ?_
  have e1 : k0_pay47 q (128#32) k0_pay36 k0_pay37 k0_pay38 k t (ix2 r s)
      = ((∑ a : Fin 128, (if a.val < r.val % 128 then Stick.lb (score Q K r.val a.val) else 0) * (if s.val < a.val then 1 else 0) : ℝ) : EReal) := by
    pointwise [k0_pay47, k0_pay45, k0_pay41]
    rw [coe_sum]
    exact Finset.sum_congr rfl fun a _ => by rw [lb_diag_at hq hk, ht, ← EReal.coe_mul]; rfl
  have e2 : ∑ a : Fin 128, k0_pay46 q (128#32) k0_pay36 k0_pay37 k0_pay38 k (ix2 r a) * k0_pay41 t (ix2 a s) = 0 :=
    Finset.sum_eq_zero fun a _ => by
      have : k0_pay46 q (128#32) k0_pay36 k0_pay37 k0_pay38 k (ix2 r a) = 0 := by
        pointwise [k0_pay46, k0_pay45]
        rw [lb_diag_at hq hk, ← EReal.coe_sub, sub_self, EReal.coe_zero]
      rw [this, zero_mul]
  have e3 : k0_pay43 q k (ix2 r s) = ((Stick.ls (score Q K r.val s.val) : ℝ) : EReal) := by
    rw [← ls_at hq hk]
    pointwise [k0_pay43]
    rfl
  rw [mask_at, select_bool, e1, e2, e3, add_zero, hc, hv, ← EReal.coe_add, ← EReal.coe_add, add_zero, Ideal.exp_coe, ← EReal.coe_mul]
  split
  · rfl
  · rw [zero_mul]; rfl

/-- What is left after the diagonal tile. -/
theorem leave_diag_at (hq : Holds q Q) (hk : Holds k K) (hc : Holds c fun _ _ => 0) (r : Fin 2048) (s : Fin 128) :
    k0_pay49 c (k0_pay44 q (128#32) k0_pay36 k0_pay37 k0_pay38 k) (ix2 r s)
      = ((∑ a : Fin 128, (if a.val < r.val % 128 then Stick.lb (score Q K r.val a.val) else 0) : ℝ) : EReal) := by
  pointwise [k0_pay49]
  rw [hc, EReal.coe_zero, zero_add, coe_sum]
  exact Finset.sum_congr rfl fun a _ => lb_diag_at hq hk r a

/-- What is left starts at nothing taken. -/
theorem leave_zero : Holds (k0_pay35 : FVec Ideal S2048x128 .f32) fun _ _ => 0 := fun r s => by
  pointwise [k0_pay35]
  exact EReal.coe_zero.symm

end

end Cert.Tile

end
-- ==== Proof.Heads.lean ====
/-
  THE SIXTEEN HEADS OF A BLOCK: the queries of head `h` are laid into row block `h`, in the columns of the key head that
  `h` reads (`h / 4`), every other column zero; the result takes them out again.
-/
module

public import proofs.«01_k».proof.Proof.Tile
public import Idealize.ShloMosaic.Lib.Pipeline.Value

@[expose] public section

set_option maxRecDepth 16384

noncomputable section

open Idealize.ShloMosaic Cert.KernelIdeal Cert.KernelIdeal.Gen

namespace Cert.Tile

/-- One eighth, the scale of the scores. -/
theorem eighth : Ideal.ofBits .f32 0x3E000000#32 = ((1 / 8 : ℝ) : EReal) := by
  simp [Ideal.ofBits, Ideal.ieee, -EReal.coe_mul]; norm_num

section
variable (x : Vec Ideal S128x1024 .bf16)

/-- The sixteen row blocks, in order. -/
def rowBlock : Fin 16 → FVec Ideal S128x256 .f32 := ![
  k0_pay22 x, k0_pay23 x, k0_pay24 x, k0_pay25 x, k0_pay26 x, k0_pay27 x, k0_pay28 x, k0_pay29 x, k0_pay30 x, k0_pay31 x,
  concatenate S128x256 1 [⟨S128x128, k0_pay32⟩, ⟨S128x64, extractStridedSlice S128x64 ![0, 640] (k0_pay21 x) slices_S128x1024_o0_640_S128x64⟩, ⟨S128x64, broadcast S128x64 (Scalar.ofBits .f32 0x00000000#32 : Ideal .f32)⟩] concatenates_S128x128_S128x64_S128x64_S128x256_d1,
  concatenate S128x256 1 [⟨S128x128, broadcast S128x128 (Scalar.ofBits .f32 0x00000000#32 : Ideal .f32)⟩, ⟨S128x64, extractStridedSlice S128x64 ![0, 704] (k0_pay21 x) slices_S128x1024_o0_704_S128x64⟩, ⟨S128x64, broadcast S128x64 (Scalar.ofBits .f32 0x00000000#32 : Ideal .f32)⟩] concatenates_S128x128_S128x64_S128x64_S128x256_d1,
  concatenate S128x256 1 [⟨S128x192, broadcast S128x192 (Scalar.ofBits .f32 0x00000000#32 : Ideal .f32)⟩, ⟨S128x64, extractStridedSlice S128x64 ![0, 768] (k0_pay21 x) slices_S128x1024_o0_768_S128x64⟩] concatenates_S128x192_S128x64_S128x256_d1,
  concatenate S128x256 1 [⟨S128x192, broadcast S128x192 (Scalar.ofBits .f32 0x00000000#32 : Ideal .f32)⟩, ⟨S128x64, extractStridedSlice S128x64 ![0, 832] (k0_pay21 x) slices_S128x1024_o0_832_S128x64⟩] concatenates_S128x192_S128x64_S128x256_d1,
  concatenate S128x256 1 [⟨S128x192, broadcast S128x192 (Scalar.ofBits .f32 0x00000000#32 : Ideal .f32)⟩, ⟨S128x64, extractStridedSlice S128x64 ![0, 896] (k0_pay21 x) slices_S128x1024_o0_896_S128x64⟩] concatenates_S128x192_S128x64_S128x256_d1,
  concatenate S128x256 1 [⟨S128x192, broadcast S128x192 (Scalar.ofBits .f32 0x00000000#32 : Ideal .f32)⟩, ⟨S128x64, extractStridedSlice S128x64 ![0, 960] (k0_pay21 x) slices_S128x1024_o0_960_S128x64⟩] concatenates_S128x192_S128x64_S128x256_d1]

/-- The queries laid out by head, as the kernel computes them from its block of rows. -/
def laid : FVec Ideal S2048x256 .bf16 :=
  k0_pay33 (k0_pay21 x) (k0_pay22 x) (k0_pay23 x) (k0_pay24 x) (k0_pay25 x) (k0_pay26 x) (k0_pay27 x) (k0_pay28 x) (k0_pay29 x) (k0_pay30 x) (k0_pay31 x) k0_pay32

variable {x}
variable {X : ℕ → ℕ → ℝ}

/-- Row block 0: the columns of key head 0 are the queries of head 0, the others zero. -/
theorem rowBlock0 (hx : Holds x X) (r : Fin 128) (c : Fin 256) (F : ℝ) (hin : c.val / 64 = 0 → F = X r.val (0 + c.val % 64))
    (hout : c.val / 64 ≠ 0 → F = 0) :
    (k0_pay22 x) (ix2 r c) = (F : EReal) := by
  have hc := c.isLt
  pointwise [k0_pay22, k0_pay21]
  split_ifs
  · rw [hx, hin (by omega)]; congr 2; show c.val = _; omega
  · rw [hout (by omega)]; rfl

/-- Row block 1: the columns of key head 0 are the queries of head 1, the others zero. -/
theorem rowBlock1 (hx : Holds x X) (r : Fin 128) (c : Fin 256) (F : ℝ) (hin : c.val / 64 = 0 → F = X r.val (64 + c.val % 64))
    (hout : c.val / 64 ≠ 0 → F = 0) :
    (k0_pay23 x) (ix2 r c) = (F : EReal) := by
  have hc := c.isLt
  pointwise [k0_pay23, k0_pay21]
  split_ifs <;> first
    | (rw [hx, hin (by omega)]; congr 2; first | (show _ + _ = _; omega) | (show c.val = _; omega))
    | (rw [hout (by omega)]; rfl)

/-- Row block 2: the columns of key head 0 are the queries of head 2, the others zero. -/
theorem rowBlock2 (hx : Holds x X) (r : Fin 128) (c : Fin 256) (F : ℝ) (hin : c.val / 64 = 0 → F = X r.val (128 + c.val % 64))
    (hout : c.val / 64 ≠ 0 → F = 0) :
    (k0_pay24 x) (ix2 r c) = (F : EReal) := by
  have hc := c.isLt
  pointwise [k0_pay24, k0_pay21]
  split_ifs <;> first
    | (rw [hx, hin (by omega)]; congr 2; first | (show _ + _ = _; omega) | (show c.val = _; omega))
    | (rw [hout (by omega)]; rfl)

/-- Row block 3: the columns of key head 0 are the queries of head 3, the others zero. -/
theorem rowBlock3 (hx : Holds x X) (r : Fin 128) (c : Fin 256) (F : ℝ) (hin : c.val / 64 = 0 → F = X r.val (192 + c.val % 64))
    (hout : c.val / 64 ≠ 0 → F = 0) :
    (k0_pay25 x) (ix2 r c) = (F : EReal) := by
  have hc := c.isLt
  pointwise [k0_pay25, k0_pay21]
  split_ifs <;> first
    | (rw [hx, hin (by omega)]; congr 2; first | (show _ + _ = _; omega) | (show c.val = _; omega))
    | (rw [hout (by omega)]; rfl)

/-- Row block 4: the columns of key head 1 are the queries of head 4, the others zero. -/
theorem rowBlock4 (hx : Holds x X) (r : Fin 128) (c : Fin 256) (F : ℝ) (hin : c.val / 64 = 1 → F = X r.val (256 + c.val % 64))
    (hout : c.val / 64 ≠ 1 → F = 0) :
    (k0_pay26 x) (ix2 r c) = (F : EReal) := by
  have hc := c.isLt
  pointwise [k0_pay26, k0_pay21]
  split_ifs <;> first
    | (rw [hx, hin (by omega)]; congr 2; first | (show _ + _ = _; omega) | (show c.val = _; omega))
    | (rw [hout (by omega)]; rfl)

/-- Row block 5: the columns of key head 1 are the queries of head 5, the others zero. -/
theorem rowBlock5 (hx : Holds x X) (r : Fin 128) (c : Fin 256) (F : ℝ) (hin : c.val / 64 = 1 → F = X r.val (320 + c.val % 64))
    (hout : c.val / 64 ≠ 1 → F = 0) :
    (k0_pay27 x) (ix2 r c) = (F : EReal) := by
  have hc := c.isLt
  pointwise [k0_pay27, k0_pay21]
  split_ifs <;> first
    | (rw [hx, hin (by omega)]; congr 2; first | (show _ + _ = _; omega) | (show c.val = _; omega))
    | (rw [hout (by omega)]; rfl)

/-- Row block 6: the columns of key head 1 are the queries of head 6, the others zero. -/
theorem rowBlock6 (hx : Holds x X) (r : Fin 128) (c : Fin 256) (F : ℝ) (hin : c.val / 64 = 1 → F = X r.val (384 + c.val % 64))
    (hout : c.val / 64 ≠ 1 → F = 0) :
    (k0_pay28 x) (ix2 r c) = (F : EReal) := by
  have hc := c.isLt
  pointwise [k0_pay28, k0_pay21]
  split_ifs <;> first
    | (rw [hx, hin (by omega)]; congr 2; first | (show _ + _ = _; omega) | (show c.val = _; omega))
    | (rw [hout (by omega)]; rfl)

/-- Row block 7: the columns of key head 1 are the queries of head 7, the others zero. -/
theorem rowBlock7 (hx : Holds x X) (r : Fin 128) (c : Fin 256) (F : ℝ) (hin : c.val / 64 = 1 → F = X r.val (448 + c.val % 64))
    (hout : c.val / 64 ≠ 1 → F = 0) :
    (k0_pay29 x) (ix2 r c) = (F : EReal) := by
  have hc := c.isLt
  pointwise [k0_pay29, k0_pay21]
  split_ifs <;> first
    | (rw [hx, hin (by omega)]; congr 2; first | (show _ + _ = _; omega) | (show c.val = _; omega))
    | (rw [hout (by omega)]; rfl)

/-- Row block 8: the columns of key head 2 are the queries of head 8, the others zero. -/
theorem rowBlock8 (hx : Holds x X) (r : Fin 128) (c : Fin 256) (F : ℝ) (hin : c.val / 64 = 2 → F = X r.val (512 + c.val % 64))
    (hout : c.val / 64 ≠ 2 → F = 0) :
    (k0_pay30 x) (ix2 r c) = (F : EReal) := by
  have hc := c.isLt
  pointwise [k0_pay30, k0_pay21]
  split_ifs <;> first
    | (rw [hx, hin (by omega)]; congr 2; first | (show _ + _ = _; omega) | (show c.val = _; omega))
    | (rw [hout (by omega)]; rfl)

/-- Row block 9: the columns of key head 2 are the queries of head 9, the others zero. -/
theorem rowBlock9 (hx : Holds x X) (r : Fin 128) (c : Fin 256) (F : ℝ) (hin : c.val / 64 = 2 → F = X r.val (576 + c.val % 64))
    (hout : c.val / 64 ≠ 2 → F = 0) :
    (k0_pay31 x) (ix2 r c) = (F : EReal) := by
  have hc := c.isLt
  pointwise [k0_pay31, k0_pay21]
  split_ifs <;> first
    | (rw [hx, hin (by omega)]; congr 2; first | (show _ + _ = _; omega) | (show c.val = _; omega))
    | (rw [hout (by omega)]; rfl)

/-- Row block 10: the columns of key head 2 are the queries of head 10, the others zero. -/
theorem rowBlock10 (hx : Holds x X) (r : Fin 128) (c : Fin 256) (F : ℝ) (hin : c.val / 64 = 2 → F = X r.val (640 + c.val % 64))
    (hout : c.val / 64 ≠ 2 → F = 0) :
    (concatenate S128x256 1 [⟨S128x128, k0_pay32⟩, ⟨S128x64, extractStridedSlice S128x64 ![0, 640] (k0_pay21 x) slices_S128x1024_o0_640_S128x64⟩, ⟨S128x64, broadcast S128x64 (Scalar.ofBits .f32 0x00000000#32 : Ideal .f32)⟩] concatenates_S128x128_S128x64_S128x64_S128x256_d1) (ix2 r c) = (F : EReal) := by
  have hc := c.isLt
  pointwise [k0_pay32, k0_pay21]
  split_ifs <;> first
    | (rw [hx, hin (by omega)]; congr 2; first | (show _ + _ = _; omega) | (show c.val = _; omega))
    | (rw [hout (by omega)]; rfl)

/-- Row block 11: the columns of key head 2 are the queries of head 11, the others zero. -/
theorem rowBlock11 (hx : Holds x X) (r : Fin 128) (c : Fin 256) (F : ℝ) (hin : c.val / 64 = 2 → F = X r.val (704 + c.val % 64))
    (hout : c.val / 64 ≠ 2 → F = 0) :
    (concatenate S128x256 1 [⟨S128x128, broadcast S128x128 (Scalar.ofBits .f32 0x00000000#32 : Ideal .f32)⟩, ⟨S128x64, extractStridedSlice S128x64 ![0, 704] (k0_pay21 x) slices_S128x1024_o0_704_S128x64⟩, ⟨S128x64, broadcast S128x64 (Scalar.ofBits .f32 0x00000000#32 : Ideal .f32)⟩] concatenates_S128x128_S128x64_S128x64_S128x256_d1) (ix2 r c) = (F : EReal) := by
  have hc := c.isLt
  pointwise [k0_pay21]
  split_ifs <;> first
    | (rw [hx, hin (by omega)]; congr 2; first | (show _ + _ = _; omega) | (show c.val = _; omega))
    | (rw [hout (by omega)]; rfl)

/-- Row block 12: the columns of key head 3 are the queries of head 12, the others zero. -/
theorem rowBlock12 (hx : Holds x X) (r : Fin 128) (c : Fin 256) (F : ℝ) (hin : c.val / 64 = 3 → F = X r.val (768 + c.val % 64))
    (hout : c.val / 64 ≠ 3 → F = 0) :
    (concatenate S128x256 1 [⟨S128x192, broadcast S128x192 (Scalar.ofBits .f32 0x00000000#32 : Ideal .f32)⟩, ⟨S128x64, extractStridedSlice S128x64 ![0, 768] (k0_pay21 x) slices_S128x1024_o0_768_S128x64⟩] concatenates_S128x192_S128x64_S128x256_d1) (ix2 r c) = (F : EReal) := by
  have hc := c.isLt
  pointwise [k0_pay21]
  split_ifs <;> first
    | (rw [hx, hin (by omega)]; congr 2; first | (show _ + _ = _; omega) | (show c.val = _; omega))
    | (rw [hout (by omega)]; rfl)

/-- Row block 13: the columns of key head 3 are the queries of head 13, the others zero. -/
theorem rowBlock13 (hx : Holds x X) (r : Fin 128) (c : Fin 256) (F : ℝ) (hin : c.val / 64 = 3 → F = X r.val (832 + c.val % 64))
    (hout : c.val / 64 ≠ 3 → F = 0) :
    (concatenate S128x256 1 [⟨S128x192, broadcast S128x192 (Scalar.ofBits .f32 0x00000000#32 : Ideal .f32)⟩, ⟨S128x64, extractStridedSlice S128x64 ![0, 832] (k0_pay21 x) slices_S128x1024_o0_832_S128x64⟩] concatenates_S128x192_S128x64_S128x256_d1) (ix2 r c) = (F : EReal) := by
  have hc := c.isLt
  pointwise [k0_pay21]
  split_ifs <;> first
    | (rw [hx, hin (by omega)]; congr 2; first | (show _ + _ = _; omega) | (show c.val = _; omega))
    | (rw [hout (by omega)]; rfl)

/-- Row block 14: the columns of key head 3 are the queries of head 14, the others zero. -/
theorem rowBlock14 (hx : Holds x X) (r : Fin 128) (c : Fin 256) (F : ℝ) (hin : c.val / 64 = 3 → F = X r.val (896 + c.val % 64))
    (hout : c.val / 64 ≠ 3 → F = 0) :
    (concatenate S128x256 1 [⟨S128x192, broadcast S128x192 (Scalar.ofBits .f32 0x00000000#32 : Ideal .f32)⟩, ⟨S128x64, extractStridedSlice S128x64 ![0, 896] (k0_pay21 x) slices_S128x1024_o0_896_S128x64⟩] concatenates_S128x192_S128x64_S128x256_d1) (ix2 r c) = (F : EReal) := by
  have hc := c.isLt
  pointwise [k0_pay21]
  split_ifs <;> first
    | (rw [hx, hin (by omega)]; congr 2; first | (show _ + _ = _; omega) | (show c.val = _; omega))
    | (rw [hout (by omega)]; rfl)

/-- Row block 15: the columns of key head 3 are the queries of head 15, the others zero. -/
theorem rowBlock15 (hx : Holds x X) (r : Fin 128) (c : Fin 256) (F : ℝ) (hin : c.val / 64 = 3 → F = X r.val (960 + c.val % 64))
    (hout : c.val / 64 ≠ 3 → F = 0) :
    (concatenate S128x256 1 [⟨S128x192, broadcast S128x192 (Scalar.ofBits .f32 0x00000000#32 : Ideal .f32)⟩, ⟨S128x64, extractStridedSlice S128x64 ![0, 960] (k0_pay21 x) slices_S128x1024_o0_960_S128x64⟩] concatenates_S128x192_S128x64_S128x256_d1) (ix2 r c) = (F : EReal) := by
  have hc := c.isLt
  pointwise [k0_pay21]
  split_ifs <;> first
    | (rw [hx, hin (by omega)]; congr 2; first | (show _ + _ = _; omega) | (show c.val = _; omega))
    | (rw [hout (by omega)]; rfl)

theorem rowBlock_cases (hx : Holds x X) (h : Fin 16) (r : Fin 128) (c : Fin 256) (F : ℝ)
    (hin : ∀ g b : ℕ, g = h.val / 4 → b = h.val * 64 → c.val / 64 = g → F = X r.val (b + c.val % 64))
    (hout : ∀ g : ℕ, g = h.val / 4 → c.val / 64 ≠ g → F = 0) : rowBlock x h (ix2 r c) = (F : EReal) := by
  match h with
  | ⟨0, _⟩ =>
    show (k0_pay22 x) (ix2 r c) = _
    exact rowBlock0 hx r c F (hin _ _ (by norm_num) (by norm_num)) (hout _ (by norm_num))
  | ⟨1, _⟩ =>
    show (k0_pay23 x) (ix2 r c) = _
    exact rowBlock1 hx r c F (hin _ _ (by norm_num) (by norm_num)) (hout _ (by norm_num))
  | ⟨2, _⟩ =>
    show (k0_pay24 x) (ix2 r c) = _
    exact rowBlock2 hx r c F (hin _ _ (by norm_num) (by norm_num)) (hout _ (by norm_num))
  | ⟨3, _⟩ =>
    show (k0_pay25 x) (ix2 r c) = _
    exact rowBlock3 hx r c F (hin _ _ (by norm_num) (by norm_num)) (hout _ (by norm_num))
  | ⟨4, _⟩ =>
    show (k0_pay26 x) (ix2 r c) = _
    exact rowBlock4 hx r c F (hin _ _ (by norm_num) (by norm_num)) (hout _ (by norm_num))
  | ⟨5, _⟩ =>
    show (k0_pay27 x) (ix2 r c) = _
    exact rowBlock5 hx r c F (hin _ _ (by norm_num) (by norm_num)) (hout _ (by norm_num))
  | ⟨6, _⟩ =>
    show (k0_pay28 x) (ix2 r c) = _
    exact rowBlock6 hx r c F (hin _ _ (by norm_num) (by norm_num)) (hout _ (by norm_num))
  | ⟨7, _⟩ =>
    show (k0_pay29 x) (ix2 r c) = _
    exact rowBlock7 hx r c F (hin _ _ (by norm_num) (by norm_num)) (hout _ (by norm_num))
  | ⟨8, _⟩ =>
    show (k0_pay30 x) (ix2 r c) = _
    exact rowBlock8 hx r c F (hin _ _ (by norm_num) (by norm_num)) (hout _ (by norm_num))
  | ⟨9, _⟩ =>
    show (k0_pay31 x) (ix2 r c) = _
    exact rowBlock9 hx r c F (hin _ _ (by norm_num) (by norm_num)) (hout _ (by norm_num))
  | ⟨10, _⟩ =>
    show (concatenate S128x256 1 [⟨S128x128, k0_pay32⟩, ⟨S128x64, extractStridedSlice S128x64 ![0, 640] (k0_pay21 x) slices_S128x1024_o0_640_S128x64⟩, ⟨S128x64, broadcast S128x64 (Scalar.ofBits .f32 0x00000000#32 : Ideal .f32)⟩] concatenates_S128x128_S128x64_S128x64_S128x256_d1) (ix2 r c) = _
    exact rowBlock10 hx r c F (hin _ _ (by norm_num) (by norm_num)) (hout _ (by norm_num))
  | ⟨11, _⟩ =>
    show (concatenate S128x256 1 [⟨S128x128, broadcast S128x128 (Scalar.ofBits .f32 0x00000000#32 : Ideal .f32)⟩, ⟨S128x64, extractStridedSlice S128x64 ![0, 704] (k0_pay21 x) slices_S128x1024_o0_704_S128x64⟩, ⟨S128x64, broadcast S128x64 (Scalar.ofBits .f32 0x00000000#32 : Ideal .f32)⟩] concatenates_S128x128_S128x64_S128x64_S128x256_d1) (ix2 r c) = _
    exact rowBlock11 hx r c F (hin _ _ (by norm_num) (by norm_num)) (hout _ (by norm_num))
  | ⟨12, _⟩ =>
    show (concatenate S128x256 1 [⟨S128x192, broadcast S128x192 (Scalar.ofBits .f32 0x00000000#32 : Ideal .f32)⟩, ⟨S128x64, extractStridedSlice S128x64 ![0, 768] (k0_pay21 x) slices_S128x1024_o0_768_S128x64⟩] concatenates_S128x192_S128x64_S128x256_d1) (ix2 r c) = _
    exact rowBlock12 hx r c F (hin _ _ (by norm_num) (by norm_num)) (hout _ (by norm_num))
  | ⟨13, _⟩ =>
    show (concatenate S128x256 1 [⟨S128x192, broadcast S128x192 (Scalar.ofBits .f32 0x00000000#32 : Ideal .f32)⟩, ⟨S128x64, extractStridedSlice S128x64 ![0, 832] (k0_pay21 x) slices_S128x1024_o0_832_S128x64⟩] concatenates_S128x192_S128x64_S128x256_d1) (ix2 r c) = _
    exact rowBlock13 hx r c F (hin _ _ (by norm_num) (by norm_num)) (hout _ (by norm_num))
  | ⟨14, _⟩ =>
    show (concatenate S128x256 1 [⟨S128x192, broadcast S128x192 (Scalar.ofBits .f32 0x00000000#32 : Ideal .f32)⟩, ⟨S128x64, extractStridedSlice S128x64 ![0, 896] (k0_pay21 x) slices_S128x1024_o0_896_S128x64⟩] concatenates_S128x192_S128x64_S128x256_d1) (ix2 r c) = _
    exact rowBlock14 hx r c F (hin _ _ (by norm_num) (by norm_num)) (hout _ (by norm_num))
  | ⟨15, _⟩ =>
    show (concatenate S128x256 1 [⟨S128x192, broadcast S128x192 (Scalar.ofBits .f32 0x00000000#32 : Ideal .f32)⟩, ⟨S128x64, extractStridedSlice S128x64 ![0, 960] (k0_pay21 x) slices_S128x1024_o0_960_S128x64⟩] concatenates_S128x192_S128x64_S128x256_d1) (ix2 r c) = _
    exact rowBlock15 hx r c F (hin _ _ (by norm_num) (by norm_num)) (hout _ (by norm_num))
  | ⟨n + 16, hn⟩ => exact absurd hn (by omega)

/-- Row block `h` at an index. -/
theorem rowBlock_at (hx : Holds x X) (h : Fin 16) (r : Fin 128) (c : Fin 256) :
    rowBlock x h (ix2 r c) = (((if c.val / 64 = h.val / 4 then X r.val (h.val * 64 + c.val % 64) else 0) : ℝ) : EReal) :=
  rowBlock_cases hx h r c _ (fun g b hg hb e => by subst hg; subst hb; exact if_pos e) (fun g hg e => by subst hg; exact if_neg e)

theorem laid_eq : laid x = truncf .bf16 (mulf (concatenate S2048x256 0 (List.ofFn fun n : Fin 16 => (⟨S128x256, rowBlock x n⟩ : (s : Shape) × (s.Idx → Ideal .f32)))
    concatenates_S128x256_S128x256_S128x256_S128x256_S128x256_S128x256_S128x256_S128x256_S128x256_S128x256_S128x256_S128x256_S128x256_S128x256_S128x256_S128x256_S2048x256_d0)
    (broadcast S2048x256 (Scalar.ofBits .f32 0x3E000000#32 : Ideal .f32))) bitsLt_bf16_f32 := rfl

/-- The laid-out queries at an index. -/
theorem laid_at (hx : Holds x X) :
    Holds (laid x) fun r c => (if c / 64 = r / 128 / 4 then X (r % 128) (r / 128 * 64 + c % 64) else 0) * (1 / 8) := fun r c => by
  have hr := r.isLt
  rw [laid_eq]
  show concatenate S2048x256 0 (List.ofFn fun n : Fin 16 => (⟨S128x256, rowBlock x n⟩ : (s : Shape) × (s.Idx → Ideal .f32)))
    concatenates_S128x256_S128x256_S128x256_S128x256_S128x256_S128x256_S128x256_S128x256_S128x256_S128x256_S128x256_S128x256_S128x256_S128x256_S128x256_S128x256_S2048x256_d0 (ix2 r c)
    * Ideal.ofBits .f32 0x3E000000#32 = _
  refine (congrArg (· * Ideal.ofBits .f32 0x3E000000#32) (concatenate_ofFn_apply (t := S2048x256) (s₁ := S128x256) 0 (rowBlock x) _ rfl 128 rfl (ix2 r c) (⟨r.val / 128, by omega⟩ : Fin 16) rfl
    (ix2 (⟨r.val % 128, Nat.mod_lt _ (by norm_num)⟩ : Fin 128) c) rfl
    (fun b hb => by
      match b with
      | ⟨0, _⟩ => exact absurd rfl hb
      | ⟨1, _⟩ => rfl))).trans ?_
  show rowBlock x _ (ix2 _ c) * _ = _
  rw [rowBlock_at hx, eighth, ← EReal.coe_mul]
end

/-! The result's columns: head `h` takes its rows of the sum, in the columns of its key head. -/

/-- The columns a head takes: those of its key head. -/
theorem head_slices (h : Fin 16) : S128x256.Slices ![0, 64 * (h.val / 4)] S128x64 := by
  revert h; decide +kernel

/-- The result's block, as the kernel puts it together from the heads' rows `y`. -/
def gathered (y : Fin 16 → Vec Ideal S128x256 .f32) : FVec Ideal S128x1024 .bf16 :=
  k0_pay1 (k0_pay54 (y 0)) (k0_pay55 (y 1)) (k0_pay56 (y 2)) (k0_pay57 (y 3)) (k0_pay58 (y 4)) (k0_pay59 (y 5)) (k0_pay60 (y 6)) (k0_pay61 (y 7))
    (y 8) (y 9) (y 10) (y 11) (y 12) (y 13) (y 14) (y 15)

theorem gathered_eq (y : Fin 16 → Vec Ideal S128x256 .f32) :
    gathered y = truncf .bf16 (concatenate S128x1024 1 (List.ofFn fun n : Fin 16 =>
      (⟨S128x64, extractStridedSlice S128x64 ![0, 64 * (n.val / 4)] (y n) (head_slices n)⟩ : (s : Shape) × (s.Idx → Ideal .f32)))
      concatenates_S128x64_S128x64_S128x64_S128x64_S128x64_S128x64_S128x64_S128x64_S128x64_S128x64_S128x64_S128x64_S128x64_S128x64_S128x64_S128x64_S128x1024_d1) bitsLt_bf16_f32 := rfl

/-- The result's block at an index. -/
theorem gathered_at {y : Fin 16 → Vec Ideal S128x256 .f32} {O : ℕ → ℕ → ℝ} (hy : ∀ h : Fin 16, Holds (y h) fun r c => O (h.val * 128 + r) c) :
    Holds (gathered y) fun r c => O (c / 64 * 128 + r) (c / 64 / 4 * 64 + c % 64) := fun r c => by
  have hc := c.isLt
  rw [gathered_eq]
  show concatenate S128x1024 1 (List.ofFn fun n : Fin 16 =>
      (⟨S128x64, extractStridedSlice S128x64 ![0, 64 * (n.val / 4)] (y n) (head_slices n)⟩ : (s : Shape) × (s.Idx → Ideal .f32)))
      concatenates_S128x64_S128x64_S128x64_S128x64_S128x64_S128x64_S128x64_S128x64_S128x64_S128x64_S128x64_S128x64_S128x64_S128x64_S128x64_S128x64_S128x1024_d1 (ix2 r c) = _
  refine (concatenate_ofFn_apply (t := S128x1024) (s₁ := S128x64) 1 (fun n : Fin 16 => extractStridedSlice S128x64 ![0, 64 * (n.val / 4)] (y n) (head_slices n)) _ rfl 64 rfl
    (ix2 r c) (⟨c.val / 64, by omega⟩ : Fin 16) rfl
    (ix2 r (⟨c.val % 64, Nat.mod_lt _ (by norm_num)⟩ : Fin 64)) rfl
    (fun b hb => by
      match b with
      | ⟨0, _⟩ => rfl
      | ⟨1, _⟩ => exact absurd rfl hb)).trans ?_
  have e := hy (⟨c.val / 64, by omega⟩ : Fin 16) r (⟨64 * (c.val / 64 / 4) + c.val % 64, by omega⟩ : Fin 256)
  dsimp only at e
  show _ = ((O (c.val / 64 * 128 + r.val) (c.val / 64 / 4 * 64 + c.val % 64) : ℝ) : EReal)
  rw [show c.val / 64 / 4 * 64 + c.val % 64 = 64 * (c.val / 64 / 4) + c.val % 64 by omega, ← e]
  show y _ _ = y _ _
  congr 1
  funext a
  refine Fin.ext ?_
  match a with
  | ⟨0, _⟩ => show 0 + _ = _; exact Nat.zero_add _
  | ⟨1, _⟩ => rfl

end Cert.Tile

end
-- ==== Proof.Sweep.lean ====
/-
  THE SWEEP OVER THE TILES: one step of the sweep on finite numbers, the words the loop computes, and what the
  accumulator and the remainder hold after every trip.
-/
module

public import proofs.«01_k».proof.Proof.Heads
public import proofs.«01_k».proof.Proof.Gen.KernelIdeal.Frame
public import Idealize.ShloMosaic.Lib.Tactic
public import Idealize.ShloMosaic.Lib.LoopRemainder
public import Idealize.ShloMosaic.Lib.Pipeline.ValueKit.Tiles

@[expose] public section

set_option maxRecDepth 16384

noncomputable section

open Idealize.ShloMosaic Idealize.ShloMosaic.TcCoe Idealize.SL.Sem Cert.KernelIdeal Cert.KernelIdeal.Gen

namespace Cert.Tile

theorem zeros : (![0, 0] : Fin 2 → ℕ) = fun _ => 0 := funext fun a => by fin_cases a <;> rfl

/-! ## One tile, on the real numbers -/

section
variable {q : FVec Ideal S2048x256 .bf16} {k v : Vec Ideal S128x256 .bf16} {t : Vec Ideal S128x128 .bf16} {c : Vec Ideal S2048x128 .f32}
variable {Q K V : ℕ → ℕ → ℝ}

/-- The score of row `r` of the queries against key `n` of the sequence. -/
def dot (Q K : ℕ → ℕ → ℝ) (r n : ℕ) : ℝ := ∑ x : Fin 256, Q r x.val * K n x.val

/-- What one tile, of the keys from `lo` on, adds to the weighted sum of a row that may see all of them. -/
def tileSum (Q K V : ℕ → ℕ → ℝ) (T : ℕ → ℕ) (lo r x : ℕ) : ℝ :=
  ∑ s : Fin 128, Real.exp (Stick.ls (dot Q K r (lo + s.val))
    + (∑ a : Fin 128, Stick.lb (dot Q K r (lo + a.val)) * (if s.val < a.val then 1 else 0)) + Stick.left (dot Q K r) (lo + 128) (T r)) * V (lo + s.val) x

theorem mix_tileSum (T : ℕ → ℕ) (lo r x : ℕ) (h : lo + 128 ≤ T r) :
    Stick.mix (dot Q K r) (fun n => V n x) (lo + 128) (T r) + tileSum Q K V T lo r x = Stick.mix (dot Q K r) (fun n => V n x) lo (T r) :=
  Stick.mix_tile (dot Q K r) (fun n => V n x) lo (T r) h

theorem values_tile {T : ℕ → ℕ} {lo : ℕ} (hq : Holds q Q) (hk : Holds k fun s x => K (lo + s) x) (hv : Holds v fun s x => V (lo + s) x)
    (ht : Holds t tri) (hc : Holds c fun r _ => Stick.left (dot Q K r) (lo + 128) (T r)) :
    Holds (k0_pay5 q c k v t) fun r x => tileSum Q K V T lo r x := fun r x => values_at hq hk hv ht hc r x

theorem leave_tile {T : ℕ → ℕ} {lo : ℕ} (hq : Holds q Q) (hk : Holds k fun s x => K (lo + s) x)
    (hc : Holds c fun r _ => Stick.left (dot Q K r) (lo + 128) (T r)) (hT : ∀ r, lo + 128 ≤ T r) :
    Holds (k0_pay6 c (k0_pay4 q k)) fun r _ => Stick.left (dot Q K r) lo (T r) := fun r s => by
  rw [leave_at hq hk hc]
  exact congrArg _ (Stick.left_tile (dot Q K r.val) lo (T r.val) (hT _))

/-- A load of everything reads what is there. -/
theorem holds_ld {A B : ℕ} {X : (⟨2, ![A, B]⟩ : Shape).Idx → Elt Ideal .f32} {R : ℕ → ℕ → ℝ} (h : Holds X R) (inb) :
    Holds (A := A) (B := B) (View.ld (Val := Elt Ideal) X (Rect.unit (s := ⟨2, ![A, B]⟩) ![0, 0] (⟨2, ![A, B]⟩ : Shape).size inb)) R := by
  rw [View.ld_unit_zero zeros]; exact h

/-- A load of everything reads what is there. -/
theorem holds_ld' {A B : ℕ} {X : (⟨2, ![A, B]⟩ : Shape).Idx → Elt Ideal .bf16} {R : ℕ → ℕ → ℝ} (h : Holds X R) (inb) :
    Holds (A := A) (B := B) (View.ld (Val := Elt Ideal) X (Rect.unit (s := ⟨2, ![A, B]⟩) ![0, 0] (⟨2, ![A, B]⟩ : Shape).size inb)) R := by
  rw [View.ld_unit_zero zeros]; exact h

/-- The rows a load at row `lo` reads. -/
theorem rows_at {x : Vec Ideal S4096x256 .bf16} {X : ℕ → ℕ → ℝ} (hx : Holds x X) (off : Fin 2 → ℕ) (inb) (lo : ℕ) (h0 : off 0 = lo) (h1 : off 1 = 0) :
    Holds (A := 128) (B := 256) (View.ld (Val := Elt Ideal) x (Rect.unit (s := S4096x256) off S128x256.size inb)) fun s c => X (lo + s) c := fun s c => by
  have hb : lo + s.val < 4096 := by
    have h := inb 0
    have e : off 0 + 128 ≤ 4096 := h
    have := s.isLt
    omega
  have e := hx (⟨lo + s.val, hb⟩ : Fin 4096) c
  refine (View.ld_unit_apply_of x off S128x256.size inb (ix2 s c) (ix2 (⟨lo + s.val, hb⟩ : Fin 4096) c) fun a => ?_).trans e
  match a with
  | ⟨0, _⟩ => show lo + s.val = off 0 + s.val; rw [h0]
  | ⟨1, _⟩ => show c.val = off 1 + c.val; rw [h1, Nat.zero_add]

end

/-! ## The words of the loop -/

/-- The grid point of the two coordinates. -/
def point (n : Fin 4) (j : Fin 32) : grid0.Coords := fun d => match d with
  | ⟨0, _⟩ => n
  | ⟨1, _⟩ => j

theorem point_eta (i : grid0.Coords) : i = point (i 0) (i 1) := by
  funext d
  match d with
  | ⟨0, _⟩ => rfl
  | ⟨1, _⟩ => rfl

theorem trips_point : ∀ (n : Fin 4) (j : Fin 32), (k0_t1_loop (point n j)).trips = j.val / 2 := by decide +kernel

/-- The loop makes one trip for every two tiles before the diagonal. -/
theorem trips_eq (i : grid0.Coords) : (k0_t1_loop i).trips = (i 1).val / 2 := by
  rw [point_eta i]; exact trips_point _ _

theorem off1_point : ∀ (n : Fin 4) (j : Fin 32), k0_off1 (point n j) = ![128 * j.val, 0] := by decide +kernel

/-- The diagonal tile's rows. -/
theorem off1_eq (i : grid0.Coords) : k0_off1 i = ![128 * (i 1).val, 0] := by
  rw [point_eta i]; exact off1_point _ _

theorem off2_point : ∀ (n : Fin 4) (j : Fin 32) (k : Fin (k0_t1_loop (point n j)).trips),
    k0_off2 (point n j) k 1#32 = ![128 * (j.val - 1 - 2 * k.val), 0] ∧ k0_off2 (point n j) k 2#32 = ![128 * (j.val - 2 - 2 * k.val), 0] := by decide +kernel

/-- The rows of a trip's two tiles. -/
theorem off2_eq (i : grid0.Coords) (k : Fin (k0_t1_loop i).trips) :
    k0_off2 i k 1#32 = ![128 * ((i 1).val - 1 - 2 * k.val), 0] ∧ k0_off2 i k 2#32 = ![128 * ((i 1).val - 2 - 2 * k.val), 0] := by
  revert k; rw [point_eta i]; exact off2_point _ _

/-! ## One trip -/

section
variable (𝒱 : Variants) (dev : Dev nD) (bd : Option 𝒱.V) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x128 .bf16) (harg5 : arg5.IsWhole) (arg6 : Memref sig .tc .vmem S128x1024 .bf16) (harg6 : arg6.IsWhole) (arg7 : Memref sig .tc .vmem S2048x256 .f32) (harg7 : arg7.IsWhole) (arg8 : Memref sig .tc .vmem S2048x128 .f32) (harg8 : arg8.IsWhole)
variable (arg1 w0 w1 : BitVec 32) (q : FVec Ideal S2048x256 .bf16) (x1 x2 : Vec Ideal S4096x256 .bf16) (x3 : Vec Ideal S128x128 .bf16)

/-- The row a trip `k` starts from: its tiles are the two before it. -/
def low (i : grid0.Coords) (k : ℕ) : ℕ := 128 * ((i 1).val - 2 * k)

/-- What a trip stores, at an index. -/
theorem trip_holds {Q K V : ℕ → ℕ → ℝ} {T : ℕ → ℕ} (k : Fin (k0_t1_loop i).trips) (f7 : BufTy.Contents (Elt Ideal) arg7.view.ty) (f8 : BufTy.Contents (Elt Ideal) arg8.view.ty)
    (hT : ∀ r, 128 * (i 1).val ≤ T r)
    (hq : Holds q Q) (h1 : Holds x1 K) (h2 : Holds x2 V) (h3 : Holds x3 tri)
    (h7 : Holds (arg7.view.read (Elt Ideal) f7) fun r x => Stick.mix (dot Q K r) (fun n => V n x) (low i k.val) (T r))
    (h8 : Holds (arg8.view.read (Elt Ideal) f8) fun r _ => Stick.left (dot Q K r) (low i k.val) (T r)) (L7 L8) :
    (Holds (View.canon ((trip_k0_t1 (F := Ideal) 𝒱 dev bd i arg2 harg2 arg3 harg3 arg4 harg4 arg5 harg5 arg6 harg6 arg7 harg7 arg8 harg8 arg1 q w0 w1 (harg3.unread x1) (harg4.unread x2) (harg5.unread x3) k).1 f7 f8 ++ L7))
      fun r x => Stick.mix (dot Q K r) (fun n => V n x) (low i (k.val + 1)) (T r))
    ∧ (Holds (View.canon ((trip_k0_t1 (F := Ideal) 𝒱 dev bd i arg2 harg2 arg3 harg3 arg4 harg4 arg5 harg5 arg6 harg6 arg7 harg7 arg8 harg8 arg1 q w0 w1 (harg3.unread x1) (harg4.unread x2) (harg5.unread x3) k).2.1 f7 f8 ++ L8))
      fun r _ => Stick.left (dot Q K r) (low i (k.val + 1)) (T r)) := by
  have hk : k.val < (i 1).val / 2 := lt_of_lt_of_eq k.isLt (trips_eq i)
  have hj : (i 1).val < 32 := (i 1).isLt
  obtain ⟨o1, o2⟩ := off2_eq i k
  have ea : low i k.val = 128 * ((i 1).val - 1 - 2 * k.val) + 128 := by unfold low; omega
  have eb : 128 * ((i 1).val - 1 - 2 * k.val) = 128 * ((i 1).val - 2 - 2 * k.val) + 128 := by omega
  have ec : low i (k.val + 1) = 128 * ((i 1).val - 2 - 2 * k.val) := by unfold low; omega
  rw [ea] at h7 h8
  rw [ec]
  have ha : ∀ r, 128 * ((i 1).val - 1 - 2 * k.val) + 128 ≤ T r := fun r => le_trans (by omega) (hT r)
  have hb : ∀ r, 128 * ((i 1).val - 2 - 2 * k.val) + 128 ≤ T r := fun r => le_trans (by omega) (hT r)
  have k1 := fun inb => rows_at h1 (k0_off2 i k 1#32) inb (128 * ((i 1).val - 1 - 2 * k.val)) (congrFun o1 0) (congrFun o1 1)
  have v1 := fun inb => rows_at h2 (k0_off2 i k 1#32) inb (128 * ((i 1).val - 1 - 2 * k.val)) (congrFun o1 0) (congrFun o1 1)
  have k2 := fun inb => rows_at h1 (k0_off2 i k 2#32) inb (128 * ((i 1).val - 2 - 2 * k.val)) (congrFun o2 0) (congrFun o2 1)
  have v2 := fun inb => rows_at h2 (k0_off2 i k 2#32) inb (128 * ((i 1).val - 2 - 2 * k.val)) (congrFun o2 0) (congrFun o2 1)
  have c1 := fun i8 inb => leave_tile hq (k1 inb) (holds_ld h8 i8) ha
  rw [eb] at c1
  constructor
  · unfold trip_k0_t1
    dsimp only
    sl_unfold_words
    simp only [List.cons_append, List.nil_append]
    refine (congrArg (Holds · _) (View.canon_cons_unit_zero zeros _ _ _)).mpr fun r x => ?_
    simp only [View.readAt_eq_ld, Memref.IsWhole.read_unread]
    refine (acc_both _ _ _ r x).trans ?_
    refine (congrArg₂ (· + ·) (holds_ld h7 _ r x) (congrArg₂ (· + ·)
      (values_tile hq (k1 _) (v1 _) (holds_ld' h3 _) (holds_ld h8 _) r x)
      ((congrFun (values_second _) _).trans (values_tile hq (k2 _) (v2 _) (holds_ld' h3 _) (c1 _ _) r x)))).trans ?_
    rw [← EReal.coe_add, ← EReal.coe_add, ← add_assoc, mix_tileSum T _ _ _ (ha _), eb, mix_tileSum T _ _ _ (hb _)]
  · unfold trip_k0_t1
    dsimp only
    sl_unfold_words
    simp only [List.cons_append, List.nil_append]
    refine (congrArg (Holds · _) (View.canon_cons_unit_zero zeros _ _ _)).mpr fun r s => ?_
    simp only [View.readAt_eq_ld, Memref.IsWhole.read_unread]
    exact (leave_second _ r s).trans (leave_tile hq (k2 _) (c1 _ _) hb r s)

/-- After `k` trips the accumulator holds the weighted sum over the keys from `low i k` on, and the remainder what they leave. -/
theorem loop_holds {Q K V : ℕ → ℕ → ℝ} {T : ℕ → ℕ} (hT : ∀ r, 128 * (i 1).val ≤ T r)
    (hq : Holds q Q) (h1 : Holds x1 K) (h2 : Holds x2 V) (h3 : Holds x3 tri) (L7 : List (View.Piece (Elt Ideal) S2048x256 .f32)) (L8 : List (View.Piece (Elt Ideal) S2048x128 .f32))
    (h7 : Holds (View.canon L7) fun r x => Stick.mix (dot Q K r) (fun n => V n x) (low i 0) (T r))
    (h8 : Holds (View.canon L8) fun r _ => Stick.left (dot Q K r) (low i 0) (T r)) (k : ℕ) (hk : k ≤ (k0_t1_loop i).trips) :
    (Holds (View.canon ((pb_k0_t1 (F := Ideal) 𝒱 dev bd i arg2 harg2 arg3 harg3 arg4 harg4 arg5 harg5 arg6 harg6 arg7 harg7 arg8 harg8 arg1 q w0 w1 (harg3.unread x1) (harg4.unread x2) (harg5.unread x3)
        (arg7.view.writes (Elt Ideal) arg7.view.junk L7) (arg8.view.writes (Elt Ideal) arg8.view.junk L8) k).1 ++ L7))
      fun r x => Stick.mix (dot Q K r) (fun n => V n x) (low i k) (T r))
    ∧ (Holds (View.canon ((pb_k0_t1 (F := Ideal) 𝒱 dev bd i arg2 harg2 arg3 harg3 arg4 harg4 arg5 harg5 arg6 harg6 arg7 harg7 arg8 harg8 arg1 q w0 w1 (harg3.unread x1) (harg4.unread x2) (harg5.unread x3)
        (arg7.view.writes (Elt Ideal) arg7.view.junk L7) (arg8.view.writes (Elt Ideal) arg8.view.junk L8) k).2 ++ L8))
      fun r _ => Stick.left (dot Q K r) (low i k) (T r)) := by
  induction k with
  | zero => exact ⟨h7, h8⟩
  | succ k ih =>
    obtain ⟨i7, i8⟩ := ih (Nat.le_of_succ_le hk)
    rw [pb_k0_t1_succ (F := Ideal) 𝒱 dev bd i arg2 harg2 arg3 harg3 arg4 harg4 arg5 harg5 arg6 harg6 arg7 harg7 arg8 harg8 arg1 q w0 w1 (harg3.unread x1) (harg4.unread x2) (harg5.unread x3)
        (arg7.view.writes (Elt Ideal) arg7.view.junk L7) (arg8.view.writes (Elt Ideal) arg8.view.junk L8) ⟨k, hk⟩]
    dsimp only
    rw [List.append_assoc, List.append_assoc]
    refine trip_holds 𝒱 dev bd i arg2 harg2 arg3 harg3 arg4 harg4 arg5 harg5 arg6 harg6 arg7 harg7 arg8 harg8 arg1 w0 w1 q x1 x2 x3 ⟨k, hk⟩ _ _ hT hq h1 h2 h3 ?_ ?_ _ _
    · rw [← View.writes_append, View.read_writes_junk_eq_canon]; exact i7
    · rw [← View.writes_append, View.read_writes_junk_eq_canon]; exact i8

/-- The loop that follows makes no trip. -/
theorem rest_trips (i : grid0.Coords) : (k0_t2_loop i).trips = 0 := Scf.rem_trips _ _

end

end Cert.Tile

end
-- ==== Proof.Block.lean ====
/-
  ONE BLOCK OF THE RESULT: what the body of the kernel leaves for block `j` of 128 queries, at an index.
-/
module

public import proofs.«01_k».proof.Proof.Sweep

@[expose] public section

set_option maxRecDepth 16384

noncomputable section

open Idealize.ShloMosaic Idealize.ShloMosaic.TcCoe Idealize.SL.Sem Cert.KernelIdeal Cert.KernelIdeal.Gen

namespace Cert.Tile

/-- The laid-out queries, on the real numbers. -/
def laidReal (X : ℕ → ℕ → ℝ) (r c : ℕ) : ℝ := (if c / 64 = r / 128 / 4 then X (r % 128) (r / 128 * 64 + c % 64) else 0) * (1 / 8)

/-- How many keys row `r` of block `j` may see. -/
def seen (j r : ℕ) : ℕ := 128 * j + r % 128

/-- The accumulator of block `j` when all tiles are done. -/
def accReal (X K V : ℕ → ℕ → ℝ) (j r x : ℕ) : ℝ := Stick.mix (dot (laidReal X) K r) (fun n => V n x) 0 (seen j r)

/-- The block's result: head `c / 64` of row `r`. -/
def blockReal (X K V : ℕ → ℕ → ℝ) (j r c : ℕ) : ℝ := accReal X K V j (c / 64 * 128 + r) (c / 64 / 4 * 64 + c % 64)

/-- A load of everything that was written reads what the writes left. -/
theorem holds_cov {A B : ℕ} (v : View sig .tc .vmem (⟨2, ![A, B]⟩ : Shape) .f32) {L : List (View.Piece (Elt Ideal) (⟨2, ![A, B]⟩ : Shape) .f32)} {R : ℕ → ℕ → ℝ}
    (h : Holds (View.canon L) R) (inb) :
    Holds (A := A) (B := B) (v.readCov L (Rect.unit (s := ⟨2, ![A, B]⟩) ![0, 0] (⟨2, ![A, B]⟩ : Shape).size inb).toLoadRect) R := by
  rw [View.readCov_eq_canon']
  exact holds_ld h inb

/-- The result's block takes the heads' rows out of the accumulator. -/
theorem gather_holds (v : View sig .tc .vmem S2048x256 .f32) {L : List (View.Piece (Elt Ideal) S2048x256 .f32)} {O : ℕ → ℕ → ℝ} (h : Holds (View.canon L) O) :
    Holds (A := 128) (B := 1024) (k0_pay1 (k0_pay54 (v.readCov L (Rect.unit (s := S2048x256) ![0, 0] S128x256.size inb_S2048x256_S128x256_0_0).toLoadRect)) (k0_pay55 (v.readCov L (Rect.unit (s := S2048x256) ![128, 0] S128x256.size inb_S2048x256_S128x256_128_0).toLoadRect)) (k0_pay56 (v.readCov L (Rect.unit (s := S2048x256) ![256, 0] S128x256.size inb_S2048x256_S128x256_256_0).toLoadRect)) (k0_pay57 (v.readCov L (Rect.unit (s := S2048x256) ![384, 0] S128x256.size inb_S2048x256_S128x256_384_0).toLoadRect)) (k0_pay58 (v.readCov L (Rect.unit (s := S2048x256) ![512, 0] S128x256.size inb_S2048x256_S128x256_512_0).toLoadRect)) (k0_pay59 (v.readCov L (Rect.unit (s := S2048x256) ![640, 0] S128x256.size inb_S2048x256_S128x256_640_0).toLoadRect)) (k0_pay60 (v.readCov L (Rect.unit (s := S2048x256) ![768, 0] S128x256.size inb_S2048x256_S128x256_768_0).toLoadRect)) (k0_pay61 (v.readCov L (Rect.unit (s := S2048x256) ![896, 0] S128x256.size inb_S2048x256_S128x256_896_0).toLoadRect)) (v.readCov L (Rect.unit (s := S2048x256) ![1024, 0] S128x256.size inb_S2048x256_S128x256_1024_0).toLoadRect) (v.readCov L (Rect.unit (s := S2048x256) ![1152, 0] S128x256.size inb_S2048x256_S128x256_1152_0).toLoadRect) (v.readCov L (Rect.unit (s := S2048x256) ![1280, 0] S128x256.size inb_S2048x256_S128x256_1280_0).toLoadRect) (v.readCov L (Rect.unit (s := S2048x256) ![1408, 0] S128x256.size inb_S2048x256_S128x256_1408_0).toLoadRect) (v.readCov L (Rect.unit (s := S2048x256) ![1536, 0] S128x256.size inb_S2048x256_S128x256_1536_0).toLoadRect) (v.readCov L (Rect.unit (s := S2048x256) ![1664, 0] S128x256.size inb_S2048x256_S128x256_1664_0).toLoadRect) (v.readCov L (Rect.unit (s := S2048x256) ![1792, 0] S128x256.size inb_S2048x256_S128x256_1792_0).toLoadRect) (v.readCov L (Rect.unit (s := S2048x256) ![1920, 0] S128x256.size inb_S2048x256_S128x256_1920_0).toLoadRect)) fun r c => O (c / 64 * 128 + r) (c / 64 / 4 * 64 + c % 64) := by
  have inb : ∀ n : Fin 16, ∀ a, (![128 * n.val, 0] : Fin 2 → ℕ) a + S128x256.size a ≤ S2048x256.size a := by decide +kernel
  refine gathered_at (y := fun n => v.readCov L (Rect.unit (s := S2048x256) ![128 * n.val, 0] S128x256.size (inb n)).toLoadRect) fun n r c => ?_
  have hn := n.isLt
  have hr := r.isLt
  rw [View.readCov_eq_canon']
  refine Eq.trans ?_ (h (⟨n.val * 128 + r.val, by omega⟩ : Fin 2048) c)
  show View.canon L _ = View.canon L _
  congr 1
  funext a
  refine Fin.ext ?_
  match a with
  | ⟨0, _⟩ => show 128 * n.val + 1 * r.val = n.val * 128 + r.val; omega
  | ⟨1, _⟩ => show 0 + 1 * c.val = c.val; omega

section
variable (dev : Dev nD) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x128 .bf16) (harg5 : arg5.IsWhole) (arg6 : Memref sig .tc .vmem S128x1024 .bf16) (harg6 : arg6.IsWhole) (arg7 : Memref sig .tc .vmem S2048x256 .f32) (harg7 : arg7.IsWhole) (arg8 : Memref sig .tc .vmem S2048x128 .f32) (harg8 : arg8.IsWhole)

/-- The loop that makes no trip writes nothing. -/
theorem rest_nil (𝒱 : Variants) (bd : Option 𝒱.V) (arg1 w0 w1 : BitVec 32) (q : FVec Ideal S2048x256 .bf16) (X3 X4 X5 G7 G8) (n : ℕ) (hn : n = 0) :
    pb_k0_t2 (F := Ideal) 𝒱 dev bd i arg2 harg2 arg3 harg3 arg4 harg4 arg5 harg5 arg6 harg6 arg7 harg7 arg8 harg8 arg1 q w0 w1 X3 X4 X5 G7 G8 n = ([], []) := by subst hn; rfl

variable {x0 : Vec Ideal S128x1024 .bf16} {x1 x2 : Vec Ideal S4096x256 .bf16} {x3 : Vec Ideal S128x128 .bf16} {X K V : ℕ → ℕ → ℝ}

/-- The tiles of the loop all taken: the accumulator, -/
theorem loop_acc {𝒱 : Variants} {bd : Option 𝒱.V} {arg1 w0 w1 : BitVec 32} {q : FVec Ideal S2048x256 .bf16} {Q : ℕ → ℕ → ℝ} {T : ℕ → ℕ} (hT : ∀ r, 128 * (i 1).val ≤ T r)
    (hq : Holds q Q) (h1 : Holds x1 K) (h2 : Holds x2 V) (h3 : Holds x3 tri) {L7 : List (View.Piece (Elt Ideal) S2048x256 .f32)} {L8 : List (View.Piece (Elt Ideal) S2048x128 .f32)}
    {n lo : ℕ} (hn : n = (i 1).val / 2) (hlo : lo = 128 * ((i 1).val % 2))
    (h7 : Holds (View.canon L7) fun r x => Stick.mix (dot Q K r) (fun n => V n x) (128 * (i 1).val) (T r))
    (h8 : Holds (View.canon L8) fun r _ => Stick.left (dot Q K r) (128 * (i 1).val) (T r)) :
    Holds (View.canon ((pb_k0_t1 (F := Ideal) 𝒱 dev bd i arg2 harg2 arg3 harg3 arg4 harg4 arg5 harg5 arg6 harg6 arg7 harg7 arg8 harg8 arg1 q w0 w1 (harg3.unread x1) (harg4.unread x2) (harg5.unread x3)
        (arg7.view.writes (Elt Ideal) arg7.view.junk L7) (arg8.view.writes (Elt Ideal) arg8.view.junk L8) n).1 ++ L7))
      fun r x => Stick.mix (dot Q K r) (fun n => V n x) lo (T r) := by
  have hl : low i n = lo := by unfold low; omega
  rw [← hl]
  exact (loop_holds 𝒱 dev bd i arg2 harg2 arg3 harg3 arg4 harg4 arg5 harg5 arg6 harg6 arg7 harg7 arg8 harg8 arg1 w0 w1 q x1 x2 x3 hT hq h1 h2 h3 L7 L8 h7 h8 n (le_of_eq (hn.trans (trips_eq i).symm))).1

/-- and the remainder. -/
theorem loop_left {𝒱 : Variants} {bd : Option 𝒱.V} {arg1 w0 w1 : BitVec 32} {q : FVec Ideal S2048x256 .bf16} {Q : ℕ → ℕ → ℝ} {T : ℕ → ℕ} (hT : ∀ r, 128 * (i 1).val ≤ T r)
    (hq : Holds q Q) (h1 : Holds x1 K) (h2 : Holds x2 V) (h3 : Holds x3 tri) {L7 : List (View.Piece (Elt Ideal) S2048x256 .f32)} {L8 : List (View.Piece (Elt Ideal) S2048x128 .f32)}
    {n lo : ℕ} (hn : n = (i 1).val / 2) (hlo : lo = 128 * ((i 1).val % 2))
    (h7 : Holds (View.canon L7) fun r x => Stick.mix (dot Q K r) (fun n => V n x) (128 * (i 1).val) (T r))
    (h8 : Holds (View.canon L8) fun r _ => Stick.left (dot Q K r) (128 * (i 1).val) (T r)) :
    Holds (View.canon ((pb_k0_t1 (F := Ideal) 𝒱 dev bd i arg2 harg2 arg3 harg3 arg4 harg4 arg5 harg5 arg6 harg6 arg7 harg7 arg8 harg8 arg1 q w0 w1 (harg3.unread x1) (harg4.unread x2) (harg5.unread x3)
        (arg7.view.writes (Elt Ideal) arg7.view.junk L7) (arg8.view.writes (Elt Ideal) arg8.view.junk L8) n).2 ++ L8))
      fun r _ => Stick.left (dot Q K r) lo (T r) := by
  have hl : low i n = lo := by unfold low; omega
  rw [← hl]
  exact (loop_holds 𝒱 dev bd i arg2 harg2 arg3 harg3 arg4 harg4 arg5 harg5 arg6 harg6 arg7 harg7 arg8 harg8 arg1 w0 w1 q x1 x2 x3 hT hq h1 h2 h3 L7 L8 h7 h8 n (le_of_eq (hn.trans (trips_eq i).symm))).2

/-- The remainder before the first tile, as it is read back. -/
theorem start_zero (v : View sig .tc .vmem S2048x128 .f32) (inb) : Holds (A := 2048) (B := 128)
    (v.readCov (Val := Elt Ideal) [⟨Rect.unit (s := S2048x128) ![0, 0] S2048x128.size inb, (k0_pay35 : FVec Ideal S2048x128 .f32)⟩] (Rect.unit (s := S2048x128) ![0, 0] S2048x128.size inb).toLoadRect) fun _ _ => 0 := by
  rw [View.readCov_unit_zero v zeros]; exact leave_zero

section
variable {j : ℕ} {q : FVec Ideal S2048x256 .bf16} {k v : Vec Ideal S128x256 .bf16} {t : Vec Ideal S128x128 .bf16} {c : Vec Ideal S2048x128 .f32} {Q : ℕ → ℕ → ℝ}

/-- The diagonal tile, stored into the accumulator: -/
theorem diag_acc (hq : Holds q Q) (hk : Holds k fun s x => K (128 * j + s) x) (hv : Holds v fun s x => V (128 * j + s) x) (ht : Holds t tri) (hc : Holds c fun _ _ => 0)
    (inb) (L : List (View.Piece (Elt Ideal) S2048x256 .f32)) :
    Holds (View.canon (⟨Rect.unit (s := S2048x256) ![0, 0] S2048x256.size inb, k0_pay48 c (k0_pay39 (128#32) k0_pay36 k0_pay37 k0_pay38) v (k0_pay41 t) (k0_pay43 q k)
        (k0_pay46 q (128#32) k0_pay36 k0_pay37 k0_pay38 k) (k0_pay47 q (128#32) k0_pay36 k0_pay37 k0_pay38 k t)
        (constant S2048x128 .f32 0#32)⟩ :: L)) fun r x => Stick.mix (dot Q K r) (fun n => V n x) (128 * j) (seen j r) := by
  rw [View.canon_cons_unit_zero zeros]
  exact fun r x => (values_diag_at hq hk hv ht hc r x).trans
    (congrArg _ (Stick.mix_diag (dot Q K r.val) (fun n => V n x.val) (128 * j) (r.val % 128) (Nat.mod_lt _ (by norm_num))))

/-- and into the remainder. -/
theorem diag_left (hq : Holds q Q) (hk : Holds k fun s x => K (128 * j + s) x) (hc : Holds c fun _ _ => 0)
    (inb) (L : List (View.Piece (Elt Ideal) S2048x128 .f32)) :
    Holds (View.canon (⟨Rect.unit (s := S2048x128) ![0, 0] S2048x128.size inb, k0_pay49 c (k0_pay44 q (128#32) k0_pay36 k0_pay37 k0_pay38 k)⟩ :: L))
      fun r _ => Stick.left (dot Q K r) (128 * j) (seen j r) := by
  rw [View.canon_cons_unit_zero zeros]
  exact fun r s => (leave_diag_at hq hk hc r s).trans
    (congrArg _ (Stick.left_diag (dot Q K r.val) (128 * j) (r.val % 128) (Nat.mod_lt _ (by norm_num))))
end

set_option maxHeartbeats 4000000 in
/-- An even block: every tile before the diagonal belongs to a trip. -/
theorem block_A (hc0) (hj : (i 1).val % 2 = 0) (h0 : Holds x0 X) (h1 : Holds x1 K) (h2 : Holds x2 V) (h3 : Holds x3 tri) :
    Holds (out0_A_4 (F := Ideal) dev i arg2 harg2 arg3 harg3 arg4 harg4 arg5 harg5 arg6 harg6 arg7 harg7 arg8 harg8 hc0 x0 x1 x2 x3) (blockReal X K V (i 1).val) := by
  have h0' : Holds (A := 128) (B := 1024) (View.ld (Val := Elt Ideal) x0 (Rect.unit (s := S128x1024) ![0, 0] S128x1024.size inb_S128x1024_S128x1024_0_0)) X := holds_ld' h0 _
  have hq : Holds _ (laidReal X) := laid_at (x := View.ld (Val := Elt Ideal) x0 (Rect.unit (s := S128x1024) ![0, 0] S128x1024.size inb_S128x1024_S128x1024_0_0)) h0'
  have hk := fun inb => rows_at h1 (k0_off1 i) inb (128 * (i 1).val) (congrFun (off1_eq i) 0) (congrFun (off1_eq i) 1)
  have hv := fun inb => rows_at h2 (k0_off1 i) inb (128 * (i 1).val) (congrFun (off1_eq i) 0) (congrFun (off1_eq i) 1)
  have ht := holds_ld' h3 inb_S128x128_S128x128_0_0
  have hT : ∀ r, 128 * (i 1).val ≤ seen (i 1).val r := fun r => Nat.le_add_right _ _
  unfold out0_A_4
  rw [View.read_writes_eq_canon _ _ _ (cover0_A_4 dev i arg2 harg2 arg3 harg3 arg4 harg4 arg5 harg5 arg6 harg6 arg7 harg7 arg8 harg8 hc0 x0 x1 x2 x3)]
  unfold kernelRun0_A
  dsimp only
  sl_unfold_words
  refine (congrArg (Holds · _) (View.canon_unit_zero zeros _ _)).mpr ?_
  refine gather_holds arg7.view ?_
  rw [rest_nil dev i arg2 harg2 arg3 harg3 arg4 harg4 arg5 harg5 arg6 harg6 arg7 harg7 arg8 harg8 _ _ _ _ _ _ _ _ _ _ _ _ (rest_trips i)]
  rw [List.nil_append]
  simp only [View.readAt_eq_ld, Memref.IsWhole.read_unread]
  refine loop_acc dev i arg2 harg2 arg3 harg3 arg4 harg4 arg5 harg5 arg6 harg6 arg7 harg7 arg8 harg8 (T := seen (i 1).val) (lo := 0) hT hq h1 h2 h3 (trips_eq i) (by omega) ?_ ?_
  · exact diag_acc hq (hk _) (hv _) ht (start_zero _ _) _ _
  · exact diag_left hq (hk _) (start_zero _ _) _ _

/-- The first tile of the sequence, taken last. -/
theorem last_acc {q : FVec Ideal S2048x256 .bf16} {k v : Vec Ideal S128x256 .bf16} {t : Vec Ideal S128x128 .bf16} {c : Vec Ideal S2048x128 .f32} {o : Vec Ideal S2048x256 .f32}
    {Q : ℕ → ℕ → ℝ} {T : ℕ → ℕ} (hT : ∀ r, 128 ≤ T r) (hq : Holds q Q) (hk : Holds k fun s x => K (0 + s) x) (hv : Holds v fun s x => V (0 + s) x) (ht : Holds t tri)
    (hc : Holds c fun r _ => Stick.left (dot Q K r) 128 (T r)) (ho : Holds o fun r x => Stick.mix (dot Q K r) (fun n => V n x) 128 (T r))
    (inb) (L : List (View.Piece (Elt Ideal) S2048x256 .f32)) :
    Holds (View.canon (⟨Rect.unit (s := S2048x256) ![0, 0] S2048x256.size inb, k0_pay20 q c k v t o⟩ :: L)) fun r x => Stick.mix (dot Q K r) (fun n => V n x) 0 (T r) := by
  rw [View.canon_cons_unit_zero zeros]
  refine fun r x => (acc_last o r x).trans ?_
  have hc' : Holds c fun r _ => Stick.left (dot Q K r) (0 + 128) (T r) := hc
  rw [ho, values_tile hq hk hv ht hc' r x, ← EReal.coe_add]
  exact congrArg _ (mix_tileSum T 0 r.val x.val (le_trans (by norm_num) (hT r.val)))

set_option maxHeartbeats 4000000 in
/-- An odd block: the first tile of the sequence is left over. -/
theorem block_B (hc0) (hj : (i 1).val % 2 = 1) (h0 : Holds x0 X) (h1 : Holds x1 K) (h2 : Holds x2 V) (h3 : Holds x3 tri) :
    Holds (out0_B_4 (F := Ideal) dev i arg2 harg2 arg3 harg3 arg4 harg4 arg5 harg5 arg6 harg6 arg7 harg7 arg8 harg8 hc0 x0 x1 x2 x3) (blockReal X K V (i 1).val) := by
  have h0' : Holds (A := 128) (B := 1024) (View.ld (Val := Elt Ideal) x0 (Rect.unit (s := S128x1024) ![0, 0] S128x1024.size inb_S128x1024_S128x1024_0_0)) X := holds_ld' h0 _
  have hq : Holds _ (laidReal X) := laid_at (x := View.ld (Val := Elt Ideal) x0 (Rect.unit (s := S128x1024) ![0, 0] S128x1024.size inb_S128x1024_S128x1024_0_0)) h0'
  have hk := fun inb => rows_at h1 (k0_off1 i) inb (128 * (i 1).val) (congrFun (off1_eq i) 0) (congrFun (off1_eq i) 1)
  have hv := fun inb => rows_at h2 (k0_off1 i) inb (128 * (i 1).val) (congrFun (off1_eq i) 0) (congrFun (off1_eq i) 1)
  have k0 := fun inb => rows_at h1 ![0, 0] inb 0 rfl rfl
  have v0 := fun inb => rows_at h2 ![0, 0] inb 0 rfl rfl
  have ht := holds_ld' h3 inb_S128x128_S128x128_0_0
  have hT : ∀ r, 128 * (i 1).val ≤ seen (i 1).val r := fun r => Nat.le_add_right _ _
  unfold out0_B_4
  rw [View.read_writes_eq_canon _ _ _ (cover0_B_4 dev i arg2 harg2 arg3 harg3 arg4 harg4 arg5 harg5 arg6 harg6 arg7 harg7 arg8 harg8 hc0 x0 x1 x2 x3)]
  unfold kernelRun0_B
  dsimp only
  sl_unfold_words
  refine (congrArg (Holds · _) (View.canon_unit_zero zeros _ _)).mpr ?_
  refine gather_holds arg7.view ?_
  rw [rest_nil dev i arg2 harg2 arg3 harg3 arg4 harg4 arg5 harg5 arg6 harg6 arg7 harg7 arg8 harg8 _ _ _ _ _ _ _ _ _ _ _ _ (rest_trips i)]
  rw [List.nil_append, List.nil_append]
  simp only [View.readAt_eq_ld, Memref.IsWhole.read_unread]
  refine last_acc (T := seen (i 1).val) (fun r => le_trans (by omega) (hT r)) hq (k0 _) (v0 _) ht (holds_cov arg8.view ?_ _) (holds_cov arg7.view ?_ _) _ _
  · refine loop_left dev i arg2 harg2 arg3 harg3 arg4 harg4 arg5 harg5 arg6 harg6 arg7 harg7 arg8 harg8 (T := seen (i 1).val) (lo := 128) hT hq h1 h2 h3 (trips_eq i) (by omega) ?_ ?_
    · exact diag_acc hq (hk _) (hv _) ht (start_zero _ _) _ _
    · exact diag_left hq (hk _) (start_zero _ _) _ _
  · refine loop_acc dev i arg2 harg2 arg3 harg3 arg4 harg4 arg5 harg5 arg6 harg6 arg7 harg7 arg8 harg8 (T := seen (i 1).val) (lo := 128) hT hq h1 h2 h3 (trips_eq i) (by omega) ?_ ?_
    · exact diag_acc hq (hk _) (hv _) ht (start_zero _ _) _ _
    · exact diag_left hq (hk _) (start_zero _ _) _ _

end

end Cert.Tile

end
-- ==== Proof.Array.lean ====
/-
  THE ARRAY THE KERNEL LEAVES: what its blocks read of the argument, and the result at every row and column.
-/
module

public import proofs.«01_k».proof.Proof.Block
public import proofs.«01_k».proof.Proof.Gen.KernelIdeal.Value
public import Idealize.ShloMosaic.Lib.Pipeline.ValueKit.Geometry
public import Idealize.ShloMosaic.Lib.WordCmp

@[expose] public section

set_option maxRecDepth 16384

noncomputable section

open Idealize.ShloMosaic Idealize.ShloMosaic.TcCoe Idealize.SL.Sem Cert.KernelIdeal Cert.KernelIdeal.Gen

namespace Cert.Tile

/-- The stick-breaking attention of every row, from the projected rows `Y`. -/
def whole (Y : ℕ → ℕ → ℝ) (r x : ℕ) : ℝ :=
  blockReal (fun a d => Y (128 * (r / 128) + a) d) (fun s d => Y (4096 * (r / 4096) + s) (1024 + d)) (fun s d => Y (4096 * (r / 4096) + s) (1280 + d)) (r / 128 % 32) (r % 128) x

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val / 32, 4] := (by decide +kernel : ∀ t : Fin grid0.N, win0_1.index t = ![t.val / 32, 4])
theorem idx2 : ∀ t : Fin cfg0.N, win0_2.index t = ![t.val / 32, 5] := (by decide +kernel : ∀ t : Fin grid0.N, win0_2.index t = ![t.val / 32, 5])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem coord1 : ∀ t : Fin cfg0.N, (grid0.coords t 1).val = t.val % 32 := (by decide +kernel : ∀ t : Fin grid0.N, (grid0.coords t 1).val = t.val % 32)

variable {Y : ℕ → ℕ → ℝ} (hY : Holds (A := 16384) (B := 1536) (m ((c : Thread nD τ).loc main_arg0)) Y)
include hY

theorem block1_holds (t : Fin cfg0.N) : Holds (A := 4096) (B := 256) (iblk m c 1 t) fun s d => Y (4096 * (t.val / 32) + s) (1024 + d) := by
  have ht : t.val < 128 := t.isLt
  intro r s
  have e := idx1 t
  refine Eq.trans ?_ (hY (⟨4096 * (t.val / 32) + r.val, by omega⟩ : Fin 16384) (⟨1024 + s.val, by omega⟩ : Fin 1536))
  unfold iblk
  rw [View.read_apply]
  show V m c main_arg0 _ = m _ _
  rw [V_main_arg0]
  congr 1
  blk_ext [e]

theorem block2_holds (t : Fin cfg0.N) : Holds (A := 4096) (B := 256) (iblk m c 2 t) fun s d => Y (4096 * (t.val / 32) + s) (1280 + d) := by
  have ht : t.val < 128 := t.isLt
  intro r s
  have e := idx2 t
  refine Eq.trans ?_ (hY (⟨4096 * (t.val / 32) + r.val, by omega⟩ : Fin 16384) (⟨1280 + s.val, by omega⟩ : Fin 1536))
  unfold iblk
  rw [View.read_apply]
  show V m c main_arg0 _ = m _ _
  rw [V_main_arg0]
  congr 1
  blk_ext [e]

theorem block0_holds (t : Fin cfg0.N) : Holds (A := 128) (B := 1024) (X0_0 m c t) fun r d => Y (128 * t.val + r) d := by
  have ht : t.val < 128 := t.isLt
  intro r s
  have e := idx0 t
  refine Eq.trans ?_ (hY (⟨128 * t.val + r.val, by omega⟩ : Fin 16384) (⟨s.val, by omega⟩ : Fin 1536))
  unfold X0_0 Pipeline.Window.fill
  rw [dif_pos (moved0_0 t _)]
  unfold iblk
  rw [View.read_apply]
  show V m c main_arg0 _ = m _ _
  rw [V_main_arg0]
  congr 1
  blk_ext [e]

omit hY
theorem tri_holds (t : Fin cfg0.N) : Holds (A := 128) (B := 128) (iblk m c 3 t) tri := by
  intro r s
  have e := idx3 t
  have h : V m c main_v7 = ((uitofp (F := Ideal) .bf16 : (⟨S128x128, .i1⟩ : BufTy).Contents (Elt Ideal) → (⟨S128x128, .bf16⟩ : BufTy).Contents (Elt Ideal)) (cmpi .sgt (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) : FVec Ideal S128x128 .bf16) := by
    rfl
  have h2 : V m c main_v7 (ix2 r s) = ((tri r.val s.val : ℝ) : EReal) := by
    rw [h]
    pointwise
    have hr := r.isLt
    have hs := s.isLt
    rw [WordCmp.cmpi_sgt_of_lt (by rw [BitVec.toNat_ofNat]; omega) (by rw [BitVec.toNat_ofNat]; omega), BitVec.toNat_ofNat, BitVec.toNat_ofNat, Nat.mod_eq_of_lt (by omega), Nat.mod_eq_of_lt (by omega)]
    show (((BitVec.ofBool (decide (s.val < r.val))).toNat : ℝ) : EReal) = _
    unfold tri
    by_cases h : s.val < r.val <;> simp [h]
  refine Eq.trans ?_ h2
  unfold iblk
  rw [View.read_apply]
  show V m c main_v7 _ = V m c main_v7 _
  congr 1
  blk_ext [e]
include hY

/-- The result the kernel leaves, at row `r` of the array and column `x`. -/
theorem array_at (r : Fin 16384) (x : Fin 1024) : (dats m 0 c).arrAt 4 cfg0.N (ix2 r x)
    = ((whole Y r.val x.val : ℝ) : EReal) := by
  refine (dats m 0 c).arrAt_forall_of_covers 4 (fun (i : S16384x1024.Idx) (v : EReal) => v = ((whole Y (i 0).val (i 1).val : ℝ) : EReal)) (by decide +kernel) (fun t hf y => ?_) (ix2 r x)
  obtain ⟨i, j, rfl⟩ : ∃ (i : Fin 128) (j : Fin 1024), y = ix2 i j := ⟨y 0, y 1, eq_ix2 y⟩
  have ht : t.val < 128 := t.isLt
  have hi := i.isLt
  have e := idx4 t
  have e0 : (((cfg0.win 4).blk t).view.emb (ix2 i j) 0).val = 128 * t.val + i.val := by blk_simp [e]; omega
  have e1 : (((cfg0.win 4).blk t).view.emb (ix2 i j) 1).val = j.val := by blk_simp [e]
  have hb : (dats m 0 c).after 4 t ((cfg0.win 4).xinj (cfg0.grid.coords t) (ix2 i j)) = ((blockReal (fun r d => Y (128 * t.val + r) d) (fun s d => Y (4096 * (t.val / 32) + s) (1024 + d)) (fun s d => Y (4096 * (t.val / 32) + s) (1280 + d)) (grid0.coords t 1).val i.val j.val : ℝ) : EReal) := by
    rw [after0_4]
    by_cases h0 : t.val % 2 = 1
    · rw [outsAt0_B m c t h0]
      exact block_B _ _ _ _ _ _ _ _ _ _ _ _ _ _ _ _ _ (by rw [coord1]; omega) (block0_holds m c hY t) (block1_holds m c hY t) (block2_holds m c hY t) (tri_holds m c t) i j
    · rw [outsAt0_A m c t h0]
      exact block_A _ _ _ _ _ _ _ _ _ _ _ _ _ _ _ _ _ (by rw [coord1]; omega) (block0_holds m c hY t) (block1_holds m c hY t) (block2_holds m c hY t) (tri_holds m c t) i j
  refine hb.trans ?_
  rw [e0, e1, coord1, whole, show (128 * t.val + i.val) / 128 = t.val by omega, show (128 * t.val + i.val) / 4096 = t.val / 32 by omega, show (128 * t.val + i.val) % 128 = i.val by omega]

end Cert.Tile
-- ==== Proof.Cumsum.lean ====
/-
  THE REFERENCE'S RUNNING SUM: a window of the whole row, padded low by one less, sums the entries up to each place.
-/
module

public import proofs.«01_k».proof.Proof.Tile
public import proofs.«01_k».proof.Proof.Gen.ReferenceIdeal.Read

@[expose] public section

set_option maxRecDepth 16384

noncomputable section

open Idealize.ShloMosaic Cert.ReferenceIdeal Cert.ReferenceIdeal.Gen

namespace Cert.Ref

/-- The first entries of a sum over `N` places. -/
theorem sum_first (N j : ℕ) (hj : j < N) (g : ℕ → ℝ) : (∑ m ∈ Finset.range N, if m ≤ j then g m else 0) = ∑ m ∈ Finset.range (j + 1), g m := by
  rw [← Finset.sum_filter]
  refine Finset.sum_congr (Finset.ext fun m => ?_) fun _ _ => rfl
  simp only [Finset.mem_filter, Finset.mem_range]
  omega

/-- The window's places, counted in the row. -/
theorem sum_window (N j : ℕ) (hj : j < N) (f : ℕ → ℝ) :
    (∑ n ∈ Finset.range N, if N - 1 ≤ j + n then f (j + n - (N - 1)) else 0) = ∑ s ∈ Finset.range N, if s ≤ j then f s else 0 := by
  rw [← Finset.sum_range_reflect, sum_first N j hj f, ← Finset.sum_range_reflect f (j + 1), ← sum_first N j hj fun m => f (j + 1 - 1 - m)]
  refine Finset.sum_congr rfl fun m hm => ?_
  have := Finset.mem_range.1 hm
  by_cases h : m ≤ j
  · rw [if_pos h, if_pos (by omega)]
    congr 1
    omega
  · rw [if_neg h, if_neg (by omega)]

theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The window's shape. -/
abbrev W5 : Shape := ⟨5, ![1, 1, 1, 1, 4096]⟩

theorem numel_W5 : W5.numel = 4096 := by simp [Shape.numel, Fin.prod_univ_succ]

/-- Place `n` of the window. -/
theorem place (n : Fin W5.numel) : (W5.rowMajor.symm n 0).val = 0 ∧ (W5.rowMajor.symm n 1).val = 0 ∧ (W5.rowMajor.symm n 2).val = 0
    ∧ (W5.rowMajor.symm n 3).val = 0 ∧ (W5.rowMajor.symm n 4).val = n.val := by
  have h := Shape.rowMajor_val_five (W5.rowMajor.symm n)
  rw [Equiv.apply_symm_apply] at h
  have h0 : (W5.rowMajor.symm n 0).val < 1 := (W5.rowMajor.symm n 0).isLt
  have h1 : (W5.rowMajor.symm n 1).val < 1 := (W5.rowMajor.symm n 1).isLt
  have h2 : (W5.rowMajor.symm n 2).val < 1 := (W5.rowMajor.symm n 2).isLt
  have h3 : (W5.rowMajor.symm n 3).val < 1 := (W5.rowMajor.symm n 3).isLt
  change n.val = ((((W5.rowMajor.symm n 0).val * 1 + (W5.rowMajor.symm n 1).val) * 1 + (W5.rowMajor.symm n 2).val) * 1 + (W5.rowMajor.symm n 3).val) * 4096 + (W5.rowMajor.symm n 4).val at h
  omega

/-- The index `i` with its last place moved to `s`. -/
abbrev put (i : S4x4096x4x4x4096.Idx) (s : Fin 4096) : S4x4096x4x4x4096.Idx := fun a => match a with
  | ⟨0, _⟩ => i 0
  | ⟨1, _⟩ => i 1
  | ⟨2, _⟩ => i 2
  | ⟨3, _⟩ => i 3
  | ⟨4, _⟩ => s

theorem cumsum_at (x : S4x4096x4x4x4096.Idx → EReal) (h) (i : S4x4096x4x4x4096.Idx) (f : ℕ → ℝ)
    (hx : ∀ s : Fin 4096, x (put i s) = ((f s.val : ℝ) : EReal)) :
    Ideal.hostReduceWindowAdd (s := S4x4096x4x4x4096) (t := S4x4096x4x4x4096) ![1, 1, 1, 1, 4096] ![1, 1, 1, 1, 1] ![0, 0, 0, 0, 4095] ![0, 0, 0, 0, 0] h x 0 i
      = ((∑ s : Fin 4096, if s.val ≤ (i 4).val then f s.val else 0 : ℝ) : EReal) := by
  have i0 : (i 0).val < 4 := (i 0).isLt
  have i1 : (i 1).val < 4096 := (i 1).isLt
  have i2 : (i 2).val < 4 := (i 2).isLt
  have i3 : (i 3).val < 4 := (i 3).isLt
  have i4 : (i 4).val < 4096 := (i 4).isLt
  unfold Ideal.hostReduceWindowAdd Host.reduceWindow
  refine (foldl_add _ _ _).trans ?_
  rw [zero_add, ← Fin.sum_univ_def]
  refine (Finset.sum_congr (g := fun n : Fin W5.numel => (((if 4095 ≤ (i 4).val + n.val then f ((i 4).val + n.val - 4095) else 0) : ℝ) : EReal)) rfl fun n _ => ?_).trans ?_
  · dsimp only
    obtain ⟨p0, p1, p2, p3, p4⟩ := place n
    have hn : n.val < 4096 := lt_of_lt_of_eq n.isLt numel_W5
    split
    · next hin =>
      have h4 := (hin 4).1
      change 4095 ≤ (i 4).val * 1 + (W5.rowMajor.symm n 4).val at h4
      rw [if_pos (by omega)]
      refine Eq.trans (congrArg x (funext fun a => Fin.ext ?_)) (hx ⟨(i 4).val + n.val - 4095, by omega⟩)
      match a with
      | ⟨0, _⟩ => show (i 0).val * 1 + (W5.rowMajor.symm n 0).val - 0 = (i 0).val; omega
      | ⟨1, _⟩ => show (i 1).val * 1 + (W5.rowMajor.symm n 1).val - 0 = (i 1).val; omega
      | ⟨2, _⟩ => show (i 2).val * 1 + (W5.rowMajor.symm n 2).val - 0 = (i 2).val; omega
      | ⟨3, _⟩ => show (i 3).val * 1 + (W5.rowMajor.symm n 3).val - 0 = (i 3).val; omega
      | ⟨4, _⟩ => show (i 4).val * 1 + (W5.rowMajor.symm n 4).val - 4095 = (i 4).val + n.val - 4095; omega
    · next hin =>
      rw [if_neg fun hle => hin fun a => by
        match a with
        | ⟨0, _⟩ => show 0 ≤ (i 0).val * 1 + (W5.rowMajor.symm n 0).val ∧ (i 0).val * 1 + (W5.rowMajor.symm n 0).val - 0 < 4; omega
        | ⟨1, _⟩ => show 0 ≤ (i 1).val * 1 + (W5.rowMajor.symm n 1).val ∧ (i 1).val * 1 + (W5.rowMajor.symm n 1).val - 0 < 4096; omega
        | ⟨2, _⟩ => show 0 ≤ (i 2).val * 1 + (W5.rowMajor.symm n 2).val ∧ (i 2).val * 1 + (W5.rowMajor.symm n 2).val - 0 < 4; omega
        | ⟨3, _⟩ => show 0 ≤ (i 3).val * 1 + (W5.rowMajor.symm n 3).val ∧ (i 3).val * 1 + (W5.rowMajor.symm n 3).val - 0 < 4; omega
        | ⟨4, _⟩ => show 4095 ≤ (i 4).val * 1 + (W5.rowMajor.symm n 4).val ∧ (i 4).val * 1 + (W5.rowMajor.symm n 4).val - 4095 < 4096; omega]
      rfl
  refine (Tile.coe_sum _).symm.trans ?_
  congr 1
  rw [Fin.sum_univ_eq_sum_range (fun n => if 4095 ≤ (i 4).val + n then f ((i 4).val + n - 4095) else 0) W5.numel, Fin.sum_univ_eq_sum_range (fun s => if s ≤ (i 4).val then f s else 0) 4096, numel_W5]
  exact sum_window 4096 _ i4 f

end Cert.Ref
-- ==== Proof.RefValue.lean ====
/-
  THE REFERENCE, READ AT AN INDEX: where the argument holds finite numbers, what each stage of the plain stick-breaking
  attention holds, up to the result at every row and column.
-/
module

public import proofs.«01_k».proof.Proof.Heads
public import proofs.«01_k».proof.Proof.Cumsum
public import Idealize.ShloMosaic.Lib.WordCmp

@[expose] public section

set_option maxRecDepth 16384

noncomputable section

open Idealize.ShloMosaic Cert.ReferenceIdeal Cert.ReferenceIdeal.Gen Cert.ReferenceIdeal.Read Cert.Tile

namespace Cert.Ref

/-- `log (1 + e^x)` as the reference writes it, of a real number. -/
theorem softplus_at (z : ℝ) (x c : EReal) (hx : x = (z : EReal)) (hc : c = 0) :
    Scalar.select (FloatOps.cmpf (F := Ideal) (φ := .f32) .une (FloatOps.subf (F := Ideal) (φ := .f32) x c) (FloatOps.subf (F := Ideal) (φ := .f32) x c))
      (FloatOps.addf (F := Ideal) (φ := .f32) x c)
      (FloatOps.addf (F := Ideal) (φ := .f32) (FloatOps.maximumf (F := Ideal) (φ := .f32) x c) (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x c))))))
      = ((max z 0 + Stick.sp z : ℝ) : EReal) := by
  subst hx hc
  have e : FloatOps.subf (F := Ideal) (φ := .f32) (z : EReal) 0 = (z : EReal) := sub_zero _
  have n : FloatOps.cmpf (F := Ideal) (φ := .f32) .une (z : EReal) (z : EReal) = 0#1 := by
    rw [Ideal.cmpf_def]; simp [Ideal.cmp]
  rw [e, n]
  show max (z : EReal) 0 + Ideal.log (1 + Ideal.exp (-max (z : EReal) (-(z : EReal)))) = _
  rw [← zero_sub (max (z : EReal) _), log_exp_abs, coe_max0, ← EReal.coe_add]

variable {x0 : (⟨S16384x1536, .bf16⟩ : BufTy).Contents (Elt Ideal)} {Y : ℕ → ℕ → ℝ} (hY : Holds (A := 16384) (B := 1536) x0 Y)
include hY

theorem rows_at (i : S4x4096x1536.Idx) : val_main_v1 (F := Ideal) x0 i = ((Y (4096 * (i 0).val + (i 1).val) (i 2).val : ℝ) : EReal) := by
  have h0 : (i 0).val < 4 := (i 0).isLt
  have h1 : (i 1).val < 4096 := (i 1).isLt
  have h2 : (i 2).val < 1536 := (i 2).isLt
  rw [val_main_v1_apply, val_main_v0_apply]
  refine Eq.trans ?_ (hY ⟨4096 * (i 0).val + (i 1).val, by omega⟩ ⟨(i 2).val, h2⟩)
  show x0 _ = x0 _
  congr 1
  funext a
  refine Fin.ext ?_
  match a with
  | ⟨0, _⟩ => show (((i 0).val * 4096 + (i 1).val) * 1536 + (i 2).val) / 1536 = 4096 * (i 0).val + (i 1).val; omega
  | ⟨1, _⟩ => show (((i 0).val * 4096 + (i 1).val) * 1536 + (i 2).val) % 1536 = (i 2).val; omega

theorem query_at (i : S4x4096x4x4x64.Idx) : val_main_v3 (F := Ideal) x0 i = ((Y (4096 * (i 0).val + (i 1).val) (64 * (4 * (i 2).val + (i 3).val) + (i 4).val) : ℝ) : EReal) := by
  have h0 : (i 0).val < 4 := (i 0).isLt
  have h1 : (i 1).val < 4096 := (i 1).isLt
  have h2 : (i 2).val < 4 := (i 2).isLt
  have h3 : (i 3).val < 4 := (i 3).isLt
  have h4 : (i 4).val < 64 := (i 4).isLt
  rw [val_main_v3_apply, val_main_v2_apply, rows_at hY]
  congr 2
  · show 4096 * ((((((i 0).val * 4096 + (i 1).val) * 4 + (i 2).val) * 4 + (i 3).val) * 64 + (i 4).val) / 4194304) + (((((i 0).val * 4096 + (i 1).val) * 4 + (i 2).val) * 4 + (i 3).val) * 64 + (i 4).val) / 1024 % 4096 = _
    omega
  · show (((((i 0).val * 4096 + (i 1).val) * 4 + (i 2).val) * 4 + (i 3).val) * 64 + (i 4).val) % 1024 = _
    omega

theorem key_at (i : S4x4096x4x64.Idx) : val_main_v5 (F := Ideal) x0 i = ((Y (4096 * (i 0).val + (i 1).val) (1024 + (64 * (i 2).val + (i 3).val)) : ℝ) : EReal) := by
  have h0 : (i 0).val < 4 := (i 0).isLt
  have h1 : (i 1).val < 4096 := (i 1).isLt
  have h2 : (i 2).val < 4 := (i 2).isLt
  have h3 : (i 3).val < 64 := (i 3).isLt
  rw [val_main_v5_apply, val_main_v4_apply, rows_at hY]
  congr 2
  · show 4096 * (((((i 0).val * 4096 + (i 1).val) * 4 + (i 2).val) * 64 + (i 3).val) / 1048576) + ((((i 0).val * 4096 + (i 1).val) * 4 + (i 2).val) * 64 + (i 3).val) / 256 % 4096 = _
    omega
  · show 1024 + ((((i 0).val * 4096 + (i 1).val) * 4 + (i 2).val) * 64 + (i 3).val) % 256 = _
    omega

theorem value_at (i : S4x4096x4x64.Idx) : val_main_v7 (F := Ideal) x0 i = ((Y (4096 * (i 0).val + (i 1).val) (1280 + (64 * (i 2).val + (i 3).val)) : ℝ) : EReal) := by
  have h0 : (i 0).val < 4 := (i 0).isLt
  have h1 : (i 1).val < 4096 := (i 1).isLt
  have h2 : (i 2).val < 4 := (i 2).isLt
  have h3 : (i 3).val < 64 := (i 3).isLt
  rw [val_main_v7_apply, val_main_v6_apply, rows_at hY]
  congr 2
  · show 4096 * (((((i 0).val * 4096 + (i 1).val) * 4 + (i 2).val) * 64 + (i 3).val) / 1048576) + ((((i 0).val * 4096 + (i 1).val) * 4 + (i 2).val) * 64 + (i 3).val) / 256 % 4096 = _
    omega
  · show 1280 + ((((i 0).val * 4096 + (i 1).val) * 4 + (i 2).val) * 64 + (i 3).val) % 256 = _
    omega

omit hY

theorem exp_at (a b c : ℝ) : FloatOps.hostUnary (F := Ideal) (φ := .f32) .exp (FloatOps.addf (F := Ideal) (φ := .f32) (a : EReal) (FloatOps.subf (F := Ideal) (φ := .f32) (b : EReal) (c : EReal)))
    = ((Real.exp (a + (b - c)) : ℝ) : EReal) := by
  rw [← Ideal.exp_coe, EReal.coe_add, EReal.coe_sub]
  rfl

/-- The weight of key `s` for query `t`, as the reference writes it. -/
def share (z : ℕ → ℝ) (t s : ℕ) : ℝ :=
  if s < t then Real.exp (Stick.ls (z s) + (Stick.prefixSum 4096 z t (4096 - 1) - Stick.prefixSum 4096 z t s)) else 0

/-- The score of query `t` and key `s` of sequence `b` in head `h`. -/
def zed (Y : ℕ → ℕ → ℝ) (b t h s : ℕ) : ℝ := (∑ d : Fin 64, Y (4096 * b + s) (1024 + (64 * (h / 4) + d.val)) * Y (4096 * b + t) (64 * h + d.val)) * (1 / 8)

include hY

theorem zed_at (i : S4x4096x4x4x4096.Idx) : val_main_v12 (F := Ideal) x0 i = ((zed Y (i 0).val (i 1).val (4 * (i 2).val + (i 3).val) (i 4).val : ℝ) : EReal) := by
  have h3 : (i 3).val < 4 := (i 3).isLt
  rw [val_main_v12_apply, val_main_v10_apply, val_main_v9_apply, val_main_v11_apply, val_main_cst_apply]
  show (∑ k : Fin 64, _) * Ideal.ofBits .f32 0x3E000000#32 = _
  rw [eighth, zed, EReal.coe_mul, coe_sum]
  congr 1
  refine Finset.sum_congr rfl fun d _ => ?_
  rw [key_at hY, query_at hY, EReal.coe_mul]
  have e : (4 * (i 2).val + (i 3).val) / 4 = (i 2).val := by omega
  rw [e]

/-- What an unmasked key leaves. -/
theorem leaves_at (i : S4x4096x4x4x4096.Idx) : val_main_v20 (F := Ideal) x0 i = ((Stick.lb (zed Y (i 0).val (i 1).val (4 * (i 2).val + (i 3).val) (i 4).val) : ℝ) : EReal) := by
  rw [val_main_v20_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply, val_main_call0_call0_v3_apply,
    val_main_call0_call0_v1_apply, val_main_call0_call0_v5_apply, val_main_call0_call0_v2_apply, val_main_call0_call0_v0_apply, val_main_call0_call0_cst_apply,
    val_main_call0_v0_apply, val_main_v19_apply, zed_at hY]
  refine (congrArg (fun x : EReal => -x) (softplus_at (zed Y (i 0).val (i 1).val (4 * (i 2).val + (i 3).val) (i 4).val) _ _ (neg_neg _) Ideal.ofBits_zero_f32)).trans ?_
  rw [← EReal.coe_neg, Stick.lb]
  congr 1
  ring

/-- What a key takes. -/
theorem takes_at (i : S4x4096x4x4x4096.Idx) : val_main_v23 (F := Ideal) x0 i = ((Stick.ls (zed Y (i 0).val (i 1).val (4 * (i 2).val + (i 3).val) (i 4).val) : ℝ) : EReal) := by
  rw [val_main_v23_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply, val_main_call3_call0_v3_apply,
    val_main_call3_call0_v1_apply, val_main_call3_call0_v5_apply, val_main_call3_call0_v2_apply, val_main_call3_call0_v0_apply, val_main_call3_call0_cst_apply,
    val_main_call3_v0_apply, zed_at hY]
  refine (congrArg (fun x : EReal => -x) (softplus_at (-zed Y (i 0).val (i 1).val (4 * (i 2).val + (i 3).val) (i 4).val) _ _ (EReal.coe_neg _).symm Ideal.ofBits_zero_f32)).trans ?_
  rw [← EReal.coe_neg, Stick.ls, Stick.sp, Stick.sp, abs_neg]
  congr 1
  have : min (zed Y (i 0).val (i 1).val (4 * (i 2).val + (i 3).val) (i 4).val) 0 = -max (-zed Y (i 0).val (i 1).val (4 * (i 2).val + (i 3).val) (i 4).val) 0 := by
    generalize zed Y (i 0).val (i 1).val (4 * (i 2).val + (i 3).val) (i 4).val = z
    rcases le_total z 0 with h | h
    · rw [min_eq_left h, max_eq_left (by linarith), neg_neg]
    · rw [min_eq_right h, max_eq_right (by linarith), neg_zero]
  rw [this]
  ring

omit hY

/-- Only earlier keys are seen. -/
theorem mask_at (i : S4096x4096.Idx) : val_main_v17 (F := Ideal) i = BitVec.ofBool (decide ((i 1).val < (i 0).val)) := by
  have h0 : (i 0).val < 4096 := (i 0).isLt
  have h1 : (i 1).val < 4096 := (i 1).isLt
  rw [val_main_v17_apply, val_main_v15_apply, val_main_v16_apply, val_main_v13_apply, val_main_v14_apply, val_main_v8_apply, val_main_v8_apply]
  show IntOp.cmpi .slt (BitVec.ofNat 32 (i 1).val) (BitVec.ofNat 32 (i 0).val) = _
  rw [WordCmp.cmpi_slt_of_lt (by rw [BitVec.toNat_ofNat]; omega) (by rw [BitVec.toNat_ofNat]; omega), BitVec.toNat_ofNat, BitVec.toNat_ofNat, Nat.mod_eq_of_lt (by omega), Nat.mod_eq_of_lt (by omega)]

include hY

theorem masked_at (i : S4x4096x4x4x4096.Idx) : val_main_v21 (F := Ideal) x0 i
    = (((if (i 4).val < (i 1).val then Stick.lb (zed Y (i 0).val (i 1).val (4 * (i 2).val + (i 3).val) (i 4).val) else 0) : ℝ) : EReal) := by
  rw [val_main_v21_apply, leaves_at hY, val_main_call1_v1_apply, val_main_v18_apply, mask_at, val_main_call1_v2_apply, val_main_call1_v0_apply, val_main_cst_0_apply]
  refine (select_bool _ _ _).trans ?_
  show (if (i 4).val < (i 1).val then _ else Ideal.ofBits .f32 0x00000000#32) = _
  rw [Ideal.ofBits_zero_f32]
  split <;> rfl

theorem prefix_at (i : S4x4096x4x4x4096.Idx) : val_main_v22 (F := Ideal) x0 i
    = ((Stick.prefixSum 4096 (zed Y (i 0).val (i 1).val (4 * (i 2).val + (i 3).val)) (i 1).val (i 4).val : ℝ) : EReal) := by
  unfold val_main_v22
  have hz : val_main_call2_call0_v0 (F := Ideal) (Shape.Idx.first h_S_) = 0 := by
    rw [val_main_call2_call0_v0_apply, val_main_call2_call0_cst_apply]; exact Ideal.ofBits_zero_f32
  unfold Host.reduceWindowAdd
  rw [Ideal.hostReduceWindowAdd_def]
  rw [hz]
  refine (cumsum_at _ _ i (fun s => if s < (i 1).val then Stick.lb (zed Y (i 0).val (i 1).val (4 * (i 2).val + (i 3).val) s) else 0) fun s => masked_at hY (put i s)).trans ?_
  unfold Stick.prefixSum
  rfl

theorem weight_at (i : S4x4096x4x4x4096.Idx) : val_main_v29 (F := Ideal) x0 i
    = ((share (zed Y (i 0).val (i 1).val (4 * (i 2).val + (i 3).val)) (i 1).val (i 4).val : ℝ) : EReal) := by
  rw [val_main_v29_apply, val_main_v28_apply, val_main_v27_apply, takes_at hY, val_main_v26_apply, prefix_at hY, val_main_v25_apply, val_main_v24_apply, prefix_at hY,
    val_main_call4_v1_apply, val_main_v18_apply, mask_at, val_main_call4_v2_apply, val_main_call4_v0_apply, val_main_cst_1_apply]
  refine (select_bool _ _ _).trans ?_
  unfold share
  by_cases h : (i 4).val < (i 1).val
  · refine (if_pos h).trans ?_
    rw [if_pos h]
    exact exp_at _ _ _
  · refine (if_neg h).trans ?_
    rw [if_neg h]
    exact Ideal.ofBits_zero_f32

/-- The reference's result at row `r` and column `x`. -/
theorem result_at (r : Fin 16384) (x : Fin 1024) : val_main_v33 (F := Ideal) x0 (ix2 r x)
    = ((Stick.mix (zed Y (r.val / 4096) (r.val % 4096) (x.val / 64)) (fun s => Y (4096 * (r.val / 4096) + s) (1280 + (64 * (x.val / 64 / 4) + x.val % 64))) 0 (r.val % 4096) : ℝ) : EReal) := by
  have hr := r.isLt
  have hx := x.isLt
  rw [val_main_v33_apply, val_main_v32_apply, val_main_v31_apply, val_main_v30_apply]
  refine Eq.trans (b := ∑ k : Fin 4096, _) rfl ?_
  rw [← Stick.mix_prefix 4096 _ _ _ (by omega), coe_sum]
  refine Finset.sum_congr rfl fun k _ => ?_
  have e0 : (r.val * 1024 + x.val) / 4194304 = r.val / 4096 := by omega
  have e1 : (r.val * 1024 + x.val) / 1024 % 4096 = r.val % 4096 := by omega
  have e2 : (r.val * 1024 + x.val) / 256 % 4 = x.val / 64 / 4 := by omega
  have e3 : 4 * ((r.val * 1024 + x.val) / 256 % 4) + (r.val * 1024 + x.val) / 64 % 4 = x.val / 64 := by omega
  have e4 : (r.val * 1024 + x.val) % 64 = x.val % 64 := by omega
  have hv := value_at hY (lidx_main_v30 (idx_main_v31 (idx_main_v32 (ix2 r x))) k)
  change _ = ((Y (4096 * ((r.val * 1024 + x.val) / 4194304) + k.val) (1280 + (64 * ((r.val * 1024 + x.val) / 256 % 4) + (r.val * 1024 + x.val) % 64)) : ℝ) : EReal) at hv
  have hw := weight_at hY (ridx_main_v30 (idx_main_v31 (idx_main_v32 (ix2 r x))) k)
  change _ = ((share (zed Y ((r.val * 1024 + x.val) / 4194304) ((r.val * 1024 + x.val) / 1024 % 4096) (4 * ((r.val * 1024 + x.val) / 256 % 4) + (r.val * 1024 + x.val) / 64 % 4)) ((r.val * 1024 + x.val) / 1024 % 4096) k.val : ℝ) : EReal) at hw
  rw [e0, e2, e4] at hv
  rw [e0, e1, e3] at hw
  rw [hv, hw, ← EReal.coe_mul]
  rfl

end Cert.Ref
-- ==== Proof.Match.lean ====
/-
  BOTH SIDES MEET: the kernel's row-and-column formula is the reference's, an argument the precondition admits holds
  real numbers, and so the two result arrays are equal.
-/
module

public import proofs.«01_k».proof.Proof.Array
public import proofs.«01_k».proof.Proof.RefValue
public import proofs.«01_k».proof.Pre_finite

@[expose] public section

set_option maxRecDepth 16384

noncomputable section

open Idealize.ShloMosaic Idealize.ShloMosaic.TcCoe

namespace Cert.Match

open Cert.Tile Cert.Ref

/-- A sum over the 256 packed columns that leaves out all but one group of 64 is the sum over that group. -/
theorem sum_group (g : ℕ) (hg : g < 4) (F : ℕ → ℝ) :
    (∑ c : Fin 256, if c.val / 64 = g then F c.val else 0) = ∑ d : Fin 64, F (64 * g + d.val) := by
  rw [Fin.sum_univ_eq_sum_range (fun c => if c / 64 = g then F c else 0) 256, Fin.sum_univ_eq_sum_range (fun d => F (64 * g + d)) 64,
    ← Finset.sum_filter]
  have e : (Finset.range 256).filter (fun c => c / 64 = g) = Finset.Ico (64 * g) (64 * g + 64) := by
    ext c
    simp only [Finset.mem_filter, Finset.mem_range, Finset.mem_Ico]
    omega
  rw [e, Finset.sum_Ico_eq_sum_range, Nat.add_sub_cancel_left]

/-- The packed score of a row is the score of its query and head. -/
theorem score_eq (Y : ℕ → ℕ → ℝ) (r x n : ℕ) (hx : x < 1024) :
    dot (laidReal fun a d => Y (128 * (r / 128) + a) d) (fun s d => Y (4096 * (r / 4096) + s) (1024 + d)) (x / 64 * 128 + r % 128) n
      = zed Y (r / 4096) (r % 4096) (x / 64) n := by
  have e1 : (x / 64 * 128 + r % 128) / 128 = x / 64 := by omega
  have e2 : 128 * (r / 128) + (x / 64 * 128 + r % 128) % 128 = r := by omega
  have e3 : 4096 * (r / 4096) + r % 4096 = r := by omega
  unfold dot zed
  rw [e3, Finset.sum_mul]
  have h := sum_group (x / 64 / 4) (by omega) fun c => Y (4096 * (r / 4096) + n) (1024 + c) * Y r (64 * (x / 64) + c % 64) * (1 / 8)
  refine Eq.trans ?_ (h.trans ?_)
  · refine Finset.sum_congr rfl fun c _ => ?_
    unfold laidReal
    beta_reduce
    rw [e1, e2, Nat.mul_comm (x / 64) 64]
    split <;> ring
  · refine Finset.sum_congr rfl fun d _ => ?_
    have e4 : (64 * (x / 64 / 4) + d.val) % 64 = d.val := by omega
    rw [e4]

/-- The kernel's formula for the result at row `r`, column `x` is the reference's. -/
theorem whole_eq (Y : ℕ → ℕ → ℝ) (r x : ℕ) (hx : x < 1024) :
    whole Y r x = Stick.mix (zed Y (r / 4096) (r % 4096) (x / 64)) (fun s => Y (4096 * (r / 4096) + s) (1280 + (64 * (x / 64 / 4) + x % 64))) 0 (r % 4096) := by
  have e : seen (r / 128 % 32) (x / 64 * 128 + r % 128) = r % 4096 := by unfold seen; omega
  unfold whole blockReal accReal
  rw [e, Nat.mul_comm (x / 64 / 4) 64, funext fun n => score_eq Y r x n hx]

/-- The side condition of the precondition's text. -/
theorem preFacts : Cert.Pre_finite.Facts := ⟨by decide⟩

/-- An extended real of finite magnitude is a real number. -/
theorem real_of_finite (x : EReal) (h : Ideal.cmp .olt (max x (-x)) ⊤ = 1#1) : x = ((x.toReal : ℝ) : EReal) := by
  have hlt : max x (-x) < ⊤ := by
    by_contra hn
    simp [Ideal.cmp, hn] at h
  refine (EReal.coe_toReal ?_ ?_).symm
  · rintro rfl
    simp at hlt
  · rintro rfl
    simp at hlt

/-- The numbers an argument holds, by row and column. -/
def entries (x0 : (⟨2, ![16384, 1536]⟩ : Shape).Idx → EReal) (r s : ℕ) : ℝ :=
  if h : r < 16384 ∧ s < 1536 then (x0 (ix2 ⟨r, h.1⟩ ⟨s, h.2⟩)).toReal else 0

/-- An argument the precondition admits holds real numbers. -/
theorem entries_holds [Cert.Pre_finite.Facts] (x0 : FVec Ideal Cert.Pre_finite.S16384x1536 .bf16)
    (h : Cert.Pre_finite.fn (F := Ideal) x0 = fun _ => 1#1) : Holds (A := 16384) (B := 1536) x0 (entries x0) := by
  intro r s
  have htop : Ideal.ofBits .bf16 0x7F80#16 = ⊤ := by simp [Ideal.ofBits, Ideal.ieee]
  have e : Ideal.cmp .olt (max (x0 (ix2 r s)) (-(x0 (ix2 r s)))) (Ideal.ofBits .bf16 0x7F80#16) = 1#1 := congrFun h (ix2 r s)
  rw [htop] at e
  refine (real_of_finite _ e).trans ?_
  unfold entries
  rw [dif_pos ⟨r.isLt, s.isLt⟩]

/-- Under the precondition the reference's result is the array the kernel leaves. -/
theorem result_eq [Cert.Pre_finite.Facts] (m : (ℓ : Loc Cert.KernelIdeal.nD Cert.KernelIdeal.τ Cert.KernelIdeal.sig) → Buf (Elt Ideal) ℓ) (c : Dev Cert.KernelIdeal.nD)
    (h : Cert.Pre_finite.fn (F := Ideal) (m ((c.tc : Thread Cert.KernelIdeal.nD Cert.KernelIdeal.τ).loc Cert.KernelIdeal.main_arg0)) = fun _ => 1#1) :
    Cert.ReferenceIdeal.Read.val_main_v33 (F := Ideal) (m ((c.tc : Thread Cert.KernelIdeal.nD Cert.KernelIdeal.τ).loc Cert.KernelIdeal.main_arg0))
      = (Cert.KernelIdeal.Gen.dats m 0 c).arrAt 4 Cert.KernelIdeal.cfg0.N := by
  have hY := entries_holds _ h
  refine funext fun (i : (⟨2, ![16384, 1024]⟩ : Shape).Idx) => ?_
  rw [eq_ix2 i]
  refine (result_at hY (i 0) (i 1)).trans (Eq.trans ?_ (array_at m c hY (i 0) (i 1)).symm)
  rw [whole_eq _ _ _ (show (i 1).val < 1024 from (i 1).isLt)]

end Cert.Match

end
-- ==== Proof.Project.lean ====
/-
  ROWS PROJECTED BY A MATRIX: the row `r` of the flattened array is row `r % 4096` of batch `r / 4096`; a projected
  row's entry is the sum over the 1024 columns of the modulated row, `x · (1 + scale) + shift`, with a column of the matrix.
-/
module

public import Idealize.ShloMosaic.Lib.Pointwise
public import Idealize.ShloMosaic.Lib.Pipeline.Value
public import Idealize.ShloMosaic.Lib.ValueIdx
public import Idealize.ShloMosaic.PureOps.Ideal

@[expose] public section

noncomputable section

open Idealize.ShloMosaic

namespace Cert.Project

/-- The batch of a flattened row, -/
def batch (r : Fin 16384) : Fin 4 := ⟨r.val / 4096, by omega⟩
/-- and its place there. -/
def place (r : Fin 16384) : Fin 4096 := ⟨r.val % 4096, by omega⟩

/-- The modulated row `r` times the column `w`. -/
def project (x : (⟨3, ![4, 4096, 1024]⟩ : Shape).Idx → EReal) (shift scale : (⟨3, ![4, 1, 1024]⟩ : Shape).Idx → EReal) (w : Fin 1024 → EReal) (r : Fin 16384) : EReal :=
  ∑ k : Fin 1024, (x (ix3 (batch r) (place r) k) * (1 + scale (ix3 (batch r) (0 : Fin 1) k)) + shift (ix3 (batch r) (0 : Fin 1) k)) * w k

/-- The flattened array at a row and a column. -/
theorem flat_apply {α : Type} (x : (⟨3, ![4, 4096, 1024]⟩ : Shape).Idx → α) (h : (⟨3, ![4, 4096, 1024]⟩ : Shape).ShapeCasts ⟨2, ![16384, 1024]⟩) (r : Fin 16384) (k : Fin 1024) :
    shapeCast ⟨2, ![16384, 1024]⟩ x h (ix2 r k) = x (ix3 (batch r) (place r) k) := by
  refine shapeCast_apply x h _ _ ?_
  rw [Shape.rowMajor_val_three, Shape.rowMajor_val_two]
  show (r.val / 4096 * 4096 + r.val % 4096) * 1024 + k.val = r.val * 1024 + k.val
  omega

/-! ## Whole blocks -/

theorem zeros2 : (![0, 0] : Fin 2 → ℕ) = fun _ => 0 := by decide
theorem zeros3 : (![0, 0, 0] : Fin 3 → ℕ) = fun _ => 0 := by decide

section
variable {Val : EltTy → Type} {e : EltTy}

/-- A load of a whole block reads the block, -/
theorem load2 {d : Fin 2 → ℕ} (inb) (X : (⟨2, d⟩ : Shape).Idx → Val e) : View.ld X (Rect.unit (s := ⟨2, d⟩) ![0, 0] (⟨2, d⟩ : Shape).size inb) = X :=
  View.ld_unit_zero (S := ⟨2, d⟩) zeros2 inb X
theorem load3 {d : Fin 3 → ℕ} (inb) (X : (⟨3, d⟩ : Shape).Idx → Val e) : View.ld X (Rect.unit (s := ⟨3, d⟩) ![0, 0, 0] (⟨3, d⟩ : Shape).size inb) = X :=
  View.ld_unit_zero (S := ⟨3, d⟩) zeros3 inb X
/-- and one store of it leaves the payload. -/
theorem store2 [∀ e, Nonempty (Val e)] {d : Fin 2 → ℕ} (inb) (w : (⟨2, d⟩ : Shape).Idx → Val e) :
    View.canon [(⟨Rect.unit (s := ⟨2, d⟩) ![0, 0] (⟨2, d⟩ : Shape).size inb, w⟩ : View.Piece Val ⟨2, d⟩ e)] = w :=
  View.canon_unit_zero (S := ⟨2, d⟩) zeros2 inb w
end

/-- Columns padded on the right read the array where it has a column and the padding value elsewhere. -/
theorem padCols_apply {α : Type} {A n k N : ℕ} (x : (⟨2, ![A, n]⟩ : Shape).Idx → α) {u : Shape} (v : u.Idx → α) (h) (hu) (r : Fin A) (j : Fin N) :
    pad ⟨2, ![A, N]⟩ ![0, 0] ![0, k] ![0, 0] x v h hu (ix2 r j) = if hj : j.val < n then x (ix2 r ⟨j.val, hj⟩) else v (Shape.Idx.first hu) := by
  unfold pad
  by_cases hj : j.val < n
  · rw [dif_pos hj, dif_pos (fun a => match a with
      | ⟨0, _⟩ => ⟨Nat.zero_le _, Nat.mod_one _, by show (r.val - 0) / 1 < A; have := r.isLt; omega⟩
      | ⟨1, _⟩ => ⟨Nat.zero_le _, Nat.mod_one _, by show (j.val - 0) / 1 < n; omega⟩)]
    refine congrArg x (funext fun a => Fin.ext ?_)
    match a with
    | ⟨0, _⟩ => exact Nat.div_one _
    | ⟨1, _⟩ => exact Nat.div_one _
  · rw [dif_neg hj, dif_neg]
    intro hin
    exact hj (by have h1 := (hin 1).2.2; change (j.val - 0) / 1 < n at h1; omega)

theorem one_bits : (FloatOps.ofBits (F := Ideal) .f32 0x3F800000#32 : EReal) = 1 := Ideal.ofBits_one_f32

end Cert.Project

end
-- ==== Proof.InSb.lean ====
/-
  THE STICK-BREAKING LAYER'S IN-PROJECTION: the arrays the kernel leaves and the reference's results, at every row and
  column, are the row's projection by that column of the matrix (`Project.project`).
-/
module

public import proofs.«01_k».proof.Proof.Project
public import proofs.«01_k».proof.Proof.Gen.KernelInSbIdeal.Value
public import proofs.«01_k».proof.Proof.Gen.ReferenceInSbIdeal.Read
public import Idealize.ShloMosaic.Lib.Pipeline.ValueKit.Geometry

@[expose] public section

set_option maxRecDepth 16384

noncomputable section

open Idealize.ShloMosaic Idealize.ShloMosaic.TcCoe Idealize.SL.Sem Cert.KernelInSbIdeal Cert.KernelInSbIdeal.Gen

namespace Cert.InSb

/-! ## One block -/

theorem pay_at (x : Vec Ideal S256x1024 .f32) (sc sh : Vec Ideal S1x1x1024 .f32) (w : Vec Ideal S1024x1536 .bf16) (b : Vec Ideal S1x1536 .f32) (r : Fin 256) (j : Fin 1536) :
    k0_pay1 x sc sh w b (ix2 r j) = (∑ k : Fin 1024, (x (ix2 r k) * (1 + sc (ix3 (0 : Fin 1) (0 : Fin 1) k)) + sh (ix3 (0 : Fin 1) (0 : Fin 1) k)) * w (ix2 k j)) + b (ix2 (0 : Fin 1) j) := by
  pointwise [k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix3 (Project.batch (row t r)) (Project.place (row t r)) k) := by
  have e := idx0 t
  have h : V m c main_v0 = shapeCast S16384x1024 (m ((c : Thread nD τ).loc main_arg0)) shapeCasts_S4x4096x1024_S16384x1024 := rfl
  refine Eq.trans ?_ ((congrFun h _).trans (Project.flat_apply _ _ (row t r) k))
  unfold iblk
  rw [View.read_apply]
  show V m c main_v0 _ = V m c main_v0 _
  congr 1
  blk_ext [e, row]

theorem block1 (t : Fin cfg0.N) (r : Fin 256) (k : Fin 1024) :
    iblk m c 1 t (ix3 (0 : Fin 1) (0 : Fin 1) k) = m ((c : Thread nD τ).loc main_arg1) (ix3 (Project.batch (row t r)) (0 : Fin 1) k) := by
  have e := idx1 t
  unfold iblk
  rw [View.read_apply]
  show V m c main_arg1 _ = m _ _
  rw [V_main_arg1]
  congr 1
  blk_ext [e, row, Project.batch]

theorem block2 (t : Fin cfg0.N) (r : Fin 256) (k : Fin 1024) :
    iblk m c 2 t (ix3 (0 : Fin 1) (0 : Fin 1) k) = m ((c : Thread nD τ).loc main_arg2) (ix3 (Project.batch (row t r)) (0 : Fin 1) k) := by
  have e := idx2 t
  unfold iblk
  rw [View.read_apply]
  show V m c main_arg2 _ = m _ _
  rw [V_main_arg2]
  congr 1
  blk_ext [e, row, Project.batch]

theorem block3 (t : Fin cfg0.N) (k : Fin 1024) (j : Fin 1536) :
    iblk m c 3 t (ix2 k j) = m ((c : Thread nD τ).loc main_arg3) (ix2 k j) := by
  have e := idx3 t
  have h : V m c main_v1 = (truncf .bf16 (m ((c : Thread nD τ).loc main_arg3) : FVec Ideal S1024x1536 .f32) bitsLt_bf16_f32 : FVec Ideal S1024x1536 .bf16) := rfl
  refine Eq.trans ?_ (congrFun h (ix2 k j))
  unfold iblk
  rw [View.read_apply]
  show V m c main_v1 _ = V m c main_v1 _
  congr 1
  blk_ext [e]

theorem block4 (t : Fin cfg0.N) (j : Fin 1536) :
    iblk m c 4 t (ix2 (0 : Fin 1) j) = (0 : EReal) := by
  have e := idx4 t
  have h : V m c main_v3 = shapeCast S1x1536 (broadcastInDim S1536 ![] bcast_S_S1536 (constant (F := Ideal) S_ .f32 0x00000000#32)) shapeCasts_S1536_S1x1536 := rfl
  refine Eq.trans (b := V m c main_v3 (ix2 (0 : Fin 1) j)) ?_ ?_
  · unfold iblk
    rw [View.read_apply]
    show V m c main_v3 _ = V m c main_v3 _
    congr 1
    blk_ext [e]
  · rw [h]
    pointwise

/-! ## The arrays the kernel leaves -/

/-- The projected row `r` at column `j`, from the argument arrays. -/
def value (r : Fin 16384) (j : Fin 1536) : EReal :=
  Project.project (m ((c : Thread nD τ).loc main_arg0)) (m ((c : Thread nD τ).loc main_arg1)) (m ((c : Thread nD τ).loc main_arg2)) (fun k => m ((c : Thread nD τ).loc main_arg3) (ix2 k j)) r

theorem pay_block (t : Fin cfg0.N) (r : Fin 256) (j : Fin 1536) :
    k0_pay1 (iblk m c 0 t) (iblk m c 2 t) (iblk m c 1 t) (iblk m c 3 t) (iblk m c 4 t) (ix2 r j) = value m c (row t r) j := by
  refine (pay_at _ _ _ _ _ r j).trans ?_
  rw [block4, add_zero]
  unfold value Project.project
  refine Finset.sum_congr rfl fun k _ => ?_
  rw [block0, block1 m c t r, block2 m c t r, block3]

theorem array5_at (r : Fin 16384) (x : Fin 1536) : (dats m 0 c).arrAt 5 cfg0.N (ix2 r x) = value m c r x := by
  refine (dats m 0 c).arrAt_forall_of_covers 5 (fun (i : S16384x1536.Idx) (v : EReal) => v = value m c (i 0) (i 1)) (by decide +kernel) (fun t hf y => ?_) (ix2 r x)
  obtain ⟨i, j, rfl⟩ : ∃ (i : Fin 256) (j : Fin 1536), y = ix2 i j := ⟨y 0, y 1, eq_ix2 y⟩
  have e := idx5 t
  have e0 : ((cfg0.win 5).blk t).view.emb (ix2 i j) 0 = row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (row t i) j := by
    rw [after0_5]
    unfold out0_5
    rw [Project.store2, Project.load2, Project.load2, Project.load2, Project.load3, Project.load3]
    exact pay_block m c t i j
  refine hb.trans ?_
  rw [e0, e1]

theorem array6_at (r : Fin 16384) (x : Fin 1536) : (dats m 0 c).arrAt 6 cfg0.N (ix2 r x) = value m c r x := by
  refine (dats m 0 c).arrAt_forall_of_covers 6 (fun (i : S16384x1536.Idx) (v : EReal) => v = value m c (i 0) (i 1)) (by decide +kernel) (fun t hf y => ?_) (ix2 r x)
  obtain ⟨i, j, rfl⟩ : ∃ (i : Fin 256) (j : Fin 1536), y = ix2 i j := ⟨y 0, y 1, eq_ix2 y⟩
  have e := idx6 t
  have e0 : ((cfg0.win 6).blk t).view.emb (ix2 i j) 0 = row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInSbIdeal.Read

theorem reference_at (x : (⟨3, ![4, 4096, 1024]⟩ : Shape).Idx → EReal) (sh sc : (⟨3, ![4, 1, 1024]⟩ : Shape).Idx → EReal) (w : (⟨2, ![1024, 1536]⟩ : Shape).Idx → EReal) (r : Fin 16384) (j : Fin 1536) :
    val_main_v7 (F := Ideal) x sh sc w (ix2 r j) = Project.project x sh sc (fun k => w (ix2 k j)) r := by
  have h : idx_main_v7 (ix2 r j) = ix3 (Project.batch r) (Project.place r) j := by
    refine funext fun a => Fin.ext ?_
    match a with
    | ⟨0, _⟩ => show (r.val * 1536 + j.val) / 6291456 = r.val / 4096; omega
    | ⟨1, _⟩ => show (r.val * 1536 + j.val) / 1536 % 4096 = r.val % 4096; omega
    | ⟨2, _⟩ => show (r.val * 1536 + j.val) % 1536 = j.val; omega
  rw [val_main_v7_apply, h, val_main_v6_apply]
  refine Finset.sum_congr rfl fun k _ => ?_
  rw [val_main_v5_apply, val_main_v3_apply, val_main_v4_apply, val_main_v2_apply, val_main_v1_apply, val_main_v0_apply, val_main_cst_apply, Project.one_bits]
  have e1 : lidx_main_v6 (ix3 (Project.batch r) (Project.place r) j) k = ix3 (Project.batch r) (Project.place r) k := funext fun a => match a with | ⟨0, _⟩ => rfl | ⟨1, _⟩ => rfl | ⟨2, _⟩ => rfl
  have e2 : idx_main_v2 (ix3 (Project.batch r) (Project.place r) k) = ix3 (Project.batch r) (0 : Fin 1) k := funext fun a => match a with | ⟨0, _⟩ => rfl | ⟨1, _⟩ => rfl | ⟨2, _⟩ => rfl
  have e3 : ridx_main_v6 (ix3 (Project.batch r) (Project.place r) j) k = ix2 k j := funext fun a => match a with | ⟨0, _⟩ => rfl | ⟨1, _⟩ => rfl
  rw [e1, e3, show idx_main_v4 (ix3 (Project.batch r) (Project.place r) k) = _ from e2, e2]
  rfl

/-- The kernel's results are the reference's. -/
theorem result5 : (dats m 0 c).arrAt 5 cfg0.N
    = val_main_v7 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1536), i = ix2 r j := ⟨i 0, i 1, eq_ix2 i⟩
  exact (array5_at m c r j).trans (reference_at _ _ _ _ r j).symm

theorem result6 : (dats m 0 c).arrAt 6 cfg0.N
    = val_main_v8 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1536), i = ix2 r j := ⟨i 0, i 1, eq_ix2 i⟩
  exact (array6_at m c r j).trans (reference_at _ _ _ _ r j).symm

end

end Cert.InSb

end
-- ==== Proof.InNsa.lean ====
/-
  THE SPARSE LAYERS' IN-PROJECTION: the arrays the kernel leaves and the reference's results, at every row and
  column, are the row's projection by that column of the matrix (`Project.project`).
-/
module

public import proofs.«01_k».proof.Proof.Project
public import proofs.«01_k».proof.Proof.Gen.KernelInNsaIdeal.Value
public import proofs.«01_k».proof.Proof.Gen.ReferenceInNsaIdeal.Read
public import Idealize.ShloMosaic.Lib.Pipeline.ValueKit.Geometry

@[expose] public section

set_option maxRecDepth 16384

noncomputable section

open Idealize.ShloMosaic Idealize.ShloMosaic.TcCoe Idealize.SL.Sem Cert.KernelInNsaIdeal Cert.KernelInNsaIdeal.Gen

namespace Cert.InNsa

/-! ## One block -/

theorem pay_at (x : Vec Ideal S256x1024 .f32) (sc sh : Vec Ideal S1x1x1024 .f32) (w : Vec Ideal S1024x1920 .bf16) (b : Vec Ideal S1x1920 .f32) (r : Fin 256) (j : Fin 1920) :
    k0_pay1 x sc sh w b (ix2 r j) = (∑ k : Fin 1024, (x (ix2 r k) * (1 + sc (ix3 (0 : Fin 1) (0 : Fin 1) k)) + sh (ix3 (0 : Fin 1) (0 : Fin 1) k)) * w (ix2 k j)) + b (ix2 (0 : Fin 1) j) := by
  pointwise [k0_pay1]

/-! ## What the blocks read -/

variable (m : (ℓ : Loc nD τ sig) → Buf (Elt Ideal) ℓ) (c : Dev nD)

/-- The word zero as a number. -/
theorem zero_word {s : Shape} (i : s.Idx) : (sitofp (F := Ideal) .f32 (constantI s 32 0#32) : FVec Ideal s .f32) i = (0 : EReal) := by
  show (((0#32 : BitVec 32).toInt : ℝ) : EReal) = 0
  simp

theorem idx0 : ∀ t : Fin cfg0.N, win0_0.index t = ![t.val, 0] := (by decide +kernel : ∀ t : Fin grid0.N, win0_0.index t = ![t.val, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix3 (Project.batch (row t r)) (Project.place (row t r)) k) := by
  have e := idx0 t
  have h : V m c main_v2 = shapeCast S16384x1024 (m ((c : Thread nD τ).loc main_arg0)) shapeCasts_S4x4096x1024_S16384x1024 := rfl
  refine Eq.trans ?_ ((congrFun h _).trans (Project.flat_apply _ _ (row t r) k))
  unfold iblk
  rw [View.read_apply]
  show V m c main_v2 _ = V m c main_v2 _
  congr 1
  blk_ext [e, row]

theorem block1 (t : Fin cfg0.N) (r : Fin 256) (k : Fin 1024) :
    iblk m c 1 t (ix3 (0 : Fin 1) (0 : Fin 1) k) = m ((c : Thread nD τ).loc main_arg1) (ix3 (Project.batch (row t r)) (0 : Fin 1) k) := by
  have e := idx1 t
  unfold iblk
  rw [View.read_apply]
  show V m c main_arg1 _ = m _ _
  rw [V_main_arg1]
  congr 1
  blk_ext [e, row, Project.batch]

theorem block2 (t : Fin cfg0.N) (r : Fin 256) (k : Fin 1024) :
    iblk m c 2 t (ix3 (0 : Fin 1) (0 : Fin 1) k) = m ((c : Thread nD τ).loc main_arg2) (ix3 (Project.batch (row t r)) (0 : Fin 1) k) := by
  have e := idx2 t
  unfold iblk
  rw [View.read_apply]
  show V m c main_arg2 _ = m _ _
  rw [V_main_arg2]
  congr 1
  blk_ext [e, row, Project.batch]

/-- The matrix with its 1840 columns padded by zeros to 1920. -/
def padded (w : (⟨2, ![1024, 1840]⟩ : Shape).Idx → EReal) (k : Fin 1024) (j : Fin 1920) : EReal :=
  if h : j.val < 1840 then w (ix2 k ⟨j.val, h⟩) else 0

theorem block3 (t : Fin cfg0.N) (k : Fin 1024) (j : Fin 1920) :
    iblk m c 3 t (ix2 k j) = padded (m ((c : Thread nD τ).loc main_arg3)) k j := by
  have e := idx3 t
  have h : V m c main_v1 = (truncf .bf16 (pad S1024x1920 ![0, 0] ![0, 80] ![0, 0] (m ((c : Thread nD τ).loc main_arg3) : FVec Ideal S1024x1840 .f32) (sitofp (F := Ideal) .f32 (constantI S_ 32 0#32)) pads_S1024x1840_S1024x1920_000_0800 h_S_ : FVec Ideal S1024x1920 .f32) bitsLt_bf16_f32 : FVec Ideal S1024x1920 .bf16) := rfl
  have h2 := Project.padCols_apply (m ((c : Thread nD τ).loc main_arg3) : FVec Ideal S1024x1840 .f32) (sitofp (F := Ideal) .f32 (constantI S_ 32 0#32) : FVec Ideal S_ .f32) pads_S1024x1840_S1024x1920_000_0800 h_S_ k j
  refine Eq.trans ?_ ((congrFun h (ix2 k j)).trans (h2.trans ?_))
  · unfold iblk
    rw [View.read_apply]
    show V m c main_v1 _ = V m c main_v1 _
    congr 1
    blk_ext [e]
  · unfold padded
    split
    · rfl
    · exact zero_word _

theorem block4 (t : Fin cfg0.N) (j : Fin 1920) :
    iblk m c 4 t (ix2 (0 : Fin 1) j) = (0 : EReal) := by
  have e := idx4 t
  have h : V m c main_v4 = shapeCast S1x1920 (broadcastInDim S1920 ![] bcast_S_S1920 (constant (F := Ideal) S_ .f32 0x00000000#32)) shapeCasts_S1920_S1x1920 := rfl
  refine Eq.trans (b := V m c main_v4 (ix2 (0 : Fin 1) j)) ?_ ?_
  · unfold iblk
    rw [View.read_apply]
    show V m c main_v4 _ = V m c main_v4 _
    congr 1
    blk_ext [e]
  · rw [h]
    pointwise

/-! ## The arrays the kernel leaves -/

/-- The projected row `r` at column `j`, from the argument arrays. -/
def value (r : Fin 16384) (j : Fin 1920) : EReal :=
  Project.project (m ((c : Thread nD τ).loc main_arg0)) (m ((c : Thread nD τ).loc main_arg1)) (m ((c : Thread nD τ).loc main_arg2)) (fun k => padded (m ((c : Thread nD τ).loc main_arg3)) k j) r

theorem pay_block (t : Fin cfg0.N) (r : Fin 256) (j : Fin 1920) :
    k0_pay1 (iblk m c 0 t) (iblk m c 2 t) (iblk m c 1 t) (iblk m c 3 t) (iblk m c 4 t) (ix2 r j) = value m c (row t r) j := by
  refine (pay_at _ _ _ _ _ r j).trans ?_
  rw [block4, add_zero]
  unfold value Project.project
  refine Finset.sum_congr rfl fun k _ => ?_
  rw [block0, block1 m c t r, block2 m c t r, block3]

theorem array5_at (r : Fin 16384) (x : Fin 1920) : (dats m 0 c).arrAt 5 cfg0.N (ix2 r x) = value m c r x := by
  refine (dats m 0 c).arrAt_forall_of_covers 5 (fun (i : S16384x1920.Idx) (v : EReal) => v = value m c (i 0) (i 1)) (by decide +kernel) (fun t hf y => ?_) (ix2 r x)
  obtain ⟨i, j, rfl⟩ : ∃ (i : Fin 256) (j : Fin 1920), y = ix2 i j := ⟨y 0, y 1, eq_ix2 y⟩
  have e := idx5 t
  have e0 : ((cfg0.win 5).blk t).view.emb (ix2 i j) 0 = row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (row t i) j := by
    rw [after0_5]
    unfold out0_5
    rw [Project.store2, Project.load2, Project.load2, Project.load2, Project.load3, Project.load3]
    exact pay_block m c t i j
  refine hb.trans ?_
  rw [e0, e1]

theorem array6_at (r : Fin 16384) (x : Fin 1920) : (dats m 0 c).arrAt 6 cfg0.N (ix2 r x) = value m c r x := by
  refine (dats m 0 c).arrAt_forall_of_covers 6 (fun (i : S16384x1920.Idx) (v : EReal) => v = value m c (i 0) (i 1)) (by decide +kernel) (fun t hf y => ?_) (ix2 r x)
  obtain ⟨i, j, rfl⟩ : ∃ (i : Fin 256) (j : Fin 1920), y = ix2 i j := ⟨y 0, y 1, eq_ix2 y⟩
  have e := idx6 t
  have e0 : ((cfg0.win 6).blk t).view.emb (ix2 i j) 0 = row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInNsaIdeal.Read

theorem product_at (x : (⟨3, ![4, 4096, 1024]⟩ : Shape).Idx → EReal) (sh sc : (⟨3, ![4, 1, 1024]⟩ : Shape).Idx → EReal) (w : (⟨2, ![1024, 1840]⟩ : Shape).Idx → EReal) (r : Fin 16384) (j : Fin 1840) :
    val_main_v7 (F := Ideal) x sh sc w (ix2 r j) = Project.project x sh sc (fun k => w (ix2 k j)) r := by
  have h : idx_main_v7 (ix2 r j) = ix3 (Project.batch r) (Project.place r) j := by
    refine funext fun a => Fin.ext ?_
    match a with
    | ⟨0, _⟩ => show (r.val * 1840 + j.val) / 7536640 = r.val / 4096; omega
    | ⟨1, _⟩ => show (r.val * 1840 + j.val) / 1840 % 4096 = r.val % 4096; omega
    | ⟨2, _⟩ => show (r.val * 1840 + j.val) % 1840 = j.val; omega
  rw [val_main_v7_apply, h, val_main_v6_apply]
  refine Finset.sum_congr rfl fun k _ => ?_
  rw [val_main_v5_apply, val_main_v3_apply, val_main_v4_apply, val_main_v2_apply, val_main_v1_apply, val_main_v0_apply, val_main_cst_apply, Project.one_bits]
  have e1 : lidx_main_v6 (ix3 (Project.batch r) (Project.place r) j) k = ix3 (Project.batch r) (Project.place r) k := funext fun a => match a with | ⟨0, _⟩ => rfl | ⟨1, _⟩ => rfl | ⟨2, _⟩ => rfl
  have e2 : idx_main_v2 (ix3 (Project.batch r) (Project.place r) k) = ix3 (Project.batch r) (0 : Fin 1) k := funext fun a => match a with | ⟨0, _⟩ => rfl | ⟨1, _⟩ => rfl | ⟨2, _⟩ => rfl
  have e3 : ridx_main_v6 (ix3 (Project.batch r) (Project.place r) j) k = ix2 k j := funext fun a => match a with | ⟨0, _⟩ => rfl | ⟨1, _⟩ => rfl
  rw [e1, e3, show idx_main_v4 (ix3 (Project.batch r) (Project.place r) k) = _ from e2, e2]
  rfl

theorem reference_at (x : (⟨3, ![4, 4096, 1024]⟩ : Shape).Idx → EReal) (sh sc : (⟨3, ![4, 1, 1024]⟩ : Shape).Idx → EReal) (w : (⟨2, ![1024, 1840]⟩ : Shape).Idx → EReal) (r : Fin 16384) (j : Fin 1920) :
    val_main_v8 (F := Ideal) x sh sc w (ix2 r j) = Project.project x sh sc (fun k => padded w k j) r := by
  unfold val_main_v8
  refine (Project.padCols_apply _ _ _ _ r j).trans ?_
  split
  · rename_i h
    rw [product_at]
    simp only [padded, dif_pos h]
  · rename_i h
    refine (zero_word _).trans ?_
    simp only [padded, dif_neg h, Project.project, mul_zero, Finset.sum_const_zero]

/-- The kernel's results are the reference's. -/
theorem result5 : (dats m 0 c).arrAt 5 cfg0.N
    = val_main_v8 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1920), i = ix2 r j := ⟨i 0, i 1, eq_ix2 i⟩
  exact (array5_at m c r j).trans (reference_at _ _ _ _ r j).symm

theorem result6 : (dats m 0 c).arrAt 6 cfg0.N
    = val_main_v9 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1920), i = ix2 r j := ⟨i 0, i 1, eq_ix2 i⟩
  exact (array6_at m c r j).trans (reference_at _ _ _ _ r j).symm

end

end Cert.InNsa

end
-- ==== Proof.InSwa.lean ====
/-
  THE SLIDING-WINDOW LAYER'S IN-PROJECTION: the arrays the kernel leaves and the reference's results, at every row and
  column, are the row's projection by that column of the matrix (`Project.project`).
-/
module

public import proofs.«01_k».proof.Proof.Project
public import proofs.«01_k».proof.Proof.Gen.KernelInSwaIdeal.Value
public import proofs.«01_k».proof.Proof.Gen.ReferenceInSwaIdeal.Read
public import Idealize.ShloMosaic.Lib.Pipeline.ValueKit.Geometry

@[expose] public section

set_option maxRecDepth 16384

noncomputable section

open Idealize.ShloMosaic Idealize.ShloMosaic.TcCoe Idealize.SL.Sem Cert.KernelInSwaIdeal Cert.KernelInSwaIdeal.Gen

namespace Cert.InSwa

/-! ## One block -/

theorem pay_at (x : Vec Ideal S256x1024 .f32) (sc sh : Vec Ideal S1x1x1024 .f32) (w : Vec Ideal S1024x1280 .bf16) (b : Vec Ideal S1x1280 .f32) (r : Fin 256) (j : Fin 1280) :
    k0_pay1 x sc sh w b (ix2 r j) = (∑ k : Fin 1024, (x (ix2 r k) * (1 + sc (ix3 (0 : Fin 1) (0 : Fin 1) k)) + sh (ix3 (0 : Fin 1) (0 : Fin 1) k)) * w (ix2 k j)) + b (ix2 (0 : Fin 1) j) := by
  pointwise [k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix3 (Project.batch (row t r)) (Project.place (row t r)) k) := by
  have e := idx0 t
  have h : V m c main_v0 = shapeCast S16384x1024 (m ((c : Thread nD τ).loc main_arg0)) shapeCasts_S4x4096x1024_S16384x1024 := rfl
  refine Eq.trans ?_ ((congrFun h _).trans (Project.flat_apply _ _ (row t r) k))
  unfold iblk
  rw [View.read_apply]
  show V m c main_v0 _ = V m c main_v0 _
  congr 1
  blk_ext [e, row]

theorem block1 (t : Fin cfg0.N) (r : Fin 256) (k : Fin 1024) :
    iblk m c 1 t (ix3 (0 : Fin 1) (0 : Fin 1) k) = m ((c : Thread nD τ).loc main_arg1) (ix3 (Project.batch (row t r)) (0 : Fin 1) k) := by
  have e := idx1 t
  unfold iblk
  rw [View.read_apply]
  show V m c main_arg1 _ = m _ _
  rw [V_main_arg1]
  congr 1
  blk_ext [e, row, Project.batch]

theorem block2 (t : Fin cfg0.N) (r : Fin 256) (k : Fin 1024) :
    iblk m c 2 t (ix3 (0 : Fin 1) (0 : Fin 1) k) = m ((c : Thread nD τ).loc main_arg2) (ix3 (Project.batch (row t r)) (0 : Fin 1) k) := by
  have e := idx2 t
  unfold iblk
  rw [View.read_apply]
  show V m c main_arg2 _ = m _ _
  rw [V_main_arg2]
  congr 1
  blk_ext [e, row, Project.batch]

theorem block3 (t : Fin cfg0.N) (k : Fin 1024) (j : Fin 1280) :
    iblk m c 3 t (ix2 k j) = m ((c : Thread nD τ).loc main_arg3) (ix2 k j) := by
  have e := idx3 t
  have h : V m c main_v1 = (truncf .bf16 (m ((c : Thread nD τ).loc main_arg3) : FVec Ideal S1024x1280 .f32) bitsLt_bf16_f32 : FVec Ideal S1024x1280 .bf16) := rfl
  refine Eq.trans ?_ (congrFun h (ix2 k j))
  unfold iblk
  rw [View.read_apply]
  show V m c main_v1 _ = V m c main_v1 _
  congr 1
  blk_ext [e]

theorem block4 (t : Fin cfg0.N) (j : Fin 1280) :
    iblk m c 4 t (ix2 (0 : Fin 1) j) = (0 : EReal) := by
  have e := idx4 t
  have h : V m c main_v3 = shapeCast S1x1280 (broadcastInDim S1280 ![] bcast_S_S1280 (constant (F := Ideal) S_ .f32 0x00000000#32)) shapeCasts_S1280_S1x1280 := rfl
  refine Eq.trans (b := V m c main_v3 (ix2 (0 : Fin 1) j)) ?_ ?_
  · unfold iblk
    rw [View.read_apply]
    show V m c main_v3 _ = V m c main_v3 _
    congr 1
    blk_ext [e]
  · rw [h]
    pointwise

/-! ## The arrays the kernel leaves -/

/-- The projected row `r` at column `j`, from the argument arrays. -/
def value (r : Fin 16384) (j : Fin 1280) : EReal :=
  Project.project (m ((c : Thread nD τ).loc main_arg0)) (m ((c : Thread nD τ).loc main_arg1)) (m ((c : Thread nD τ).loc main_arg2)) (fun k => m ((c : Thread nD τ).loc main_arg3) (ix2 k j)) r

theorem pay_block (t : Fin cfg0.N) (r : Fin 256) (j : Fin 1280) :
    k0_pay1 (iblk m c 0 t) (iblk m c 2 t) (iblk m c 1 t) (iblk m c 3 t) (iblk m c 4 t) (ix2 r j) = value m c (row t r) j := by
  refine (pay_at _ _ _ _ _ r j).trans ?_
  rw [block4, add_zero]
  unfold value Project.project
  refine Finset.sum_congr rfl fun k _ => ?_
  rw [block0, block1 m c t r, block2 m c t r, block3]

theorem array5_at (r : Fin 16384) (x : Fin 1280) : (dats m 0 c).arrAt 5 cfg0.N (ix2 r x) = value m c r x := by
  refine (dats m 0 c).arrAt_forall_of_covers 5 (fun (i : S16384x1280.Idx) (v : EReal) => v = value m c (i 0) (i 1)) (by decide +kernel) (fun t hf y => ?_) (ix2 r x)
  obtain ⟨i, j, rfl⟩ : ∃ (i : Fin 256) (j : Fin 1280), y = ix2 i j := ⟨y 0, y 1, eq_ix2 y⟩
  have e := idx5 t
  have e0 : ((cfg0.win 5).blk t).view.emb (ix2 i j) 0 = row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (row t i) j := by
    rw [after0_5]
    unfold out0_5
    rw [Project.store2, Project.load2, Project.load2, Project.load2, Project.load3, Project.load3]
    exact pay_block m c t i j
  refine hb.trans ?_
  rw [e0, e1]

theorem array6_at (r : Fin 16384) (x : Fin 1280) : (dats m 0 c).arrAt 6 cfg0.N (ix2 r x) = value m c r x := by
  refine (dats m 0 c).arrAt_forall_of_covers 6 (fun (i : S16384x1280.Idx) (v : EReal) => v = value m c (i 0) (i 1)) (by decide +kernel) (fun t hf y => ?_) (ix2 r x)
  obtain ⟨i, j, rfl⟩ : ∃ (i : Fin 256) (j : Fin 1280), y = ix2 i j := ⟨y 0, y 1, eq_ix2 y⟩
  have e := idx6 t
  have e0 : ((cfg0.win 6).blk t).view.emb (ix2 i j) 0 = row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInSwaIdeal.Read

theorem reference_at (x : (⟨3, ![4, 4096, 1024]⟩ : Shape).Idx → EReal) (sh sc : (⟨3, ![4, 1, 1024]⟩ : Shape).Idx → EReal) (w : (⟨2, ![1024, 1280]⟩ : Shape).Idx → EReal) (r : Fin 16384) (j : Fin 1280) :
    val_main_v7 (F := Ideal) x sh sc w (ix2 r j) = Project.project x sh sc (fun k => w (ix2 k j)) r := by
  have h : idx_main_v7 (ix2 r j) = ix3 (Project.batch r) (Project.place r) j := by
    refine funext fun a => Fin.ext ?_
    match a with
    | ⟨0, _⟩ => show (r.val * 1280 + j.val) / 5242880 = r.val / 4096; omega
    | ⟨1, _⟩ => show (r.val * 1280 + j.val) / 1280 % 4096 = r.val % 4096; omega
    | ⟨2, _⟩ => show (r.val * 1280 + j.val) % 1280 = j.val; omega
  rw [val_main_v7_apply, h, val_main_v6_apply]
  refine Finset.sum_congr rfl fun k _ => ?_
  rw [val_main_v5_apply, val_main_v3_apply, val_main_v4_apply, val_main_v2_apply, val_main_v1_apply, val_main_v0_apply, val_main_cst_apply, Project.one_bits]
  have e1 : lidx_main_v6 (ix3 (Project.batch r) (Project.place r) j) k = ix3 (Project.batch r) (Project.place r) k := funext fun a => match a with | ⟨0, _⟩ => rfl | ⟨1, _⟩ => rfl | ⟨2, _⟩ => rfl
  have e2 : idx_main_v2 (ix3 (Project.batch r) (Project.place r) k) = ix3 (Project.batch r) (0 : Fin 1) k := funext fun a => match a with | ⟨0, _⟩ => rfl | ⟨1, _⟩ => rfl | ⟨2, _⟩ => rfl
  have e3 : ridx_main_v6 (ix3 (Project.batch r) (Project.place r) j) k = ix2 k j := funext fun a => match a with | ⟨0, _⟩ => rfl | ⟨1, _⟩ => rfl
  rw [e1, e3, show idx_main_v4 (ix3 (Project.batch r) (Project.place r) k) = _ from e2, e2]
  rfl

/-- The kernel's results are the reference's. -/
theorem result5 : (dats m 0 c).arrAt 5 cfg0.N
    = val_main_v7 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1280), i = ix2 r j := ⟨i 0, i 1, eq_ix2 i⟩
  exact (array5_at m c r j).trans (reference_at _ _ _ _ r j).symm

theorem result6 : (dats m 0 c).arrAt 6 cfg0.N
    = val_main_v8 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 1280), i = ix2 r j := ⟨i 0, i 1, eq_ix2 i⟩
  exact (array6_at m c r j).trans (reference_at _ _ _ _ r j).symm

end

end Cert.InSwa

end
-- ==== Proof.Norm.lean ====
/-
  LAYER NORMALIZATION OF A ROW of 1024 columns: the row less its mean, over the root of its variance and a small
  constant, times a gain, plus a bias. The literals are the words both programs write: 1024, 1e-5 and the residual's
  factor 8^(1/4). The row that is normalized is the residual, scaled, and the branch's row under its gate.
-/
module

public import proofs.«01_k».proof.Proof.Project

@[expose] public section

noncomputable section

open Idealize.ShloMosaic

namespace Cert.Norm

/-- The mean of a row. -/
def mean (f : Fin 1024 → EReal) : EReal := Ideal.div (∑ k, f k) (Ideal.ofBits .f32 0x44800000#32)

/-- The row's variance. -/
def var (f : Fin 1024 → EReal) : EReal := mean fun k => (f k - mean f) * (f k - mean f)

/-- The normalized row at column `j`, with gain `g` and bias `b`. -/
def norm (f : Fin 1024 → EReal) (g b : EReal) (j : Fin 1024) : EReal :=
  (f j - mean f) * Ideal.rsqrt (var f + Ideal.ofBits .f32 0x3727C5AC#32) * g + b

/-- The row before its normalization: the scaled residual `x` and the branch's row `y` times one more than its gate. -/
def mixed (x gate y : Fin 1024 → EReal) (k : Fin 1024) : EReal :=
  Ideal.ofBits .f32 0x3FD744FD#32 * x k + (1 + gate k) * y k

/-- A row's mean as the reference writes it: its sum starts at zero. -/
theorem mean_eq (f : Fin 1024 → EReal) :
    FloatOps.hostDivf (F := Ideal) (φ := .f32) (FloatOps.ofBits .f32 0x00000000#32 + ∑ k, f k) (FloatOps.ofBits .f32 0x44800000#32) = mean f := by
  rw [show (FloatOps.ofBits .f32 0x00000000#32 : Ideal .f32) = 0 from Ideal.ofBits_zero_f32, zero_add]
  rfl

end Cert.Norm

end
-- ==== Proof.Out.lean ====
/-
  THE OUTPUT PROJECTION WITH ITS RESIDUAL AND LAYER NORMALIZATION: the array the kernel leaves and the reference's
  result, at every row and column, are the normalized row (`Norm.norm`) of the residual and the gated product.
-/
module

public import proofs.«01_k».proof.Proof.Norm
public import proofs.«01_k».proof.Proof.Gen.KernelOutIdeal.Value
public import proofs.«01_k».proof.Proof.Gen.ReferenceOutIdeal.Read
public import Idealize.ShloMosaic.Lib.Pipeline.ValueKit.Geometry

@[expose] public section

set_option maxRecDepth 16384

noncomputable section

open Idealize.ShloMosaic Idealize.ShloMosaic.TcCoe Idealize.SL.Sem Cert.KernelOutIdeal Cert.KernelOutIdeal.Gen

namespace Cert.Out

/-! ## One block -/

theorem pay_at (o : Vec Ideal S256x1024 .bf16) (w : Vec Ideal S1024x1024 .bf16) (x : Vec Ideal S256x1024 .f32) (gate : Vec Ideal S1x1x1024 .f32) (g b : Vec Ideal S1x1024 .f32) (r : Fin 256) (j : Fin 1024) :
    k0_pay1 (k0_pay2 o w x gate g) (k0_pay3 b) (ix2 r j)
      = Norm.norm (Norm.mixed (fun k => x (ix2 r k)) (fun k => gate (ix3 (0 : Fin 1) (0 : Fin 1) k)) (fun k => ∑ l : Fin 1024, o (ix2 r l) * w (ix2 l k))) (g (ix2 (0 : Fin 1) j)) (b (ix2 (0 : Fin 1) j)) j := by
  pointwise [k0_pay1, k0_pay2, k0_pay3]
  rfl

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix2 (row t r) k) := by
  have e := idx0 t
  unfold iblk
  rw [View.read_apply]
  show V m c main_arg0 _ = m _ _
  rw [V_main_arg0]
  congr 1
  blk_ext [e, row]

theorem block1 (t : Fin cfg0.N) (r : Fin 256) (k : Fin 1024) :
    iblk m c 1 t (ix2 r k) = m ((c : Thread nD τ).loc main_arg1) (ix3 (Project.batch (row t r)) (Project.place (row t r)) k) := by
  have e := idx1 t
  have h : V m c main_v0 = shapeCast S16384x1024 (m ((c : Thread nD τ).loc main_arg1)) shapeCasts_S4x4096x1024_S16384x1024 := rfl
  refine Eq.trans ?_ ((congrFun h _).trans (Project.flat_apply _ _ (row t r) k))
  unfold iblk
  rw [View.read_apply]
  show V m c main_v0 _ = V m c main_v0 _
  congr 1
  blk_ext [e, row]

theorem block2 (t : Fin cfg0.N) (r : Fin 256) (k : Fin 1024) :
    iblk m c 2 t (ix3 (0 : Fin 1) (0 : Fin 1) k) = m ((c : Thread nD τ).loc main_arg2) (ix3 (Project.batch (row t r)) (0 : Fin 1) k) := by
  have e := idx2 t
  unfold iblk
  rw [View.read_apply]
  show V m c main_arg2 _ = m _ _
  rw [V_main_arg2]
  congr 1
  blk_ext [e, row, Project.batch]

theorem block3 (t : Fin cfg0.N) (k j : Fin 1024) :
    iblk m c 3 t (ix2 k j) = m ((c : Thread nD τ).loc main_arg3) (ix2 k j) := by
  have e := idx3 t
  have h : V m c main_v1 = (truncf .bf16 (m ((c : Thread nD τ).loc main_arg3) : FVec Ideal S1024x1024 .f32) bitsLt_bf16_f32 : FVec Ideal S1024x1024 .bf16) := rfl
  refine Eq.trans ?_ (congrFun h (ix2 k j))
  unfold iblk
  rw [View.read_apply]
  show V m c main_v1 _ = V m c main_v1 _
  congr 1
  blk_ext [e]

theorem block4 (t : Fin cfg0.N) (j : Fin 1024) :
    iblk m c 4 t (ix2 (0 : Fin 1) j) = m ((c : Thread nD τ).loc main_arg4) (ix1 j) := by
  have e := idx4 t
  have h : V m c main_v2 = shapeCast S1x1024 (m ((c : Thread nD τ).loc main_arg4)) shapeCasts_S1024_S1x1024 := rfl
  refine Eq.trans (b := V m c main_v2 (ix2 (0 : Fin 1) j)) ?_ ?_
  · unfold iblk
    rw [View.read_apply]
    show V m c main_v2 _ = V m c main_v2 _
    congr 1
    blk_ext [e]
  · rw [h]
    pointwise

theorem block5 (t : Fin cfg0.N) (j : Fin 1024) :
    iblk m c 5 t (ix2 (0 : Fin 1) j) = m ((c : Thread nD τ).loc main_arg5) (ix1 j) := by
  have e := idx5 t
  have h : V m c main_v3 = shapeCast S1x1024 (m ((c : Thread nD τ).loc main_arg5)) shapeCasts_S1024_S1x1024 := rfl
  refine Eq.trans (b := V m c main_v3 (ix2 (0 : Fin 1) j)) ?_ ?_
  · unfold iblk
    rw [View.read_apply]
    show V m c main_v3 _ = V m c main_v3 _
    congr 1
    blk_ext [e]
  · rw [h]
    pointwise

/-! ## The array the kernel leaves -/

/-- The result at row `r` and column `j`, from the argument arrays. -/
def value (o : (⟨2, ![16384, 1024]⟩ : Shape).Idx → EReal) (x : (⟨3, ![4, 4096, 1024]⟩ : Shape).Idx → EReal) (gate : (⟨3, ![4, 1, 1024]⟩ : Shape).Idx → EReal) (w : (⟨2, ![1024, 1024]⟩ : Shape).Idx → EReal) (g b : (⟨1, ![1024]⟩ : Shape).Idx → EReal) (r : Fin 16384) (j : Fin 1024) : EReal :=
  Norm.norm (Norm.mixed (fun k => x (ix3 (Project.batch r) (Project.place r) k)) (fun k => gate (ix3 (Project.batch r) (0 : Fin 1) k)) (fun k => ∑ l : Fin 1024, o (ix2 r l) * w (ix2 l k))) (g (ix1 j)) (b (ix1 j)) j

/-- The kernel's result, at its own arguments. -/
abbrev left (r : Fin 16384) (j : Fin 1024) : EReal :=
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j

theorem pay_block (t : Fin cfg0.N) (r : Fin 256) (j : Fin 1024) :
    k0_pay1 (k0_pay2 (iblk m c 0 t) (iblk m c 3 t) (iblk m c 1 t) (iblk m c 2 t) (iblk m c 4 t)) (k0_pay3 (iblk m c 5 t)) (ix2 r j) = left m c (row t r) j := by
  refine (pay_at _ _ _ _ _ _ r j).trans ?_
  unfold left value
  congr 1
  · congr 1
    · exact funext fun k => block1 m c t r k
    · exact funext fun k => block2 m c t r k
    · exact funext fun k => Finset.sum_congr rfl fun l _ => by rw [block0, block3]
  · exact block4 m c t j
  · exact block5 m c t j

theorem array_at (r : Fin 16384) (x : Fin 1024) : (dats m 0 c).arrAt 6 cfg0.N (ix2 r x) = left m c r x := by
  refine (dats m 0 c).arrAt_forall_of_covers 6 (fun (i : S16384x1024.Idx) (v : EReal) => v = left m c (i 0) (i 1)) (by decide +kernel) (fun t hf y => ?_) (ix2 r x)
  obtain ⟨i, j, rfl⟩ : ∃ (i : Fin 256) (j : Fin 1024), y = ix2 i j := ⟨y 0, y 1, eq_ix2 y⟩
  have e := idx6 t
  have e0 : ((cfg0.win 6).blk t).view.emb (ix2 i j) 0 = row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = left m c (row t i) j := by
    rw [after0_6]
    unfold out0_6
    rw [Project.store2, Project.load2, Project.load2, Project.load2, Project.load2, Project.load2, Project.load3]
    exact pay_block m c t i j
  refine hb.trans ?_
  rw [e0, e1]

/-! ## The reference -/

section
open Cert.ReferenceOutIdeal.Read
variable (o : (⟨2, ![16384, 1024]⟩ : Shape).Idx → EReal) (x : (⟨3, ![4, 4096, 1024]⟩ : Shape).Idx → EReal) (gate : (⟨3, ![4, 1, 1024]⟩ : Shape).Idx → EReal) (w : (⟨2, ![1024, 1024]⟩ : Shape).Idx → EReal) (g b : (⟨1, ![1024]⟩ : Shape).Idx → EReal)

/-- The row it normalizes. -/
theorem ref_mixed (r : Fin 16384) (k : Fin 1024) :
    val_main_v9 (F := Ideal) o x gate w (ix3 (Project.batch r) (Project.place r) k) = Norm.mixed (fun k => x (ix3 (Project.batch r) (Project.place r) k)) (fun k => gate (ix3 (Project.batch r) (0 : Fin 1) k)) (fun k => ∑ l : Fin 1024, o (ix2 r l) * w (ix2 l k)) k := by
  have e1 : ∀ l : Fin 1024, idx_main_v1 (lidx_main_v2 (ix3 (Project.batch r) (Project.place r) k) l) = ix2 r l := fun l => by
    refine funext fun a => Fin.ext ?_
    match a with
    | ⟨0, _⟩ => show ((r.val / 4096 * 4096 + r.val % 4096) * 1024 + l.val) / 1024 = r.val; omega
    | ⟨1, _⟩ => show ((r.val / 4096 * 4096 + r.val % 4096) * 1024 + l.val) % 1024 = l.val; omega
  have e2 : ∀ l : Fin 1024, ridx_main_v2 (ix3 (Project.batch r) (Project.place r) k) l = ix2 l k := fun l => funext fun a => match a with | ⟨0, _⟩ => rfl | ⟨1, _⟩ => rfl
  have e3 : idx_main_v7 (ix3 (Project.batch r) (Project.place r) k) = ix3 (Project.batch r) (0 : Fin 1) k := funext fun a => match a with | ⟨0, _⟩ => rfl | ⟨1, _⟩ => rfl | ⟨2, _⟩ => rfl
  rw [val_main_v9_apply, val_main_v4_apply, val_main_v3_apply, val_main_cst_apply, val_main_v8_apply, val_main_v7_apply, val_main_v6_apply, val_main_v5_apply, val_main_cst_0_apply, val_main_v2_apply, Project.one_bits, e3]
  unfold Norm.mixed
  have hs : (∑ l : Fin 1024, val_main_v1 (F := Ideal) o (lidx_main_v2 (ix3 (Project.batch r) (Project.place r) k) l) * w (ridx_main_v2 (ix3 (Project.batch r) (Project.place r) k) l)) = ∑ l : Fin 1024, o (ix2 r l) * w (ix2 l k) :=
    Finset.sum_congr rfl fun l _ => by rw [val_main_v1_apply, val_main_v0_apply, e1, e2]; rfl
  rw [hs]
  rfl

theorem ref_mean (a : Fin 4) (s : Fin 4096) : val_main_v13 (F := Ideal) o x gate w (ix3 a s (0 : Fin 1)) = Norm.mean fun k => val_main_v9 (F := Ideal) o x gate w (ix3 a s k) := by
  have e : ∀ k, idx_main_v10 (idx_main_v11 (ix3 a s (0 : Fin 1))) k = ix3 a s k := fun k => funext fun a => match a with | ⟨0, _⟩ => rfl | ⟨1, _⟩ => rfl | ⟨2, _⟩ => rfl
  rw [val_main_v13_apply, val_main_v11_apply, val_main_v10_apply, val_main_cst_1_apply, val_main_v12_apply, val_main_cst_2_apply]
  simp only [e]
  exact Norm.mean_eq _

theorem ref_var (a : Fin 4) (s : Fin 4096) : val_main_v20 (F := Ideal) o x gate w (ix3 a s (0 : Fin 1)) = Norm.var fun k => val_main_v9 (F := Ideal) o x gate w (ix3 a s k) := by
  have e : ∀ k, idx_main_v17 (idx_main_v18 (ix3 a s (0 : Fin 1))) k = ix3 a s k := fun k => funext fun a => match a with | ⟨0, _⟩ => rfl | ⟨1, _⟩ => rfl | ⟨2, _⟩ => rfl
  have e' : ∀ k : Fin 1024, idx_main_v14 (ix3 a s k) = ix3 a s (0 : Fin 1) := fun k => funext fun a => match a with | ⟨0, _⟩ => rfl | ⟨1, _⟩ => rfl | ⟨2, _⟩ => rfl
  rw [val_main_v20_apply, val_main_v18_apply, val_main_v17_apply, val_main_cst_3_apply, val_main_v19_apply, val_main_cst_4_apply]
  simp only [e, val_main_v16_apply, val_main_v15_apply, val_main_v14_apply, e', ref_mean]
  exact Norm.mean_eq _

theorem reference_at (r : Fin 16384) (j : Fin 1024) : val_main_v34 (F := Ideal) o x gate w g b (ix2 r j) = value o x gate w g b r j := by
  have h : idx_main_v34 (ix2 r j) = ix3 (Project.batch r) (Project.place r) j := by
    refine funext fun a => Fin.ext ?_
    match a with
    | ⟨0, _⟩ => show (r.val * 1024 + j.val) / 4194304 = r.val / 4096; omega
    | ⟨1, _⟩ => show (r.val * 1024 + j.val) / 1024 % 4096 = r.val % 4096; omega
    | ⟨2, _⟩ => show (r.val * 1024 + j.val) % 1024 = j.val; omega
  have e1 : idx_main_v21 (ix3 (Project.batch r) (Project.place r) j) = ix3 (Project.batch r) (Project.place r) (0 : Fin 1) := funext fun a => match a with | ⟨0, _⟩ => rfl | ⟨1, _⟩ => rfl | ⟨2, _⟩ => rfl
  have e2 : idx_main_v28 (idx_main_v29 (ix3 (Project.batch r) (Project.place r) j)) = ix1 j := funext fun a => match a with | ⟨0, _⟩ => rfl
  rw [val_main_v34_apply, h, val_main_v33_apply, val_main_v30_apply, val_main_v27_apply, val_main_v22_apply, val_main_v21_apply, val_main_v26_apply, val_main_v25_apply, val_main_v24_apply, val_main_v23_apply, val_main_cst_5_apply, val_main_v29_apply, val_main_v28_apply, val_main_v32_apply, val_main_v31_apply,
    show idx_main_v26 (ix3 (Project.batch r) (Project.place r) j) = _ from e1, e1, show idx_main_v31 (idx_main_v32 (ix3 (Project.batch r) (Project.place r) j)) = _ from e2, e2, ref_mean, ref_var]
  simp only [ref_mixed]
  rfl

/-- The kernel's result is the reference's. -/
theorem result : (dats m 0 c).arrAt 6 cfg0.N
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, j, rfl⟩ : ∃ (r : Fin 16384) (j : Fin 1024), i = ix2 r j := ⟨i 0, i 1, eq_ix2 i⟩
  exact (array_at m c r j).trans (reference_at _ _ _ _ _ _ r j).symm

end

end Cert.Out

end
-- ==== Proof.Comb.lean ====
/-
  THE EXPERTS' COMBINATION WITH ITS RESIDUAL AND LAYER NORMALIZATION: the array the kernel leaves and the reference's
  result, at every row and column, are the normalized row (`Norm.norm`) of the residual and the gated sum of the two
  experts' rows under their weights.
-/
module

public import proofs.«01_k».proof.Proof.Norm
public import proofs.«01_k».proof.Proof.Gen.KernelCombIdeal.Value
public import proofs.«01_k».proof.Proof.Gen.ReferenceCombIdeal.Read
public import Idealize.ShloMosaic.Lib.Pipeline.ValueKit.Geometry

@[expose] public section

set_option maxRecDepth 16384

noncomputable section

open Idealize.ShloMosaic Idealize.ShloMosaic.TcCoe Idealize.SL.Sem Cert.KernelCombIdeal Cert.KernelCombIdeal.Gen

namespace Cert.Comb

/-- The experts' rows under their weights, at one column. -/
def blend (f0 f1 e0 e1 : EReal) : EReal := f0 * e0 + f1 * e1

/-! ## One block -/

theorem pay_at (f0 f1 : Vec Ideal S256x1024 .f32) (ew : Vec Ideal S256x2 .f32) (x : Vec Ideal S256x1024 .f32) (gate : Vec Ideal S1x1x1024 .f32) (g b : Vec Ideal S1x1024 .f32) (r : Fin 256) (j : Fin 1024) :
    k0_pay1 (k0_pay2 g) (k0_pay3 b) (k0_pay4 ew f0 f1 x gate) (k0_pay5 ew f0 f1 x gate) (k0_pay6 (F := Ideal)) (ix2 r j)
      = Norm.norm (Norm.mixed (fun k => x (ix2 r k)) (fun k => gate (ix3 (0 : Fin 1) (0 : Fin 1) k)) (fun k => blend (f0 (ix2 r k)) (f1 (ix2 r k)) (ew (ix2 r (0 : Fin 2))) (ew (ix2 r (1 : Fin 2))))) (g (ix2 (0 : Fin 1) j)) (b (ix2 (0 : Fin 1) j)) j := by
  pointwise [k0_pay1, k0_pay2, k0_pay3, k0_pay4, k0_pay5, k0_pay6]
  rfl

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val / 16, 0, 0] := (by decide +kernel : ∀ t : Fin grid0.N, win0_4.index t = ![t.val / 16, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix2 (row t r) k) := by
  have e := idx0 t
  unfold iblk
  rw [View.read_apply]
  show V m c main_arg0 _ = m _ _
  rw [V_main_arg0]
  congr 1
  blk_ext [e, row]

theorem block1 (t : Fin cfg0.N) (r : Fin 256) (k : Fin 1024) :
    iblk m c 1 t (ix2 r k) = m ((c : Thread nD τ).loc main_arg1) (ix2 (row t r) k) := by
  have e := idx1 t
  unfold iblk
  rw [View.read_apply]
  show V m c main_arg1 _ = m _ _
  rw [V_main_arg1]
  congr 1
  blk_ext [e, row]

theorem block2 (t : Fin cfg0.N) (r : Fin 256) (k : Fin 2) :
    iblk m c 2 t (ix2 r k) = m ((c : Thread nD τ).loc main_arg2) (ix2 (row t r) k) := by
  have e := idx2 t
  unfold iblk
  rw [View.read_apply]
  show V m c main_arg2 _ = m _ _
  rw [V_main_arg2]
  congr 1
  blk_ext [e, row]

theorem block3 (t : Fin cfg0.N) (r : Fin 256) (k : Fin 1024) :
    iblk m c 3 t (ix2 r k) = m ((c : Thread nD τ).loc main_arg3) (ix3 (Project.batch (row t r)) (Project.place (row t r)) k) := by
  have e := idx3 t
  have h : V m c main_v0 = shapeCast S16384x1024 (m ((c : Thread nD τ).loc main_arg3)) shapeCasts_S4x4096x1024_S16384x1024 := rfl
  refine Eq.trans ?_ ((congrFun h _).trans (Project.flat_apply _ _ (row t r) k))
  unfold iblk
  rw [View.read_apply]
  show V m c main_v0 _ = V m c main_v0 _
  congr 1
  blk_ext [e, row]

theorem block4 (t : Fin cfg0.N) (r : Fin 256) (k : Fin 1024) :
    iblk m c 4 t (ix3 (0 : Fin 1) (0 : Fin 1) k) = m ((c : Thread nD τ).loc main_arg4) (ix3 (Project.batch (row t r)) (0 : Fin 1) k) := by
  have e := idx4 t
  unfold iblk
  rw [View.read_apply]
  show V m c main_arg4 _ = m _ _
  rw [V_main_arg4]
  congr 1
  blk_ext [e, row, Project.batch]

theorem block5 (t : Fin cfg0.N) (j : Fin 1024) :
    iblk m c 5 t (ix2 (0 : Fin 1) j) = m ((c : Thread nD τ).loc main_arg5) (ix1 j) := by
  have e := idx5 t
  have h : V m c main_v1 = shapeCast S1x1024 (m ((c : Thread nD τ).loc main_arg5)) shapeCasts_S1024_S1x1024 := rfl
  refine Eq.trans (b := V m c main_v1 (ix2 (0 : Fin 1) j)) ?_ ?_
  · unfold iblk
    rw [View.read_apply]
    show V m c main_v1 _ = V m c main_v1 _
    congr 1
    blk_ext [e]
  · rw [h]
    pointwise

theorem block6 (t : Fin cfg0.N) (j : Fin 1024) :
    iblk m c 6 t (ix2 (0 : Fin 1) j) = m ((c : Thread nD τ).loc main_arg6) (ix1 j) := by
  have e := idx6 t
  have h : V m c main_v2 = shapeCast S1x1024 (m ((c : Thread nD τ).loc main_arg6)) shapeCasts_S1024_S1x1024 := rfl
  refine Eq.trans (b := V m c main_v2 (ix2 (0 : Fin 1) j)) ?_ ?_
  · unfold iblk
    rw [View.read_apply]
    show V m c main_v2 _ = V m c main_v2 _
    congr 1
    blk_ext [e]
  · rw [h]
    pointwise

/-! ## The array the kernel leaves -/

/-- The result at row `r` and column `j`, from the argument arrays. -/
def value (f0 f1 : (⟨2, ![16384, 1024]⟩ : Shape).Idx → EReal) (ew : (⟨2, ![16384, 2]⟩ : Shape).Idx → EReal) (x : (⟨3, ![4, 4096, 1024]⟩ : Shape).Idx → EReal) (gate : (⟨3, ![4, 1, 1024]⟩ : Shape).Idx → EReal) (g b : (⟨1, ![1024]⟩ : Shape).Idx → EReal) (r : Fin 16384) (j : Fin 1024) : EReal :=
  Norm.norm (Norm.mixed (fun k => x (ix3 (Project.batch r) (Project.place r) k)) (fun k => gate (ix3 (Project.batch r) (0 : Fin 1) k)) (fun k => blend (f0 (ix2 r k)) (f1 (ix2 r k)) (ew (ix2 r (0 : Fin 2))) (ew (ix2 r (1 : Fin 2))))) (g (ix1 j)) (b (ix1 j)) j

/-- The kernel's result, at its own arguments. -/
abbrev left (r : Fin 16384) (j : Fin 1024) : EReal :=
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r j

theorem pay_block (t : Fin cfg0.N) (r : Fin 256) (j : Fin 1024) :
    k0_pay1 (k0_pay2 (iblk m c 5 t)) (k0_pay3 (iblk m c 6 t)) (k0_pay4 (iblk m c 2 t) (iblk m c 0 t) (iblk m c 1 t) (iblk m c 3 t) (iblk m c 4 t)) (k0_pay5 (iblk m c 2 t) (iblk m c 0 t) (iblk m c 1 t) (iblk m c 3 t) (iblk m c 4 t)) (k0_pay6 (F := Ideal)) (ix2 r j) = left m c (row t r) j := by
  refine (pay_at _ _ _ _ _ _ _ r j).trans ?_
  unfold left value
  congr 1
  · congr 1
    · exact funext fun k => block3 m c t r k
    · exact funext fun k => block4 m c t r k
    · exact funext fun k => by rw [block0, block1, block2, block2]
  · exact block5 m c t j
  · exact block6 m c t j

theorem array_at (r : Fin 16384) (x : Fin 1024) : (dats m 0 c).arrAt 7 cfg0.N (ix2 r x) = left m c r x := by
  refine (dats m 0 c).arrAt_forall_of_covers 7 (fun (i : S16384x1024.Idx) (v : EReal) => v = left m c (i 0) (i 1)) (by decide +kernel) (fun t hf y => ?_) (ix2 r x)
  obtain ⟨i, j, rfl⟩ : ∃ (i : Fin 256) (j : Fin 1024), y = ix2 i j := ⟨y 0, y 1, eq_ix2 y⟩
  have e := idx7 t
  have e0 : ((cfg0.win 7).blk t).view.emb (ix2 i j) 0 = row t i := Fin.ext (by blk_simp [e]; show _ = 256 * t.val + i.val; omega)
  have e1 : ((cfg0.win 7).blk t).view.emb (ix2 i j) 1 = j := Fin.ext (by blk_simp [e])
  have hb : (dats m 0 c).after 7 t ((cfg0.win 7).xinj (cfg0.grid.coords t) (ix2 i j)) = left m c (row t i) j := by
    rw [after0_7]
    unfold out0_7
    rw [Project.store2, Project.load2, Project.load2, Project.load2, Project.load2, Project.load2, Project.load2, Project.load3]
    exact pay_block m c t i j
  refine hb.trans ?_
  rw [e0, e1]

/-! ## The reference -/

section
open Cert.ReferenceCombIdeal.Read
variable (f0 f1 : (⟨2, ![16384, 1024]⟩ : Shape).Idx → EReal) (ew : (⟨2, ![16384, 2]⟩ : Shape).Idx → EReal) (x : (⟨3, ![4, 4096, 1024]⟩ : Shape).Idx → EReal) (gate : (⟨3, ![4, 1, 1024]⟩ : Shape).Idx → EReal) (g b : (⟨1, ![1024]⟩ : Shape).Idx → EReal)

/-- The row it normalizes. -/
theorem ref_mixed (r : Fin 16384) (k : Fin 1024) :
    val_main_v14 (F := Ideal) f0 f1 ew x gate (ix3 (Project.batch r) (Project.place r) k) = Norm.mixed (fun k => x (ix3 (Project.batch r) (Project.place r) k)) (fun k => gate (ix3 (Project.batch r) (0 : Fin 1) k)) (fun k => blend (f0 (ix2 r k)) (f1 (ix2 r k)) (ew (ix2 r (0 : Fin 2))) (ew (ix2 r (1 : Fin 2)))) k := by
  have e1 : idx_main_v7 (ix3 (Project.batch r) (Project.place r) k) = ix2 r k := by
    refine funext fun a => Fin.ext ?_
    match a with
    | ⟨0, _⟩ => show ((r.val / 4096 * 4096 + r.val % 4096) * 1024 + k.val) / 1024 = r.val; omega
    | ⟨1, _⟩ => show ((r.val / 4096 * 4096 + r.val % 4096) * 1024 + k.val) % 1024 = k.val; omega
  have e2 : idx_main_v0 (idx_main_v1 (ix2 r k)) = ix2 r (0 : Fin 2) := funext fun a => match a with | ⟨0, _⟩ => rfl | ⟨1, _⟩ => rfl
  have e3 : idx_main_v3 (idx_main_v4 (ix2 r k)) = ix2 r (1 : Fin 2) := funext fun a => match a with | ⟨0, _⟩ => rfl | ⟨1, _⟩ => rfl
  have e4 : idx_main_v12 (ix3 (Project.batch r) (Project.place r) k) = ix3 (Project.batch r) (0 : Fin 1) k := funext fun a => match a with | ⟨0, _⟩ => rfl | ⟨1, _⟩ => rfl | ⟨2, _⟩ => rfl
  rw [val_main_v14_apply, val_main_v9_apply, val_main_v8_apply, val_main_cst_apply, val_main_v13_apply, val_main_v12_apply, val_main_v11_apply, val_main_v10_apply, val_main_cst_0_apply, val_main_v7_apply, Project.one_bits, e4, e1,
    val_main_v6_apply, val_main_v2_apply, val_main_v1_apply, val_main_v0_apply, val_main_v5_apply, val_main_v4_apply, val_main_v3_apply, e2, e3]
  rfl

theorem ref_mean (a : Fin 4) (s : Fin 4096) : val_main_v18 (F := Ideal) f0 f1 ew x gate (ix3 a s (0 : Fin 1)) = Norm.mean fun k => val_main_v14 (F := Ideal) f0 f1 ew x gate (ix3 a s k) := by
  have e : ∀ k, idx_main_v15 (idx_main_v16 (ix3 a s (0 : Fin 1))) k = ix3 a s k := fun k => funext fun a => match a with | ⟨0, _⟩ => rfl | ⟨1, _⟩ => rfl | ⟨2, _⟩ => rfl
  rw [val_main_v18_apply, val_main_v16_apply, val_main_v15_apply, val_main_cst_1_apply, val_main_v17_apply, val_main_cst_2_apply]
  simp only [e]
  exact Norm.mean_eq _

theorem ref_var (a : Fin 4) (s : Fin 4096) : val_main_v25 (F := Ideal) f0 f1 ew x gate (ix3 a s (0 : Fin 1)) = Norm.var fun k => val_main_v14 (F := Ideal) f0 f1 ew x gate (ix3 a s k) := by
  have e : ∀ k, idx_main_v22 (idx_main_v23 (ix3 a s (0 : Fin 1))) k = ix3 a s k := fun k => funext fun a => match a with | ⟨0, _⟩ => rfl | ⟨1, _⟩ => rfl | ⟨2, _⟩ => rfl
  have e' : ∀ k : Fin 1024, idx_main_v19 (ix3 a s k) = ix3 a s (0 : Fin 1) := fun k => funext fun a => match a with | ⟨0, _⟩ => rfl | ⟨1, _⟩ => rfl | ⟨2, _⟩ => rfl
  rw [val_main_v25_apply, val_main_v23_apply, val_main_v22_apply, val_main_cst_3_apply, val_main_v24_apply, val_main_cst_4_apply]
  simp only [e, val_main_v21_apply, val_main_v20_apply, val_main_v19_apply, e', ref_mean]
  exact Norm.mean_eq _

theorem reference_at (r : Fin 16384) (j : Fin 1024) : val_main_v39 (F := Ideal) f0 f1 ew x gate g b (ix2 r j) = value f0 f1 ew x gate g b r j := by
  have h : idx_main_v39 (ix2 r j) = ix3 (Project.batch r) (Project.place r) j := by
    refine funext fun a => Fin.ext ?_
    match a with
    | ⟨0, _⟩ => show (r.val * 1024 + j.val) / 4194304 = r.val / 4096; omega
    | ⟨1, _⟩ => show (r.val * 1024 + j.val) / 1024 % 4096 = r.val % 4096; omega
    | ⟨2, _⟩ => show (r.val * 1024 + j.val) % 1024 = j.val; omega
  have e1 : idx_main_v26 (ix3 (Project.batch r) (Project.place r) j) = ix3 (Project.batch r) (Project.place r) (0 : Fin 1) := funext fun a => match a with | ⟨0, _⟩ => rfl | ⟨1, _⟩ => rfl | ⟨2, _⟩ => rfl
  have e2 : idx_main_v33 (idx_main_v34 (ix3 (Project.batch r) (Project.place r) j)) = ix1 j := funext fun a => match a with | ⟨0, _⟩ => rfl
  rw [val_main_v39_apply, h, val_main_v38_apply, val_main_v35_apply, val_main_v32_apply, val_main_v27_apply, val_main_v26_apply, val_main_v31_apply, val_main_v30_apply, val_main_v29_apply, val_main_v28_apply, val_main_cst_5_apply, val_main_v34_apply, val_main_v33_apply, val_main_v37_apply, val_main_v36_apply,
    show idx_main_v31 (ix3 (Project.batch r) (Project.place r) j) = _ from e1, e1, show idx_main_v36 (idx_main_v37 (ix3 (Project.batch r) (Project.place r) j)) = _ from e2, e2, ref_mean, ref_var]
  simp only [ref_mixed]
  rfl

/-- The kernel's result is the reference's. -/
theorem result : (dats m 0 c).arrAt 7 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 16384) (j : Fin 1024), i = ix2 r j := ⟨i 0, i 1, eq_ix2 i⟩
  exact (array_at m c r j).trans (reference_at _ _ _ _ _ _ _ r j).symm

end

end Cert.Comb

end
-- ==== Proof.Sample.lean ====
/-
  THE SAMPLE'S ROWS: the row `r` of the flattened array is row `r % 8` of sequence `r / 8`. A modulation, one row per
  sequence, is repeated for the sequence's 8 rows and cut to 4 blocks of 256.
-/
module

public import proofs.«01_k».proof.Proof.Project

@[expose] public section

noncomputable section

open Idealize.ShloMosaic

namespace Cert.Sample

/-- The sequence of a flattened row, -/
def seq (r : Fin 1024) : Fin 128 := ⟨r.val / 8, by omega⟩
/-- and its place there. -/
def place (r : Fin 1024) : Fin 8 := ⟨r.val % 8, by omega⟩

/-- The flattened row of row `r` of block `t`. -/
def row (t : Fin 4) (r : Fin 256) : Fin 1024 := ⟨256 * t.val + r.val, by omega⟩

/-- The modulated row `r` times the column `w`. -/
def project (x : (⟨3, ![128, 8, 1024]⟩ : Shape).Idx → EReal) (shift scale : (⟨2, ![128, 1024]⟩ : Shape).Idx → EReal) (w : Fin 1024 → EReal) (r : Fin 1024) : EReal :=
  ∑ k : Fin 1024, (x (ix3 (seq r) (place r) k) * (1 + scale (ix2 (seq r) k)) + shift (ix2 (seq r) k)) * w k

/-- The flattened array at a row and a column. -/
theorem flat_apply {α : Type} {n : ℕ} (x : (⟨3, ![128, 8, n]⟩ : Shape).Idx → α) (h : (⟨3, ![128, 8, n]⟩ : Shape).ShapeCasts ⟨2, ![1024, n]⟩) (r : Fin 1024) (k : Fin n) :
    shapeCast ⟨2, ![1024, n]⟩ x h (ix2 r k) = x (ix3 (seq r) (place r) k) := by
  refine shapeCast_apply x h _ _ ?_
  rw [Shape.rowMajor_val_three, Shape.rowMajor_val_two]
  show (r.val / 8 * 8 + r.val % 8) * n + k.val = r.val * n + k.val
  rw [show r.val / 8 * 8 + r.val % 8 = r.val by omega]

/-- The flattened array cut to blocks. -/
theorem blocks_apply {α : Type} (x : (⟨2, ![1024, 1024]⟩ : Shape).Idx → α) (h : (⟨2, ![1024, 1024]⟩ : Shape).ShapeCasts ⟨3, ![4, 256, 1024]⟩) (t : Fin 4) (r : Fin 256) (k : Fin 1024) :
    shapeCast ⟨3, ![4, 256, 1024]⟩ x h (ix3 t r k) = x (ix2 (row t r) k) := by
  refine shapeCast_apply x h _ _ ?_
  rw [Shape.rowMajor_val_three, Shape.rowMajor_val_two]
  show (256 * t.val + r.val) * 1024 + k.val = (t.val * 256 + r.val) * 1024 + k.val
  omega

/-- A modulation's blocks have, at every row, the modulation of the row's sequence. -/
theorem spread_apply {α : Type} (a : (⟨2, ![128, 1024]⟩ : Shape).Idx → α) (h0) (h1 : (⟨3, ![128, 8, 1024]⟩ : Shape).ShapeCasts ⟨2, ![1024, 1024]⟩) (h2 : (⟨2, ![1024, 1024]⟩ : Shape).ShapeCasts ⟨3, ![4, 256, 1024]⟩)
    (t : Fin 4) (r : Fin 256) (k : Fin 1024) :
    shapeCast ⟨3, ![4, 256, 1024]⟩ (shapeCast ⟨2, ![1024, 1024]⟩ (broadcastInDim ⟨3, ![128, 8, 1024]⟩ ![0, 2] h0 a) h1) h2 (ix3 t r k) = a (ix2 (seq (row t r)) k) := by
  rw [blocks_apply, flat_apply]
  pointwise

end Cert.Sample

end
-- ==== Proof.InSbSample.lean ====
/-
  THE STICK-BREAKING LAYER'S IN-PROJECTION OF THE SAMPLE: the arrays the kernel leaves and the reference's results, at
  every row and column, are the row's projection by that column of the matrix (`Sample.project`).
-/
module

public import proofs.«01_k».proof.Proof.Sample
public import proofs.«01_k».proof.Proof.Gen.KernelInSbSampleIdeal.Value
public import proofs.«01_k».proof.Proof.Gen.ReferenceInSbSampleIdeal.Read
public import Idealize.ShloMosaic.Lib.Pipeline.ValueKit.Geometry

@[expose] public section

set_option maxRecDepth 16384

noncomputable section

open Idealize.ShloMosaic Idealize.ShloMosaic.TcCoe Idealize.SL.Sem Cert.KernelInSbSampleIdeal Cert.KernelInSbSampleIdeal.Gen

namespace Cert.InSbSample

/-! ## One block -/

theorem pay_at (x : Vec Ideal S256x1024 .f32) (sc sh : Vec Ideal S1x256x1024 .f32) (w : Vec Ideal S1024x1536 .bf16) (b : Vec Ideal S1x1536 .f32) (r : Fin 256) (j : Fin 1536) :
    k0_pay1 x sc sh w b (ix2 r j) = (∑ k : Fin 1024, (x (ix2 r k) * (1 + sc (ix3 (0 : Fin 1) r k)) + sh (ix3 (0 : Fin 1) r k)) * w (ix2 k j)) + b (ix2 (0 : Fin 1) j) := by
  pointwise [k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

theorem block0 (t : Fin cfg0.N) (r : Fin 256) (k : Fin 1024) :
    iblk m c 0 t (ix2 r k) = m ((c : Thread nD τ).loc main_arg0) (ix3 (Sample.seq (Sample.row t r)) (Sample.place (Sample.row t r)) k) := by
  have e := idx0 t
  have h : V m c main_v0 = shapeCast S1024x1024 (m ((c : Thread nD τ).loc main_arg0)) shapeCasts_S128x8x1024_S1024x1024 := rfl
  refine Eq.trans ?_ ((congrFun h _).trans (Sample.flat_apply _ _ (Sample.row t r) k))
  unfold iblk
  rw [View.read_apply]
  show V m c main_v0 _ = V m c main_v0 _
  congr 1
  blk_ext [e, Sample.row]

theorem block1 (t : Fin cfg0.N) (r : Fin 256) (k : Fin 1024) :
    iblk m c 1 t (ix3 (0 : Fin 1) r k) = m ((c : Thread nD τ).loc main_arg1) (ix2 (Sample.seq (Sample.row t r)) k) := by
  have e := idx1 t
  have h : V m c main_v3 = shapeCast S4x256x1024 (shapeCast S1024x1024 (broadcastInDim S128x8x1024 ![0, 2] bcast_S128x1024_S128x8x1024_0_2 (m ((c : Thread nD τ).loc main_arg1))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v3 _ = V m c main_v3 _
  congr 1
  blk_ext [e]

theorem block2 (t : Fin cfg0.N) (r : Fin 256) (k : Fin 1024) :
    iblk m c 2 t (ix3 (0 : Fin 1) r k) = m ((c : Thread nD τ).loc main_arg2) (ix2 (Sample.seq (Sample.row t r)) k) := by
  have e := idx2 t
  have h : V m c main_v6 = shapeCast S4x256x1024 (shapeCast S1024x1024 (broadcastInDim S128x8x1024 ![0, 2] bcast_S128x1024_S128x8x1024_0_2 (m ((c : Thread nD τ).loc main_arg2))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v6 _ = V m c main_v6 _
  congr 1
  blk_ext [e]

theorem block3 (t : Fin cfg0.N) (k : Fin 1024) (j : Fin 1536) :
    iblk m c 3 t (ix2 k j) = m ((c : Thread nD τ).loc main_arg3) (ix2 k j) := by
  have e := idx3 t
  have h : V m c main_v7 = (truncf .bf16 (m ((c : Thread nD τ).loc main_arg3) : FVec Ideal S1024x1536 .f32) bitsLt_bf16_f32 : FVec Ideal S1024x1536 .bf16) := rfl
  refine Eq.trans ?_ (congrFun h (ix2 k j))
  unfold iblk
  rw [View.read_apply]
  show V m c main_v7 _ = V m c main_v7 _
  congr 1
  blk_ext [e]

theorem block4 (t : Fin cfg0.N) (j : Fin 1536) :
    iblk m c 4 t (ix2 (0 : Fin 1) j) = (0 : EReal) := by
  have e := idx4 t
  have h : V m c main_v9 = shapeCast S1x1536 (broadcastInDim S1536 ![] bcast_S_S1536 (constant (F := Ideal) S_ .f32 0x00000000#32)) shapeCasts_S1536_S1x1536 := rfl
  refine Eq.trans (b := V m c main_v9 (ix2 (0 : Fin 1) j)) ?_ ?_
  · unfold iblk
    rw [View.read_apply]
    show V m c main_v9 _ = V m c main_v9 _
    congr 1
    blk_ext [e]
  · rw [h]
    pointwise

/-! ## The arrays the kernel leaves -/

/-- The projected row `r` at column `j`, from the argument arrays. -/
def value (r : Fin 1024) (j : Fin 1536) : EReal :=
  Sample.project (m ((c : Thread nD τ).loc main_arg0)) (m ((c : Thread nD τ).loc main_arg1)) (m ((c : Thread nD τ).loc main_arg2)) (fun k => m ((c : Thread nD τ).loc main_arg3) (ix2 k j)) r

theorem pay_block (t : Fin cfg0.N) (r : Fin 256) (j : Fin 1536) :
    k0_pay1 (iblk m c 0 t) (iblk m c 2 t) (iblk m c 1 t) (iblk m c 3 t) (iblk m c 4 t) (ix2 r j) = value m c (Sample.row t r) j := by
  refine (pay_at _ _ _ _ _ r j).trans ?_
  rw [block4, add_zero]
  unfold value Sample.project
  refine Finset.sum_congr rfl fun k _ => ?_
  rw [block0, block1 m c t r, block2 m c t r, block3]

theorem array5_at (r : Fin 1024) (x : Fin 1536) : (dats m 0 c).arrAt 5 cfg0.N (ix2 r x) = value m c r x := by
  refine (dats m 0 c).arrAt_forall_of_covers 5 (fun (i : S1024x1536.Idx) (v : EReal) => v = value m c (i 0) (i 1)) (by decide +kernel) (fun t hf y => ?_) (ix2 r x)
  obtain ⟨i, j, rfl⟩ : ∃ (i : Fin 256) (j : Fin 1536), y = ix2 i j := ⟨y 0, y 1, eq_ix2 y⟩
  have e := idx5 t
  have e0 : ((cfg0.win 5).blk t).view.emb (ix2 i j) 0 = Sample.row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (Sample.row t i) j := by
    rw [after0_5]
    unfold out0_5
    rw [Project.store2, Project.load2, Project.load2, Project.load2, Project.load3, Project.load3]
    exact pay_block m c t i j
  refine hb.trans ?_
  rw [e0, e1]

theorem array6_at (r : Fin 1024) (x : Fin 1536) : (dats m 0 c).arrAt 6 cfg0.N (ix2 r x) = value m c r x := by
  refine (dats m 0 c).arrAt_forall_of_covers 6 (fun (i : S1024x1536.Idx) (v : EReal) => v = value m c (i 0) (i 1)) (by decide +kernel) (fun t hf y => ?_) (ix2 r x)
  obtain ⟨i, j, rfl⟩ : ∃ (i : Fin 256) (j : Fin 1536), y = ix2 i j := ⟨y 0, y 1, eq_ix2 y⟩
  have e := idx6 t
  have e0 : ((cfg0.win 6).blk t).view.emb (ix2 i j) 0 = Sample.row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (Sample.row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInSbSampleIdeal.Read

theorem reference_at (x : (⟨3, ![128, 8, 1024]⟩ : Shape).Idx → EReal) (sh sc : (⟨2, ![128, 1024]⟩ : Shape).Idx → EReal) (w : (⟨2, ![1024, 1536]⟩ : Shape).Idx → EReal) (r : Fin 1024) (j : Fin 1536) :
    val_main_v9 (F := Ideal) x sh sc w (ix2 r j) = Sample.project x sh sc (fun k => w (ix2 k j)) r := by
  refine (Sample.flat_apply _ _ r j).trans ?_
  rw [val_main_v8_apply]
  refine Finset.sum_congr rfl fun k _ => ?_
  rw [val_main_v7_apply, val_main_v5_apply, val_main_v6_apply, val_main_v4_apply, val_main_v3_apply, val_main_v2_apply, val_main_v1_apply, val_main_v0_apply, val_main_cst_apply, Project.one_bits]
  have e1 : lidx_main_v8 (ix3 (Sample.seq r) (Sample.place r) j) k = ix3 (Sample.seq r) (Sample.place r) k := funext fun a => match a with | ⟨0, _⟩ => rfl | ⟨1, _⟩ => rfl | ⟨2, _⟩ => rfl
  have e2 : idx_main_v1 (idx_main_v4 (ix3 (Sample.seq r) (Sample.place r) k)) = ix2 (Sample.seq r) k := funext fun a => match a with | ⟨0, _⟩ => rfl | ⟨1, _⟩ => rfl
  have e3 : ridx_main_v8 (ix3 (Sample.seq r) (Sample.place r) j) k = ix2 k j := funext fun a => match a with | ⟨0, _⟩ => rfl | ⟨1, _⟩ => rfl
  rw [e1, e3, show idx_main_v0 (idx_main_v6 (ix3 (Sample.seq r) (Sample.place r) k)) = _ from e2, e2]
  rfl

/-- The kernel's results are the reference's. -/
theorem result5 : (dats m 0 c).arrAt 5 cfg0.N
    = val_main_v9 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1536), i = ix2 r j := ⟨i 0, i 1, eq_ix2 i⟩
  exact (array5_at m c r j).trans (reference_at _ _ _ _ r j).symm

theorem result6 : (dats m 0 c).arrAt 6 cfg0.N
    = val_main_v10 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1536), i = ix2 r j := ⟨i 0, i 1, eq_ix2 i⟩
  exact (array6_at m c r j).trans (reference_at _ _ _ _ r j).symm

end

end Cert.InSbSample

end
-- ==== Proof.InNsaSample.lean ====
/-
  THE SPARSE LAYERS' IN-PROJECTION OF THE SAMPLE: the arrays the kernel leaves and the reference's results, at
  every row and column, are the row's projection by that column of the matrix (`Sample.project`).
-/
module

public import proofs.«01_k».proof.Proof.Sample
public import proofs.«01_k».proof.Proof.InNsa
public import proofs.«01_k».proof.Proof.Gen.KernelInNsaSampleIdeal.Value
public import proofs.«01_k».proof.Proof.Gen.ReferenceInNsaSampleIdeal.Read
public import Idealize.ShloMosaic.Lib.Pipeline.ValueKit.Geometry

@[expose] public section

set_option maxRecDepth 16384

noncomputable section

open Idealize.ShloMosaic Idealize.ShloMosaic.TcCoe Idealize.SL.Sem Cert.KernelInNsaSampleIdeal Cert.KernelInNsaSampleIdeal.Gen

namespace Cert.InNsaSample

/-! ## One block -/

theorem pay_at (x : Vec Ideal S256x1024 .f32) (sc sh : Vec Ideal S1x256x1024 .f32) (w : Vec Ideal S1024x1920 .bf16) (b : Vec Ideal S1x1920 .f32) (r : Fin 256) (j : Fin 1920) :
    k0_pay1 x sc sh w b (ix2 r j) = (∑ k : Fin 1024, (x (ix2 r k) * (1 + sc (ix3 (0 : Fin 1) r k)) + sh (ix3 (0 : Fin 1) r k)) * w (ix2 k j)) + b (ix2 (0 : Fin 1) j) := by
  pointwise [k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

theorem block0 (t : Fin cfg0.N) (r : Fin 256) (k : Fin 1024) :
    iblk m c 0 t (ix2 r k) = m ((c : Thread nD τ).loc main_arg0) (ix3 (Sample.seq (Sample.row t r)) (Sample.place (Sample.row t r)) k) := by
  have e := idx0 t
  have h : V m c main_v2 = shapeCast S1024x1024 (m ((c : Thread nD τ).loc main_arg0)) shapeCasts_S128x8x1024_S1024x1024 := rfl
  refine Eq.trans ?_ ((congrFun h _).trans (Sample.flat_apply _ _ (Sample.row t r) k))
  unfold iblk
  rw [View.read_apply]
  show V m c main_v2 _ = V m c main_v2 _
  congr 1
  blk_ext [e, Sample.row]

theorem block1 (t : Fin cfg0.N) (r : Fin 256) (k : Fin 1024) :
    iblk m c 1 t (ix3 (0 : Fin 1) r k) = m ((c : Thread nD τ).loc main_arg1) (ix2 (Sample.seq (Sample.row t r)) k) := by
  have e := idx1 t
  have h : V m c main_v5 = shapeCast S4x256x1024 (shapeCast S1024x1024 (broadcastInDim S128x8x1024 ![0, 2] bcast_S128x1024_S128x8x1024_0_2 (m ((c : Thread nD τ).loc main_arg1))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v5 _ = V m c main_v5 _
  congr 1
  blk_ext [e]

theorem block2 (t : Fin cfg0.N) (r : Fin 256) (k : Fin 1024) :
    iblk m c 2 t (ix3 (0 : Fin 1) r k) = m ((c : Thread nD τ).loc main_arg2) (ix2 (Sample.seq (Sample.row t r)) k) := by
  have e := idx2 t
  have h : V m c main_v8 = shapeCast S4x256x1024 (shapeCast S1024x1024 (broadcastInDim S128x8x1024 ![0, 2] bcast_S128x1024_S128x8x1024_0_2 (m ((c : Thread nD τ).loc main_arg2))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v8 _ = V m c main_v8 _
  congr 1
  blk_ext [e]

theorem block3 (t : Fin cfg0.N) (k : Fin 1024) (j : Fin 1920) :
    iblk m c 3 t (ix2 k j) = InNsa.padded (m ((c : Thread nD τ).loc main_arg3)) k j := by
  have e := idx3 t
  have h : V m c main_v1 = (truncf .bf16 (pad S1024x1920 ![0, 0] ![0, 80] ![0, 0] (m ((c : Thread nD τ).loc main_arg3) : FVec Ideal S1024x1840 .f32) (sitofp (F := Ideal) .f32 (constantI S_ 32 0#32)) pads_S1024x1840_S1024x1920_000_0800 h_S_ : FVec Ideal S1024x1920 .f32) bitsLt_bf16_f32 : FVec Ideal S1024x1920 .bf16) := rfl
  have h2 := Project.padCols_apply (m ((c : Thread nD τ).loc main_arg3) : FVec Ideal S1024x1840 .f32) (sitofp (F := Ideal) .f32 (constantI S_ 32 0#32) : FVec Ideal S_ .f32) pads_S1024x1840_S1024x1920_000_0800 h_S_ k j
  refine Eq.trans ?_ ((congrFun h (ix2 k j)).trans (h2.trans ?_))
  · unfold iblk
    rw [View.read_apply]
    show V m c main_v1 _ = V m c main_v1 _
    congr 1
    blk_ext [e]
  · unfold InNsa.padded
    split
    · rfl
    · exact InNsa.zero_word _

theorem block4 (t : Fin cfg0.N) (j : Fin 1920) :
    iblk m c 4 t (ix2 (0 : Fin 1) j) = (0 : EReal) := by
  have e := idx4 t
  have h : V m c main_v10 = shapeCast S1x1920 (broadcastInDim S1920 ![] bcast_S_S1920 (constant (F := Ideal) S_ .f32 0x00000000#32)) shapeCasts_S1920_S1x1920 := rfl
  refine Eq.trans (b := V m c main_v10 (ix2 (0 : Fin 1) j)) ?_ ?_
  · unfold iblk
    rw [View.read_apply]
    show V m c main_v10 _ = V m c main_v10 _
    congr 1
    blk_ext [e]
  · rw [h]
    pointwise

/-! ## The arrays the kernel leaves -/

/-- The projected row `r` at column `j`, from the argument arrays. -/
def value (r : Fin 1024) (j : Fin 1920) : EReal :=
  Sample.project (m ((c : Thread nD τ).loc main_arg0)) (m ((c : Thread nD τ).loc main_arg1)) (m ((c : Thread nD τ).loc main_arg2)) (fun k => InNsa.padded (m ((c : Thread nD τ).loc main_arg3)) k j) r

theorem pay_block (t : Fin cfg0.N) (r : Fin 256) (j : Fin 1920) :
    k0_pay1 (iblk m c 0 t) (iblk m c 2 t) (iblk m c 1 t) (iblk m c 3 t) (iblk m c 4 t) (ix2 r j) = value m c (Sample.row t r) j := by
  refine (pay_at _ _ _ _ _ r j).trans ?_
  rw [block4, add_zero]
  unfold value Sample.project
  refine Finset.sum_congr rfl fun k _ => ?_
  rw [block0, block1 m c t r, block2 m c t r, block3]

theorem array5_at (r : Fin 1024) (x : Fin 1920) : (dats m 0 c).arrAt 5 cfg0.N (ix2 r x) = value m c r x := by
  refine (dats m 0 c).arrAt_forall_of_covers 5 (fun (i : S1024x1920.Idx) (v : EReal) => v = value m c (i 0) (i 1)) (by decide +kernel) (fun t hf y => ?_) (ix2 r x)
  obtain ⟨i, j, rfl⟩ : ∃ (i : Fin 256) (j : Fin 1920), y = ix2 i j := ⟨y 0, y 1, eq_ix2 y⟩
  have e := idx5 t
  have e0 : ((cfg0.win 5).blk t).view.emb (ix2 i j) 0 = Sample.row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (Sample.row t i) j := by
    rw [after0_5]
    unfold out0_5
    rw [Project.store2, Project.load2, Project.load2, Project.load2, Project.load3, Project.load3]
    exact pay_block m c t i j
  refine hb.trans ?_
  rw [e0, e1]

theorem array6_at (r : Fin 1024) (x : Fin 1920) : (dats m 0 c).arrAt 6 cfg0.N (ix2 r x) = value m c r x := by
  refine (dats m 0 c).arrAt_forall_of_covers 6 (fun (i : S1024x1920.Idx) (v : EReal) => v = value m c (i 0) (i 1)) (by decide +kernel) (fun t hf y => ?_) (ix2 r x)
  obtain ⟨i, j, rfl⟩ : ∃ (i : Fin 256) (j : Fin 1920), y = ix2 i j := ⟨y 0, y 1, eq_ix2 y⟩
  have e := idx6 t
  have e0 : ((cfg0.win 6).blk t).view.emb (ix2 i j) 0 = Sample.row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (Sample.row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInNsaSampleIdeal.Read

theorem product_at (x : (⟨3, ![128, 8, 1024]⟩ : Shape).Idx → EReal) (sh sc : (⟨2, ![128, 1024]⟩ : Shape).Idx → EReal) (w : (⟨2, ![1024, 1840]⟩ : Shape).Idx → EReal) (r : Fin 1024) (j : Fin 1840) :
    val_main_v9 (F := Ideal) x sh sc w (ix2 r j) = Sample.project x sh sc (fun k => w (ix2 k j)) r := by
  refine (Sample.flat_apply _ _ r j).trans ?_
  rw [val_main_v8_apply]
  refine Finset.sum_congr rfl fun k _ => ?_
  rw [val_main_v7_apply, val_main_v5_apply, val_main_v6_apply, val_main_v4_apply, val_main_v3_apply, val_main_v2_apply, val_main_v1_apply, val_main_v0_apply, val_main_cst_apply, Project.one_bits]
  have e1 : lidx_main_v8 (ix3 (Sample.seq r) (Sample.place r) j) k = ix3 (Sample.seq r) (Sample.place r) k := funext fun a => match a with | ⟨0, _⟩ => rfl | ⟨1, _⟩ => rfl | ⟨2, _⟩ => rfl
  have e2 : idx_main_v1 (idx_main_v4 (ix3 (Sample.seq r) (Sample.place r) k)) = ix2 (Sample.seq r) k := funext fun a => match a with | ⟨0, _⟩ => rfl | ⟨1, _⟩ => rfl
  have e3 : ridx_main_v8 (ix3 (Sample.seq r) (Sample.place r) j) k = ix2 k j := funext fun a => match a with | ⟨0, _⟩ => rfl | ⟨1, _⟩ => rfl
  rw [e1, e3, show idx_main_v0 (idx_main_v6 (ix3 (Sample.seq r) (Sample.place r) k)) = _ from e2, e2]
  rfl

theorem reference_at (x : (⟨3, ![128, 8, 1024]⟩ : Shape).Idx → EReal) (sh sc : (⟨2, ![128, 1024]⟩ : Shape).Idx → EReal) (w : (⟨2, ![1024, 1840]⟩ : Shape).Idx → EReal) (r : Fin 1024) (j : Fin 1920) :
    val_main_v10 (F := Ideal) x sh sc w (ix2 r j) = Sample.project x sh sc (fun k => InNsa.padded w k j) r := by
  unfold val_main_v10
  refine (Project.padCols_apply _ _ _ _ r j).trans ?_
  split
  · rename_i h
    rw [product_at]
    simp only [InNsa.padded, dif_pos h]
  · rename_i h
    refine (InNsa.zero_word _).trans ?_
    simp only [InNsa.padded, dif_neg h, Sample.project, mul_zero, Finset.sum_const_zero]

/-- The kernel's results are the reference's. -/
theorem result5 : (dats m 0 c).arrAt 5 cfg0.N
    = val_main_v10 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1920), i = ix2 r j := ⟨i 0, i 1, eq_ix2 i⟩
  exact (array5_at m c r j).trans (reference_at _ _ _ _ r j).symm

theorem result6 : (dats m 0 c).arrAt 6 cfg0.N
    = val_main_v11 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1920), i = ix2 r j := ⟨i 0, i 1, eq_ix2 i⟩
  exact (array6_at m c r j).trans (reference_at _ _ _ _ r j).symm

end

end Cert.InNsaSample

end
-- ==== Proof.InSwaSample.lean ====
/-
  THE SLIDING-WINDOW LAYER'S IN-PROJECTION OF THE SAMPLE: the arrays the kernel leaves and the reference's results, at
  every row and column, are the row's projection by that column of the matrix (`Sample.project`).
-/
module

public import proofs.«01_k».proof.Proof.Sample
public import proofs.«01_k».proof.Proof.Gen.KernelInSwaSampleIdeal.Value
public import proofs.«01_k».proof.Proof.Gen.ReferenceInSwaSampleIdeal.Read
public import Idealize.ShloMosaic.Lib.Pipeline.ValueKit.Geometry

@[expose] public section

set_option maxRecDepth 16384

noncomputable section

open Idealize.ShloMosaic Idealize.ShloMosaic.TcCoe Idealize.SL.Sem Cert.KernelInSwaSampleIdeal Cert.KernelInSwaSampleIdeal.Gen

namespace Cert.InSwaSample

/-! ## One block -/

theorem pay_at (x : Vec Ideal S256x1024 .f32) (sc sh : Vec Ideal S1x256x1024 .f32) (w : Vec Ideal S1024x1280 .bf16) (b : Vec Ideal S1x1280 .f32) (r : Fin 256) (j : Fin 1280) :
    k0_pay1 x sc sh w b (ix2 r j) = (∑ k : Fin 1024, (x (ix2 r k) * (1 + sc (ix3 (0 : Fin 1) r k)) + sh (ix3 (0 : Fin 1) r k)) * w (ix2 k j)) + b (ix2 (0 : Fin 1) j) := by
  pointwise [k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

theorem block0 (t : Fin cfg0.N) (r : Fin 256) (k : Fin 1024) :
    iblk m c 0 t (ix2 r k) = m ((c : Thread nD τ).loc main_arg0) (ix3 (Sample.seq (Sample.row t r)) (Sample.place (Sample.row t r)) k) := by
  have e := idx0 t
  have h : V m c main_v0 = shapeCast S1024x1024 (m ((c : Thread nD τ).loc main_arg0)) shapeCasts_S128x8x1024_S1024x1024 := rfl
  refine Eq.trans ?_ ((congrFun h _).trans (Sample.flat_apply _ _ (Sample.row t r) k))
  unfold iblk
  rw [View.read_apply]
  show V m c main_v0 _ = V m c main_v0 _
  congr 1
  blk_ext [e, Sample.row]

theorem block1 (t : Fin cfg0.N) (r : Fin 256) (k : Fin 1024) :
    iblk m c 1 t (ix3 (0 : Fin 1) r k) = m ((c : Thread nD τ).loc main_arg1) (ix2 (Sample.seq (Sample.row t r)) k) := by
  have e := idx1 t
  have h : V m c main_v3 = shapeCast S4x256x1024 (shapeCast S1024x1024 (broadcastInDim S128x8x1024 ![0, 2] bcast_S128x1024_S128x8x1024_0_2 (m ((c : Thread nD τ).loc main_arg1))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v3 _ = V m c main_v3 _
  congr 1
  blk_ext [e]

theorem block2 (t : Fin cfg0.N) (r : Fin 256) (k : Fin 1024) :
    iblk m c 2 t (ix3 (0 : Fin 1) r k) = m ((c : Thread nD τ).loc main_arg2) (ix2 (Sample.seq (Sample.row t r)) k) := by
  have e := idx2 t
  have h : V m c main_v6 = shapeCast S4x256x1024 (shapeCast S1024x1024 (broadcastInDim S128x8x1024 ![0, 2] bcast_S128x1024_S128x8x1024_0_2 (m ((c : Thread nD τ).loc main_arg2))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v6 _ = V m c main_v6 _
  congr 1
  blk_ext [e]

theorem block3 (t : Fin cfg0.N) (k : Fin 1024) (j : Fin 1280) :
    iblk m c 3 t (ix2 k j) = m ((c : Thread nD τ).loc main_arg3) (ix2 k j) := by
  have e := idx3 t
  have h : V m c main_v7 = (truncf .bf16 (m ((c : Thread nD τ).loc main_arg3) : FVec Ideal S1024x1280 .f32) bitsLt_bf16_f32 : FVec Ideal S1024x1280 .bf16) := rfl
  refine Eq.trans ?_ (congrFun h (ix2 k j))
  unfold iblk
  rw [View.read_apply]
  show V m c main_v7 _ = V m c main_v7 _
  congr 1
  blk_ext [e]

theorem block4 (t : Fin cfg0.N) (j : Fin 1280) :
    iblk m c 4 t (ix2 (0 : Fin 1) j) = (0 : EReal) := by
  have e := idx4 t
  have h : V m c main_v9 = shapeCast S1x1280 (broadcastInDim S1280 ![] bcast_S_S1280 (constant (F := Ideal) S_ .f32 0x00000000#32)) shapeCasts_S1280_S1x1280 := rfl
  refine Eq.trans (b := V m c main_v9 (ix2 (0 : Fin 1) j)) ?_ ?_
  · unfold iblk
    rw [View.read_apply]
    show V m c main_v9 _ = V m c main_v9 _
    congr 1
    blk_ext [e]
  · rw [h]
    pointwise

/-! ## The arrays the kernel leaves -/

/-- The projected row `r` at column `j`, from the argument arrays. -/
def value (r : Fin 1024) (j : Fin 1280) : EReal :=
  Sample.project (m ((c : Thread nD τ).loc main_arg0)) (m ((c : Thread nD τ).loc main_arg1)) (m ((c : Thread nD τ).loc main_arg2)) (fun k => m ((c : Thread nD τ).loc main_arg3) (ix2 k j)) r

theorem pay_block (t : Fin cfg0.N) (r : Fin 256) (j : Fin 1280) :
    k0_pay1 (iblk m c 0 t) (iblk m c 2 t) (iblk m c 1 t) (iblk m c 3 t) (iblk m c 4 t) (ix2 r j) = value m c (Sample.row t r) j := by
  refine (pay_at _ _ _ _ _ r j).trans ?_
  rw [block4, add_zero]
  unfold value Sample.project
  refine Finset.sum_congr rfl fun k _ => ?_
  rw [block0, block1 m c t r, block2 m c t r, block3]

theorem array5_at (r : Fin 1024) (x : Fin 1280) : (dats m 0 c).arrAt 5 cfg0.N (ix2 r x) = value m c r x := by
  refine (dats m 0 c).arrAt_forall_of_covers 5 (fun (i : S1024x1280.Idx) (v : EReal) => v = value m c (i 0) (i 1)) (by decide +kernel) (fun t hf y => ?_) (ix2 r x)
  obtain ⟨i, j, rfl⟩ : ∃ (i : Fin 256) (j : Fin 1280), y = ix2 i j := ⟨y 0, y 1, eq_ix2 y⟩
  have e := idx5 t
  have e0 : ((cfg0.win 5).blk t).view.emb (ix2 i j) 0 = Sample.row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (Sample.row t i) j := by
    rw [after0_5]
    unfold out0_5
    rw [Project.store2, Project.load2, Project.load2, Project.load2, Project.load3, Project.load3]
    exact pay_block m c t i j
  refine hb.trans ?_
  rw [e0, e1]

theorem array6_at (r : Fin 1024) (x : Fin 1280) : (dats m 0 c).arrAt 6 cfg0.N (ix2 r x) = value m c r x := by
  refine (dats m 0 c).arrAt_forall_of_covers 6 (fun (i : S1024x1280.Idx) (v : EReal) => v = value m c (i 0) (i 1)) (by decide +kernel) (fun t hf y => ?_) (ix2 r x)
  obtain ⟨i, j, rfl⟩ : ∃ (i : Fin 256) (j : Fin 1280), y = ix2 i j := ⟨y 0, y 1, eq_ix2 y⟩
  have e := idx6 t
  have e0 : ((cfg0.win 6).blk t).view.emb (ix2 i j) 0 = Sample.row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = value m c (Sample.row t i) j := by
    rw [after0_6]
    unfold out0_6
    rw [Project.store2, Project.load2, Project.load2, Project.load2, Project.load3, Project.load3]
    exact pay_block m c t i j
  refine hb.trans ?_
  rw [e0, e1]

/-! ## The reference -/

section
open Cert.ReferenceInSwaSampleIdeal.Read

theorem reference_at (x : (⟨3, ![128, 8, 1024]⟩ : Shape).Idx → EReal) (sh sc : (⟨2, ![128, 1024]⟩ : Shape).Idx → EReal) (w : (⟨2, ![1024, 1280]⟩ : Shape).Idx → EReal) (r : Fin 1024) (j : Fin 1280) :
    val_main_v9 (F := Ideal) x sh sc w (ix2 r j) = Sample.project x sh sc (fun k => w (ix2 k j)) r := by
  refine (Sample.flat_apply _ _ r j).trans ?_
  rw [val_main_v8_apply]
  refine Finset.sum_congr rfl fun k _ => ?_
  rw [val_main_v7_apply, val_main_v5_apply, val_main_v6_apply, val_main_v4_apply, val_main_v3_apply, val_main_v2_apply, val_main_v1_apply, val_main_v0_apply, val_main_cst_apply, Project.one_bits]
  have e1 : lidx_main_v8 (ix3 (Sample.seq r) (Sample.place r) j) k = ix3 (Sample.seq r) (Sample.place r) k := funext fun a => match a with | ⟨0, _⟩ => rfl | ⟨1, _⟩ => rfl | ⟨2, _⟩ => rfl
  have e2 : idx_main_v1 (idx_main_v4 (ix3 (Sample.seq r) (Sample.place r) k)) = ix2 (Sample.seq r) k := funext fun a => match a with | ⟨0, _⟩ => rfl | ⟨1, _⟩ => rfl
  have e3 : ridx_main_v8 (ix3 (Sample.seq r) (Sample.place r) j) k = ix2 k j := funext fun a => match a with | ⟨0, _⟩ => rfl | ⟨1, _⟩ => rfl
  rw [e1, e3, show idx_main_v0 (idx_main_v6 (ix3 (Sample.seq r) (Sample.place r) k)) = _ from e2, e2]
  rfl

/-- The kernel's results are the reference's. -/
theorem result5 : (dats m 0 c).arrAt 5 cfg0.N
    = val_main_v9 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1280), i = ix2 r j := ⟨i 0, i 1, eq_ix2 i⟩
  exact (array5_at m c r j).trans (reference_at _ _ _ _ r j).symm

theorem result6 : (dats m 0 c).arrAt 6 cfg0.N
    = val_main_v10 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 1024) (j : Fin 1280), i = ix2 r j := ⟨i 0, i 1, eq_ix2 i⟩
  exact (array6_at m c r j).trans (reference_at _ _ _ _ r j).symm

end

end Cert.InSwaSample

end
-- ==== Proof.CombSample.lean ====
/-
  THE SAMPLE'S COMBINATION OF THE EXPERTS WITH ITS RESIDUAL AND LAYER NORMALIZATION: the array the kernel leaves and the reference's
  result, at every row and column, are the normalized row (`Norm.norm`) of the residual and the gated sum of the two
  experts' rows under their weights.
-/
module

public import proofs.«01_k».proof.Proof.Comb
public import proofs.«01_k».proof.Proof.Sample
public import proofs.«01_k».proof.Proof.Gen.KernelCombSampleIdeal.Value
public import proofs.«01_k».proof.Proof.Gen.ReferenceCombSampleIdeal.Read
public import Idealize.ShloMosaic.Lib.Pipeline.ValueKit.Geometry

@[expose] public section

set_option maxRecDepth 16384

noncomputable section

open Idealize.ShloMosaic Idealize.ShloMosaic.TcCoe Idealize.SL.Sem Cert.KernelCombSampleIdeal Cert.KernelCombSampleIdeal.Gen

namespace Cert.CombSample

/-! ## One block -/

theorem pay_at (f0 f1 : Vec Ideal S256x1024 .f32) (ew : Vec Ideal S256x2 .f32) (x : Vec Ideal S256x1024 .f32) (gate : Vec Ideal S1x256x1024 .f32) (g b : Vec Ideal S1x1024 .f32) (r : Fin 256) (j : Fin 1024) :
    k0_pay1 (k0_pay2 g) (k0_pay3 b) (k0_pay4 ew f0 f1 x gate) (k0_pay5 ew f0 f1 x gate) (ix2 r j)
      = Norm.norm (Norm.mixed (fun k => x (ix2 r k)) (fun k => gate (ix3 (0 : Fin 1) r k)) (fun k => Comb.blend (f0 (ix2 r k)) (f1 (ix2 r k)) (ew (ix2 r (0 : Fin 2))) (ew (ix2 r (1 : Fin 2))))) (g (ix2 (0 : Fin 1) j)) (b (ix2 (0 : Fin 1) j)) j := by
  pointwise [k0_pay1, k0_pay2, k0_pay3, k0_pay4, k0_pay5]
  rfl

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

theorem block0 (t : Fin cfg0.N) (r : Fin 256) (k : Fin 1024) :
    iblk m c 0 t (ix2 r k) = m ((c : Thread nD τ).loc main_arg0) (ix2 (Sample.row t r) k) := by
  have e := idx0 t
  unfold iblk
  rw [View.read_apply]
  show V m c main_arg0 _ = m _ _
  rw [V_main_arg0]
  congr 1
  blk_ext [e, Sample.row]

theorem block1 (t : Fin cfg0.N) (r : Fin 256) (k : Fin 1024) :
    iblk m c 1 t (ix2 r k) = m ((c : Thread nD τ).loc main_arg1) (ix2 (Sample.row t r) k) := by
  have e := idx1 t
  unfold iblk
  rw [View.read_apply]
  show V m c main_arg1 _ = m _ _
  rw [V_main_arg1]
  congr 1
  blk_ext [e, Sample.row]

theorem block2 (t : Fin cfg0.N) (r : Fin 256) (k : Fin 2) :
    iblk m c 2 t (ix2 r k) = m ((c : Thread nD τ).loc main_arg2) (ix2 (Sample.row t r) k) := by
  have e := idx2 t
  unfold iblk
  rw [View.read_apply]
  show V m c main_arg2 _ = m _ _
  rw [V_main_arg2]
  congr 1
  blk_ext [e, Sample.row]

theorem block3 (t : Fin cfg0.N) (r : Fin 256) (k : Fin 1024) :
    iblk m c 3 t (ix2 r k) = m ((c : Thread nD τ).loc main_arg3) (ix3 (Sample.seq (Sample.row t r)) (Sample.place (Sample.row t r)) k) := by
  have e := idx3 t
  have h : V m c main_v0 = shapeCast S1024x1024 (m ((c : Thread nD τ).loc main_arg3)) shapeCasts_S128x8x1024_S1024x1024 := rfl
  refine Eq.trans ?_ ((congrFun h _).trans (Sample.flat_apply _ _ (Sample.row t r) k))
  unfold iblk
  rw [View.read_apply]
  show V m c main_v0 _ = V m c main_v0 _
  congr 1
  blk_ext [e, Sample.row]

theorem block4 (t : Fin cfg0.N) (r : Fin 256) (k : Fin 1024) :
    iblk m c 4 t (ix3 (0 : Fin 1) r k) = m ((c : Thread nD τ).loc main_arg4) (ix2 (Sample.seq (Sample.row t r)) k) := by
  have e := idx4 t
  have h : V m c main_v3 = shapeCast S4x256x1024 (shapeCast S1024x1024 (broadcastInDim S128x8x1024 ![0, 2] bcast_S128x1024_S128x8x1024_0_2 (m ((c : Thread nD τ).loc main_arg4))) shapeCasts_S128x8x1024_S1024x1024) shapeCasts_S1024x1024_S4x256x1024 := rfl
  refine Eq.trans ?_ ((congrFun h _).trans (Sample.spread_apply _ _ _ _ t r k))
  unfold iblk
  rw [View.read_apply]
  show V m c main_v3 _ = V m c main_v3 _
  congr 1
  blk_ext [e]

theorem block5 (t : Fin cfg0.N) (j : Fin 1024) :
    iblk m c 5 t (ix2 (0 : Fin 1) j) = m ((c : Thread nD τ).loc main_arg5) (ix1 j) := by
  have e := idx5 t
  have h : V m c main_v4 = shapeCast S1x1024 (m ((c : Thread nD τ).loc main_arg5)) shapeCasts_S1024_S1x1024 := rfl
  refine Eq.trans (b := V m c main_v4 (ix2 (0 : Fin 1) j)) ?_ ?_
  · unfold iblk
    rw [View.read_apply]
    show V m c main_v4 _ = V m c main_v4 _
    congr 1
    blk_ext [e]
  · rw [h]
    pointwise

theorem block6 (t : Fin cfg0.N) (j : Fin 1024) :
    iblk m c 6 t (ix2 (0 : Fin 1) j) = m ((c : Thread nD τ).loc main_arg6) (ix1 j) := by
  have e := idx6 t
  have h : V m c main_v5 = shapeCast S1x1024 (m ((c : Thread nD τ).loc main_arg6)) shapeCasts_S1024_S1x1024 := rfl
  refine Eq.trans (b := V m c main_v5 (ix2 (0 : Fin 1) j)) ?_ ?_
  · unfold iblk
    rw [View.read_apply]
    show V m c main_v5 _ = V m c main_v5 _
    congr 1
    blk_ext [e]
  · rw [h]
    pointwise

/-! ## The array the kernel leaves -/

/-- The result at row `r` and column `j`, from the argument arrays. -/
def value (f0 f1 : (⟨2, ![1024, 1024]⟩ : Shape).Idx → EReal) (ew : (⟨2, ![1024, 2]⟩ : Shape).Idx → EReal) (x : (⟨3, ![128, 8, 1024]⟩ : Shape).Idx → EReal) (gate : (⟨2, ![128, 1024]⟩ : Shape).Idx → EReal) (g b : (⟨1, ![1024]⟩ : Shape).Idx → EReal) (r : Fin 1024) (j : Fin 1024) : EReal :=
  Norm.norm (Norm.mixed (fun k => x (ix3 (Sample.seq r) (Sample.place r) k)) (fun k => gate (ix2 (Sample.seq r) k)) (fun k => Comb.blend (f0 (ix2 r k)) (f1 (ix2 r k)) (ew (ix2 r (0 : Fin 2))) (ew (ix2 r (1 : Fin 2))))) (g (ix1 j)) (b (ix1 j)) j

/-- The kernel's result, at its own arguments. -/
abbrev left (r : Fin 1024) (j : Fin 1024) : EReal :=
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r j

theorem pay_block (t : Fin cfg0.N) (r : Fin 256) (j : Fin 1024) :
    k0_pay1 (k0_pay2 (iblk m c 5 t)) (k0_pay3 (iblk m c 6 t)) (k0_pay4 (iblk m c 2 t) (iblk m c 0 t) (iblk m c 1 t) (iblk m c 3 t) (iblk m c 4 t)) (k0_pay5 (iblk m c 2 t) (iblk m c 0 t) (iblk m c 1 t) (iblk m c 3 t) (iblk m c 4 t)) (ix2 r j) = left m c (Sample.row t r) j := by
  refine (pay_at _ _ _ _ _ _ _ r j).trans ?_
  unfold left value
  congr 1
  · congr 1
    · exact funext fun k => block3 m c t r k
    · exact funext fun k => block4 m c t r k
    · exact funext fun k => by rw [block0, block1, block2, block2]
  · exact block5 m c t j
  · exact block6 m c t j

theorem array_at (r : Fin 1024) (x : Fin 1024) : (dats m 0 c).arrAt 7 cfg0.N (ix2 r x) = left m c r x := by
  refine (dats m 0 c).arrAt_forall_of_covers 7 (fun (i : S1024x1024.Idx) (v : EReal) => v = left m c (i 0) (i 1)) (by decide +kernel) (fun t hf y => ?_) (ix2 r x)
  obtain ⟨i, j, rfl⟩ : ∃ (i : Fin 256) (j : Fin 1024), y = ix2 i j := ⟨y 0, y 1, eq_ix2 y⟩
  have e := idx7 t
  have e0 : ((cfg0.win 7).blk t).view.emb (ix2 i j) 0 = Sample.row t i := Fin.ext (by blk_simp [e]; show _ = 256 * t.val + i.val; omega)
  have e1 : ((cfg0.win 7).blk t).view.emb (ix2 i j) 1 = j := Fin.ext (by blk_simp [e])
  have hb : (dats m 0 c).after 7 t ((cfg0.win 7).xinj (cfg0.grid.coords t) (ix2 i j)) = left m c (Sample.row t i) j := by
    rw [after0_7]
    unfold out0_7
    rw [Project.store2, Project.load2, Project.load2, Project.load2, Project.load2, Project.load2, Project.load2, Project.load3]
    exact pay_block m c t i j
  refine hb.trans ?_
  rw [e0, e1]

/-! ## The reference -/

section
open Cert.ReferenceCombSampleIdeal.Read
variable (f0 f1 : (⟨2, ![1024, 1024]⟩ : Shape).Idx → EReal) (ew : (⟨2, ![1024, 2]⟩ : Shape).Idx → EReal) (x : (⟨3, ![128, 8, 1024]⟩ : Shape).Idx → EReal) (gate : (⟨2, ![128, 1024]⟩ : Shape).Idx → EReal) (g b : (⟨1, ![1024]⟩ : Shape).Idx → EReal)

/-- The row it normalizes. -/
theorem ref_mixed (r : Fin 1024) (k : Fin 1024) :
    val_main_v15 (F := Ideal) f0 f1 ew x gate (ix3 (Sample.seq r) (Sample.place r) k) = Norm.mixed (fun k => x (ix3 (Sample.seq r) (Sample.place r) k)) (fun k => gate (ix2 (Sample.seq r) k)) (fun k => Comb.blend (f0 (ix2 r k)) (f1 (ix2 r k)) (ew (ix2 r (0 : Fin 2))) (ew (ix2 r (1 : Fin 2)))) k := by
  have e1 : idx_main_v7 (ix3 (Sample.seq r) (Sample.place r) k) = ix2 r k := by
    refine funext fun a => Fin.ext ?_
    match a with
    | ⟨0, _⟩ => show ((r.val / 8 * 8 + r.val % 8) * 1024 + k.val) / 1024 = r.val; omega
    | ⟨1, _⟩ => show ((r.val / 8 * 8 + r.val % 8) * 1024 + k.val) % 1024 = k.val; omega
  have e2 : idx_main_v0 (idx_main_v1 (ix2 r k)) = ix2 r (0 : Fin 2) := funext fun a => match a with | ⟨0, _⟩ => rfl | ⟨1, _⟩ => rfl
  have e3 : idx_main_v3 (idx_main_v4 (ix2 r k)) = ix2 r (1 : Fin 2) := funext fun a => match a with | ⟨0, _⟩ => rfl | ⟨1, _⟩ => rfl
  have e4 : idx_main_v10 (idx_main_v13 (ix3 (Sample.seq r) (Sample.place r) k)) = ix2 (Sample.seq r) k := funext fun a => match a with | ⟨0, _⟩ => rfl | ⟨1, _⟩ => rfl
  rw [val_main_v15_apply, val_main_v9_apply, val_main_v8_apply, val_main_cst_apply, val_main_v14_apply, val_main_v13_apply, val_main_v12_apply, val_main_v11_apply, val_main_v10_apply, val_main_cst_0_apply, val_main_v7_apply, Project.one_bits, e4, e1,
    val_main_v6_apply, val_main_v2_apply, val_main_v1_apply, val_main_v0_apply, val_main_v5_apply, val_main_v4_apply, val_main_v3_apply, e2, e3]
  rfl

theorem ref_mean (a : Fin 128) (s : Fin 8) : val_main_v19 (F := Ideal) f0 f1 ew x gate (ix3 a s (0 : Fin 1)) = Norm.mean fun k => val_main_v15 (F := Ideal) f0 f1 ew x gate (ix3 a s k) := by
  have e : ∀ k, idx_main_v16 (idx_main_v17 (ix3 a s (0 : Fin 1))) k = ix3 a s k := fun k => funext fun a => match a with | ⟨0, _⟩ => rfl | ⟨1, _⟩ => rfl | ⟨2, _⟩ => rfl
  rw [val_main_v19_apply, val_main_v17_apply, val_main_v16_apply, val_main_cst_1_apply, val_main_v18_apply, val_main_cst_2_apply]
  simp only [e]
  exact Norm.mean_eq _

theorem ref_var (a : Fin 128) (s : Fin 8) : val_main_v26 (F := Ideal) f0 f1 ew x gate (ix3 a s (0 : Fin 1)) = Norm.var fun k => val_main_v15 (F := Ideal) f0 f1 ew x gate (ix3 a s k) := by
  have e : ∀ k, idx_main_v23 (idx_main_v24 (ix3 a s (0 : Fin 1))) k = ix3 a s k := fun k => funext fun a => match a with | ⟨0, _⟩ => rfl | ⟨1, _⟩ => rfl | ⟨2, _⟩ => rfl
  have e' : ∀ k : Fin 1024, idx_main_v20 (ix3 a s k) = ix3 a s (0 : Fin 1) := fun k => funext fun a => match a with | ⟨0, _⟩ => rfl | ⟨1, _⟩ => rfl | ⟨2, _⟩ => rfl
  rw [val_main_v26_apply, val_main_v24_apply, val_main_v23_apply, val_main_cst_3_apply, val_main_v25_apply, val_main_cst_4_apply]
  simp only [e, val_main_v22_apply, val_main_v21_apply, val_main_v20_apply, e', ref_mean]
  exact Norm.mean_eq _

theorem reference_at (r : Fin 1024) (j : Fin 1024) : val_main_v40 (F := Ideal) f0 f1 ew x gate g b (ix2 r j) = value f0 f1 ew x gate g b r j := by
  have h : idx_main_v40 (ix2 r j) = ix3 (Sample.seq r) (Sample.place r) j := by
    refine funext fun a => Fin.ext ?_
    match a with
    | ⟨0, _⟩ => show (r.val * 1024 + j.val) / 8192 = r.val / 8; omega
    | ⟨1, _⟩ => show (r.val * 1024 + j.val) / 1024 % 8 = r.val % 8; omega
    | ⟨2, _⟩ => show (r.val * 1024 + j.val) % 1024 = j.val; omega
  have e1 : idx_main_v27 (ix3 (Sample.seq r) (Sample.place r) j) = ix3 (Sample.seq r) (Sample.place r) (0 : Fin 1) := funext fun a => match a with | ⟨0, _⟩ => rfl | ⟨1, _⟩ => rfl | ⟨2, _⟩ => rfl
  have e2 : idx_main_v34 (idx_main_v35 (ix3 (Sample.seq r) (Sample.place r) j)) = ix1 j := funext fun a => match a with | ⟨0, _⟩ => rfl
  rw [val_main_v40_apply, h, val_main_v39_apply, val_main_v36_apply, val_main_v33_apply, val_main_v28_apply, val_main_v27_apply, val_main_v32_apply, val_main_v31_apply, val_main_v30_apply, val_main_v29_apply, val_main_cst_5_apply, val_main_v35_apply, val_main_v34_apply, val_main_v38_apply, val_main_v37_apply,
    show idx_main_v32 (ix3 (Sample.seq r) (Sample.place r) j) = _ from e1, e1, show idx_main_v37 (idx_main_v38 (ix3 (Sample.seq r) (Sample.place r) j)) = _ from e2, e2, ref_mean, ref_var]
  simp only [ref_mixed]
  rfl

/-- The kernel's result is the reference's. -/
theorem result : (dats m 0 c).arrAt 7 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 1024) (j : Fin 1024), i = ix2 r j := ⟨i 0, i 1, eq_ix2 i⟩
  exact (array_at m c r j).trans (reference_at _ _ _ _ _ _ _ r j).symm

end

end Cert.CombSample

end
-- ==== Proof.Join.lean ====
/-
  ARRAYS JOINED ON THE HOST: two arrays side by side, a vector padded at its end, and the word zero, read at an entry.
-/
module

public import proofs.«01_k».proof.Proof.Project

@[expose] public section

set_option maxRecDepth 16384

noncomputable section

open Idealize.ShloMosaic

namespace Cert.Join

/-- Two matrices side by side at a row and a column. -/
theorem joinCols_apply {α : Type} {A n p N : ℕ} (hN : N = n + p) (x : (⟨2, ![A, n]⟩ : Shape).Idx → α) (y : (⟨2, ![A, p]⟩ : Shape).Idx → α) (h) (r : Fin A) (j : Fin N) :
    concatenate ⟨2, ![A, N]⟩ 1 [⟨⟨2, ![A, n]⟩, x⟩, ⟨⟨2, ![A, p]⟩, y⟩] h (ix2 r j) = if hj : j.val < n then x (ix2 r ⟨j.val, hj⟩) else y (ix2 r ⟨j.val - n, by omega⟩) := by
  split
  · exact concatenate_pair_apply_left _ _ _ h _ rfl _ (fun b => match b with | ⟨0, _⟩ => rfl | ⟨1, _⟩ => rfl)
  · refine concatenate_pair_apply_right _ _ _ h _ rfl rfl _ (fun b => match b with | ⟨0, _⟩ => fun _ => rfl | ⟨1, _⟩ => fun hb => absurd rfl hb) ?_
    show j.val - n + n = j.val
    omega

/-- Two vectors end to end at a place. -/
theorem join_apply {α : Type} {n p N : ℕ} (hN : N = n + p) (x : (⟨1, ![n]⟩ : Shape).Idx → α) (y : (⟨1, ![p]⟩ : Shape).Idx → α) (h) (j : Fin N) :
    concatenate ⟨1, ![N]⟩ 0 [⟨⟨1, ![n]⟩, x⟩, ⟨⟨1, ![p]⟩, y⟩] h (ix1 j) = if hj : j.val < n then x (ix1 ⟨j.val, hj⟩) else y (ix1 ⟨j.val - n, by omega⟩) := by
  split
  · exact concatenate_pair_apply_left _ _ _ h _ rfl _ (fun b => match b with | ⟨0, _⟩ => rfl)
  · refine concatenate_pair_apply_right _ _ _ h _ rfl rfl _ (fun b => match b with | ⟨0, _⟩ => fun hb => absurd rfl hb) ?_
    show j.val - n + n = j.val
    omega

/-- A vector padded on the right reads the vector where it has a place and the padding value elsewhere. -/
theorem padEnd_apply {α : Type} {n k N : ℕ} (x : (⟨1, ![n]⟩ : Shape).Idx → α) {u : Shape} (v : u.Idx → α) (h) (hu) (j : Fin N) :
    pad ⟨1, ![N]⟩ ![0] ![k] ![0] x v h hu (ix1 j) = if hj : j.val < n then x (ix1 ⟨j.val, hj⟩) else v (Shape.Idx.first hu) := by
  unfold pad
  by_cases hj : j.val < n
  · rw [dif_pos hj, dif_pos (fun a => match a with
      | ⟨0, _⟩ => ⟨Nat.zero_le _, Nat.mod_one _, by show (j.val - 0) / 1 < n; omega⟩)]
    refine congrArg x (funext fun a => Fin.ext ?_)
    match a with
    | ⟨0, _⟩ => exact Nat.div_one _
  · rw [dif_neg hj, dif_neg]
    intro hin
    exact hj (by have h1 := (hin 0).2.2; change (j.val - 0) / 1 < n at h1; omega)

/-- The word zero as a number. -/
theorem zero_word {s : Shape} (i : s.Idx) : (sitofp (F := Ideal) .f32 (constantI s 32 0#32) : FVec Ideal s .f32) i = (0 : EReal) := by
  show (((0#32 : BitVec 32).toInt : ℝ) : EReal) = 0
  simp

end Cert.Join

end
-- ==== Proof.Route.lean ====
/-
  THE ROUTER'S LOGITS: the arrays the kernel leaves and the reference's results. The logits at every row and column
  are the row's projection (`Project.project`) by that column of the two heads' matrices side by side, with that
  column's bias, zero past the last; the other result is the modulated rows themselves.
-/
module

public import proofs.«01_k».proof.Proof.Join
public import proofs.«01_k».proof.Proof.Gen.KernelRouteIdeal.Value
public import proofs.«01_k».proof.Proof.Gen.ReferenceRouteIdeal.Read
public import Idealize.ShloMosaic.Lib.Pipeline.ValueKit.Geometry

@[expose] public section

set_option maxRecDepth 16384

noncomputable section

open Idealize.ShloMosaic Idealize.ShloMosaic.TcCoe Idealize.SL.Sem Cert.KernelRouteIdeal Cert.KernelRouteIdeal.Gen

namespace Cert.Route

/-- The two heads' matrices side by side, zero past the last column. -/
def heads (wg : (⟨2, ![1024, 4]⟩ : Shape).Idx → EReal) (we : (⟨2, ![1024, 32]⟩ : Shape).Idx → EReal) (k : Fin 1024) (j : Fin 128) : EReal :=
  if h : j.val < 36 then if hg : j.val < 4 then wg (ix2 k ⟨j.val, hg⟩) else we (ix2 k ⟨j.val - 4, by omega⟩) else 0

/-- The two heads' biases end to end, zero past the last. -/
def biases (bg : (⟨1, ![4]⟩ : Shape).Idx → EReal) (be : (⟨1, ![32]⟩ : Shape).Idx → EReal) (j : Fin 128) : EReal :=
  if h : j.val < 36 then if hg : j.val < 4 then bg (ix1 ⟨j.val, hg⟩) else be (ix1 ⟨j.val - 4, by omega⟩) else 0

/-- The modulated row `r` at column `k`. -/
def modulated (x : (⟨3, ![4, 4096, 1024]⟩ : Shape).Idx → EReal) (sh sc : (⟨3, ![4, 1, 1024]⟩ : Shape).Idx → EReal) (r : Fin 16384) (k : Fin 1024) : EReal :=
  x (ix3 (Project.batch r) (Project.place r) k) * (1 + sc (ix3 (Project.batch r) (0 : Fin 1) k)) + sh (ix3 (Project.batch r) (0 : Fin 1) k)

/-! ## One block -/

theorem rows_at (x : Vec Ideal S256x1024 .f32) (sc sh : Vec Ideal S1x1x1024 .f32) (r : Fin 256) (k : Fin 1024) :
    k0_pay1 x sc sh (ix2 r k) = x (ix2 r k) * (1 + sc (ix3 (0 : Fin 1) (0 : Fin 1) k)) + sh (ix3 (0 : Fin 1) (0 : Fin 1) k) := by
  pointwise [k0_pay1]

theorem pay_at (x : Vec Ideal S256x1024 .f32) (sc sh : Vec Ideal S1x1x1024 .f32) (w : Vec Ideal S1024x128 .bf16) (b : Vec Ideal S1x128 .f32) (r : Fin 256) (j : Fin 128) :
    k0_pay2 x sc sh w b (ix2 r j) = (∑ k : Fin 1024, (x (ix2 r k) * (1 + sc (ix3 (0 : Fin 1) (0 : Fin 1) k)) + sh (ix3 (0 : Fin 1) (0 : Fin 1) k)) * w (ix2 k j)) + b (ix2 (0 : Fin 1) j) := by
  pointwise [k0_pay2, k0_pay1]

/-! ## What the blocks read -/

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

/-- The flattened row of row `r` of block `t`. -/
def row (t : Fin cfg0.N) (r : Fin 256) : Fin 16384 := ⟨256 * t.val + r.val, by have : t.val < 64 := t.isLt; omega⟩

theorem block0 (t : Fin cfg0.N) (r : Fin 256) (k : Fin 1024) :
    iblk m c 0 t (ix2 r k) = m ((c : Thread nD τ).loc main_arg0) (ix3 (Project.batch (row t r)) (Project.place (row t r)) k) := by
  have e := idx0 t
  have h : V m c main_v5 = shapeCast S16384x1024 (m ((c : Thread nD τ).loc main_arg0)) shapeCasts_S4x4096x1024_S16384x1024 := rfl
  refine Eq.trans ?_ ((congrFun h _).trans (Project.flat_apply _ _ (row t r) k))
  unfold iblk
  rw [View.read_apply]
  show V m c main_v5 _ = V m c main_v5 _
  congr 1
  blk_ext [e, row]

theorem block1 (t : Fin cfg0.N) (r : Fin 256) (k : Fin 1024) :
    iblk m c 1 t (ix3 (0 : Fin 1) (0 : Fin 1) k) = m ((c : Thread nD τ).loc main_arg1) (ix3 (Project.batch (row t r)) (0 : Fin 1) k) := by
  have e := idx1 t
  unfold iblk
  rw [View.read_apply]
  show V m c main_arg1 _ = m _ _
  rw [V_main_arg1]
  congr 1
  blk_ext [e, row, Project.batch]

theorem block2 (t : Fin cfg0.N) (r : Fin 256) (k : Fin 1024) :
    iblk m c 2 t (ix3 (0 : Fin 1) (0 : Fin 1) k) = m ((c : Thread nD τ).loc main_arg2) (ix3 (Project.batch (row t r)) (0 : Fin 1) k) := by
  have e := idx2 t
  unfold iblk
  rw [View.read_apply]
  show V m c main_arg2 _ = m _ _
  rw [V_main_arg2]
  congr 1
  blk_ext [e, row, Project.batch]

theorem block3 (t : Fin cfg0.N) (k : Fin 1024) (j : Fin 128) :
    iblk m c 3 t (ix2 k j) = heads (m ((c : Thread nD τ).loc main_arg3)) (m ((c : Thread nD τ).loc main_arg5)) k j := by
  have e := idx3 t
  have h : V m c main_v2 = (truncf .bf16 (pad S1024x128 ![0, 0] ![0, 92] ![0, 0] (concatenate S1024x36 1 [⟨S1024x4, m ((c : Thread nD τ).loc main_arg3)⟩, ⟨S1024x32, m ((c : Thread nD τ).loc main_arg5)⟩] concatenates_S1024x4_S1024x32_S1024x36_d1 : FVec Ideal S1024x36 .f32) (sitofp (F := Ideal) .f32 (constantI S_ 32 0#32)) pads_S1024x36_S1024x128_000_0920 h_S_ : FVec Ideal S1024x128 .f32) bitsLt_bf16_f32 : FVec Ideal S1024x128 .bf16) := rfl
  have h2 := Project.padCols_apply (concatenate S1024x36 1 [⟨S1024x4, m ((c : Thread nD τ).loc main_arg3)⟩, ⟨S1024x32, m ((c : Thread nD τ).loc main_arg5)⟩] concatenates_S1024x4_S1024x32_S1024x36_d1 : FVec Ideal S1024x36 .f32) (sitofp (F := Ideal) .f32 (constantI S_ 32 0#32) : FVec Ideal S_ .f32) pads_S1024x36_S1024x128_000_0920 h_S_ k j
  refine Eq.trans ?_ ((congrFun h (ix2 k j)).trans (h2.trans ?_))
  · unfold iblk
    rw [View.read_apply]
    show V m c main_v2 _ = V m c main_v2 _
    congr 1
    blk_ext [e]
  · unfold heads
    split
    · exact Join.joinCols_apply rfl _ _ _ k _
    · exact Join.zero_word _

theorem block4 (t : Fin cfg0.N) (j : Fin 128) :
    iblk m c 4 t (ix2 (0 : Fin 1) j) = biases (m ((c : Thread nD τ).loc main_arg4)) (m ((c : Thread nD τ).loc main_arg6)) j := by
  have e := idx4 t
  have h : V m c main_v6 = shapeCast S1x128 (pad S128 ![0] ![92] ![0] (concatenate S36 0 [⟨S4, m ((c : Thread nD τ).loc main_arg4)⟩, ⟨S32, m ((c : Thread nD τ).loc main_arg6)⟩] concatenates_S4_S32_S36_d0 : FVec Ideal S36 .f32) (sitofp (F := Ideal) .f32 (constantI S_ 32 0#32)) pads_S36_S128_0920 h_S_ : FVec Ideal S128 .f32) shapeCasts_S128_S1x128 := rfl
  have h2 := Join.padEnd_apply (concatenate S36 0 [⟨S4, m ((c : Thread nD τ).loc main_arg4)⟩, ⟨S32, m ((c : Thread nD τ).loc main_arg6)⟩] concatenates_S4_S32_S36_d0 : FVec Ideal S36 .f32) (sitofp (F := Ideal) .f32 (constantI S_ 32 0#32) : FVec Ideal S_ .f32) pads_S36_S128_0920 h_S_ j
  refine Eq.trans (b := V m c main_v6 (ix2 (0 : Fin 1) j)) ?_ ((congrFun h _).trans ((shapeCast_apply _ _ _ (ix1 j) ?_).trans (h2.trans ?_)))
  · unfold iblk
    rw [View.read_apply]
    show V m c main_v6 _ = V m c main_v6 _
    congr 1
    blk_ext [e]
  · rw [Shape.rowMajor_val_one, Shape.rowMajor_val_two]
    show j.val = 0 * 128 + j.val
    omega
  · unfold biases
    split
    · exact Join.join_apply rfl _ _ _ _
    · exact Join.zero_word _

/-! ## The arrays the kernel leaves -/

/-- The logit of row `r` at column `j`, from the argument arrays. -/
def value (r : Fin 16384) (j : Fin 128) : EReal :=
  Project.project (m ((c : Thread nD τ).loc main_arg0)) (m ((c : Thread nD τ).loc main_arg1)) (m ((c : Thread nD τ).loc main_arg2)) (fun k => heads (m ((c : Thread nD τ).loc main_arg3)) (m ((c : Thread nD τ).loc main_arg5)) k j) r
    + biases (m ((c : Thread nD τ).loc main_arg4)) (m ((c : Thread nD τ).loc main_arg6)) j

/-- The modulated rows, from the argument arrays. -/
def rows (r : Fin 16384) (k : Fin 1024) : EReal :=
  modulated (m ((c : Thread nD τ).loc main_arg0)) (m ((c : Thread nD τ).loc main_arg1)) (m ((c : Thread nD τ).loc main_arg2)) r k

theorem pay_block (t : Fin cfg0.N) (r : Fin 256) (j : Fin 128) :
    k0_pay2 (iblk m c 0 t) (iblk m c 2 t) (iblk m c 1 t) (iblk m c 3 t) (iblk m c 4 t) (ix2 r j) = value m c (row t r) j := by
  refine (pay_at _ _ _ _ _ r j).trans ?_
  rw [block4]
  unfold value Project.project
  refine congrArg (· + _) (Finset.sum_congr rfl fun k _ => ?_)
  rw [block0, block1 m c t r, block2 m c t r, block3]

theorem rows_block (t : Fin cfg0.N) (r : Fin 256) (k : Fin 1024) :
    k0_pay1 (iblk m c 0 t) (iblk m c 2 t) (iblk m c 1 t) (ix2 r k) = rows m c (row t r) k := by
  refine (rows_at _ _ _ r k).trans ?_
  unfold rows modulated
  rw [block0, block1 m c t r, block2 m c t r]

theorem array5_at (r : Fin 16384) (x : Fin 128) : (dats m 0 c).arrAt 5 cfg0.N (ix2 r x) = value m c r x := by
  refine (dats m 0 c).arrAt_forall_of_covers 5 (fun (i : S16384x128.Idx) (v : EReal) => v = value m c (i 0) (i 1)) (by decide +kernel) (fun t hf y => ?_) (ix2 r x)
  obtain ⟨i, j, rfl⟩ : ∃ (i : Fin 256) (j : Fin 128), y = ix2 i j := ⟨y 0, y 1, eq_ix2 y⟩
  have e := idx5 t
  have e0 : ((cfg0.win 5).blk t).view.emb (ix2 i j) 0 = row t i := Fin.ext (by blk_simp [e]; show _ = 256 * t.val + i.val; omega)
  have e1 : ((cfg0.win 5).blk t).view.emb (ix2 i j) 1 = j := Fin.ext (by blk_simp [e])
  have hb : (dats m 0 c).after 5 t ((cfg0.win 5).xinj (cfg0.grid.coords t) (ix2 i j)) = value m c (row t i) j := by
    rw [after0_5]
    unfold out0_5
    rw [Project.store2, Project.load2, Project.load2, Project.load2, Project.load3, Project.load3]
    exact pay_block m c t i j
  refine hb.trans ?_
  rw [e0, e1]

theorem array6_at (r : Fin 16384) (x : Fin 1024) : (dats m 0 c).arrAt 6 cfg0.N (ix2 r x) = rows m c r x := by
  refine (dats m 0 c).arrAt_forall_of_covers 6 (fun (i : S16384x1024.Idx) (v : EReal) => v = rows m c (i 0) (i 1)) (by decide +kernel) (fun t hf y => ?_) (ix2 r x)
  obtain ⟨i, j, rfl⟩ : ∃ (i : Fin 256) (j : Fin 1024), y = ix2 i j := ⟨y 0, y 1, eq_ix2 y⟩
  have e := idx6 t
  have e0 : ((cfg0.win 6).blk t).view.emb (ix2 i j) 0 = row t i := Fin.ext (by blk_simp [e]; show _ = 256 * t.val + i.val; omega)
  have e1 : ((cfg0.win 6).blk t).view.emb (ix2 i j) 1 = j := Fin.ext (by blk_simp [e])
  have hb : (dats m 0 c).after 6 t ((cfg0.win 6).xinj (cfg0.grid.coords t) (ix2 i j)) = rows m c (row t i) j := by
    rw [after0_6]
    unfold out0_6
    rw [Project.store2, Project.load2, Project.load3, Project.load3]
    exact rows_block m c t i j
  refine hb.trans ?_
  rw [e0, e1]

/-! ## The reference -/

section
open Cert.ReferenceRouteIdeal.Read

section
variable (x : (⟨3, ![4, 4096, 1024]⟩ : Shape).Idx → EReal) (sh sc : (⟨3, ![4, 1, 1024]⟩ : Shape).Idx → EReal)
  (wg : (⟨2, ![1024, 4]⟩ : Shape).Idx → EReal) (bg : (⟨1, ![4]⟩ : Shape).Idx → EReal) (we : (⟨2, ![1024, 32]⟩ : Shape).Idx → EReal) (be : (⟨1, ![32]⟩ : Shape).Idx → EReal)

theorem rows_reference (r : Fin 16384) (k : Fin 1024) : val_main_v6 (F := Ideal) x sh sc (ix2 r k) = modulated x sh sc r k := by
  unfold val_main_v6
  refine (Project.flat_apply _ _ r k).trans ?_
  rw [val_main_v5_apply, val_main_v3_apply, val_main_v4_apply, val_main_v2_apply, val_main_v1_apply, val_main_v0_apply, val_main_cst_apply, Project.one_bits]
  have e2 : idx_main_v2 (ix3 (Project.batch r) (Project.place r) k) = ix3 (Project.batch r) (0 : Fin 1) k := funext fun a => match a with | ⟨0, _⟩ => rfl | ⟨1, _⟩ => rfl | ⟨2, _⟩ => rfl
  rw [show idx_main_v4 (ix3 (Project.batch r) (Project.place r) k) = _ from e2, e2]
  rfl

theorem group_at (r : Fin 16384) (j : Fin 4) :
    val_main_v10 (F := Ideal) x sh sc wg bg (ix2 r j) = Project.project x sh sc (fun k => wg (ix2 k j)) r + bg (ix1 j) := by
  rw [val_main_v10_apply, val_main_v7_apply, val_main_v9_apply, val_main_v8_apply]
  refine congrArg₂ (fun a b : EReal => a + b) (Finset.sum_congr rfl fun k _ => ?_) (congrArg bg (funext fun a => match a with | ⟨0, _⟩ => rfl))
  have e1 : lidx_main_v7 (ix2 r j) k = ix2 r k := funext fun a => match a with | ⟨0, _⟩ => rfl | ⟨1, _⟩ => rfl
  have e3 : ridx_main_v7 (ix2 r j) k = ix2 k j := funext fun a => match a with | ⟨0, _⟩ => rfl | ⟨1, _⟩ => rfl
  rw [e1, e3, rows_reference]
  rfl

theorem expert_at (r : Fin 16384) (j : Fin 32) :
    val_main_v14 (F := Ideal) x sh sc we be (ix2 r j) = Project.project x sh sc (fun k => we (ix2 k j)) r + be (ix1 j) := by
  rw [val_main_v14_apply, val_main_v11_apply, val_main_v13_apply, val_main_v12_apply]
  refine congrArg₂ (fun a b : EReal => a + b) (Finset.sum_congr rfl fun k _ => ?_) (congrArg be (funext fun a => match a with | ⟨0, _⟩ => rfl))
  have e1 : lidx_main_v11 (ix2 r j) k = ix2 r k := funext fun a => match a with | ⟨0, _⟩ => rfl | ⟨1, _⟩ => rfl
  have e3 : ridx_main_v11 (ix2 r j) k = ix2 k j := funext fun a => match a with | ⟨0, _⟩ => rfl | ⟨1, _⟩ => rfl
  rw [e1, e3, rows_reference]
  rfl

theorem reference_at (r : Fin 16384) (j : Fin 128) :
    val_main_v16 (F := Ideal) x sh sc wg bg we be (ix2 r j) = Project.project x sh sc (fun k => heads wg we k j) r + biases bg be j := by
  unfold val_main_v16
  refine (Project.padCols_apply _ _ _ _ r j).trans ?_
  by_cases h : j.val < 36
  · rw [dif_pos h]
    unfold val_main_v15
    refine (Join.joinCols_apply rfl _ _ _ r _).trans ?_
    by_cases hg : j.val < 4
    · rw [dif_pos hg, group_at]
      simp only [heads, biases, dif_pos h, dif_pos hg]
    · rw [dif_neg hg, expert_at]
      simp only [heads, biases, dif_pos h, dif_neg hg]
  · rw [dif_neg h]
    refine (Join.zero_word _).trans ?_
    simp only [heads, biases, dif_neg h, Project.project, mul_zero, Finset.sum_const_zero, add_zero]

end

/-- The kernel's logits are the reference's. -/
theorem result5 : (dats m 0 c).arrAt 5 cfg0.N
    = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 16384) (j : Fin 128), i = ix2 r j := ⟨i 0, i 1, eq_ix2 i⟩
  exact (array5_at m c r j).trans (reference_at _ _ _ _ _ _ _ r j).symm

/-- The kernel's modulated rows are the reference's. -/
theorem result6 : (dats m 0 c).arrAt 6 cfg0.N
    = val_main_v6 (F := Ideal) (m ((c : Thread nD τ).loc main_arg0)) (m ((c : Thread nD τ).loc main_arg1)) (m ((c : Thread nD τ).loc main_arg2)) := by
  funext i
  obtain ⟨r, k, rfl⟩ : ∃ (r : Fin 16384) (k : Fin 1024), i = ix2 r k := ⟨i 0, i 1, eq_ix2 i⟩
  exact (array6_at m c r k).trans (rows_reference _ _ _ r k).symm

end

end Cert.Route

end
-- ==== Proof.Ada.lean ====
/-
  THE ADAPTIVE MODULATION'S PROJECTION: the array the kernel leaves and the reference's result. Every row is the
  conditioning's own gated row (`silu`) times the matrix, with the bias; the rows past the last are zero.
-/
module

public import proofs.«01_k».proof.Proof.Join
public import proofs.«01_k».proof.Proof.Gen.KernelAdaIdeal.Value
public import proofs.«01_k».proof.Proof.Gen.ReferenceAdaIdeal.Read
public import Idealize.ShloMosaic.Lib.Pipeline.ValueKit.Geometry
public import Idealize.ShloMosaic.Lib.VecWindow

@[expose] public section

set_option maxRecDepth 16384

noncomputable section

open Idealize.ShloMosaic Idealize.ShloMosaic.TcCoe Idealize.SL.Sem Cert.KernelAdaIdeal Cert.KernelAdaIdeal.Gen

namespace Cert.Ada

/-- An entry times its own logistic. -/
def silu (x : EReal) : EReal := x * Ideal.logistic x

/-- The conditioning rows: the batches', the samples', and four of zeros. -/
def rows (x : (⟨2, ![4, 1024]⟩ : Shape).Idx → EReal) (y : (⟨2, ![128, 1024]⟩ : Shape).Idx → EReal) (r : Fin 136) (k : Fin 1024) : EReal :=
  if h : r.val < 132 then if hx : r.val < 4 then x (ix2 ⟨r.val, hx⟩ k) else y (ix2 ⟨r.val - 4, by omega⟩ k) else 0

/-- The projection of row `r` at column `j`. -/
def project (x : (⟨2, ![4, 1024]⟩ : Shape).Idx → EReal) (y : (⟨2, ![128, 1024]⟩ : Shape).Idx → EReal) (w : (⟨2, ![1024, 6144]⟩ : Shape).Idx → EReal) (b : (⟨1, ![6144]⟩ : Shape).Idx → EReal) (r : Fin 136) (j : Fin 6144) : EReal :=
  (∑ k : Fin 1024, silu (rows x y r k) * w (ix2 k j)) + b (ix1 j)

/-! ## One block -/

theorem pay_at (x : Vec Ideal S136x1024 .f32) (w : Vec Ideal S1024x1536 .f32) (b : Vec Ideal S1x1536 .f32) (r : Fin 136) (j : Fin 1536) :
    k0_pay3 (F := Ideal) (k0_pay2 (F := Ideal) x (k0_pay1 (F := Ideal)) w) b (ix2 r j) = (∑ k : Fin 1024, silu (x (ix2 r k)) * w (ix2 k j)) + b (ix2 (0 : Fin 1) j) := by
  pointwise [k0_pay1, k0_pay2, k0_pay3, silu]

section
variable {F : FTy → Type} [FloatOps F]
variable (c : Dev nD) (i : grid0.Coords) (arg3 : Memref sig .tc .vmem S136x1024 .f32) (harg3 : arg3.IsWhole) (arg4 : Memref sig .tc .vmem S1024x1536 .f32) (harg4 : arg4.IsWhole) (arg5 : Memref sig .tc .vmem S1x1536 .f32) (harg5 : arg5.IsWhole) (arg6 : Memref sig .tc .vmem S136x1536 .f32) (harg6 : arg6.IsWhole) (arg7 : Memref sig .tc .vmem S136x1536 .f32) (harg7 : arg7.IsWhole) (hc0 : cond0_0 i) (hc1 : cond0_1 i)
    (x0 : Vec F S136x1024 .f32) (x1 : Vec F S1024x1536 .f32) (x2 : Vec F S1x1536 .f32)

theorem whole_load {d : Fin 2 → ℕ} {e : EltTy} (r : Memref sig .tc .vmem (⟨2, d⟩ : Shape) e) (hr : r.IsWhole) (inb) (x : (⟨2, d⟩ : Shape).Idx → Elt F e) :
    View.readAt (Elt F) r.view (Rect.unit (s := ⟨2, d⟩) ![0, 0] (⟨2, d⟩ : Shape).size inb).toLoadRect (hr.unread x) = x := by
  rw [View.readAt_eq_ld, hr.read_unread]
  exact Project.load2 inb x

/-- One cell's block: the accumulator starts at zero, the product is added, then the bias. -/
theorem out_eq : out0_A_3 c i arg3 harg3 arg4 harg4 arg5 harg5 arg6 harg6 arg7 harg7 hc0 hc1 x0 x1 x2 = k0_pay3 (k0_pay2 x0 k0_pay1 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  refine (Project.store2 _ _).trans (congrArg₂ k0_pay3 ?_ (whole_load arg5 harg5 _ x2))
  unfold kernelRun0_A.sl.v19 kernelRun0_A.sl.HS0_2
  refine (View.readCov_full arg7.view _ _ _ _).trans ?_
  rw [whole_load arg3 harg3, whole_load arg4 harg4]
  refine congrArg (fun z => k0_pay2 x0 z x1) ?_
  unfold kernelRun0_A.sl.v7 kernelRun0_A.sl.HS0_1
  exact View.readCov_full arg7.view _ _ _ _
end

/-! ## What the blocks read -/

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The array's column of column `j` of block `t`. -/
def col (t : Fin cfg0.N) (j : Fin 1536) : Fin 6144 := ⟨1536 * t.val + j.val, by have : t.val < 4 := t.isLt; omega⟩

/-- Three pieces of rows, the last a constant, at a row and a column. -/
theorem stack_apply (x : (⟨2, ![4, 1024]⟩ : Shape).Idx → EReal) (y : (⟨2, ![128, 1024]⟩ : Shape).Idx → EReal) (z : (⟨2, ![4, 1024]⟩ : Shape).Idx → EReal) (hz : ∀ i, z i = 0) (h) (r : Fin 136) (k : Fin 1024) :
    concatenate S136x1024 0 [⟨S4x1024, x⟩, ⟨S128x1024, y⟩, ⟨S4x1024, z⟩] h (ix2 r k) = rows x y r k := by
  unfold rows
  by_cases h1 : r.val < 132
  · rw [dif_pos h1]
    by_cases h2 : r.val < 4
    · rw [dif_pos h2]
      exact concatenate_apply_piece _ _ h _ 0 (Nat.succ_pos _) S4x1024 x rfl rfl 0 rfl _ (fun b => match b with | ⟨0, _⟩ => fun hb => absurd rfl hb | ⟨1, _⟩ => fun _ => rfl) (Nat.zero_add _)
    · rw [dif_neg h2]
      refine concatenate_apply_piece _ _ h _ 1 (Nat.succ_lt_succ (Nat.succ_pos _)) S128x1024 y rfl rfl 4 rfl _ (fun b => match b with | ⟨0, _⟩ => fun hb => absurd rfl hb | ⟨1, _⟩ => fun _ => rfl) ?_
      show 4 + (r.val - 4) = r.val
      omega
  · rw [dif_neg h1]
    refine (concatenate_apply_piece _ _ h _ 2 (Nat.succ_lt_succ (Nat.succ_lt_succ (Nat.succ_pos _))) S4x1024 z rfl rfl 132 rfl (ix2 (⟨r.val - 132, by omega⟩ : Fin 4) k) (fun b => match b with | ⟨0, _⟩ => fun hb => absurd rfl hb | ⟨1, _⟩ => fun _ => rfl) ?_).trans (hz _)
    show 132 + (r.val - 132) = r.val
    omega

theorem zeros_at (i : S4x1024.Idx) : V m c main_v0 i = (0 : EReal) :=
  Ideal.ofBits_zero .f32

theorem block0 (t : Fin cfg0.N) (r : Fin 136) (k : Fin 1024) :
    iblk m c 0 t (ix2 r k) = rows (m ((c : Thread nD τ).loc main_arg0)) (m ((c : Thread nD τ).loc main_arg1)) r k := by
  have e := idx0 t
  have h : V m c main_v1 = concatenate S136x1024 0 [⟨S4x1024, m ((c : Thread nD τ).loc main_arg0)⟩, ⟨S128x1024, m ((c : Thread nD τ).loc main_arg1)⟩, ⟨S4x1024, V m c main_v0⟩] concatenates_S4x1024_S128x1024_S4x1024_S136x1024_d0 := rfl
  refine Eq.trans ?_ ((congrFun h (ix2 r k)).trans (stack_apply _ _ _ (zeros_at m c) _ r k))
  unfold iblk
  rw [View.read_apply]
  show V m c main_v1 _ = V m c main_v1 _
  congr 1
  blk_ext [e]

theorem block1 (t : Fin cfg0.N) (k : Fin 1024) (j : Fin 1536) :
    iblk m c 1 t (ix2 k j) = m ((c : Thread nD τ).loc main_arg2) (ix2 k (col t j)) := by
  have e := idx1 t
  unfold iblk
  rw [View.read_apply]
  show V m c main_arg2 _ = m _ _
  rw [V_main_arg2]
  congr 1
  blk_ext [e, col]

theorem block2 (t : Fin cfg0.N) (j : Fin 1536) :
    iblk m c 2 t (ix2 (0 : Fin 1) j) = m ((c : Thread nD τ).loc main_arg3) (ix1 (col t j)) := by
  have e := idx2 t
  have h : V m c main_v2 = shapeCast S1x6144 (m ((c : Thread nD τ).loc main_arg3)) shapeCasts_S6144_S1x6144 := rfl
  refine Eq.trans (b := V m c main_v2 (ix2 (0 : Fin 1) (col t j))) ?_ ((congrFun h _).trans (shapeCast_apply _ _ _ (ix1 (col t j)) ?_))
  · unfold iblk
    rw [View.read_apply]
    show V m c main_v2 _ = V m c main_v2 _
    congr 1
    blk_ext [e, col]
  · rw [Shape.rowMajor_val_one, Shape.rowMajor_val_two]
    show (col t j).val = 0 * 6144 + (col t j).val
    omega

/-! ## The array the kernel leaves -/

/-- The projection of row `r` at column `j`, from the argument arrays. -/
def value (r : Fin 136) (j : Fin 6144) : EReal :=
  project (m ((c : Thread nD τ).loc main_arg0)) (m ((c : Thread nD τ).loc main_arg1)) (m ((c : Thread nD τ).loc main_arg2)) (m ((c : Thread nD τ).loc main_arg3)) r j

theorem pay_block (t : Fin cfg0.N) (r : Fin 136) (j : Fin 1536) :
    k0_pay3 (F := Ideal) (k0_pay2 (F := Ideal) (iblk m c 0 t) (k0_pay1 (F := Ideal)) (iblk m c 1 t)) (iblk m c 2 t) (ix2 r j) = value m c r (col t j) := by
  refine (pay_at _ _ _ r j).trans ?_
  rw [block2]
  unfold value project
  refine congrArg (· + _) (Finset.sum_congr rfl fun k _ => ?_)
  rw [block0, block1]

theorem array_at (r : Fin 136) (x : Fin 6144) : (dats m 0 c).arrAt 3 cfg0.N (ix2 r x) = value m c r x := by
  refine (dats m 0 c).arrAt_forall_of_covers 3 (fun (i : S136x6144.Idx) (v : EReal) => v = value m c (i 0) (i 1)) (by decide +kernel) (fun t hf y => ?_) (ix2 r x)
  obtain ⟨i, j, rfl⟩ : ∃ (i : Fin 136) (j : Fin 1536), y = ix2 i j := ⟨y 0, y 1, eq_ix2 y⟩
  have e := idx3 t
  have e0 : ((cfg0.win 3).blk t).view.emb (ix2 i j) 0 = i := Fin.ext (by blk_simp [e])
  have e1 : ((cfg0.win 3).blk t).view.emb (ix2 i j) 1 = col t j := Fin.ext (by blk_simp [e]; show _ = 1536 * t.val + j.val; omega)
  have hb : (dats m 0 c).after 3 t ((cfg0.win 3).xinj (cfg0.grid.coords t) (ix2 i j)) = value m c i (col t j) := by
    rw [after0_3]
    unfold outsAt0
    rw [out_eq]
    exact pay_block m c t i j
  refine hb.trans ?_
  rw [e0, e1]

/-! ## The reference -/

section
open Cert.ReferenceAdaIdeal.Read

section
variable (x : (⟨2, ![4, 1024]⟩ : Shape).Idx → EReal) (y : (⟨2, ![128, 1024]⟩ : Shape).Idx → EReal) (w : (⟨2, ![1024, 6144]⟩ : Shape).Idx → EReal) (b : (⟨1, ![6144]⟩ : Shape).Idx → EReal)

theorem rows_reference (r : Fin 136) (k : Fin 1024) : val_main_v1 (F := Ideal) x y (ix2 r k) = rows x y r k := by
  unfold val_main_v1 pad rows
  by_cases h : r.val < 132
  · rw [dif_pos h, dif_pos (fun a => match a with
      | ⟨0, _⟩ => ⟨Nat.zero_le _, Nat.mod_one _, by show (r.val - 0) / 1 < 132; omega⟩
      | ⟨1, _⟩ => ⟨Nat.zero_le _, Nat.mod_one _, by show (k.val - 0) / 1 < 1024; omega⟩)]
    refine Eq.trans (b := val_main_v0 (F := Ideal) x y (ix2 (⟨r.val, h⟩ : Fin 132) k)) (congrArg _ (funext fun a => Fin.ext ?_)) ?_
    · match a with
      | ⟨0, _⟩ => exact Nat.div_one _
      | ⟨1, _⟩ => exact Nat.div_one _
    · unfold val_main_v0
      split
      · rename_i hx
        exact concatenate_pair_apply_left (t := Cert.ReferenceAdaIdeal.S132x1024) (s₁ := S4x1024) (s₂ := S128x1024) 0 x y _ (ix2 ⟨r.val, h⟩ k) rfl (ix2 ⟨r.val, hx⟩ k) (fun b => match b with | ⟨0, _⟩ => rfl | ⟨1, _⟩ => rfl)
      · rename_i hx
        refine concatenate_pair_apply_right (t := Cert.ReferenceAdaIdeal.S132x1024) (s₁ := S4x1024) (s₂ := S128x1024) 0 x y _ (ix2 ⟨r.val, h⟩ k) rfl rfl (ix2 ⟨r.val - 4, by omega⟩ k) (fun b => match b with | ⟨0, _⟩ => fun hb => absurd rfl hb | ⟨1, _⟩ => fun _ => rfl) ?_
        show r.val - 4 + 4 = r.val
        omega
  · rw [dif_neg h, dif_neg]
    · exact Join.zero_word _
    · intro hin
      exact h (by have h1 := (hin 0).2.2; change (r.val - 0) / 1 < 132 at h1; omega)

theorem silu_reference (r : Fin 136) (k : Fin 1024) : val_main_v2 (F := Ideal) x y (ix2 r k) = silu (rows x y r k) := by
  rw [val_main_v2_apply, val_main_call1_v5_apply, val_main_call1_v4_apply, val_main_call1_cst_0_apply, val_main_call1_v3_apply, val_main_call1_v2_apply, val_main_call1_cst_apply, val_main_call1_v1_apply, val_main_call1_v0_apply, rows_reference, Project.one_bits]
  rfl

theorem reference_at (r : Fin 136) (j : Fin 6144) : val_main_v6 (F := Ideal) x y w b (ix2 r j) = project x y w b r j := by
  rw [val_main_v6_apply, val_main_v3_apply, val_main_v5_apply, val_main_v4_apply]
  refine congrArg₂ (fun a b : EReal => a + b) (Finset.sum_congr rfl fun k _ => ?_) (congrArg b (funext fun a => match a with | ⟨0, _⟩ => rfl))
  have e1 : lidx_main_v3 (ix2 r j) k = ix2 r k := funext fun a => match a with | ⟨0, _⟩ => rfl | ⟨1, _⟩ => rfl
  have e3 : ridx_main_v3 (ix2 r j) k = ix2 k j := funext fun a => match a with | ⟨0, _⟩ => rfl | ⟨1, _⟩ => rfl
  rw [e1, e3, silu_reference]

end

/-- The kernel's projection is the reference's. -/
theorem result : (dats m 0 c).arrAt 3 cfg0.N
    = val_main_v6 (F := Ideal) (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 136) (j : Fin 6144), i = ix2 r j := ⟨i 0, i 1, eq_ix2 i⟩
  exact (array_at m c r j).trans (reference_at _ _ _ _ r j).symm

end

end Cert.Ada

end
-- ==== Proof.Pool.lean ====
/-
  THE PAGES' BLOCK SUMMARIES: the array the kernel leaves and the reference's result, at every page and column. A
  page's tile holds a key head's dimension in each row and the page's places along it; the kernel adds, row after row,
  the rows' products with the row's weights, which are zero between different blocks of the page.
-/
module

public import proofs.«01_k».proof.Proof.Join
public import proofs.«01_k».proof.Proof.Gen.KernelPoolIdeal.Value
public import proofs.«01_k».proof.Proof.Gen.ReferencePoolIdeal.Read
public import Idealize.ShloMosaic.Lib.Pipeline.ValueKit.Geometry
public import Idealize.ShloMosaic.Lib.ValueIdxRank6

@[expose] public section

set_option maxRecDepth 16384

noncomputable section

open Idealize.ShloMosaic Idealize.ShloMosaic.TcCoe Idealize.SL.Sem Cert.KernelPoolIdeal Cert.KernelPoolIdeal.Gen

namespace Cert.Pool

/-! ## One block as a sum over rows -/

section
variable {F : FTy → Type} [FloatOps F]

/-- One row of the pages' tiles times its weights, added. -/
def step (a : Vec F S128x128 .f32) (b : Vec F S1x128x128 .bf16) (acc : FVec F S128x128 .f32) : FVec F S128x128 .f32 :=
  addf acc (matmul dot_S128x128_S128x128_S128x128_1_0_0_1_n_n none (truncf .bf16 (shapeCast S128x128 a shapeCasts_S128x128_S128x128) bitsLt_bf16_f32) (shapeCast S128x128 b shapeCasts_S1x128x128_S128x128) (constant S128x128 .f32 0x00000000#32))

/-- The sum over `n` rows from row `o`. -/
def chain (A : Fin 128 → Vec F S128x128 .f32) (B : Fin 128 → Vec F S1x128x128 .bf16) (o : ℕ) (ho : o + 64 ≤ 128) : (n : ℕ) → n ≤ 64 → FVec F S128x128 .f32
  | 0, _ => broadcast S128x128 (Scalar.ofBits .f32 0x00000000#32)
  | n + 1, h => step (A ⟨o + n, by omega⟩) (B ⟨o + n, by omega⟩) (chain A B o ho n (by omega))

theorem inb_tile (r : Fin 128) : ∀ a, S128x128.size a = 0 ∨ (![r.val, 0] : Fin 2 → Nat) a + (![128, 1] : Fin 2 → Nat) a * (S128x128.size a - 1) < S16384x128.size a := by
  revert r; decide +kernel
theorem inb_weights (r : Fin 128) : ∀ a, (![r.val, 0, 0] : Fin 3 → Nat) a + S1x128x128.size a ≤ S128x128x128.size a := by
  revert r; decide +kernel

variable (c : Dev nD) (i : grid0.Coords) (arg1 : Memref sig .tc .vmem S16384x128 .f32) (harg1 : arg1.IsWhole) (arg2 : Memref sig .tc .vmem S128x128x128 .bf16) (harg2 : arg2.IsWhole) (arg3 : Memref sig .tc .vmem S128x256 .f32) (harg3 : arg3.IsWhole)
    (x0 : Vec F S16384x128 .f32) (x1 : Vec F S128x128x128 .bf16)

/-- Row `r` of the tiles of 128 pages. -/
def tile (r : Fin 128) : Vec F S128x128 .f32 := View.readAt (Elt F) arg1.view { off := ![r.val, 0], size := S128x128.size, stride := ![128, 1], inb := inb_tile r } (harg1.unread x0)

/-- The weights of row `r`. -/
def weights (r : Fin 128) : Vec F S1x128x128 .bf16 := View.readAt (Elt F) arg2.view (Rect.unit (s := S128x128x128) ![r.val, 0, 0] S1x128x128.size (inb_weights r)).toLoadRect (harg2.unread x1)

theorem tile_apply (r p k : Fin 128) : tile arg1 harg1 x0 r (ix2 p k) = x0 (ix2 (⟨128 * p.val + r.val, by omega⟩ : Fin 16384) k) := by
  unfold tile
  rw [View.readAt_apply, harg1.read_unread]
  congr 1
  funext a
  refine Fin.ext ?_
  match a with
  | ⟨0, _⟩ => show r.val + 128 * p.val = 128 * p.val + r.val; omega
  | ⟨1, _⟩ => show 0 + 1 * k.val = k.val; omega

theorem weights_apply (r k q : Fin 128) : weights arg2 harg2 x1 r (ix3 (0 : Fin 1) k q) = x1 (ix3 r k q) := by
  unfold weights
  rw [View.readAt_apply, harg2.read_unread]
  congr 1
  funext a
  refine Fin.ext ?_
  match a with
  | ⟨0, _⟩ => show r.val + 1 * 0 = r.val; omega
  | ⟨1, _⟩ => show 0 + 1 * k.val = k.val; omega
  | ⟨2, _⟩ => show 0 + 1 * q.val = q.val; omega

/-- The block the body leaves is the two heads' sums side by side. -/
theorem out_eq : out0_A_2 c i arg1 harg1 arg2 harg2 arg3 harg3 x0 x1
    = concatenate S128x256 1 [⟨S128x128, chain (tile arg1 harg1 x0) (weights arg2 harg2 x1) 0 (by omega) 64 (by omega)⟩, ⟨S128x128, chain (tile arg1 harg1 x0) (weights arg2 harg2 x1) 64 (by omega) 64 (by omega)⟩] concatenates_S128x128_S128x128_S128x256_d1 := by
  unfold out0_A_2
  rw [View.read_writes_eq_canon _ _ _ (cover0_A_2 c i arg1 harg1 arg2 harg2 arg3 harg3 x0 x1)]
  unfold kernelRun0_A
  dsimp only
  refine (Project.store2 _ _).trans ?_
  sl_kernel_rfl
end

theorem step_at (a : Vec Ideal S128x128 .f32) (b : Vec Ideal S1x128x128 .bf16) (acc : FVec Ideal S128x128 .f32) (p q : Fin 128) :
    step a b acc (ix2 p q) = acc (ix2 p q) + ∑ k : Fin 128, a (ix2 p k) * b (ix3 (0 : Fin 1) k q) := by
  pointwise [step]

theorem chain_at (A : Fin 128 → Vec Ideal S128x128 .f32) (B : Fin 128 → Vec Ideal S1x128x128 .bf16) (o : ℕ) (ho : o + 64 ≤ 128) (n : ℕ) (hn : n ≤ 64) (p q : Fin 128) :
    chain A B o ho n hn (ix2 p q) = ∑ d : Fin n, ∑ k : Fin 128, A ⟨o + d.val, by omega⟩ (ix2 p k) * B ⟨o + d.val, by omega⟩ (ix3 (0 : Fin 1) k q) := by
  induction n with
  | zero =>
    unfold chain
    pointwise
    simp
  | succ n ih =>
    unfold chain
    rw [step_at, ih]
    exact (Fin.sum_univ_castSucc fun d : Fin (n + 1) => ∑ k : Fin 128, A ⟨o + d.val, by omega⟩ (ix2 p k) * B ⟨o + d.val, by omega⟩ (ix3 (0 : Fin 1) k q)).symm

/-- The head of a result's column. -/
def head (q : Fin 256) : Fin 2 := ⟨q.val / 128, by omega⟩
/-- The block of the page of a result's column. -/
def part (q : Fin 256) : Fin 2 := ⟨q.val / 64 % 2, by omega⟩
/-- The dimension of a result's column. -/
def dim (q : Fin 256) : Fin 64 := ⟨q.val % 64, by omega⟩
/-- The row of a head and a dimension. -/
def rowOf (g : Fin 2) (d : Fin 64) : Fin 128 := ⟨64 * g.val + d.val, by omega⟩

theorem out_at (c : Dev nD) (i : grid0.Coords) (arg1 : Memref sig .tc .vmem S16384x128 .f32) (harg1 : arg1.IsWhole) (arg2 : Memref sig .tc .vmem S128x128x128 .bf16) (harg2 : arg2.IsWhole) (arg3 : Memref sig .tc .vmem S128x256 .f32) (harg3 : arg3.IsWhole)
    (x0 : Vec Ideal S16384x128 .f32) (x1 : Vec Ideal S128x128x128 .bf16) (p : Fin 128) (q : Fin 256) :
    out0_A_2 c i arg1 harg1 arg2 harg2 arg3 harg3 x0 x1 (ix2 p q)
      = ∑ d : Fin 64, ∑ k : Fin 128, x0 (ix2 (⟨128 * p.val + (rowOf (head q) d).val, by omega⟩ : Fin 16384) k) * x1 (ix3 (rowOf (head q) d) k (rowOf (part q) (dim q))) := by
  rw [out_eq]
  refine (Join.joinCols_apply (n := 128) (p := 128) rfl _ _ _ p q).trans ?_
  split
  · rename_i h
    rw [chain_at]
    refine Finset.sum_congr rfl fun d _ => Finset.sum_congr rfl fun k _ => ?_
    rw [tile_apply, weights_apply]
    have e1 : (⟨0 + d.val, by omega⟩ : Fin 128) = rowOf (head q) d := Fin.ext (by show 0 + d.val = 64 * (q.val / 128) + d.val; omega)
    have e2 : (⟨q.val, h⟩ : Fin 128) = rowOf (part q) (dim q) := Fin.ext (by show q.val = 64 * (q.val / 64 % 2) + q.val % 64; omega)
    rw [e1, e2]
  · rename_i h
    rw [chain_at]
    refine Finset.sum_congr rfl fun d _ => Finset.sum_congr rfl fun k _ => ?_
    rw [tile_apply, weights_apply]
    have e1 : (⟨64 + d.val, by omega⟩ : Fin 128) = rowOf (head q) d := Fin.ext (by show 64 + d.val = 64 * (q.val / 128) + d.val; omega)
    have e2 : (⟨q.val - 128, by omega⟩ : Fin 128) = rowOf (part q) (dim q) := Fin.ext (by show q.val - 128 = 64 * (q.val / 64 % 2) + q.val % 64; omega)
    rw [e1, e2]

/-! ## What the blocks read -/

variable (m : (ℓ : Loc nD τ sig) → Buf (Elt Ideal) ℓ) (c : Dev nD)

theorem idx0 : ∀ t : Fin cfg0.N, win0_0.index t = ![t.val + 80, 0] := (by decide +kernel : ∀ t : Fin grid0.N, win0_0.index t = ![t.val + 80, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])

/-- Page `p` of block `t`. -/
def page (t : Fin cfg0.N) (p : Fin 128) : Fin 10240 := ⟨128 * t.val + p.val, by have : t.val < 80 := t.isLt; omega⟩

/-- The transposed pages, flattened, at a page of the second slot, a head and a dimension. -/
theorem pages_apply {α : Type} (x : S2x10240x128x2x64.Idx → α) (P : Fin 10240) (g : Fin 2) (d : Fin 64) (k : Fin 128) :
    shapeCast S2621440x128 (shapeCast S20480x128x128 (transpose S2x10240x2x64x128 [0, 1, 3, 4, 2] x transposes_S2x10240x128x2x64_S2x10240x2x64x128_0_1_3_4_2) shapeCasts_S2x10240x2x64x128_S20480x128x128) shapeCasts_S20480x128x128_S2621440x128
        (ix2 (⟨128 * (10240 + P.val) + (rowOf g d).val, by omega⟩ : Fin 2621440) k)
      = x (ix5 (1 : Fin 2) P k g d) := by
  refine (shapeCast_apply _ _ _ (ix3 (⟨10240 + P.val, by omega⟩ : Fin 20480) (rowOf g d) k) ?_).trans
    ((shapeCast_apply _ _ _ (ix5 (1 : Fin 2) P g d k) ?_).trans (transpose_apply [0, 1, 3, 4, 2] x _ _ (ix5 (1 : Fin 2) P k g d) fun b => ?_))
  · rw [Shape.rowMajor_val_three, Shape.rowMajor_val_two]
    show ((10240 + P.val) * 128 + (64 * g.val + d.val)) * 128 + k.val = (128 * (10240 + P.val) + (64 * g.val + d.val)) * 128 + k.val
    omega
  · rw [Shape.rowMajor_val_five, Shape.rowMajor_val_three]
    show (((1 * 10240 + P.val) * 2 + g.val) * 64 + d.val) * 128 + k.val = ((10240 + P.val) * 128 + (64 * g.val + d.val)) * 128 + k.val
    omega
  · match b with
    | ⟨0, _⟩ => rfl
    | ⟨1, _⟩ => rfl
    | ⟨2, _⟩ => rfl
    | ⟨3, _⟩ => rfl
    | ⟨4, _⟩ => rfl

theorem block0 (t : Fin cfg0.N) (p : Fin 128) (g : Fin 2) (d : Fin 64) (k : Fin 128) :
    iblk m c 0 t (ix2 (⟨128 * p.val + (rowOf g d).val, by omega⟩ : Fin 16384) k) = m ((c : Thread nD τ).loc main_arg0) (ix5 (1 : Fin 2) (page t p) k g d) := by
  have e := idx0 t
  have h : V m c main_v2 = shapeCast S2621440x128 (shapeCast S20480x128x128 (transpose S2x10240x2x64x128 [0, 1, 3, 4, 2] (m ((c : Thread nD τ).loc main_arg0)) transposes_S2x10240x128x2x64_S2x10240x2x64x128_0_1_3_4_2) shapeCasts_S2x10240x2x64x128_S20480x128x128) shapeCasts_S20480x128x128_S2621440x128 := rfl
  refine Eq.trans ?_ ((congrFun h _).trans (pages_apply _ (page t p) g d k))
  unfold iblk
  rw [View.read_apply]
  show V m c main_v2 _ = V m c main_v2 _
  congr 1
  blk_ext [e, page, rowOf]

/-- One where the two blocks are the same, else zero. -/
def same (b b' : Fin 2) : EReal := if b = b' then 1 else 0

/-- The identity matrix that the host builds. -/
theorem eye_apply (b b' : Fin 2) :
    (uitofp (F := Ideal) .f32 (cmpi .eq (addi (iotaInDim S2x2 32 0) (broadcastInDim S2x2 ![] bcast_S_S2x2 (constantI S_ 32 0#32))) (iotaInDim S2x2 32 1)) : FVec Ideal S2x2 .f32) (ix2 b b') = same b b' := by
  have h : (cmpi .eq (addi (iotaInDim S2x2 32 0) (broadcastInDim S2x2 ![] bcast_S_S2x2 (constantI S_ 32 0#32))) (iotaInDim S2x2 32 1)) (ix2 b b') = if b = b' then 1#1 else 0#1 := by
    revert b b'; decide
  show (((_ : BitVec 1).toNat : ℝ) : EReal) = _
  rw [h]
  unfold same
  split <;> simp

/-- The weights laid out for the kernel, at a head and a dimension, a block and a place, and a block and a dimension. -/
theorem laid_apply (w : FVec Ideal S2x64x64x64 .f32) (eye : FVec Ideal S2x2 .f32) (g : Fin 2) (d : Fin 64) (b : Fin 2) (j : Fin 64) (b' : Fin 2) (e : Fin 64) :
    shapeCast S128x128x128 (mulf (broadcastInDim S2x64x2x64x2x64 ![0, 1, 2, 3, 4, 5] bcast_S2x64x1x64x1x64_S2x64x2x64x2x64_0_1_2_3_4_5 (broadcastInDim S2x64x1x64x1x64 ![0, 1, 3, 5] bcast_S2x64x64x64_S2x64x1x64x1x64_0_1_3_5 (transpose S2x64x64x64 [0, 2, 1, 3] w transposes_S2x64x64x64_S2x64x64x64_0_2_1_3)))
        (broadcastInDim S2x64x2x64x2x64 ![0, 1, 2, 3, 4, 5] bcast_S1x1x2x1x2x1_S2x64x2x64x2x64_0_1_2_3_4_5 (broadcastInDim S1x1x2x1x2x1 ![2, 4] bcast_S2x2_S1x1x2x1x2x1_2_4 eye))) shapeCasts_S2x64x2x64x2x64_S128x128x128
        (ix3 (rowOf g d) (rowOf b j) (rowOf b' e))
      = w (ix4 g j d e) * eye (ix2 b b') := by
  refine (shapeCast_apply _ _ _ (ValueIdx.ix6 g d b j b' e) ?_).trans ?_
  · rw [Shape.rowMajor_val_six, Shape.rowMajor_val_three]
    show ((((g.val * 64 + d.val) * 2 + b.val) * 64 + j.val) * 2 + b'.val) * 64 + e.val = ((64 * g.val + d.val) * 128 + (64 * b.val + j.val)) * 128 + (64 * b'.val + e.val)
    omega
  · refine congrArg₂ (fun a b : EReal => a * b) ?_ ?_
    · refine (broadcastInDim_apply _ _ _ _ (ValueIdx.ix6 g d (0 : Fin 1) j (0 : Fin 1) e) fun a => ?_).trans
        ((broadcastInDim_apply _ _ _ _ (ix4 g d j e) fun a => ?_).trans (transpose_apply [0, 2, 1, 3] w _ _ (ix4 g j d e) fun a => ?_))
      · match a with
        | ⟨0, _⟩ => rfl
        | ⟨1, _⟩ => rfl
        | ⟨2, _⟩ => rfl
        | ⟨3, _⟩ => rfl
        | ⟨4, _⟩ => rfl
        | ⟨5, _⟩ => rfl
      · match a with
        | ⟨0, _⟩ => rfl
        | ⟨1, _⟩ => rfl
        | ⟨2, _⟩ => rfl
        | ⟨3, _⟩ => rfl
      · match a with
        | ⟨0, _⟩ => rfl
        | ⟨1, _⟩ => rfl
        | ⟨2, _⟩ => rfl
        | ⟨3, _⟩ => rfl
    · refine (broadcastInDim_apply _ _ _ _ (ValueIdx.ix6 (0 : Fin 1) (0 : Fin 1) b (0 : Fin 1) b' (0 : Fin 1)) fun a => ?_).trans
        (broadcastInDim_apply _ _ _ _ (ix2 b b') fun a => ?_)
      · match a with
        | ⟨0, _⟩ => rfl
        | ⟨1, _⟩ => rfl
        | ⟨2, _⟩ => rfl
        | ⟨3, _⟩ => rfl
        | ⟨4, _⟩ => rfl
        | ⟨5, _⟩ => rfl
      · match a with
        | ⟨0, _⟩ => rfl
        | ⟨1, _⟩ => rfl

theorem block1 (w : (⟨4, ![2, 64, 64, 64]⟩ : Shape).Idx → EReal) (hw : w = m ((c : Thread nD τ).loc main_arg1)) (t : Fin cfg0.N) (g : Fin 2) (d : Fin 64) (b : Fin 2) (j : Fin 64) (b' : Fin 2) (z : Fin 64) :
    iblk m c 1 t (ix3 (rowOf g d) (rowOf b j) (rowOf b' z)) = w (ix4 g j d z) * same b b' := by
  have e := idx1 t
  subst hw
  refine Eq.trans (b := V m c main_v16 (ix3 (rowOf g d) (rowOf b j) (rowOf b' z))) ?_
    ((laid_apply (m ((c : Thread nD τ).loc main_arg1)) _ g d b j b' z).trans (congrArg (fun y : EReal => _ * y) (eye_apply b b')))
  unfold iblk
  rw [View.read_apply]
  show V m c main_v16 _ = V m c main_v16 _
  congr 1
  blk_ext [e]

/-! ## The array the kernel leaves -/

/-- The summary of page `P` at column `q`: over the places of its block and the dimensions. -/
def value (x : (⟨5, ![2, 10240, 128, 2, 64]⟩ : Shape).Idx → EReal) (w : (⟨4, ![2, 64, 64, 64]⟩ : Shape).Idx → EReal) (P : Fin 10240) (q : Fin 256) : EReal :=
  ∑ d : Fin 64, ∑ j : Fin 64, w (ix4 (head q) j d (dim q)) * x (ix5 (1 : Fin 2) P (rowOf (part q) j) (head q) d)

/-- A sum over a page's places, zero outside one block, is the sum over that block. -/
theorem sum_block (f : Fin 128 → EReal) (w : Fin 64 → EReal) (W : Fin 128 → EReal) (b : Fin 2) (hW : ∀ b' j, W (rowOf b' j) = w j * same b' b) :
    ∑ k : Fin 128, f k * W k = ∑ j : Fin 64, w j * f (rowOf b j) := by
  rw [← Equiv.sum_comp (finProdFinEquiv (m := 2) (n := 64)), Fintype.sum_prod_type]
  have hr : ∀ b' j, finProdFinEquiv (m := 2) (n := 64) (b', j) = rowOf b' j := fun b' j => Fin.ext (by show j.val + 64 * b'.val = 64 * b'.val + j.val; omega)
  rw [Finset.sum_eq_single b]
  · refine Finset.sum_congr rfl fun j _ => ?_
    rw [hr, hW, same, if_pos rfl, mul_one, mul_comm]
  · intro b' _ hb
    refine Finset.sum_eq_zero fun j _ => ?_
    rw [hr, hW, same, if_neg hb, mul_zero, mul_zero]
  · exact fun h => absurd (Finset.mem_univ b) h

theorem array_at (P : Fin 10240) (x : Fin 256) : (dats m 0 c).arrAt 2 cfg0.N (ix2 P x) = value (m ((c : Thread nD τ).loc main_arg0)) (m ((c : Thread nD τ).loc main_arg1)) P x := by
  refine (dats m 0 c).arrAt_forall_of_covers 2 (fun (i : S10240x256.Idx) (v : EReal) => v = value (m ((c : Thread nD τ).loc main_arg0)) (m ((c : Thread nD τ).loc main_arg1)) (i 0) (i 1)) (by decide +kernel) (fun t hf y => ?_) (ix2 P x)
  obtain ⟨p, q, rfl⟩ : ∃ (p : Fin 128) (q : Fin 256), y = ix2 p q := ⟨y 0, y 1, eq_ix2 y⟩
  have e := idx2 t
  have e0 : ((cfg0.win 2).blk t).view.emb (ix2 p q) 0 = page t p := Fin.ext (by blk_simp [e]; show _ = 128 * t.val + p.val; omega)
  have e1 : ((cfg0.win 2).blk t).view.emb (ix2 p q) 1 = q := Fin.ext (by blk_simp [e])
  have hb : (dats m 0 c).after 2 t ((cfg0.win 2).xinj (cfg0.grid.coords t) (ix2 p q)) = value (m ((c : Thread nD τ).loc main_arg0)) (m ((c : Thread nD τ).loc main_arg1)) (page t p) q := by
    rw [after0_2]
    unfold outsAt0
    refine (out_at c _ _ _ _ _ _ _ _ _ p q).trans ?_
    unfold value
    refine Finset.sum_congr rfl fun d _ => ?_
    refine (sum_block (fun k => iblk m c 0 t (ix2 (⟨128 * p.val + (rowOf (head q) d).val, by omega⟩ : Fin 16384) k)) (fun j => m ((c : Thread nD τ).loc main_arg1) (ix4 (head q) j d (dim q)))
      (fun k => iblk m c 1 t (ix3 (rowOf (head q) d) k (rowOf (part q) (dim q)))) (part q) fun b' j => block1 m c _ rfl t (head q) d b' j (part q) (dim q)).trans ?_
    exact Finset.sum_congr rfl fun j _ => congrArg (fun y : EReal => _ * y) (block0 m c t p (head q) d (rowOf (part q) j))
  refine hb.trans ?_
  rw [e0, e1]

/-! ## The reference -/

section
open Cert.ReferencePoolIdeal.Read

theorem product_at (x : (⟨5, ![2, 10240, 128, 2, 64]⟩ : Shape).Idx → EReal) (w : (⟨4, ![2, 64, 64, 64]⟩ : Shape).Idx → EReal) (g : Fin 2) (e : Fin 64) (P : Fin 10240) (b : Fin 2) :
    val_main_v3 (F := Ideal) x w (ix4 g e P b) = ∑ d : Fin 64, ∑ j : Fin 64, w (ix4 g j d e) * val_main_v2 (F := Ideal) x (ix5 P b j g d) := by
  unfold val_main_v3
  generalize val_main_v2 (F := Ideal) x = y
  pointwise

theorem rows_at (x : (⟨5, ![2, 10240, 128, 2, 64]⟩ : Shape).Idx → EReal) (P : Fin 10240) (b : Fin 2) (j : Fin 64) (g : Fin 2) (d : Fin 64) :
    val_main_v2 (F := Ideal) x (ix5 P b j g d) = x (ix5 (1 : Fin 2) P (rowOf b j) g d) := by
  unfold val_main_v2 val_main_v1
  refine (shapeCast_apply _ _ _ (ix4 P (rowOf b j) g d) ?_).trans ((shapeCast_apply _ _ _ (ix5 (0 : Fin 1) P (rowOf b j) g d) ?_).trans ?_)
  · rw [Shape.rowMajor_val_four, Shape.rowMajor_val_five]
    show ((P.val * 128 + (64 * b.val + j.val)) * 2 + g.val) * 64 + d.val = (((P.val * 2 + b.val) * 64 + j.val) * 2 + g.val) * 64 + d.val
    omega
  · rw [Shape.rowMajor_val_four, Shape.rowMajor_val_five]
    show (((0 * 10240 + P.val) * 128 + (64 * b.val + j.val)) * 2 + g.val) * 64 + d.val = ((P.val * 128 + (64 * b.val + j.val)) * 2 + g.val) * 64 + d.val
    omega
  · rw [val_main_v0_apply]
    refine congrArg x (funext fun a => Fin.ext ?_)
    match a with
    | ⟨0, _⟩ => rfl
    | ⟨1, _⟩ => rfl
    | ⟨2, _⟩ => rfl
    | ⟨3, _⟩ => rfl
    | ⟨4, _⟩ => rfl

theorem reference_at (x : (⟨5, ![2, 10240, 128, 2, 64]⟩ : Shape).Idx → EReal) (w : (⟨4, ![2, 64, 64, 64]⟩ : Shape).Idx → EReal) (P : Fin 10240) (q : Fin 256) :
    val_main_v5 (F := Ideal) x w (ix2 P q) = value x w P q := by
  have h : idx_main_v4 (idx_main_v5 (ix2 P q)) = ix4 (head q) (dim q) P (part q) := by
    refine funext fun a => Fin.ext ?_
    match a with
    | ⟨0, _⟩ => show (P.val * 256 + q.val) / 128 % 2 = q.val / 128; omega
    | ⟨1, _⟩ => show (P.val * 256 + q.val) % 64 = q.val % 64; omega
    | ⟨2, _⟩ => show (P.val * 256 + q.val) / 256 = P.val; omega
    | ⟨3, _⟩ => show (P.val * 256 + q.val) / 64 % 2 = q.val / 64 % 2; omega
  rw [val_main_v5_apply, val_main_v4_apply, h, product_at]
  refine Finset.sum_congr rfl fun d _ => Finset.sum_congr rfl fun j _ => ?_
  rw [rows_at]

/-- The kernel's result is the reference's. -/
theorem result : (dats m 0 c).arrAt 2 cfg0.N = val_main_v5 (F := Ideal) (m ((c : Thread nD τ).loc main_arg0)) (m ((c : Thread nD τ).loc main_arg1)) := by
  funext i
  obtain ⟨P, q, rfl⟩ : ∃ (P : Fin 10240) (q : Fin 256), i = ix2 P q := ⟨i 0, i 1, eq_ix2 i⟩
  exact (array_at m c P q).trans (reference_at _ _ P q).symm

end

end Cert.Pool

end
-- ==== Proof.MoeKit.lean ====
/-
  THE EXPERTS' FEED-FORWARD CALL, UP TO ITS BODY: what the buffers hold when the region is entered, the two prefetched
  tables (a tile's expert and its mark), the blocks that the windows stage, and the invariant that the body keeps: from
  the second tile on, the three scratch arrays hold the rounded weights of the tile before.
-/
module

public import proofs.«01_k».proof.Proof.Gen.KernelMoeIdeal.Launch
public import proofs.«01_k».proof.Proof.Gen.KernelMoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Moe

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The assertions of this program's logic. -/
abbrev Pr (F : FTy → Type) [FloatOps F] : Type := sProp (MT nD τ sig Unit (Elt F) ℕ (UR sig nD τ) ℕ)

variable (m : (ℓ : Loc nD τ sig) → Buf (Elt F) ℓ)

/-! ## The region's entry -/

/-- A buffer's contents when the region is entered, after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region is its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations leave a buffer that none of them writes as it was launched. -/
theorem V_kept (c : Dev nD) (b : Ref sig .tc)
    (h : b ≠ main_v0 ∧ b ≠ main_v1 ∧ b ≠ main_v2 ∧ b ≠ main_c ∧ b ≠ main_v3 ∧ b ≠ main_v4) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h.1, StableHlo.devRef_ne_of_ne h.2.1, StableHlo.devRef_ne_of_ne h.2.2.1, StableHlo.devRef_ne_of_ne h.2.2.2.1,
      StableHlo.devRef_ne_of_ne h.2.2.2.2.1, StableHlo.devRef_ne_of_ne h.2.2.2.2.2⟩))

/-! ## The tables -/

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every tile's expert names weights inside their array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbE : Memref sig .tc .smem S168 .i32 := Memref.whole main_v4
abbrev tbV : Memref sig .tc .smem S168 .i32 := Memref.whole main_arg2

/-- A table's buffer, and it held at half the full share: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : Pr F :=
  M.view.loc (c : Thread nD τ) ↦{fullShare.right} f

theorem tables_eq (c : Dev nD) : (Pipeline.ΦT pre0 (tbl m) c : Pr F) = iprop(tbPt c tbE (tbl m 0) ∗ tbPt c tbV (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at tile `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every tile, fetched there or not. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Staging and scratch -/

abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x1024 .f32 := spec0_4.stage ((cfgM m hO).slots t 4)
abbrev hs4 (hO : Ok m) (t : Fin (cfgM m hO).N) : (ms4 m hO t).IsWhole := hstage0_4 (((cfgM m hO).slots t 4).cast nbuf0_4)

abbrev scG : Memref sig .tc .vmem S1024x512 .bf16 := Memref.whole cc0_scratch0
abbrev scU : Memref sig .tc .vmem S1024x512 .bf16 := Memref.whole cc0_scratch1
abbrev scD : Memref sig .tc .vmem S512x1024 .bf16 := Memref.whole cc0_scratch2

/-- The body at tile `t`, on what the pipeline calls it with. -/
abbrev bodyAt (a : (pcfg0 (F := F)).Adm) (t : Fin (cfg0 a).N) : Prog (TpuEff nD τ sig (Elt F) Λ₀ .tc) PUnit :=
  cc0_moe_ffn (grid0.coords t) tbE (Memref.isWhole_whole _) tbV (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) scG (Memref.isWhole_whole _) scU (Memref.isWhole_whole _) scD (Memref.isWhole_whole _)

/-- The kit's invariant with the scratch arrays owned at some contents. -/
theorem scratch_eq (c : Dev nD) :
    (Pipeline.ΦA spec0 c : Pr F)
      = iprop(iprop((∃ d, owns (c : Thread nD τ) scG fullShare d) ∗ (∃ d, owns (c : Thread nD τ) scU fullShare d) ∗ (∃ d, owns (c : Thread nD τ) scD fullShare d)) ∗ (∃ r, prngReg c r)) := by
  unfold Pipeline.ΦA; rw [scopedRest0_eq]; simp only [scG, scU, scD, owns_whole]; try rfl

end Cert.Moe

end
-- ==== Proof.MoeRun.lean ====
/-
  ONE TILE OF THE EXPERTS' FEED-FORWARD CALL: the body's run. It loads the weights into scratch where the expert is new,
  then writes the tile's rows, the products where the tile is marked and zeros where its mark is 0.
-/
module

public import proofs.«01_k».proof.Proof.MoeKit
public import Idealize.ShloMosaic.Lib.VecWindow

@[expose] public section

set_option maxRecDepth 16384

noncomputable section

namespace Cert.Moe

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The word that a table holds at an offset. -/
def word (f : S168.Idx → BitVec 32) (off : Fin 1 → ℕ) (h : ∀ a, off a + S1.size a ≤ S168.size a) : BitVec 32 :=
  f ((Rect.unit (s := S168) off S1.size h).emb (Shape.Idx.first (numel1_S1.symm ▸ Nat.one_pos)))

/-- Whether a tile's weights are loaded: at the first tile, and where its expert is not the one before's. -/
def fresh (i : grid0.Coords) (f : S168.Idx → BitVec 32) : BitVec 1 :=
  Scalar.cmpi .ne (Scalar.extui (Scalar.ori (Scalar.cmpi .eq (BitVec.ofNat 32 (i 0).val) 0#32)
    (Scalar.cmpi .ne (word f (k0_off1 i) (k0_off1_inb i)) (word f (k0_off2 i) (k0_off2_inb i)))) : BitVec 32) 0#32

/-- A whole memref stored in full, or not at all, holds the stored vector or the one before. -/
theorem stored_or {sp : Space} {S : Shape} {e : EltTy} {A : Memref sig .tc sp S e} (hA : A.IsWhole) {p : Prop} [Decidable p] (old new : Vec F S e)
    {off : Fin S.rank → ℕ} (inb : ∀ a, off a + S.size a ≤ S.size a) :
    A.view.read (Elt F) (if _hc : p then A.view.writes (Elt F) (hA.unread old) [⟨Rect.unit off S.size inb, new⟩] else hA.unread old) = if p then new else old := by
  split
  · exact View.read_writes_full _ _ inb _ _
  · exact hA.read_unread _

set_option maxHeartbeats 1000000 in
/-- The body's run at a tile: scratch ends at `g'`, `u'` and `d'`, and the result's block at `o`. -/
theorem run (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S256x1024 .f32) (x1 : Vec F S1x1024x512 .f32) (x2 : Vec F S1x1024x512 .f32) (x3 : Vec F S1x512x1024 .f32) (g u g' u' : Vec F S1024x512 .bf16) (dn dn' : Vec F S512x1024 .bf16) (o : Vec F S256x1024 .f32) (xt0 : TbBuf (F := F) c tbE) (xt1 : TbBuf (F := F) c tbV)
    (hg : (if fresh i xt0 = 1#1 then k0_pay1 x1 else g) = g') (hu : (if fresh i xt0 = 1#1 then k0_pay2 x2 else u) = u') (hd : (if fresh i xt0 = 1#1 then k0_pay3 x3 else dn) = dn')
    (ho : ∀ x, (if k0_cond3 (word xt1 (k0_off4 i) (k0_off4_inb i)) = 1#1 then k0_pay5 else if k0_cond2 (word xt1 (k0_off3 i) (k0_off3_inb i)) = 1#1 then k0_pay4 x0 g' u' dn' else x) = o)
    (E : Set ℕ) (K : PUnit → Pr F) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare g ∗ owns (c : Thread nD τ) arg9 fullShare u ∗ owns (c : Thread nD τ) arg10 fullShare dn ∗ tbPt c tbE xt0 ∗ tbPt c tbV xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare g' ∗ owns (c : Thread nD τ) arg9 fullShare u' ∗ owns (c : Thread nD τ) arg10 fullShare dn' ∗ tbPt c tbE xt0 ∗ tbPt c tbV xt1) -∗ K ⟨⟩))
          ⊢ wp frame (wpE (defs₀ (F := F)) Variants.none c none) E (cc0_moe_ffn i tbE (Memref.isWhole_whole _) tbV (Memref.isWhole_whole _) arg3 harg3 arg4 harg4 arg5 harg5 arg6 harg6 arg7 harg7 arg8 harg8 arg9 harg9 arg10 harg10) K := by
    simp only [cc0_moe_ffn_eq_skeleton]; unfold cc0_moe_ffn_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1; obtain rfl := harg10.eq_unread hs2
    have l0 : View.readAt (Elt F) arg3.view (Rect.unit ![0, 0] S256x1024.size inb_S256x1024_S256x1024_0_0).toLoadRect (harg3.unread x0) = x0 := (View.readAt_full _ _ _).trans hf0
    have l1 : View.readAt (Elt F) arg4.view (Rect.unit ![0, 0, 0] S1x1024x512.size inb_S1x1024x512_S1x1024x512_0_0_0).toLoadRect (harg4.unread x1) = x1 := (View.readAt_full _ _ _).trans hf1
    have l2 : View.readAt (Elt F) arg5.view (Rect.unit ![0, 0, 0] S1x1024x512.size inb_S1x1024x512_S1x1024x512_0_0_0).toLoadRect (harg5.unread x2) = x2 := (View.readAt_full _ _ _).trans hf2
    have l3 : View.readAt (Elt F) arg6.view (Rect.unit ![0, 0, 0] S1x512x1024.size inb_S1x512x1024_S1x512x1024_0_0_0).toLoadRect (harg6.unread x3) = x3 := (View.readAt_full _ _ _).trans hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      have e8 := (View.readAt_full arg8.view _ inb_S1024x512_S1024x512_0_0).trans ((stored_or harg8 (p := fresh i xt0 = 1#1) g (k0_pay1 x1) inb_S1024x512_S1024x512_0_0).trans hg)
      have e9 := (View.readAt_full arg9.view _ inb_S1024x512_S1024x512_0_0).trans ((stored_or harg9 (p := fresh i xt0 = 1#1) u (k0_pay2 x2) inb_S1024x512_S1024x512_0_0).trans hu)
      have e10 := (View.readAt_full arg10.view _ inb_S512x1024_S512x1024_0_0).trans ((stored_or harg10 (p := fresh i xt0 = 1#1) dn (k0_pay3 x3) inb_S512x1024_S512x1024_0_0).trans hd)
      split
      · next h =>
        exact (View.read_writes_full _ _ _ _ _).trans ((if_pos (show k0_cond3 (word xt1 (k0_off4 i) (k0_off4_inb i)) = 1#1 from h)).symm.trans (ho k0_pay5))
      · next h =>
        have n3 : ¬ k0_cond3 (word xt1 (k0_off4 i) (k0_off4_inb i)) = 1#1 := h
        have ho' := fun x => (if_neg n3).symm.trans (ho x)
        split
        · next h' =>
          refine (View.read_writes_full _ _ _ _ _).trans (Eq.trans ?_ ((if_pos (show k0_cond2 (word xt1 (k0_off3 i) (k0_off3_inb i)) = 1#1 from h')).symm.trans (ho' k0_pay5)))
          exact congr (congr (congrArg (k0_pay4 x0) e8) e9) e10
        · next h' =>
          exact ((if_neg (show ¬ k0_cond2 (word xt1 (k0_off3 i) (k0_off3_inb i)) = 1#1 from h')).symm.trans (ho' _))
    isplitl [HS0]
    · iexists _; isplitr; swap; · iexact HS0
      ipureintro
      rw [← hg]; exact stored_or harg8 _ _ _
    isplitl [HS1]
    · iexists _; isplitr; swap; · iexact HS1
      ipureintro
      rw [← hu]; exact stored_or harg9 _ _ _
    isplitl [HS2]
    · iexists _; isplitr; swap; · iexact HS2
      ipureintro
      rw [← hd]; exact stored_or harg10 _ _ _
    isplitl [HT0]; · iexact HT0
    iexact HT1

end Cert.Moe

end
-- ==== Proof.MoeWords.lean ====
/-
  THE TABLES' WORDS AND THE BLOCKS THEY CHOOSE: the words that the body reads at tile `t` are the tile's expert, the
  expert of the tile before and the tile's mark; the three weight blocks are the expert's rows of the flattened weights,
  so two tiles of one expert stage the same blocks.
-/
module

public import proofs.«01_k».proof.Proof.MoeRun
public import Idealize.ShloMosaic.Lib.Pipeline.ValueKit.Geometry
public import Idealize.ShloMosaic.Lib.Pointwise

@[expose] public section

set_option maxRecDepth 16384

noncomputable section

namespace Cert.Moe

open Cert.KernelMoeIdeal Cert.KernelMoeIdeal.Gen
open Idealize.ShloMosaic Idealize.ShloMosaic.TcCoe

variable {F : FTy → Type} [FloatOps F]

/-- A tile as a position of the tables. -/
abbrev tile (t : Fin grid0.N) : Fin 168 := ⟨t.val, t.isLt⟩

theorem off1 : ∀ t : Fin grid0.N, k0_off1 (grid0.coords t) 0 = t.val := by decide +kernel
theorem off2 : ∀ t : Fin grid0.N, k0_off2 (grid0.coords t) 0 = t.val - 1 := by decide +kernel
theorem off3 : ∀ t : Fin grid0.N, k0_off3 (grid0.coords t) 0 = t.val := by decide +kernel
theorem off4 : ∀ t : Fin grid0.N, k0_off4 (grid0.coords t) 0 = t.val := by decide +kernel
theorem first : ∀ t : Fin grid0.N, t.val ≠ 0 → Scalar.cmpi .eq (BitVec.ofNat 32 (grid0.coords t 0).val) 0#32 = 0#1 := by decide +kernel
theorem first0 : ∀ t : Fin grid0.N, t.val = 0 → Scalar.cmpi .eq (BitVec.ofNat 32 (grid0.coords t 0).val) 0#32 = 1#1 := by decide +kernel

theorem word_eq (f : S168.Idx → BitVec 32) (off : Fin 1 → ℕ) (h) (k : Fin 168) (e : off 0 = k.val) : word f off h = f (ix1 k) := by
  unfold word
  congr 1
  funext a
  match a with
  | ⟨0, _⟩ => exact Fin.ext ((show off 0 + 1 * 0 = k.val by omega))

/-- A tile whose weights are not loaded is not the first, and has the expert of the tile before. -/
theorem kept (f : S168.Idx → BitVec 32) (t : Fin grid0.N) (h : ¬ fresh (grid0.coords t) f = 1#1) :
    t.val ≠ 0 ∧ word f (k0_off1 (grid0.coords t)) (k0_off1_inb _) = word f (k0_off2 (grid0.coords t)) (k0_off2_inb _) := by
  unfold fresh at h
  constructor
  · intro h0
    rw [first0 t h0] at h
    revert h
    generalize Scalar.cmpi .ne (word f (k0_off1 (grid0.coords t)) (k0_off1_inb _)) (word f (k0_off2 (grid0.coords t)) (k0_off2_inb _)) = b
    revert b; decide
  · by_contra hne
    have e : Scalar.cmpi .ne (word f (k0_off1 (grid0.coords t)) (k0_off1_inb _)) (word f (k0_off2 (grid0.coords t)) (k0_off2_inb _)) = 1#1 := IntOp.cmpi_ne.mpr hne
    rw [e] at h
    revert h
    generalize Scalar.cmpi .eq (BitVec.ofNat 32 (grid0.coords t 0).val) 0#32 = b
    revert b; decide

variable (m : (ℓ : Loc nD τ sig) → Buf (Elt F) ℓ)

theorem index1 (hO : Ok m) (t : Fin (cfgM m hO).N) : ((cfgM m hO).win 1).index t = ![(word (tbl m 0) (k0_off1 (grid0.coords t)) (k0_off1_inb _)).toNat, 0, 0] := rfl
theorem index2 (hO : Ok m) (t : Fin (cfgM m hO).N) : ((cfgM m hO).win 2).index t = ![(word (tbl m 0) (k0_off1 (grid0.coords t)) (k0_off1_inb _)).toNat, 0, 0] := rfl
theorem index3 (hO : Ok m) (t : Fin (cfgM m hO).N) : ((cfgM m hO).win 3).index t = ![(word (tbl m 0) (k0_off1 (grid0.coords t)) (k0_off1_inb _)).toNat, 0, 0] := rfl

/-- The position of a block's entry in its array. -/
theorem spot {x y : ℕ} {k : ℕ} {n : Fin 128} (hn : k = n.val) (a : Fin x) (b : Fin y) (j : (⟨3, ![128, x, y]⟩ : Shape).Idx)
    (h0 : (j 0).val = k) (h1 : (j 1).val = a.val) (h2 : (j 2).val = b.val) : j = ix3 n a b :=
  funext fun i => match i with
    | ⟨0, _⟩ => Fin.ext (h0.trans hn)
    | ⟨1, _⟩ => Fin.ext h1
    | ⟨2, _⟩ => Fin.ext h2

theorem gate_at (hO : Ok m) (c : Dev nD) (t : Fin (cfgM m hO).N) (n : Fin 128) (hn : (word (tbl m 0) (k0_off1 (grid0.coords t)) (k0_off1_inb _)).toNat = n.val) (a : Fin 1024) (b : Fin 512) :
    iblk m hO c 1 t (ix3 (0 : Fin 1) a b) = V m c main_v0 (ix3 n a b) := by
  show V m c main_v0 ((((cfgM m hO).win 1).blk t).view.emb (ix3 (0 : Fin 1) a b)) = V m c main_v0 (ix3 n a b)
  congr 1
  refine spot hn a b _ ?_ ?_ ?_
  · exact (Pipeline.Window.rect_emb_val ((cfgM m hO).win 1) t (ix3 (0 : Fin 1) a b) (0 : Fin 3) rfl).trans (show (word (tbl m 0) (k0_off1 (grid0.coords t)) (k0_off1_inb _)).toNat * 1 + 0 = (word (tbl m 0) (k0_off1 (grid0.coords t)) (k0_off1_inb _)).toNat by omega)
  · exact (Pipeline.Window.rect_emb_val ((cfgM m hO).win 1) t (ix3 (0 : Fin 1) a b) (1 : Fin 3) rfl).trans (show 0 * 1024 + a.val = a.val by omega)
  · exact (Pipeline.Window.rect_emb_val ((cfgM m hO).win 1) t (ix3 (0 : Fin 1) a b) (2 : Fin 3) rfl).trans (show 0 * 512 + b.val = b.val by omega)

theorem up_at (hO : Ok m) (c : Dev nD) (t : Fin (cfgM m hO).N) (n : Fin 128) (hn : (word (tbl m 0) (k0_off1 (grid0.coords t)) (k0_off1_inb _)).toNat = n.val) (a : Fin 1024) (b : Fin 512) :
    iblk m hO c 2 t (ix3 (0 : Fin 1) a b) = V m c main_v1 (ix3 n a b) := by
  show V m c main_v1 ((((cfgM m hO).win 2).blk t).view.emb (ix3 (0 : Fin 1) a b)) = V m c main_v1 (ix3 n a b)
  congr 1
  refine spot hn a b _ ?_ ?_ ?_
  · exact (Pipeline.Window.rect_emb_val ((cfgM m hO).win 2) t (ix3 (0 : Fin 1) a b) (0 : Fin 3) rfl).trans (show (word (tbl m 0) (k0_off1 (grid0.coords t)) (k0_off1_inb _)).toNat * 1 + 0 = (word (tbl m 0) (k0_off1 (grid0.coords t)) (k0_off1_inb _)).toNat by omega)
  · exact (Pipeline.Window.rect_emb_val ((cfgM m hO).win 2) t (ix3 (0 : Fin 1) a b) (1 : Fin 3) rfl).trans (show 0 * 1024 + a.val = a.val by omega)
  · exact (Pipeline.Window.rect_emb_val ((cfgM m hO).win 2) t (ix3 (0 : Fin 1) a b) (2 : Fin 3) rfl).trans (show 0 * 512 + b.val = b.val by omega)

theorem down_at (hO : Ok m) (c : Dev nD) (t : Fin (cfgM m hO).N) (n : Fin 128) (hn : (word (tbl m 0) (k0_off1 (grid0.coords t)) (k0_off1_inb _)).toNat = n.val) (a : Fin 512) (b : Fin 1024) :
    iblk m hO c 3 t (ix3 (0 : Fin 1) a b) = V m c main_v2 (ix3 n a b) := by
  show V m c main_v2 ((((cfgM m hO).win 3).blk t).view.emb (ix3 (0 : Fin 1) a b)) = V m c main_v2 (ix3 n a b)
  congr 1
  refine spot hn a b _ ?_ ?_ ?_
  · exact (Pipeline.Window.rect_emb_val ((cfgM m hO).win 3) t (ix3 (0 : Fin 1) a b) (0 : Fin 3) rfl).trans (show (word (tbl m 0) (k0_off1 (grid0.coords t)) (k0_off1_inb _)).toNat * 1 + 0 = (word (tbl m 0) (k0_off1 (grid0.coords t)) (k0_off1_inb _)).toNat by omega)
  · exact (Pipeline.Window.rect_emb_val ((cfgM m hO).win 3) t (ix3 (0 : Fin 1) a b) (1 : Fin 3) rfl).trans (show 0 * 512 + a.val = a.val by omega)
  · exact (Pipeline.Window.rect_emb_val ((cfgM m hO).win 3) t (ix3 (0 : Fin 1) a b) (2 : Fin 3) rfl).trans (show 0 * 1024 + b.val = b.val by omega)

/-- Every tile's expert is a row of the flattened weights. -/
theorem expert_lt (hO : Ok m) (t : Fin grid0.N) : (word (tbl m 0) (k0_off1 (grid0.coords t)) (k0_off1_inb _)).toNat < 128 := by
  obtain ⟨h, -⟩ := hO.1 (grid0.coords t)
  have := h 0
  change ((word (tbl m 0) (k0_off1 (grid0.coords t)) (k0_off1_inb _)).toNat + 1) * 1 ≤ 128 at this
  omega

/-- Where the weights are not loaded, the tile before staged the same blocks. -/
theorem same_blocks (hO : Ok m) (c : Dev nD) (s t : Fin (cfgM m hO).N) (hst : s.val + 1 = t.val) (h : ¬ fresh (grid0.coords t) (tbl m 0) = 1#1) :
    iblk m hO c 1 s = iblk m hO c 1 t ∧ iblk m hO c 2 s = iblk m hO c 2 t ∧ iblk m hO c 3 s = iblk m hO c 3 t := by
  have e := (kept _ t h).2
  have es : word (tbl m 0) (k0_off1 (grid0.coords s)) (k0_off1_inb _) = word (tbl m 0) (k0_off2 (grid0.coords t)) (k0_off2_inb _) :=
    (word_eq _ _ _ (tile s) (off1 s)).trans (word_eq _ _ _ (tile s) ((off2 t).trans (by show t.val - 1 = s.val; omega))).symm
  let n : Fin 128 := ⟨_, expert_lt m hO t⟩
  have hs : (word (tbl m 0) (k0_off1 (grid0.coords s)) (k0_off1_inb _)).toNat = n.val := by rw [es, ← e]
  have r : ∀ {x y : ℕ} (p : (⟨3, ![1, x, y]⟩ : Shape).Idx), p = ix3 (0 : Fin 1) (p 1) (p 2) := fun p =>
    (eq_ix3 p).trans (congrArg (fun z => ix3 z (p 1) (p 2)) (Subsingleton.elim (α := Fin 1) _ _))
  refine ⟨funext fun (y : S1x1024x512.Idx) => ?_, funext fun (y : S1x1024x512.Idx) => ?_, funext fun (y : S1x512x1024.Idx) => ?_⟩
  · rw [r y]; exact (gate_at m hO c s n hs _ _).trans (gate_at m hO c t n rfl _ _).symm
  · rw [r y]; exact (up_at m hO c s n hs _ _).trans (up_at m hO c t n rfl _ _).symm
  · rw [r y]; exact (down_at m hO c s n hs _ _).trans (down_at m hO c t n rfl _ _).symm

end Cert.Moe

end
-- ==== Proof.MoeFrame.lean ====
/-
  THE EXPERTS' FEED-FORWARD CALL RUN WHOLE: what every window holds after every tile, the invariant on the scratch
  arrays carried from tile to tile, the body's obligation, and the run: it ends with every argument array unchanged.
-/
module

public import proofs.«01_k».proof.Proof.MoeWords
public import Idealize.ShloMosaic.Lib.Claim

@[expose] public section

set_option maxRecDepth 16384

noncomputable section

namespace Cert.Moe

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] (m : (ℓ : Loc nD τ sig) → Buf (Elt F) ℓ)

/-- Every tile's mark is 0 or positive. -/
def Marked : Prop := ∀ t : Fin grid0.N,
  k0_cond3 (word (tbl m 1) (k0_off4 (grid0.coords t)) (k0_off4_inb _)) = 1#1 ∨ k0_cond2 (word (tbl m 1) (k0_off3 (grid0.coords t)) (k0_off3_inb _)) = 1#1

/-- The rows that the body leaves at tile `t`: zeros where the mark is 0, else the products. -/
def rows (hO : Ok m) (c : Dev nD) (t : Fin (cfgM m hO).N) : Vec F S256x1024 .f32 :=
  if k0_cond3 (word (tbl m 1) (k0_off4 (grid0.coords t)) (k0_off4_inb _)) = 1#1 then k0_pay5
  else k0_pay4 (iblk m hO c 0 t) (k0_pay1 (iblk m hO c 1 t)) (k0_pay2 (iblk m hO c 2 t)) (k0_pay3 (iblk m hO c 3 t))

/-- What the scratch arrays hold before tile `t`: after the first, the rounded weights of the tile before. -/
def Held (hO : Ok m) (c : Dev nD) (t : Fin ((cfgM m hO).N + 1)) (g u : Vec F S1024x512 .bf16) (d : Vec F S512x1024 .bf16) : Prop :=
  ∀ s : Fin (cfgM m hO).N, s.val + 1 = t.val → g = k0_pay1 (iblk m hO c 1 s) ∧ u = k0_pay2 (iblk m hO c 2 s) ∧ d = k0_pay3 (iblk m hO c 3 s)

theorem Held.step {hO : Ok m} {c : Dev nD} {t : Fin (cfgM m hO).N} {g u : Vec F S1024x512 .bf16} {d : Vec F S512x1024 .bf16} (h : Held m hO c t.castSucc g u d) :
    (if fresh (grid0.coords t) (tbl m 0) = 1#1 then k0_pay1 (iblk m hO c 1 t) else g) = k0_pay1 (iblk m hO c 1 t)
    ∧ (if fresh (grid0.coords t) (tbl m 0) = 1#1 then k0_pay2 (iblk m hO c 2 t) else u) = k0_pay2 (iblk m hO c 2 t)
    ∧ (if fresh (grid0.coords t) (tbl m 0) = 1#1 then k0_pay3 (iblk m hO c 3 t) else d) = k0_pay3 (iblk m hO c 3 t) := by
  by_cases hf : fresh (grid0.coords t) (tbl m 0) = 1#1
  · exact ⟨if_pos hf, if_pos hf, if_pos hf⟩
  · rw [if_neg hf, if_neg hf, if_neg hf]
    have h0 := (kept _ t hf).1
    have hlt : t.val - 1 < (cfgM m hO).N := lt_of_le_of_lt (Nat.sub_le _ _) t.isLt
    have hs : t.val - 1 + 1 = t.val := Nat.sub_add_cancel (Nat.pos_of_ne_zero h0)
    have e := h ⟨t.val - 1, hlt⟩ hs
    have b := same_blocks m hO c ⟨t.val - 1, hlt⟩ t hs hf
    rw [b.1, b.2.1, b.2.2] at e
    exact e

theorem held_here (hO : Ok m) (c : Dev nD) (t : Fin (cfgM m hO).N) :
    Held m hO c t.succ (k0_pay1 (iblk m hO c 1 t)) (k0_pay2 (iblk m hO c 2 t)) (k0_pay3 (iblk m hO c 3 t)) := fun s hs => by
  obtain rfl : s = t := Fin.ext (Nat.succ.inj hs)
  exact ⟨rfl, rfl, rfl⟩

/-- The invariant before tile `t`: the scratch arrays as `Held` says, the generator's register and the tables. -/
def inv (hO : Ok m) (c : Dev nD) (t : Fin ((cfgM m hO).N + 1)) : Pr F :=
  iprop(∃ g u d, ⌜Held m hO c t g u d⌝ ∗ owns (c : Thread nD τ) scG fullShare g ∗ owns (c : Thread nD τ) scU fullShare u ∗ owns (c : Thread nD τ) scD fullShare d
    ∗ (∃ r, prngReg c r) ∗ tbPt c tbE (tbl m 0) ∗ tbPt c tbV (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => rows m hO c t
  Φ t := inv m hO c t
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = rows m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-! ## The body's obligation -/

/-- What the body is called with at tile `t`, and what it returns. -/
def bodyPre (hO : Ok m) (c : Dev nD) (t : Fin (cfgM m hO).N) : Pr F :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
def bodyPost (hO : Ok m) (c : Dev nD) (t : Fin (cfgM m hO).N) : Pr F :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

theorem rows_eq (hO : Ok m) (hM : Marked m) (c : Dev nD) (t : Fin (cfgM m hO).N) (x) :
    (if k0_cond3 (word (tbl m 1) (k0_off4 (grid0.coords t)) (k0_off4_inb _)) = 1#1 then k0_pay5
      else if k0_cond2 (word (tbl m 1) (k0_off3 (grid0.coords t)) (k0_off3_inb _)) = 1#1 then
        k0_pay4 (iblk m hO c 0 t) (k0_pay1 (iblk m hO c 1 t)) (k0_pay2 (iblk m hO c 2 t)) (k0_pay3 (iblk m hO c 3 t)) else x) = rows m hO c t := by
  unfold rows
  split
  · rfl
  · next h => exact if_pos ((hM t).resolve_left h)

set_option maxHeartbeats 800000 in
theorem sound_body (hO : Ok m) (hM : Marked m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4,
    show (dats m hO 0 c).Φ t.castSucc = inv m hO c t.castSucc from rfl, show (dats m hO 0 c).Φ t.succ = inv m hO c t.succ from rfl]
  unfold inv
  iintro ⟨⟨%g, %u, %dn, %hH, HS0, HS1, HS2, Hg, HT0, HT1⟩, Ho, ⟨%d0, H0⟩, ⟨%d1, H1⟩, ⟨%d2, H2⟩, ⟨%d3, H3⟩, ⟨%d4, H4⟩⟩
  iapply (run c (grid0.coords t) _ _ _ _ _ _ _ _ _ _ _ _ _ _ _ _ (iblk m hO c 0 t) (iblk m hO c 1 t) (iblk m hO c 2 t) (iblk m hO c 3 t) g u _ _ dn _ _ (tbl m 0) (tbl m 1)
    (Held.step m hH).1 (Held.step m hH).2.1 (Held.step m hH).2.2 (rows_eq m hO hM c t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · iexists _, _, _
    isplitr; · ipureintro; exact held_here m hO c t
    isplitl [HS0]; · iexact HS0
    isplitl [HS1]; · iexact HS1
    isplitl [HS2]; · iexact HS2
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The result's window is written back at every tile. -/
theorem flush4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (hM : Marked m) (c : Dev nD) : BodyObligation (dats (F := F) m hO 0 c) (defs₀ (F := F)) Variants.none () Set.univ := fun t => by
  rw [bigSep_W0, bigSep_W0, defs₀_row m hO]
  refine triple_restated (sound_body m hO hM c t) rfl .rfl fun _ => ?_
  unfold bodyPost
  dsimp only
  have hf : (pcfg0.win (adm m hO) 4).flush t = true := flush4 _ t
  split
  · split
    · next h => exact absurd (h.symm.trans hf) (by decide)
    · exact .rfl
  · exact .rfl

/-! ## The run -/

theorem enters (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, tables_eq, scratch_eq]
  unfold inv
  iintro ⟨⟨⟨⟨%g, HS0⟩, ⟨%u, HS1⟩, ⟨%d, HS2⟩⟩, Hg⟩, ⟨HT0, HT1⟩⟩
  iexists g, u, d
  isplitr; · ipureintro; exact fun s hs => absurd hs (Nat.succ_ne_zero _)
  isplitl [HS0]; · iexact HS0
  isplitl [HS1]; · iexact HS1
  isplitl [HS2]; · iexact HS2
  isplitl [Hg]; · iexact Hg
  isplitl [HT0]; · iexact HT0
  iexact HT1

theorem leaves (hO : Ok m) (c : Dev nD) : (dats m hO 0 c).Φ (Fin.last (cfgM m hO).N) ⊢ Pipeline.ΦA spec0 c := by
  rw [show (dats m hO 0 c).Φ (Fin.last (cfgM m hO).N) = inv m hO c (Fin.last (cfgM m hO).N) from rfl, scratch_eq]
  unfold inv
  iintro ⟨%g, %u, %d, -, HS0, HS1, HS2, Hg, -⟩
  isplitl [HS0 HS1 HS2]
  · isplitl [HS0]; · iexists _; iexact HS0
    isplitl [HS1]; · iexists _; iexact HS1
    iexists _; iexact HS2
  iexact Hg

variable (ρ : Dev nD → PrngReg)

set_option backward.isDefEq.respectTransparency.types false in
/-- The program ends, the pipeline's arrays at what its data say, the other buffers as the region found them, every
    counter at 0. -/
theorem run_quiescent (hO : Ok m) (hM : Marked m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := hmain m Variants.none) (hA := A_eq m hO) (hpf := V_pre m)
    (hin := enters m hO) (hout := leaves m hO)

/-- The same at the argument arrays, and the result array. -/
theorem run_main (hO : Ok m) (hM : Marked m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (r.2.sem = fun _ => 0)
      ∧ ∀ c : Dev nD, r.2.mem ((c.tc : Thread nD τ).loc main_v5) = (dats m hO 0 c).arrAt 4 (cfgM m hO).N) :=
  (θ_run defs _ _).mono (fun _ h => ⟨fun c => ⟨((h.1 c).1 0).trans (((dats m hO 0 c).arrAt_in 0 rfl _).trans ((A_eq m hO c 0).trans (V_kept m c main_arg0 (by decide)))),
      ((h.1 c).2 main_arg1 (by decide : main_arg1 ∈ Pipeline.restRefs sig spec0)).trans (V_kept m c main_arg1 (by decide)),
      ((h.1 c).2 main_arg2 (by decide : main_arg2 ∈ Pipeline.restRefs sig spec0)).trans (V_kept m c main_arg2 (by decide)),
      ((h.1 c).2 main_arg3 (by decide : main_arg3 ∈ Pipeline.restRefs sig spec0)).trans (V_kept m c main_arg3 (by decide)),
      ((h.1 c).2 main_arg4 (by decide : main_arg4 ∈ Pipeline.restRefs sig spec0)).trans (V_kept m c main_arg4 (by decide)),
      ((h.1 c).2 main_arg5 (by decide : main_arg5 ∈ Pipeline.restRefs sig spec0)).trans (V_kept m c main_arg5 (by decide))⟩,
    h.2, fun c => (h.1 c).1 4⟩) (run_quiescent m ρ hO hM)

end Cert.Moe

end
-- ==== Proof.MoePre.lean ====
/-
  WHAT THE PRECONDITION GIVES: every tile's expert is one of the layer's 32, and its mark is not negative; so the tables'
  words name weights inside their array, and every tile stores its rows.
-/
module

public import proofs.«01_k».proof.Proof.MoeFrame
public import proofs.«01_k».proof.Proof.Gen.Pre_routed
public import Idealize.ShloMosaic.Lib.Affine

@[expose] public section

set_option maxRecDepth 16384

noncomputable section

namespace Cert.Moe

open Cert.KernelMoeIdeal Cert.KernelMoeIdeal.Gen
open Idealize.ShloMosaic Idealize.ShloMosaic.TcCoe

variable {F : FTy → Type} [FloatOps F]

/-- Every tile's expert is one of 32, and its mark is not negative. -/
def Named (e v : S168.Idx → BitVec 32) : Prop :=
  ∀ k : Fin 168, 0 ≤ (e (ix1 k)).toInt ∧ (e (ix1 k)).toInt < 32 ∧ 0 ≤ (v (ix1 k)).toInt

theorem named_of_pre (x0 : FVec F Cert.Pre_routed.S43008x1024 .f32) (e v : S168.Idx → BitVec 32) (x3 x4 : FVec F Cert.Pre_routed.S4x32x1024x512 .f32)
    (x5 : FVec F Cert.Pre_routed.S4x32x512x1024 .f32) (h : Cert.Pre_routed.fn (F := F) x0 e v x3 x4 x5 = fun _ => 1#1) : Named e v := fun k => by
  have pre := congrFun h (ix1 k)
  simp only [Cert.Pre_routed.fn, constantI, broadcastInDim, cmpi, andi, IntOp.andi_eq_one, IntOp.cmpi_sge, IntOp.cmpi_slt] at pre
  exact ⟨pre.1.1, pre.1.2, pre.2⟩

/-- An expert is its number among the 32. -/
theorem expert_val {w : BitVec 32} (h0 : 0 ≤ w.toInt) (h1 : w.toInt < 32) : w.toNat < 32 := by
  have := BitVec.toInt_eq_toNat_cond w
  have := w.isLt
  split at * <;> omega

/-- The flattened weights' row of an expert of the layer's second group. -/
theorem shifted_val {w : BitVec 32} (h : w.toNat < 32) : (w + 32#32).toNat = 32 + w.toNat := by
  rw [BitVec.toNat_add]
  show (w.toNat + 32) % 2 ^ 32 = 32 + w.toNat
  omega

variable (m : (ℓ : Loc nD τ sig) → Buf (Elt F) ℓ)

abbrev experts : S168.Idx → BitVec 32 := m (((0 : Dev nD) : Thread nD τ).loc main_arg1)
abbrev marks : S168.Idx → BitVec 32 := m (((0 : Dev nD) : Thread nD τ).loc main_arg2)

/-- The first table's words are the experts, shifted to the layer's rows of the flattened weights; -/
theorem table0 (k : Fin 168) : tbl m 0 (ix1 k) = experts m (ix1 k) + 32#32 := rfl
/-- the second's are the marks. -/
theorem table1 (k : Fin 168) : tbl m 1 (ix1 k) = marks m (ix1 k) := rfl

theorem off1_of (i : grid0.Coords) : k0_off1 i 0 = (i 0).val := by
  have h : (i 0).val < 168 := (i 0).isLt
  show (BitVec.ofNat 32 (i 0).val).toNat = _
  rw [BitVec.toNat_ofNat]
  omega

/-- The row of the flattened weights that a grid point's block is. -/
theorem row_of (h : Named (experts m) (marks m)) (i : grid0.Coords) : (word (tbl m 0) (k0_off1 i) (k0_off1_inb _)).toNat < 64 := by
  rw [word_eq (tbl m 0) _ _ (⟨(i 0).val, (i 0).isLt⟩ : Fin 168) (off1_of i), table0]
  have hk := h ⟨(i 0).val, (i 0).isLt⟩
  have := expert_val hk.1 hk.2.1
  rw [shifted_val this]
  omega

/-- A block of a row inside the flattened weights is inside them. -/
theorem inside {x y n : ℕ} (hn : n < 128) : ∀ a : Fin 3, ((![n, 0, 0] : Fin 3 → ℕ) a + 1) * (⟨3, ![1, x, y]⟩ : Shape).size a ≤ (⟨3, ![128, x, y]⟩ : Shape).size a := fun a =>
  match a with
  | ⟨0, _⟩ => show (n + 1) * 1 ≤ 128 by omega
  | ⟨1, _⟩ => show (0 + 1) * x ≤ x by omega
  | ⟨2, _⟩ => show (0 + 1) * y ≤ y by omega

theorem ok (h : Named (experts m) (marks m)) : Ok m :=
  ⟨fun i => ⟨inside (lt_trans (row_of m h i) (by decide)), .inl rfl⟩, fun i => ⟨inside (lt_trans (row_of m h i) (by decide)), .inl rfl⟩,
    fun i => ⟨inside (lt_trans (row_of m h i) (by decide)), .inl rfl⟩⟩

theorem cond3_iff (w : BitVec 32) : k0_cond3 w = 1#1 ↔ w = 0#32 := by
  show IntOp.cmpi .ne ((IntOp.cmpi .eq w 0#32).setWidth 32) 0#32 = 1#1 ↔ _
  rw [← IntOp.cmpi_eq (x := w)]
  generalize IntOp.cmpi .eq w 0#32 = b
  revert b; decide

theorem cond2_iff (w : BitVec 32) : k0_cond2 w = 1#1 ↔ 0 < w.toInt := by
  show IntOp.cmpi .ne ((IntOp.cmpi .sgt w 0#32).setWidth 32) 0#32 = 1#1 ↔ _
  rw [show (0 < w.toInt) = ((0#32 : BitVec 32).toInt < w.toInt) from rfl, ← IntOp.cmpi_sgt (x := w)]
  generalize IntOp.cmpi .sgt w 0#32 = b
  revert b; decide

theorem mark_at (t : Fin grid0.N) : word (tbl m 1) (k0_off4 (grid0.coords t)) (k0_off4_inb _) = marks m (ix1 (tile t)) :=
  word_eq _ _ _ (tile t) (off4 t)

theorem marked (h : Named (experts m) (marks m)) : Marked m := fun t => by
  rw [mark_at, word_eq (tbl m 1) (k0_off3 (grid0.coords t)) _ (tile t) (off3 t), table1, cond3_iff, cond2_iff]
  have h2 := (h (tile t)).2.2
  rcases h2.lt_or_eq with hl | he
  · exact .inr hl
  · exact .inl (BitVec.eq_of_toInt_eq he.symm)

end Cert.Moe

end
-- ==== Proof.MoeRef.lean ====
/-
  THE REFERENCE OF THE EXPERTS' FEED-FORWARD CALL, READ AT AN ENTRY: a tile's gathered weights are its expert's, and the
  result's row is the gated product of the row with them, or zeros where the tile's mark is not positive.
-/
module

public import proofs.«01_k».proof.Proof.Gen.ReferenceMoeIdeal.Read
public import proofs.«01_k».proof.Proof.Project
public import Idealize.ShloMosaic.Lib.Affine

@[expose] public section

set_option maxRecDepth 16384

noncomputable section

open Idealize.ShloMosaic

namespace Cert.Moe

/-! ## The result at an entry -/

/-- The tile of a row. -/
def tileOf (r : Fin 43008) : Fin 168 := ⟨r.val / 256, by omega⟩

/-- Row `p` of tile `t`. -/
def rowOf (t : Fin 168) (p : Fin 256) : Fin 43008 := ⟨256 * t.val + p.val, by omega⟩

/-- A row's entry times the gate's weights, gated; times the up weights. -/
def hidden (x : Fin 1024 → EReal) (g u : Fin 1024 → EReal) : EReal :=
  (∑ k, x k * g k) * Ideal.logistic (∑ k, x k * g k) * ∑ k, x k * u k

/-- The feed-forward of a row at a column: over the 512 hidden entries, times the column of the down weights. -/
def ffn (x : Fin 1024 → EReal) (g u : Fin 1024 → Fin 512 → EReal) (d : Fin 512 → EReal) : EReal :=
  ∑ q : Fin 512, hidden x (fun k => g k q) (fun k => u k q) * d q

/-- The call's result at row `r` and column `j`: the row through its tile's expert, where the tile is marked. -/
def value (x : (⟨2, ![43008, 1024]⟩ : Shape).Idx → EReal) (e : Fin 168 → Fin 32) (v : (⟨1, ![168]⟩ : Shape).Idx → BitVec 32)
    (g u : (⟨4, ![4, 32, 1024, 512]⟩ : Shape).Idx → EReal) (d : (⟨4, ![4, 32, 512, 1024]⟩ : Shape).Idx → EReal) (r : Fin 43008) (j : Fin 1024) : EReal :=
  if 0 < (v (ix1 (tileOf r))).toInt then
    ffn (fun k => x (ix2 r k)) (fun k q => g (ix4 (1 : Fin 4) (e (tileOf r)) k q)) (fun k q => u (ix4 (1 : Fin 4) (e (tileOf r)) k q)) (fun q => d (ix4 (1 : Fin 4) (e (tileOf r)) q j))
  else 0

/-! ## The gather of a tile's weights -/

section
variable {α : Type} {N R A B w : ℕ}

/-- Rows of a three-axis array taken by a column of words. -/
abbrev pickDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The gathered array at a tile is the row that the tile's word names. -/
theorem pick_apply (hN : 0 < N) (wf) (x : (⟨3, ![N, A, B]⟩ : Shape).Idx → α) (idx : IVec ⟨2, ![R, 1]⟩ w) (t : Fin R) (a : Fin A) (b : Fin B) :
    Host.gather (pickDims N R A B wf) x idx (ix3 t a b) = x (ix3 ⟨min (idx (ix2 t (0 : Fin 1))).toInt.toNat (N - 1), by omega⟩ a b) := by
  unfold Host.gather
  refine congrArg x (funext fun i => Fin.ext ?_)
  show (pickDims N R A B wf).start (ix3 t a b) idx i + (pickDims N R A B wf).batchCoord (ix3 t a b) i + (pickDims N R A B wf).offCoord (ix3 t a b) i = _
  rw [GatherDims.batchCoord_eq_zero _ _ _ List.not_mem_nil]
  have hsi : ∀ p, (pickDims N R A B wf).siIdx (ix3 t a b) p = ix2 t (0 : Fin 1) := fun p => funext fun z => Fin.ext (by
    match z with
    | ⟨0, _⟩ => rfl
    | ⟨1, _⟩ => obtain rfl : p = 0 := Subsingleton.elim (α := Fin 1) _ _; rfl)
  have hi : i = 0 ∨ i = 1 ∨ i = 2 := by
    match i with
    | ⟨0, _⟩ => exact .inl rfl
    | ⟨1, _⟩ => exact .inr (.inl rfl)
    | ⟨2, _⟩ => exact .inr (.inr rfl)
  have hmem : ∀ z : Fin 3, z ∈ (pickDims N R A B wf).startIndexMap ↔ z = 0 := fun z => List.mem_singleton
  unfold GatherDims.start
  rcases hi with rfl | rfl | rfl
  · rw [GatherDims.offCoord_eq_zero _ _ _ (fun h => ((GatherDims.mem_sKept _ _).mp h).1 (List.mem_singleton.mpr rfl)),
      dif_pos ((hmem 0).mpr rfl), hsi]
    rfl
  · rw [dif_neg (fun h => absurd ((hmem 1).mp h) (by decide))]
    exact (Nat.zero_add _).trans rfl
  · rw [dif_neg (fun h => absurd ((hmem 2).mp h) (by decide))]
    exact (Nat.zero_add _).trans rfl

end

/-! ## The reference -/

section
open Cert.ReferenceMoeIdeal Cert.ReferenceMoeIdeal.Gen Cert.ReferenceMoeIdeal.Read

variable (x : (⟨2, ![43008, 1024]⟩ : Shape).Idx → EReal) (ew v : (⟨1, ![168]⟩ : Shape).Idx → BitVec 32) (g u : (⟨4, ![4, 32, 1024, 512]⟩ : Shape).Idx → EReal) (d : (⟨4, ![4, 32, 512, 1024]⟩ : Shape).Idx → EReal)
  (e : Fin 168 → Fin 32) (he : ∀ t, (ew (ix1 t)).toInt = (e t).val)

/-- The second group's gate weights, -/
theorem ref_gate (n : Fin 32) (a : Fin 1024) (b : Fin 512) : val_main_v2 (F := Ideal) g (ix3 n a b) = g (ix4 (1 : Fin 4) n a b) := by
  rw [val_main_v2_apply, val_main_v1_apply]
  refine congrArg g (funext fun i => Fin.ext ?_)
  match i with
  | ⟨0, _⟩ => rfl
  | ⟨1, _⟩ => show ((n.val * 1024 + a.val) * 512 + b.val) / 524288 % 32 = n.val; omega
  | ⟨2, _⟩ => show ((n.val * 1024 + a.val) * 512 + b.val) / 512 % 1024 = a.val; omega
  | ⟨3, _⟩ => show ((n.val * 1024 + a.val) * 512 + b.val) % 512 = b.val; omega

/-- its up weights, -/
theorem ref_up (n : Fin 32) (a : Fin 1024) (b : Fin 512) : val_main_v11 (F := Ideal) u (ix3 n a b) = u (ix4 (1 : Fin 4) n a b) := ref_gate u n a b

/-- and its down weights. -/
theorem ref_down (n : Fin 32) (a : Fin 512) (b : Fin 1024) : val_main_v20 (F := Ideal) d (ix3 n a b) = d (ix4 (1 : Fin 4) n a b) := by
  rw [val_main_v20_apply, val_main_v19_apply]
  refine congrArg d (funext fun i => Fin.ext ?_)
  match i with
  | ⟨0, _⟩ => rfl
  | ⟨1, _⟩ => show ((n.val * 512 + a.val) * 1024 + b.val) / 524288 % 32 = n.val; omega
  | ⟨2, _⟩ => show ((n.val * 512 + a.val) * 1024 + b.val) / 1024 % 512 = a.val; omega
  | ⟨3, _⟩ => show ((n.val * 512 + a.val) * 1024 + b.val) % 1024 = b.val; omega

include he

/-- The word that a tile's weights are taken by is the tile's expert. -/
theorem ref_word (t : Fin 168) : val_main_v8 (F := Ideal) ew (ix2 t (0 : Fin 1)) = ew (ix1 t) := by
  have h : idx_main_v8 (ix2 t (0 : Fin 1)) = ix1 t := funext fun i => match i with | ⟨0, _⟩ => rfl
  rw [val_main_v8_apply, h, val_main_v7_apply, val_main_v4_apply, val_main_v3_apply, val_main_c_apply]
  refine if_neg fun hc => ?_
  have := IntOp.cmpi_slt.mp hc
  rw [he] at this
  change ((e t).val : Int) < 0 at this
  omega

/-- A gathered row is the expert's. -/
theorem clamped (t : Fin 168) (h) : (⟨min (ew (ix1 t)).toInt.toNat (32 - 1), h⟩ : Fin 32) = e t := Fin.ext (by
  show min (ew (ix1 t)).toInt.toNat 31 = (e t).val
  rw [he, Int.toNat_natCast]
  omega)

theorem ref_gate_at (t : Fin 168) (a : Fin 1024) (b : Fin 512) : val_main_v9 (F := Ideal) ew g (ix3 t a b) = g (ix4 (1 : Fin 4) (e t) a b) := by
  refine (pick_apply (by decide) _ _ _ t a b).trans ?_
  simp only [ref_word ew e he, clamped ew e he]
  exact ref_gate g _ a b

theorem ref_up_at (t : Fin 168) (a : Fin 1024) (b : Fin 512) : val_main_v18 (F := Ideal) ew u (ix3 t a b) = u (ix4 (1 : Fin 4) (e t) a b) :=
  ref_gate_at ew u e he t a b

theorem ref_down_at (t : Fin 168) (a : Fin 512) (b : Fin 1024) : val_main_v27 (F := Ideal) ew d (ix3 t a b) = d (ix4 (1 : Fin 4) (e t) a b) := by
  refine (pick_apply (by decide) _ _ _ t a b).trans ?_
  have hw : val_main_v26 (F := Ideal) ew (ix2 t (0 : Fin 1)) = ew (ix1 t) := ref_word ew e he t
  simp only [hw, clamped ew e he]
  exact ref_down d _ a b

/-- A hidden entry of a tile's row. -/
theorem ref_hidden (t : Fin 168) (p : Fin 256) (q : Fin 512) :
    val_main_v31 (F := Ideal) x ew g u (ix3 t p q) = hidden (fun k => x (ix2 (rowOf t p) k)) (fun k => g (ix4 (1 : Fin 4) (e t) k q)) (fun k => u (ix4 (1 : Fin 4) (e t) k q)) := by
  have hx : ∀ k : Fin 1024, val_main_v0 (F := Ideal) x (ix3 t p k) = x (ix2 (rowOf t p) k) := fun k => by
    rw [val_main_v0_apply]
    refine congrArg x (funext fun i => Fin.ext ?_)
    match i with
    | ⟨0, _⟩ => show ((t.val * 256 + p.val) * 1024 + k.val) / 1024 = 256 * t.val + p.val; omega
    | ⟨1, _⟩ => show ((t.val * 256 + p.val) * 1024 + k.val) % 1024 = k.val; omega
  have hg : val_main_v28 (F := Ideal) x ew g (ix3 t p q) = ∑ k : Fin 1024, x (ix2 (rowOf t p) k) * g (ix4 (1 : Fin 4) (e t) k q) := by
    rw [val_main_v28_apply]
    refine Finset.sum_congr rfl fun k _ => ?_
    have hl : lidx_main_v28 (ix3 t p q) k = ix3 t p k := funext fun i => match i with | ⟨0, _⟩ => rfl | ⟨1, _⟩ => rfl | ⟨2, _⟩ => rfl
    have hr : ridx_main_v28 (ix3 t p q) k = ix3 t k q := funext fun i => match i with | ⟨0, _⟩ => rfl | ⟨1, _⟩ => rfl | ⟨2, _⟩ => rfl
    rw [hl, hr, hx, ref_gate_at ew g e he]
  have hu : val_main_v30 (F := Ideal) x ew u (ix3 t p q) = ∑ k : Fin 1024, x (ix2 (rowOf t p) k) * u (ix4 (1 : Fin 4) (e t) k q) := by
    rw [val_main_v30_apply]
    refine Finset.sum_congr rfl fun k _ => ?_
    have hl : lidx_main_v30 (ix3 t p q) k = ix3 t p k := funext fun i => match i with | ⟨0, _⟩ => rfl | ⟨1, _⟩ => rfl | ⟨2, _⟩ => rfl
    have hr : ridx_main_v30 (ix3 t p q) k = ix3 t k q := funext fun i => match i with | ⟨0, _⟩ => rfl | ⟨1, _⟩ => rfl | ⟨2, _⟩ => rfl
    rw [hl, hr, hx, ref_up_at ew u e he]
  rw [val_main_v31_apply, val_main_v29_apply, val_main_call0_v5_apply, val_main_call0_v4_apply, val_main_call0_cst_0_apply, val_main_call0_v3_apply,
    val_main_call0_v2_apply, val_main_call0_cst_apply, val_main_call0_v1_apply, val_main_call0_v0_apply, hg, hu, Project.one_bits]
  rfl

/-- The reference's result. -/
theorem reference_at (r : Fin 43008) (j : Fin 1024) : val_main_v37 (F := Ideal) x ew v g u d (ix2 r j) = value x e v g u d r j := by
  have h : idx_main_v37 (ix2 r j) = ix3 (tileOf r) (⟨r.val % 256, Nat.mod_lt _ (by decide)⟩ : Fin 256) j := funext fun i => Fin.ext (by
    match i with
    | ⟨0, _⟩ => show (r.val * 1024 + j.val) / 262144 = r.val / 256; omega
    | ⟨1, _⟩ => show (r.val * 1024 + j.val) / 1024 % 256 = r.val % 256; omega
    | ⟨2, _⟩ => show (r.val * 1024 + j.val) % 1024 = j.val; omega)
  have hrow : rowOf (tileOf r) (⟨r.val % 256, Nat.mod_lt _ (by decide)⟩ : Fin 256) = r := Fin.ext (by show 256 * (r.val / 256) + r.val % 256 = r.val; omega)
  have hv : idx_main_v33 (idx_main_call1_v1 (ix3 (tileOf r) (⟨r.val % 256, Nat.mod_lt _ (by decide)⟩ : Fin 256) j)) = ix1 (tileOf r) := funext fun i => match i with | ⟨0, _⟩ => rfl
  have hy : val_main_v32 (F := Ideal) x ew g u d (ix3 (tileOf r) (⟨r.val % 256, Nat.mod_lt _ (by decide)⟩ : Fin 256) j)
      = ffn (fun k => x (ix2 r k)) (fun k q => g (ix4 (1 : Fin 4) (e (tileOf r)) k q)) (fun k q => u (ix4 (1 : Fin 4) (e (tileOf r)) k q)) (fun q => d (ix4 (1 : Fin 4) (e (tileOf r)) q j)) := by
    rw [val_main_v32_apply]
    refine Finset.sum_congr rfl fun q _ => ?_
    have hl : ∀ p : Fin 256, lidx_main_v32 (ix3 (tileOf r) p j) q = ix3 (tileOf r) p q := fun p => funext fun i => match i with | ⟨0, _⟩ => rfl | ⟨1, _⟩ => rfl | ⟨2, _⟩ => rfl
    have hr : ∀ p : Fin 256, ridx_main_v32 (ix3 (tileOf r) p j) q = ix3 (tileOf r) q j := fun p => funext fun i => match i with | ⟨0, _⟩ => rfl | ⟨1, _⟩ => rfl | ⟨2, _⟩ => rfl
    rw [hl, hr, ref_hidden x ew g u e he, ref_down_at ew d e he, hrow]
  rw [val_main_v37_apply, h, val_main_v36_apply, val_main_call1_v1_apply, val_main_v35_apply, val_main_v33_apply, val_main_v34_apply, val_main_c_5_apply,
    val_main_call1_v2_apply, val_main_call1_v0_apply, val_main_cst_apply, hv, hy]
  unfold value
  show (if _ then _ else _) = _
  refine if_congr ?_ rfl (Ideal.ofBits_zero_f32)
  exact IntOp.cmpi_sgt

end

end Cert.Moe

end
-- ==== Proof.MoeValue.lean ====
/-
  THE ARRAY THAT THE EXPERTS' FEED-FORWARD CALL LEAVES: at every row and column, the row through its tile's expert, or
  zero where the tile is not marked.
-/
module

public import proofs.«01_k».proof.Proof.MoePre
public import proofs.«01_k».proof.Proof.MoeRef
public import Idealize.ShloMosaic.Lib.Pipeline.Value

@[expose] public section

set_option maxRecDepth 16384

noncomputable section

open Idealize.ShloMosaic Idealize.ShloMosaic.TcCoe Idealize.SL.Sem Cert.KernelMoeIdeal Cert.KernelMoeIdeal.Gen

namespace Cert.Moe

/-! ## One block -/

theorem pay_at (x : Vec Ideal S256x1024 .f32) (g u : Vec Ideal S1x1024x512 .f32) (d : Vec Ideal S1x512x1024 .f32) (p : Fin 256) (j : Fin 1024) :
    k0_pay4 x (k0_pay1 g) (k0_pay2 u) (k0_pay3 d) (ix2 p j)
      = ffn (fun k => x (ix2 p k)) (fun k q => g (ix3 (0 : Fin 1) k q)) (fun k q => u (ix3 (0 : Fin 1) k q)) (fun q => d (ix3 (0 : Fin 1) q j)) := by
  pointwise [k0_pay1, k0_pay2, k0_pay3, k0_pay4]
  rfl

theorem zero_at (p : Fin 256) (j : Fin 1024) : k0_pay5 (F := Ideal) (ix2 p j) = (0 : EReal) := Ideal.ofBits_zero_f32

/-! ## What the blocks read -/

variable (m : (ℓ : Loc nD τ sig) → Buf (Elt Ideal) ℓ) (h : Named (experts m) (marks m)) (c : Dev nD)

/-- A tile's expert. -/
def expert (t : Fin 168) : Fin 32 := ⟨(experts m (ix1 t)).toNat, expert_val (h t).1 (h t).2.1⟩

/-- An expert's row of the flattened weights. -/
def flatRow (n : Fin 32) : Fin 128 := ⟨32 + n.val, by omega⟩

theorem word_row (t : Fin grid0.N) : (word (tbl m 0) (k0_off1 (grid0.coords t)) (k0_off1_inb _)).toNat = (flatRow (expert m h (tile t))).val := by
  rw [word_eq (tbl m 0) _ _ (tile t) (off1 t), table0]
  exact shifted_val (expert_val (h (tile t)).1 (h (tile t)).2.1)

/-- The flattened weights at an expert's row. -/
theorem flat_weights {A B : ℕ} (w : (⟨4, ![4, 32, A, B]⟩ : Shape).Idx → EReal) (hc : (⟨4, ![4, 32, A, B]⟩ : Shape).ShapeCasts ⟨3, ![128, A, B]⟩) (n : Fin 32) (a : Fin A) (b : Fin B) :
    shapeCast ⟨3, ![128, A, B]⟩ w hc (ix3 (flatRow n) a b) = w (ix4 (1 : Fin 4) n a b) := by
  refine shapeCast_apply w hc _ _ ?_
  rw [Shape.rowMajor_val_four, Shape.rowMajor_val_three]
  rfl

theorem gate_block (t : Fin (cfgM m (ok m h)).N) (a : Fin 1024) (b : Fin 512) :
    iblk m (ok m h) c 1 t (ix3 (0 : Fin 1) a b) = m ((c : Thread nD τ).loc main_arg3) (ix4 (1 : Fin 4) (expert m h (tile t)) a b) :=
  (gate_at m (ok m h) c t _ (word_row m h t) a b).trans (flat_weights (m ((c : Thread nD τ).loc main_arg3)) shapeCasts_S4x32x1024x512_S128x1024x512 _ a b)

theorem up_block (t : Fin (cfgM m (ok m h)).N) (a : Fin 1024) (b : Fin 512) :
    iblk m (ok m h) c 2 t (ix3 (0 : Fin 1) a b) = m ((c : Thread nD τ).loc main_arg4) (ix4 (1 : Fin 4) (expert m h (tile t)) a b) :=
  (up_at m (ok m h) c t _ (word_row m h t) a b).trans (flat_weights (m ((c : Thread nD τ).loc main_arg4)) shapeCasts_S4x32x1024x512_S128x1024x512 _ a b)

theorem down_block (t : Fin (cfgM m (ok m h)).N) (a : Fin 512) (b : Fin 1024) :
    iblk m (ok m h) c 3 t (ix3 (0 : Fin 1) a b) = m ((c : Thread nD τ).loc main_arg5) (ix4 (1 : Fin 4) (expert m h (tile t)) a b) :=
  (down_at m (ok m h) c t _ (word_row m h t) a b).trans (flat_weights (m ((c : Thread nD τ).loc main_arg5)) shapeCasts_S4x32x512x1024_S128x512x1024 _ a b)

theorem index0 (hO : Ok m) : ∀ t : Fin (cfgM m hO).N, ((cfgM m hO).win 0).index t = ![t.val, 0] :=
  (by decide +kernel : ∀ t : Fin grid0.N, cc0_transform_0 (grid0.coords t) = ![t.val, 0])
theorem index4 (hO : Ok m) : ∀ t : Fin (cfgM m hO).N, ((cfgM m hO).win 4).index t = ![t.val, 0] :=
  (by decide +kernel : ∀ t : Fin grid0.N, cc0_transform_4 (grid0.coords t) = ![t.val, 0])

theorem rows_block (hO : Ok m) (t : Fin (cfgM m hO).N) (p : Fin 256) (k : Fin 1024) :
    iblk m hO c 0 t (ix2 p k) = m ((c : Thread nD τ).loc main_arg0) (ix2 (rowOf (tile t) p) k) := by
  have e := index0 m hO t
  refine Eq.trans (b := V m c main_arg0 (ix2 (rowOf (tile t) p) k)) ?_ (congrFun (V_kept m c main_arg0 (by decide)) _)
  show V m c main_arg0 ((((cfgM m hO).win 0).blk t).view.emb (ix2 p k)) = V m c main_arg0 _
  congr 1
  refine funext fun i => Fin.ext ?_
  match i with
  | ⟨0, _⟩ => exact (Pipeline.Window.rect_emb_val ((cfgM m hO).win 0) t (ix2 p k) (0 : Fin 2) rfl).trans (by rw [e]; show t.val * 256 + p.val = 256 * t.val + p.val; omega)
  | ⟨1, _⟩ => exact (Pipeline.Window.rect_emb_val ((cfgM m hO).win 0) t (ix2 p k) (1 : Fin 2) rfl).trans (by rw [e]; show 0 * 1024 + k.val = k.val; omega)

/-- The position of an entry of the result's block. -/
theorem out_spot (hO : Ok m) (t : Fin (cfgM m hO).N) (p : Fin 256) (j : Fin 1024) :
    (((cfgM m hO).win 4).blk t).view.emb (ix2 p j) = (ix2 (rowOf (tile t) p) j : S43008x1024.Idx) := by
  have e := index4 m hO t
  refine funext fun i => Fin.ext ?_
  match i with
  | ⟨0, _⟩ => exact (Pipeline.Window.rect_emb_val ((cfgM m hO).win 4) t (ix2 p j) (0 : Fin 2) rfl).trans (by rw [e]; show t.val * 256 + p.val = 256 * t.val + p.val; omega)
  | ⟨1, _⟩ => exact (Pipeline.Window.rect_emb_val ((cfgM m hO).win 4) t (ix2 p j) (1 : Fin 2) rfl).trans (by rw [e]; show 0 * 1024 + j.val = j.val; omega)

/-! ## The array the kernel leaves -/

/-- The kernel's result, at its own arguments. -/
abbrev left (r : Fin 43008) (j : Fin 1024) : EReal :=
  value (m ((c : Thread nD τ).loc main_arg0)) (expert m h) (marks m) (m ((c : Thread nD τ).loc main_arg3)) (m ((c : Thread nD τ).loc main_arg4)) (m ((c : Thread nD τ).loc main_arg5)) r j

theorem rows_at (t : Fin (cfgM m (ok m h)).N) (p : Fin 256) (j : Fin 1024) : rows m (ok m h) c t (ix2 p j) = left m h c (rowOf (tile t) p) j := by
  have ht : tileOf (rowOf (tile t) p) = tile t := Fin.ext (by show (256 * t.val + p.val) / 256 = t.val; have := p.isLt; omega)
  unfold rows left value
  rw [mark_at, ht]
  have h2 := (h (tile t)).2.2
  by_cases hz : k0_cond3 (marks m (ix1 (tile t))) = 1#1
  · rw [if_pos hz, if_neg (by rw [(cond3_iff _).mp hz]; decide)]
    exact zero_at p j
  · rw [if_neg hz, if_pos (lt_of_le_of_ne h2 fun he => hz ((cond3_iff _).mpr (BitVec.eq_of_toInt_eq he.symm)))]
    refine (pay_at _ _ _ _ p j).trans ?_
    simp only [rows_block, gate_block m h, up_block m h, down_block m h]

theorem array_at (r : Fin 43008) (j : Fin 1024) : (dats m (ok m h) 0 c).arrAt 4 (cfgM m (ok m h)).N (ix2 r j) = left m h c r j := by
  let t : Fin (cfgM m (ok m h)).N := (⟨r.val / 256, by have := r.isLt; show r.val / 256 < 168; omega⟩ : Fin 168)
  let p : Fin 256 := ⟨r.val % 256, Nat.mod_lt _ (by decide)⟩
  have hr : rowOf (tile t) p = r := Fin.ext (by show 256 * (r.val / 256) + r.val % 256 = r.val; omega)
  have key := (dats m (ok m h) 0 c).arrAt_forall_of_flushed 4 (fun (i : S43008x1024.Idx) (v : EReal) => v = left m h c (i 0) (i 1)) (fun s _ (y : S256x1024.Idx) => ?_)
    (cfgM m (ok m h)).N t (((((cfgM m (ok m h)).win 4).blk t).view.emb (ix2 p j))) t.isLt (flush4 _ t) (View.emb_mem_set _ _)
  · rw [out_spot, hr] at key
    exact key
  · obtain ⟨p, j, rfl⟩ : ∃ (p : Fin 256) (j : Fin 1024), y = ix2 p j := ⟨y 0, y 1, eq_ix2 y⟩
    have hb : (dats m (ok m h) 0 c).after 4 s (ix2 p j) = left m h c (rowOf (tile s) p) j := by
      rw [after4]
      exact rows_at m h c s p j
    rw [out_spot]
    exact hb

/-- The kernel's result is the reference's. -/
theorem result : (dats m (ok m h) 0 c).arrAt 4 (cfgM m (ok m h)).N
    = Cert.ReferenceMoeIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain rfl : c = 0 := Subsingleton.elim _ _
  refine funext fun (i : S43008x1024.Idx) => ?_
  obtain ⟨r, j, rfl⟩ : ∃ (r : Fin 43008) (j : Fin 1024), i = ix2 r j := ⟨i 0, i 1, eq_ix2 i⟩
  refine (array_at m h 0 r j).trans (reference_at _ _ _ _ _ _ (expert m h) (fun t => ?_) r j).symm
  exact BitVec.toInt_eq_toNat_of_lt (by have := expert_val (h t).1 (h t).2.1; show 2 * (experts m (ix1 t)).toNat < 2 ^ 32; omega)

end Cert.Moe

end
-- ==== Proof.lean ====
/-
  The proof of `Cert.Claim`: the programs run to completion and leave arguments and semaphores as they were; each
  ideal kernel is its kernel's own text; and over the extended reals each kernel's result arrays are its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.KernelInSb
public import proofs.«01_k».proof.Proof.Gen.KernelInSb.Skeleton
public import proofs.«01_k».proof.Proof.Gen.KernelInSb.Launch
public import proofs.«01_k».proof.Proof.Gen.KernelInSb.Points
public import proofs.«01_k».proof.Proof.Gen.KernelInSb.Frame
public import proofs.«01_k».proof.Proof.Gen.KernelInSbIdeal
public import proofs.«01_k».proof.Proof.Gen.KernelInSbIdeal.Skeleton
public import proofs.«01_k».proof.Proof.Gen.KernelInSbIdeal.Launch
public import proofs.«01_k».proof.Proof.Gen.KernelInSbIdeal.Points
public import proofs.«01_k».proof.Proof.Gen.KernelInSbIdeal.Frame
public import proofs.«01_k».proof.Proof.Gen.KernelInSbIdeal.Value
public import proofs.«01_k».proof.Proof.Gen.ReferenceInSbIdeal
public import proofs.«01_k».proof.Proof.Gen.ReferenceInSbIdeal.Run
public import proofs.«01_k».proof.Proof.Gen.ReferenceInSbIdeal.Read
public import proofs.«01_k».proof.Proof.Gen.KernelInNsa
public import proofs.«01_k».proof.Proof.Gen.KernelInNsa.Skeleton
public import proofs.«01_k».proof.Proof.Gen.KernelInNsa.Launch
public import proofs.«01_k».proof.Proof.Gen.KernelInNsa.Points
public import proofs.«01_k».proof.Proof.Gen.KernelInNsa.Frame
public import proofs.«01_k».proof.Proof.Gen.KernelInNsaIdeal
public import proofs.«01_k».proof.Proof.Gen.KernelInNsaIdeal.Skeleton
public import proofs.«01_k».proof.Proof.Gen.KernelInNsaIdeal.Launch
public import proofs.«01_k».proof.Proof.Gen.KernelInNsaIdeal.Points
public import proofs.«01_k».proof.Proof.Gen.KernelInNsaIdeal.Frame
public import proofs.«01_k».proof.Proof.Gen.KernelInNsaIdeal.Value
public import proofs.«01_k».proof.Proof.Gen.ReferenceInNsaIdeal
public import proofs.«01_k».proof.Proof.Gen.ReferenceInNsaIdeal.Run
public import proofs.«01_k».proof.Proof.Gen.ReferenceInNsaIdeal.Read
public import proofs.«01_k».proof.Proof.Gen.KernelInSwa
public import proofs.«01_k».proof.Proof.Gen.KernelInSwa.Skeleton
public import proofs.«01_k».proof.Proof.Gen.KernelInSwa.Launch
public import proofs.«01_k».proof.Proof.Gen.KernelInSwa.Points
public import proofs.«01_k».proof.Proof.Gen.KernelInSwa.Frame
public import proofs.«01_k».proof.Proof.Gen.KernelInSwaIdeal
public import proofs.«01_k».proof.Proof.Gen.KernelInSwaIdeal.Skeleton
public import proofs.«01_k».proof.Proof.Gen.KernelInSwaIdeal.Launch
public import proofs.«01_k».proof.Proof.Gen.KernelInSwaIdeal.Points
public import proofs.«01_k».proof.Proof.Gen.KernelInSwaIdeal.Frame
public import proofs.«01_k».proof.Proof.Gen.KernelInSwaIdeal.Value
public import proofs.«01_k».proof.Proof.Gen.ReferenceInSwaIdeal
public import proofs.«01_k».proof.Proof.Gen.ReferenceInSwaIdeal.Run
public import proofs.«01_k».proof.Proof.Gen.ReferenceInSwaIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelComb
public import proofs.«01_k».proof.Proof.Gen.KernelComb.Skeleton
public import proofs.«01_k».proof.Proof.Gen.KernelComb.Launch
public import proofs.«01_k».proof.Proof.Gen.KernelComb.Points
public import proofs.«01_k».proof.Proof.Gen.KernelComb.Frame
public import proofs.«01_k».proof.Proof.Gen.KernelMoe
public import proofs.«01_k».proof.Proof.Gen.KernelMoe.Skeleton
public import proofs.«01_k».proof.Proof.Gen.KernelMoe.Launch
public import proofs.«01_k».proof.Proof.Gen.KernelMoeIdeal
public import proofs.«01_k».proof.Proof.Gen.KernelMoeIdeal.Skeleton
public import proofs.«01_k».proof.Proof.Gen.KernelMoeIdeal.Launch
public import proofs.«01_k».proof.Proof.Gen.ReferenceMoeIdeal
public import proofs.«01_k».proof.Proof.Gen.ReferenceMoeIdeal.Run
public import proofs.«01_k».proof.Proof.Gen.ReferenceMoeIdeal.Read
public import proofs.«01_k».proof.Proof.Gen.Pre_routed
public import proofs.«01_k».proof.Proof.Gen.KernelCombIdeal
public import proofs.«01_k».proof.Proof.Gen.KernelCombIdeal.Skeleton
public import proofs.«01_k».proof.Proof.Gen.KernelCombIdeal.Launch
public import proofs.«01_k».proof.Proof.Gen.KernelCombIdeal.Points
public import proofs.«01_k».proof.Proof.Gen.KernelCombIdeal.Frame
public import proofs.«01_k».proof.Proof.Gen.KernelCombIdeal.Value
public import proofs.«01_k».proof.Proof.Gen.ReferenceCombIdeal
public import proofs.«01_k».proof.Proof.Gen.ReferenceCombIdeal.Run
public import proofs.«01_k».proof.Proof.Gen.ReferenceCombIdeal.Read
public import proofs.«01_k».proof.Proof.Match
public import proofs.«01_k».proof.Proof.InSb
public import proofs.«01_k».proof.Proof.InNsa
public import proofs.«01_k».proof.Proof.InSwa
public import proofs.«01_k».proof.Proof.Out
public import proofs.«01_k».proof.Proof.Comb
public import proofs.«01_k».proof.Proof.InSbSample
public import proofs.«01_k».proof.Proof.InNsaSample
public import proofs.«01_k».proof.Proof.InSwaSample
public import proofs.«01_k».proof.Proof.CombSample
public import proofs.«01_k».proof.Proof.Gen.KernelRoute
public import proofs.«01_k».proof.Proof.Gen.KernelRoute.Skeleton
public import proofs.«01_k».proof.Proof.Gen.KernelRoute.Launch
public import proofs.«01_k».proof.Proof.Gen.KernelRoute.Points
public import proofs.«01_k».proof.Proof.Gen.KernelRoute.Frame
public import proofs.«01_k».proof.Proof.Gen.KernelRouteIdeal
public import proofs.«01_k».proof.Proof.Gen.KernelRouteIdeal.Skeleton
public import proofs.«01_k».proof.Proof.Gen.KernelRouteIdeal.Launch
public import proofs.«01_k».proof.Proof.Gen.KernelRouteIdeal.Points
public import proofs.«01_k».proof.Proof.Gen.KernelRouteIdeal.Frame
public import proofs.«01_k».proof.Proof.Gen.KernelRouteIdeal.Value
public import proofs.«01_k».proof.Proof.Gen.ReferenceRouteIdeal
public import proofs.«01_k».proof.Proof.Gen.ReferenceRouteIdeal.Run
public import proofs.«01_k».proof.Proof.Gen.ReferenceRouteIdeal.Read
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.ReferenceAdaIdeal.Read
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.KernelPoolIdeal.Value
public import proofs.«01_k».proof.Proof.Gen.ReferencePoolIdeal
public import proofs.«01_k».proof.Proof.Gen.ReferencePoolIdeal.Run
public import proofs.«01_k».proof.Proof.Gen.ReferencePoolIdeal.Read
public import proofs.«01_k».proof.Proof.Route
public import proofs.«01_k».proof.Proof.Ada
public import proofs.«01_k».proof.Proof.Pool
public import proofs.«01_k».proof.Proof.MoeValue
public import Idealize.ShloMosaic.Adequacy
public import Idealize.ShloMosaic.Init
public import proofs.«01_k».proof.Proof.Gen.KernelInSbSample
public import proofs.«01_k».proof.Proof.Gen.KernelInSbSample.Skeleton
public import proofs.«01_k».proof.Proof.Gen.KernelInSbSample.Launch
public import proofs.«01_k».proof.Proof.Gen.KernelInSbSample.Points
public import proofs.«01_k».proof.Proof.Gen.KernelInSbSample.Frame
public import proofs.«01_k».proof.Proof.Gen.KernelInSbSampleIdeal
public import proofs.«01_k».proof.Proof.Gen.KernelInSbSampleIdeal.Skeleton
public import proofs.«01_k».proof.Proof.Gen.KernelInSbSampleIdeal.Launch
public import proofs.«01_k».proof.Proof.Gen.KernelInSbSampleIdeal.Points
public import proofs.«01_k».proof.Proof.Gen.KernelInSbSampleIdeal.Frame
public import proofs.«01_k».proof.Proof.Gen.KernelInSbSampleIdeal.Value
public import proofs.«01_k».proof.Proof.Gen.ReferenceInSbSampleIdeal
public import proofs.«01_k».proof.Proof.Gen.ReferenceInSbSampleIdeal.Run
public import proofs.«01_k».proof.Proof.Gen.ReferenceInSbSampleIdeal.Read
public import proofs.«01_k».proof.Proof.Gen.KernelInNsaSample
public import proofs.«01_k».proof.Proof.Gen.KernelInNsaSample.Skeleton
public import proofs.«01_k».proof.Proof.Gen.KernelInNsaSample.Launch
public import proofs.«01_k».proof.Proof.Gen.KernelInNsaSample.Points
public import proofs.«01_k».proof.Proof.Gen.KernelInNsaSample.Frame
public import proofs.«01_k».proof.Proof.Gen.KernelInNsaSampleIdeal
public import proofs.«01_k».proof.Proof.Gen.KernelInNsaSampleIdeal.Skeleton
public import proofs.«01_k».proof.Proof.Gen.KernelInNsaSampleIdeal.Launch
public import proofs.«01_k».proof.Proof.Gen.KernelInNsaSampleIdeal.Points
public import proofs.«01_k».proof.Proof.Gen.KernelInNsaSampleIdeal.Frame
public import proofs.«01_k».proof.Proof.Gen.KernelInNsaSampleIdeal.Value
public import proofs.«01_k».proof.Proof.Gen.ReferenceInNsaSampleIdeal
public import proofs.«01_k».proof.Proof.Gen.ReferenceInNsaSampleIdeal.Run
public import proofs.«01_k».proof.Proof.Gen.ReferenceInNsaSampleIdeal.Read
public import proofs.«01_k».proof.Proof.Gen.KernelInSwaSample
public import proofs.«01_k».proof.Proof.Gen.KernelInSwaSample.Skeleton
public import proofs.«01_k».proof.Proof.Gen.KernelInSwaSample.Launch
public import proofs.«01_k».proof.Proof.Gen.KernelInSwaSample.Points
public import proofs.«01_k».proof.Proof.Gen.KernelInSwaSample.Frame
public import proofs.«01_k».proof.Proof.Gen.KernelInSwaSampleIdeal
public import proofs.«01_k».proof.Proof.Gen.KernelInSwaSampleIdeal.Skeleton
public import proofs.«01_k».proof.Proof.Gen.KernelInSwaSampleIdeal.Launch
public import proofs.«01_k».proof.Proof.Gen.KernelInSwaSampleIdeal.Points
public import proofs.«01_k».proof.Proof.Gen.KernelInSwaSampleIdeal.Frame
public import proofs.«01_k».proof.Proof.Gen.KernelInSwaSampleIdeal.Value
public import proofs.«01_k».proof.Proof.Gen.ReferenceInSwaSampleIdeal
public import proofs.«01_k».proof.Proof.Gen.ReferenceInSwaSampleIdeal.Run
public import proofs.«01_k».proof.Proof.Gen.ReferenceInSwaSampleIdeal.Read
public import proofs.«01_k».proof.Proof.Gen.KernelCombSample
public import proofs.«01_k».proof.Proof.Gen.KernelCombSample.Skeleton
public import proofs.«01_k».proof.Proof.Gen.KernelCombSample.Launch
public import proofs.«01_k».proof.Proof.Gen.KernelCombSample.Points
public import proofs.«01_k».proof.Proof.Gen.KernelCombSample.Frame
public import proofs.«01_k».proof.Proof.Gen.KernelCombSampleIdeal
public import proofs.«01_k».proof.Proof.Gen.KernelCombSampleIdeal.Skeleton
public import proofs.«01_k».proof.Proof.Gen.KernelCombSampleIdeal.Launch
public import proofs.«01_k».proof.Proof.Gen.KernelCombSampleIdeal.Points
public import proofs.«01_k».proof.Proof.Gen.KernelCombSampleIdeal.Frame
public import proofs.«01_k».proof.Proof.Gen.KernelCombSampleIdeal.Value
public import proofs.«01_k».proof.Proof.Gen.ReferenceCombSampleIdeal
public import proofs.«01_k».proof.Proof.Gen.ReferenceCombSampleIdeal.Run
public import proofs.«01_k».proof.Proof.Gen.ReferenceCombSampleIdeal.Read

@[expose] public section

noncomputable section

namespace Cert.Proof

open Idealize.ShloMosaic Idealize.SL.Sem

instance : Cert.Pre_finite.Facts := Cert.Match.preFacts

/-- The reference runs, keeps its argument and has no semaphore that could be left nonzero. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- On finite arguments the kernel's result array is the reference's, entry by entry. -/
theorem same_value : Cert.algebraic_KernelIdeal_ReferenceIdeal_pre_finite (hKernelIdeal := Cert.KernelIdeal.Gen.facts)
    (hReferenceIdeal := Cert.ReferenceIdeal.Gen.facts) (hPre_finite := Cert.Match.preFacts) := by
  intro m g m' g' hpre hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v33_eq, hagree c]
  exact Cert.Match.result_eq m c (hpre c)

/-! ### The stick-breaking layer's in-projection -/

theorem frame_reference_InSb : Cert.quiescent_ReferenceInSbIdeal (hReferenceInSbIdeal := Cert.ReferenceInSbIdeal.Gen.facts) := by
  intro m ρ _
  exact (θ_run Cert.ReferenceInSbIdeal.defs _ _).mono (fun r h => ⟨fun c => (h c).2.2, sem_eq_zero_of_no_sems (by decide) r.2⟩)
    (Cert.ReferenceInSbIdeal.Value.run (F := Ideal) m ρ)

theorem same_value_InSb : Cert.algebraic_KernelInSbIdeal_ReferenceInSbIdeal (hKernelInSbIdeal := Cert.KernelInSbIdeal.Gen.facts)
    (hReferenceInSbIdeal := Cert.ReferenceInSbIdeal.Gen.facts) := by
  intro m g m' g' _ hagree
  refine ⟨fun c => (Cert.KernelInSbIdeal.Gen.dats m 0 c).arrAt 5 Cert.KernelInSbIdeal.cfg0.N, fun c => (Cert.KernelInSbIdeal.Gen.dats m 0 c).arrAt 6 Cert.KernelInSbIdeal.cfg0.N, Cert.KernelInSbIdeal.Value.run_blocks m g, ?_⟩
  refine (θ_run Cert.ReferenceInSbIdeal.defs _ _).mono (fun r h c => ⟨(h c).1.trans ?_, (h c).2.1.trans ?_, (h c).2.2⟩) (Cert.ReferenceInSbIdeal.Value.run (F := Ideal) m' g')
  · refine (Cert.ReferenceInSbIdeal.Read.val_main_v7_eq _ _ _ _).trans ?_
    rw [(hagree c).1, (hagree c).2.1, (hagree c).2.2.1, (hagree c).2.2.2]
    exact (Cert.InSb.result5 m c).symm
  · refine (Cert.ReferenceInSbIdeal.Read.val_main_v8_eq _ _ _ _).trans ?_
    rw [(hagree c).1, (hagree c).2.1, (hagree c).2.2.1, (hagree c).2.2.2]
    exact (Cert.InSb.result6 m c).symm

/-! ### The sparse layers' in-projection -/

theorem frame_reference_InNsa : Cert.quiescent_ReferenceInNsaIdeal (hReferenceInNsaIdeal := Cert.ReferenceInNsaIdeal.Gen.facts) := by
  intro m ρ _
  exact (θ_run Cert.ReferenceInNsaIdeal.defs _ _).mono (fun r h => ⟨fun c => (h c).2.2, sem_eq_zero_of_no_sems (by decide) r.2⟩)
    (Cert.ReferenceInNsaIdeal.Value.run (F := Ideal) m ρ)

theorem same_value_InNsa : Cert.algebraic_KernelInNsaIdeal_ReferenceInNsaIdeal (hKernelInNsaIdeal := Cert.KernelInNsaIdeal.Gen.facts)
    (hReferenceInNsaIdeal := Cert.ReferenceInNsaIdeal.Gen.facts) := by
  intro m g m' g' _ hagree
  refine ⟨fun c => (Cert.KernelInNsaIdeal.Gen.dats m 0 c).arrAt 5 Cert.KernelInNsaIdeal.cfg0.N, fun c => (Cert.KernelInNsaIdeal.Gen.dats m 0 c).arrAt 6 Cert.KernelInNsaIdeal.cfg0.N, Cert.KernelInNsaIdeal.Value.run_blocks m g, ?_⟩
  refine (θ_run Cert.ReferenceInNsaIdeal.defs _ _).mono (fun r h c => ⟨(h c).1.trans ?_, (h c).2.1.trans ?_, (h c).2.2⟩) (Cert.ReferenceInNsaIdeal.Value.run (F := Ideal) m' g')
  · refine (Cert.ReferenceInNsaIdeal.Read.val_main_v8_eq _ _ _ _).trans ?_
    rw [(hagree c).1, (hagree c).2.1, (hagree c).2.2.1, (hagree c).2.2.2]
    exact (Cert.InNsa.result5 m c).symm
  · refine (Cert.ReferenceInNsaIdeal.Read.val_main_v9_eq _ _ _ _).trans ?_
    rw [(hagree c).1, (hagree c).2.1, (hagree c).2.2.1, (hagree c).2.2.2]
    exact (Cert.InNsa.result6 m c).symm

/-! ### The sliding-window layer's in-projection -/

theorem frame_reference_InSwa : Cert.quiescent_ReferenceInSwaIdeal (hReferenceInSwaIdeal := Cert.ReferenceInSwaIdeal.Gen.facts) := by
  intro m ρ _
  exact (θ_run Cert.ReferenceInSwaIdeal.defs _ _).mono (fun r h => ⟨fun c => (h c).2.2, sem_eq_zero_of_no_sems (by decide) r.2⟩)
    (Cert.ReferenceInSwaIdeal.Value.run (F := Ideal) m ρ)

theorem same_value_InSwa : Cert.algebraic_KernelInSwaIdeal_ReferenceInSwaIdeal (hKernelInSwaIdeal := Cert.KernelInSwaIdeal.Gen.facts)
    (hReferenceInSwaIdeal := Cert.ReferenceInSwaIdeal.Gen.facts) := by
  intro m g m' g' _ hagree
  refine ⟨fun c => (Cert.KernelInSwaIdeal.Gen.dats m 0 c).arrAt 5 Cert.KernelInSwaIdeal.cfg0.N, fun c => (Cert.KernelInSwaIdeal.Gen.dats m 0 c).arrAt 6 Cert.KernelInSwaIdeal.cfg0.N, Cert.KernelInSwaIdeal.Value.run_blocks m g, ?_⟩
  refine (θ_run Cert.ReferenceInSwaIdeal.defs _ _).mono (fun r h c => ⟨(h c).1.trans ?_, (h c).2.1.trans ?_, (h c).2.2⟩) (Cert.ReferenceInSwaIdeal.Value.run (F := Ideal) m' g')
  · refine (Cert.ReferenceInSwaIdeal.Read.val_main_v7_eq _ _ _ _).trans ?_
    rw [(hagree c).1, (hagree c).2.1, (hagree c).2.2.1, (hagree c).2.2.2]
    exact (Cert.InSwa.result5 m c).symm
  · refine (Cert.ReferenceInSwaIdeal.Read.val_main_v8_eq _ _ _ _).trans ?_
    rw [(hagree c).1, (hagree c).2.1, (hagree c).2.2.1, (hagree c).2.2.2]
    exact (Cert.InSwa.result6 m c).symm

/-! ### The output projection -/

theorem frame_reference_Out : Cert.quiescent_ReferenceOutIdeal (hReferenceOutIdeal := Cert.ReferenceOutIdeal.Gen.facts) := by
  intro m ρ _
  exact (θ_run Cert.ReferenceOutIdeal.defs _ _).mono (fun r h => ⟨fun c => (h c).2, sem_eq_zero_of_no_sems (by decide) r.2⟩)
    (Cert.ReferenceOutIdeal.Value.run (F := Ideal) m ρ)

theorem same_value_Out : Cert.algebraic_KernelOutIdeal_ReferenceOutIdeal (hKernelOutIdeal := Cert.KernelOutIdeal.Gen.facts)
    (hReferenceOutIdeal := Cert.ReferenceOutIdeal.Gen.facts) := by
  intro m g m' g' _ hagree
  refine ⟨fun c => (Cert.KernelOutIdeal.Gen.dats m 0 c).arrAt 6 Cert.KernelOutIdeal.cfg0.N, Cert.KernelOutIdeal.Value.run_blocks m g, ?_⟩
  refine (θ_run Cert.ReferenceOutIdeal.defs _ _).mono (fun r h c => ⟨(h c).1.trans ?_, (h c).2⟩) (Cert.ReferenceOutIdeal.Value.run (F := Ideal) m' g')
  rw [Cert.ReferenceOutIdeal.Read.val_main_v34_eq, (hagree c).1, (hagree c).2.1, (hagree c).2.2.1, (hagree c).2.2.2.1, (hagree c).2.2.2.2.1, (hagree c).2.2.2.2.2]
  exact (Cert.Out.result m c).symm

/-! ### The experts' combination -/

theorem frame_reference_Comb : Cert.quiescent_ReferenceCombIdeal (hReferenceCombIdeal := Cert.ReferenceCombIdeal.Gen.facts) := by
  intro m ρ _
  exact (θ_run Cert.ReferenceCombIdeal.defs _ _).mono (fun r h => ⟨fun c => (h c).2, sem_eq_zero_of_no_sems (by decide) r.2⟩)
    (Cert.ReferenceCombIdeal.Value.run (F := Ideal) m ρ)

theorem same_value_Comb : Cert.algebraic_KernelCombIdeal_ReferenceCombIdeal (hKernelCombIdeal := Cert.KernelCombIdeal.Gen.facts)
    (hReferenceCombIdeal := Cert.ReferenceCombIdeal.Gen.facts) := by
  intro m g m' g' _ hagree
  refine ⟨fun c => (Cert.KernelCombIdeal.Gen.dats m 0 c).arrAt 7 Cert.KernelCombIdeal.cfg0.N, Cert.KernelCombIdeal.Value.run_blocks m g, ?_⟩
  refine (θ_run Cert.ReferenceCombIdeal.defs _ _).mono (fun r h c => ⟨(h c).1.trans ?_, (h c).2⟩) (Cert.ReferenceCombIdeal.Value.run (F := Ideal) m' g')
  rw [Cert.ReferenceCombIdeal.Read.val_main_v39_eq, (hagree c).1, (hagree c).2.1, (hagree c).2.2.1, (hagree c).2.2.2.1, (hagree c).2.2.2.2.1, (hagree c).2.2.2.2.2.1, (hagree c).2.2.2.2.2.2]
  exact (Cert.Comb.result m c).symm

/-! ### The router's logits -/

theorem frame_reference_Route : Cert.quiescent_ReferenceRouteIdeal (hReferenceRouteIdeal := Cert.ReferenceRouteIdeal.Gen.facts) := by
  intro m ρ _
  exact (θ_run Cert.ReferenceRouteIdeal.defs _ _).mono (fun r h => ⟨fun c => (h c).2.2, sem_eq_zero_of_no_sems (by decide) r.2⟩)
    (Cert.ReferenceRouteIdeal.Value.run (F := Ideal) m ρ)

theorem same_value_Route : Cert.algebraic_KernelRouteIdeal_ReferenceRouteIdeal (hKernelRouteIdeal := Cert.KernelRouteIdeal.Gen.facts)
    (hReferenceRouteIdeal := Cert.ReferenceRouteIdeal.Gen.facts) := by
  intro m g m' g' _ hagree
  refine ⟨fun c => (Cert.KernelRouteIdeal.Gen.dats m 0 c).arrAt 5 Cert.KernelRouteIdeal.cfg0.N, fun c => (Cert.KernelRouteIdeal.Gen.dats m 0 c).arrAt 6 Cert.KernelRouteIdeal.cfg0.N, Cert.KernelRouteIdeal.Value.run_blocks m g, ?_⟩
  refine (θ_run Cert.ReferenceRouteIdeal.defs _ _).mono (fun r h c => ⟨(h c).1.trans ?_, (h c).2.1.trans ?_, (h c).2.2⟩) (Cert.ReferenceRouteIdeal.Value.run (F := Ideal) m' g')
  · refine (Cert.ReferenceRouteIdeal.Read.val_main_v16_eq _ _ _ _ _ _ _).trans ?_
    rw [(hagree c).1, (hagree c).2.1, (hagree c).2.2.1, (hagree c).2.2.2.1, (hagree c).2.2.2.2.1, (hagree c).2.2.2.2.2.1, (hagree c).2.2.2.2.2.2]
    exact (Cert.Route.result5 m c).symm
  · refine (Cert.ReferenceRouteIdeal.Read.val_main_v6_eq _ _ _).trans ?_
    rw [(hagree c).1, (hagree c).2.1, (hagree c).2.2.1]
    exact (Cert.Route.result6 m c).symm

/-! ### The adaptive modulation's projection -/

theorem frame_reference_Ada : Cert.quiescent_ReferenceAdaIdeal (hReferenceAdaIdeal := Cert.ReferenceAdaIdeal.Gen.facts) := by
  intro m ρ _
  exact (θ_run Cert.ReferenceAdaIdeal.defs _ _).mono (fun r h => ⟨fun c => (h c).2, sem_eq_zero_of_no_sems (by decide) r.2⟩)
    (Cert.ReferenceAdaIdeal.Value.run (F := Ideal) m ρ)

theorem same_value_Ada : Cert.algebraic_KernelAdaIdeal_ReferenceAdaIdeal (hKernelAdaIdeal := Cert.KernelAdaIdeal.Gen.facts)
    (hReferenceAdaIdeal := Cert.ReferenceAdaIdeal.Gen.facts) := by
  intro m g m' g' _ hagree
  refine ⟨fun c => (Cert.KernelAdaIdeal.Gen.dats m 0 c).arrAt 3 Cert.KernelAdaIdeal.cfg0.N, Cert.KernelAdaIdeal.Value.run_blocks m g, ?_⟩
  refine (θ_run Cert.ReferenceAdaIdeal.defs _ _).mono (fun r h c => ⟨(h c).1.trans ?_, (h c).2⟩) (Cert.ReferenceAdaIdeal.Value.run (F := Ideal) m' g')
  refine (Cert.ReferenceAdaIdeal.Read.val_main_v6_eq _ _ _ _).trans ?_
  rw [(hagree c).1, (hagree c).2.1, (hagree c).2.2.1, (hagree c).2.2.2]
  exact (Cert.Ada.result m c).symm

/-! ### The pages' block summaries -/

theorem frame_reference_Pool : Cert.quiescent_ReferencePoolIdeal (hReferencePoolIdeal := Cert.ReferencePoolIdeal.Gen.facts) := by
  intro m ρ _
  exact (θ_run Cert.ReferencePoolIdeal.defs _ _).mono (fun r h => ⟨fun c => (h c).2, sem_eq_zero_of_no_sems (by decide) r.2⟩)
    (Cert.ReferencePoolIdeal.Value.run (F := Ideal) m ρ)

theorem same_value_Pool : Cert.algebraic_KernelPoolIdeal_ReferencePoolIdeal (hKernelPoolIdeal := Cert.KernelPoolIdeal.Gen.facts)
    (hReferencePoolIdeal := Cert.ReferencePoolIdeal.Gen.facts) := by
  intro m g m' g' _ hagree
  refine ⟨fun c => (Cert.KernelPoolIdeal.Gen.dats m 0 c).arrAt 2 Cert.KernelPoolIdeal.cfg0.N, Cert.KernelPoolIdeal.Value.run_blocks m g, ?_⟩
  refine (θ_run Cert.ReferencePoolIdeal.defs _ _).mono (fun r h c => ⟨(h c).1.trans ?_, (h c).2⟩) (Cert.ReferencePoolIdeal.Value.run (F := Ideal) m' g')
  refine (Cert.ReferencePoolIdeal.Read.val_main_v5_eq _ _).trans ?_
  rw [(hagree c).1, (hagree c).2]
  exact (Cert.Pool.result m c).symm

/-! ### The stick-breaking layer's in-projection of the sample -/

theorem frame_reference_InSbSample : Cert.quiescent_ReferenceInSbSampleIdeal (hReferenceInSbSampleIdeal := Cert.ReferenceInSbSampleIdeal.Gen.facts) := by
  intro m ρ _
  exact (θ_run Cert.ReferenceInSbSampleIdeal.defs _ _).mono (fun r h => ⟨fun c => (h c).2.2, sem_eq_zero_of_no_sems (by decide) r.2⟩)
    (Cert.ReferenceInSbSampleIdeal.Value.run (F := Ideal) m ρ)

theorem same_value_InSbSample : Cert.algebraic_KernelInSbSampleIdeal_ReferenceInSbSampleIdeal (hKernelInSbSampleIdeal := Cert.KernelInSbSampleIdeal.Gen.facts)
    (hReferenceInSbSampleIdeal := Cert.ReferenceInSbSampleIdeal.Gen.facts) := by
  intro m g m' g' _ hagree
  refine ⟨fun c => (Cert.KernelInSbSampleIdeal.Gen.dats m 0 c).arrAt 5 Cert.KernelInSbSampleIdeal.cfg0.N, fun c => (Cert.KernelInSbSampleIdeal.Gen.dats m 0 c).arrAt 6 Cert.KernelInSbSampleIdeal.cfg0.N, Cert.KernelInSbSampleIdeal.Value.run_blocks m g, ?_⟩
  refine (θ_run Cert.ReferenceInSbSampleIdeal.defs _ _).mono (fun r h c => ⟨(h c).1.trans ?_, (h c).2.1.trans ?_, (h c).2.2⟩) (Cert.ReferenceInSbSampleIdeal.Value.run (F := Ideal) m' g')
  · refine (Cert.ReferenceInSbSampleIdeal.Read.val_main_v9_eq _ _ _ _).trans ?_
    rw [(hagree c).1, (hagree c).2.1, (hagree c).2.2.1, (hagree c).2.2.2]
    exact (Cert.InSbSample.result5 m c).symm
  · refine (Cert.ReferenceInSbSampleIdeal.Read.val_main_v10_eq _ _ _ _).trans ?_
    rw [(hagree c).1, (hagree c).2.1, (hagree c).2.2.1, (hagree c).2.2.2]
    exact (Cert.InSbSample.result6 m c).symm

/-! ### The sparse layers' in-projection of the sample -/

theorem frame_reference_InNsaSample : Cert.quiescent_ReferenceInNsaSampleIdeal (hReferenceInNsaSampleIdeal := Cert.ReferenceInNsaSampleIdeal.Gen.facts) := by
  intro m ρ _
  exact (θ_run Cert.ReferenceInNsaSampleIdeal.defs _ _).mono (fun r h => ⟨fun c => (h c).2.2, sem_eq_zero_of_no_sems (by decide) r.2⟩)
    (Cert.ReferenceInNsaSampleIdeal.Value.run (F := Ideal) m ρ)

theorem same_value_InNsaSample : Cert.algebraic_KernelInNsaSampleIdeal_ReferenceInNsaSampleIdeal (hKernelInNsaSampleIdeal := Cert.KernelInNsaSampleIdeal.Gen.facts)
    (hReferenceInNsaSampleIdeal := Cert.ReferenceInNsaSampleIdeal.Gen.facts) := by
  intro m g m' g' _ hagree
  refine ⟨fun c => (Cert.KernelInNsaSampleIdeal.Gen.dats m 0 c).arrAt 5 Cert.KernelInNsaSampleIdeal.cfg0.N, fun c => (Cert.KernelInNsaSampleIdeal.Gen.dats m 0 c).arrAt 6 Cert.KernelInNsaSampleIdeal.cfg0.N, Cert.KernelInNsaSampleIdeal.Value.run_blocks m g, ?_⟩
  refine (θ_run Cert.ReferenceInNsaSampleIdeal.defs _ _).mono (fun r h c => ⟨(h c).1.trans ?_, (h c).2.1.trans ?_, (h c).2.2⟩) (Cert.ReferenceInNsaSampleIdeal.Value.run (F := Ideal) m' g')
  · refine (Cert.ReferenceInNsaSampleIdeal.Read.val_main_v10_eq _ _ _ _).trans ?_
    rw [(hagree c).1, (hagree c).2.1, (hagree c).2.2.1, (hagree c).2.2.2]
    exact (Cert.InNsaSample.result5 m c).symm
  · refine (Cert.ReferenceInNsaSampleIdeal.Read.val_main_v11_eq _ _ _ _).trans ?_
    rw [(hagree c).1, (hagree c).2.1, (hagree c).2.2.1, (hagree c).2.2.2]
    exact (Cert.InNsaSample.result6 m c).symm

/-! ### The sliding-window layer's in-projection of the sample -/

theorem frame_reference_InSwaSample : Cert.quiescent_ReferenceInSwaSampleIdeal (hReferenceInSwaSampleIdeal := Cert.ReferenceInSwaSampleIdeal.Gen.facts) := by
  intro m ρ _
  exact (θ_run Cert.ReferenceInSwaSampleIdeal.defs _ _).mono (fun r h => ⟨fun c => (h c).2.2, sem_eq_zero_of_no_sems (by decide) r.2⟩)
    (Cert.ReferenceInSwaSampleIdeal.Value.run (F := Ideal) m ρ)

theorem same_value_InSwaSample : Cert.algebraic_KernelInSwaSampleIdeal_ReferenceInSwaSampleIdeal (hKernelInSwaSampleIdeal := Cert.KernelInSwaSampleIdeal.Gen.facts)
    (hReferenceInSwaSampleIdeal := Cert.ReferenceInSwaSampleIdeal.Gen.facts) := by
  intro m g m' g' _ hagree
  refine ⟨fun c => (Cert.KernelInSwaSampleIdeal.Gen.dats m 0 c).arrAt 5 Cert.KernelInSwaSampleIdeal.cfg0.N, fun c => (Cert.KernelInSwaSampleIdeal.Gen.dats m 0 c).arrAt 6 Cert.KernelInSwaSampleIdeal.cfg0.N, Cert.KernelInSwaSampleIdeal.Value.run_blocks m g, ?_⟩
  refine (θ_run Cert.ReferenceInSwaSampleIdeal.defs _ _).mono (fun r h c => ⟨(h c).1.trans ?_, (h c).2.1.trans ?_, (h c).2.2⟩) (Cert.ReferenceInSwaSampleIdeal.Value.run (F := Ideal) m' g')
  · refine (Cert.ReferenceInSwaSampleIdeal.Read.val_main_v9_eq _ _ _ _).trans ?_
    rw [(hagree c).1, (hagree c).2.1, (hagree c).2.2.1, (hagree c).2.2.2]
    exact (Cert.InSwaSample.result5 m c).symm
  · refine (Cert.ReferenceInSwaSampleIdeal.Read.val_main_v10_eq _ _ _ _).trans ?_
    rw [(hagree c).1, (hagree c).2.1, (hagree c).2.2.1, (hagree c).2.2.2]
    exact (Cert.InSwaSample.result6 m c).symm

/-! ### The experts' combination of the sample -/

theorem frame_reference_CombSample : Cert.quiescent_ReferenceCombSampleIdeal (hReferenceCombSampleIdeal := Cert.ReferenceCombSampleIdeal.Gen.facts) := by
  intro m ρ _
  exact (θ_run Cert.ReferenceCombSampleIdeal.defs _ _).mono (fun r h => ⟨fun c => (h c).2, sem_eq_zero_of_no_sems (by decide) r.2⟩)
    (Cert.ReferenceCombSampleIdeal.Value.run (F := Ideal) m ρ)

theorem same_value_CombSample : Cert.algebraic_KernelCombSampleIdeal_ReferenceCombSampleIdeal (hKernelCombSampleIdeal := Cert.KernelCombSampleIdeal.Gen.facts)
    (hReferenceCombSampleIdeal := Cert.ReferenceCombSampleIdeal.Gen.facts) := by
  intro m g m' g' _ hagree
  refine ⟨fun c => (Cert.KernelCombSampleIdeal.Gen.dats m 0 c).arrAt 7 Cert.KernelCombSampleIdeal.cfg0.N, Cert.KernelCombSampleIdeal.Value.run_blocks m g, ?_⟩
  refine (θ_run Cert.ReferenceCombSampleIdeal.defs _ _).mono (fun r h c => ⟨(h c).1.trans ?_, (h c).2⟩) (Cert.ReferenceCombSampleIdeal.Value.run (F := Ideal) m' g')
  rw [Cert.ReferenceCombSampleIdeal.Read.val_main_v40_eq, (hagree c).1, (hagree c).2.1, (hagree c).2.2.1, (hagree c).2.2.2.1, (hagree c).2.2.2.2.1, (hagree c).2.2.2.2.2.1, (hagree c).2.2.2.2.2.2]
  exact (Cert.CombSample.result m c).symm

/-! ### The experts' feed-forward -/

/-- The two programs' body tables, one per text, run the same body. -/
theorem body_Moe (x : Cert.KernelMoeIdeal.Λ₀.Args (0 : Fin 1)) : @Cert.KernelMoe.defs₀ Bits _ Cert.KernelMoe.Gen.facts .tc (0 : Fin 1) x = @Cert.KernelMoeIdeal.defs₀ Bits _ Cert.KernelMoeIdeal.Gen.facts .tc (0 : Fin 1) x :=
  rfl

theorem bodies_Moe : @Cert.KernelMoe.defs₀ Bits _ Cert.KernelMoe.Gen.facts = @Cert.KernelMoeIdeal.defs₀ Bits _ Cert.KernelMoeIdeal.Gen.facts := by
  funext p
  cases p with
  | tc =>
    funext l
    revert l
    exact Fin.forall_fin_one.2 (funext body_Moe)
  | scScalar _ => rfl
  | scVector _ _ => rfl

theorem defs_Moe : @Cert.KernelMoe.defs Bits _ Cert.KernelMoe.Gen.facts = @Cert.KernelMoeIdeal.defs Bits _ Cert.KernelMoeIdeal.Gen.facts :=
  congrArg (Pipeline.defs (Cert.KernelMoeIdeal.pcfgs (F := Bits))) bodies_Moe

/-- The run over words, with the kernel program's own body table: it keeps the arguments and the counters. -/
theorem run_words_Moe (m : (ℓ : Loc Cert.KernelMoeIdeal.nD Cert.KernelMoeIdeal.τ Cert.KernelMoeIdeal.sig) → Buf (Elt Bits) ℓ) (ρ : Dev Cert.KernelMoeIdeal.nD → PrngReg)
    (hn : Cert.Moe.Named (Cert.Moe.experts m) (Cert.Moe.marks m)) :
    θ_run (Cert.KernelMoe.defs (F := Bits)) (onTc (τ := Cert.KernelMoeIdeal.τ) (Cert.KernelMoeIdeal.main (F := Bits))) ⟨m, fun _ => 0, ρ⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ r.2.sem = fun _ => 0) := by
  rw [defs_Moe]
  exact (θ_run Cert.KernelMoeIdeal.defs _ _).mono (fun _ h => ⟨h.1, h.2.1⟩) (Cert.Moe.run_main (F := Bits) m ρ (Cert.Moe.ok m hn) (Cert.Moe.marked m hn))

/-- The same, for every memory whose tables are as the precondition says. -/
theorem frame_of_named_Moe (h : ∀ (m : (ℓ : Loc Cert.KernelMoe.nD Cert.KernelMoe.τ Cert.KernelMoe.sig) → Buf (Elt Bits) ℓ) (ρ : Dev Cert.KernelMoe.nD → PrngReg), Cert.Moe.Named (Cert.Moe.experts (F := Bits) m) (Cert.Moe.marks (F := Bits) m) →
    θ_run (Cert.KernelMoe.defs (F := Bits)) (onTc (τ := Cert.KernelMoe.τ) (Cert.KernelMoe.main (F := Bits))) ⟨m, fun _ => 0, ρ⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5))
      ∧ r.2.sem = fun _ => 0)) :
    Cert.quiescent_KernelMoe (hKernelMoe := Cert.KernelMoe.Gen.facts) (hPre_routed := Cert.Pre_routed.Gen.facts) :=
  fun m ρ hpre => h m ρ (Cert.Moe.named_of_pre (F := Bits) _ _ _ _ _ _ (hpre 0))

set_option maxHeartbeats 2000000 in
/-- The kernel program's frame. -/
theorem frame_kernel_Moe : Cert.quiescent_KernelMoe (hKernelMoe := Cert.KernelMoe.Gen.facts) (hPre_routed := Cert.Pre_routed.Gen.facts) :=
  frame_of_named_Moe fun m ρ hn => run_words_Moe m ρ hn

theorem frame_kernel_MoeIdeal : Cert.quiescent_KernelMoeIdeal (hKernelMoeIdeal := Cert.KernelMoeIdeal.Gen.facts) (hPre_routed := Cert.Pre_routed.Gen.facts) := fun m ρ hpre =>
  have h := Cert.Moe.named_of_pre (F := Ideal) _ _ _ _ _ _ (hpre 0)
  (θ_run Cert.KernelMoeIdeal.defs _ _).mono (fun _ h => ⟨h.1, h.2.1⟩) (Cert.Moe.run_main (F := Ideal) m ρ (Cert.Moe.ok m h) (Cert.Moe.marked m h))

theorem frame_reference_Moe : Cert.quiescent_ReferenceMoeIdeal (hReferenceMoeIdeal := Cert.ReferenceMoeIdeal.Gen.facts) := by
  intro m ρ _
  exact (θ_run Cert.ReferenceMoeIdeal.defs _ _).mono (fun r h => ⟨fun c => (h c).2, sem_eq_zero_of_no_sems (by decide) r.2⟩)
    (Cert.ReferenceMoeIdeal.Value.run (F := Ideal) m ρ)

theorem same_value_Moe : Cert.algebraic_KernelMoeIdeal_ReferenceMoeIdeal (hKernelMoeIdeal := Cert.KernelMoeIdeal.Gen.facts)
    (hReferenceMoeIdeal := Cert.ReferenceMoeIdeal.Gen.facts) (hPre_routed := Cert.Pre_routed.Gen.facts) := by
  intro m g m' g' hpre hagree
  have hn : Cert.Moe.Named (Cert.Moe.experts m) (Cert.Moe.marks m) := Cert.Moe.named_of_pre (F := Ideal) _ _ _ _ _ _ (hpre 0)
  refine ⟨fun c => (Cert.Moe.dats m (Cert.Moe.ok m hn) 0 c).arrAt 4 (Cert.Moe.cfgM m (Cert.Moe.ok m hn)).N,
    (θ_run Cert.KernelMoeIdeal.defs _ _).mono (fun _ hr c => ⟨hr.2.2 c, hr.1 c⟩) (Cert.Moe.run_main (F := Ideal) m g (Cert.Moe.ok m hn) (Cert.Moe.marked m hn)), ?_⟩
  refine (θ_run Cert.ReferenceMoeIdeal.defs _ _).mono (fun r h c => ⟨(h c).1.trans ?_, (h c).2⟩) (Cert.ReferenceMoeIdeal.Value.run (F := Ideal) m' g')
  rw [Cert.ReferenceMoeIdeal.Read.val_main_v37_eq, (hagree c).1, (hagree c).2.1, (hagree c).2.2.1, (hagree c).2.2.2.1, (hagree c).2.2.2.2.1, (hagree c).2.2.2.2.2]
  exact (Cert.Moe.result m hn c).symm

theorem claim : Cert.Claim :=
  ⟨Cert.Kernel.Gen.facts, Cert.KernelIdeal.Gen.facts, Cert.ReferenceIdeal.Gen.facts,
    Cert.KernelInSb.Gen.facts, Cert.KernelInSbIdeal.Gen.facts, Cert.ReferenceInSbIdeal.Gen.facts,
    Cert.KernelInNsa.Gen.facts, Cert.KernelInNsaIdeal.Gen.facts, Cert.ReferenceInNsaIdeal.Gen.facts,
    Cert.KernelInSwa.Gen.facts, Cert.KernelInSwaIdeal.Gen.facts, Cert.ReferenceInSwaIdeal.Gen.facts,
    Cert.KernelOut.Gen.facts, Cert.KernelOutIdeal.Gen.facts, Cert.ReferenceOutIdeal.Gen.facts,
    Cert.KernelComb.Gen.facts, Cert.KernelCombIdeal.Gen.facts, Cert.ReferenceCombIdeal.Gen.facts,
    Cert.KernelMoe.Gen.facts, Cert.KernelMoeIdeal.Gen.facts, Cert.ReferenceMoeIdeal.Gen.facts,
    Cert.KernelRoute.Gen.facts, Cert.KernelRouteIdeal.Gen.facts, Cert.ReferenceRouteIdeal.Gen.facts,
    Cert.KernelAda.Gen.facts, Cert.KernelAdaIdeal.Gen.facts, Cert.ReferenceAdaIdeal.Gen.facts,
    Cert.KernelPool.Gen.facts, Cert.KernelPoolIdeal.Gen.facts, Cert.ReferencePoolIdeal.Gen.facts,
    Cert.KernelInSbSample.Gen.facts, Cert.KernelInSbSampleIdeal.Gen.facts, Cert.ReferenceInSbSampleIdeal.Gen.facts,
    Cert.KernelInNsaSample.Gen.facts, Cert.KernelInNsaSampleIdeal.Gen.facts, Cert.ReferenceInNsaSampleIdeal.Gen.facts,
    Cert.KernelInSwaSample.Gen.facts, Cert.KernelInSwaSampleIdeal.Gen.facts, Cert.ReferenceInSwaSampleIdeal.Gen.facts,
    Cert.KernelCombSample.Gen.facts, Cert.KernelCombSampleIdeal.Gen.facts, Cert.ReferenceCombSampleIdeal.Gen.facts,
    Cert.Match.preFacts, Cert.Pre_routed.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.KernelInSb.Gen.frame m ρ, fun m ρ _ => Cert.KernelInSbIdeal.Gen.frame m ρ, frame_reference_InSb,
    fun m ρ _ => Cert.KernelInNsa.Gen.frame m ρ, fun m ρ _ => Cert.KernelInNsaIdeal.Gen.frame m ρ, frame_reference_InNsa,
    fun m ρ _ => Cert.KernelInSwa.Gen.frame m ρ, fun m ρ _ => Cert.KernelInSwaIdeal.Gen.frame m ρ, frame_reference_InSwa,
    fun m ρ _ => Cert.KernelOut.Gen.frame m ρ, fun m ρ _ => Cert.KernelOutIdeal.Gen.frame m ρ, frame_reference_Out,
    fun m ρ _ => Cert.KernelComb.Gen.frame m ρ, fun m ρ _ => Cert.KernelCombIdeal.Gen.frame m ρ, frame_reference_Comb,
    frame_kernel_Moe, frame_kernel_MoeIdeal, frame_reference_Moe, fun m ρ _ => frame_reference_Moe m ρ trivial,
    fun m ρ _ => Cert.KernelRoute.Gen.frame m ρ, fun m ρ _ => Cert.KernelRouteIdeal.Gen.frame m ρ, frame_reference_Route,
    fun m ρ _ => Cert.KernelAda.Gen.frame m ρ, fun m ρ _ => Cert.KernelAdaIdeal.Gen.frame m ρ, frame_reference_Ada,
    fun m ρ _ => Cert.KernelPool.Gen.frame m ρ, fun m ρ _ => Cert.KernelPoolIdeal.Gen.frame m ρ, frame_reference_Pool,
    fun m ρ _ => Cert.KernelInSbSample.Gen.frame m ρ, fun m ρ _ => Cert.KernelInSbSampleIdeal.Gen.frame m ρ, frame_reference_InSbSample,
    fun m ρ _ => Cert.KernelInNsaSample.Gen.frame m ρ, fun m ρ _ => Cert.KernelInNsaSampleIdeal.Gen.frame m ρ, frame_reference_InNsaSample,
    fun m ρ _ => Cert.KernelInSwaSample.Gen.frame m ρ, fun m ρ _ => Cert.KernelInSwaSampleIdeal.Gen.frame m ρ, frame_reference_InSwaSample,
    fun m ρ _ => Cert.KernelCombSample.Gen.frame m ρ, fun m ρ _ => Cert.KernelCombSampleIdeal.Gen.frame m ρ, frame_reference_CombSample,
    trivial, same_value,
    trivial, same_value_InSb, trivial, same_value_InNsa, trivial, same_value_InSwa, trivial, same_value_Out, trivial, same_value_Comb,
    trivial, same_value_Moe, trivial, same_value_Route, trivial, same_value_Ada, trivial, same_value_Pool,
    trivial, same_value_InSbSample, trivial, same_value_InNsaSample, trivial, same_value_InSwaSample, trivial, same_value_CombSample⟩

end Cert.Proof

end
